-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v48) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v13_0)) (v1 : (c : Dev Cert.Kernel5Ideal.nD) → Buf (Elt Ideal) ((c.tc : Thread Cert.Kernel5Ideal.nD Cert.Kernel5Ideal.τ).loc Cert.Kernel5Ideal.main_v13_1)) (v2 : (c : Dev Cert.Kernel5Ideal.nD) → Buf (Elt Ideal) ((c.tc : Thread Cert.Kernel5Ideal.nD Cert.Kernel5Ideal.τ).loc Cert.Kernel5Ideal.main_v13_2)) (v3 : (c : Dev Cert.Kernel5Ideal.nD) → Buf (Elt Ideal) ((c.tc : Thread Cert.Kernel5Ideal.nD Cert.Kernel5Ideal.τ).loc Cert.Kernel5Ideal.main_v13_3)) (v4 : (c : Dev Cert.Kernel5Ideal.nD) → Buf (Elt Ideal) ((c.tc : Thread Cert.Kernel5Ideal.nD Cert.Kernel5Ideal.τ).loc Cert.Kernel5Ideal.main_v13_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13_0) = v0 c
          ∧ r.2.mem ((c.tc : Thread Cert.Kernel5Ideal.nD Cert.Kernel5Ideal.τ).loc Cert.Kernel5Ideal.main_v13_1) = v1 c
          ∧ r.2.mem ((c.tc : Thread Cert.Kernel5Ideal.nD Cert.Kernel5Ideal.τ).loc Cert.Kernel5Ideal.main_v13_2) = v2 c
          ∧ r.2.mem ((c.tc : Thread Cert.Kernel5Ideal.nD Cert.Kernel5Ideal.τ).loc Cert.Kernel5Ideal.main_v13_3) = v3 c
          ∧ r.2.mem ((c.tc : Thread Cert.Kernel5Ideal.nD Cert.Kernel5Ideal.τ).loc Cert.Kernel5Ideal.main_v13_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_v25) = v1 c
          ∧ r.2.mem ((c.tc : Thread Cert.Reference5Ideal.nD Cert.Reference5Ideal.τ).loc Cert.Reference5Ideal.main_v27) = v2 c
          ∧ r.2.mem ((c.tc : Thread Cert.Reference5Ideal.nD Cert.Reference5Ideal.τ).loc Cert.Reference5Ideal.main_v29) = v3 c
          ∧ r.2.mem ((c.tc : Thread Cert.Reference5Ideal.nD Cert.Reference5Ideal.τ).loc Cert.Reference5Ideal.main_v23) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v7_0)) (v1 : (c : Dev Cert.Kernel6Ideal.nD) → Buf (Elt Ideal) ((c.tc : Thread Cert.Kernel6Ideal.nD Cert.Kernel6Ideal.τ).loc Cert.Kernel6Ideal.main_v7_1)) (v2 : (c : Dev Cert.Kernel6Ideal.nD) → Buf (Elt Ideal) ((c.tc : Thread Cert.Kernel6Ideal.nD Cert.Kernel6Ideal.τ).loc Cert.Kernel6Ideal.main_v7_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7_0) = v0 c
          ∧ r.2.mem ((c.tc : Thread Cert.Kernel6Ideal.nD Cert.Kernel6Ideal.τ).loc Cert.Kernel6Ideal.main_v7_1) = v1 c
          ∧ r.2.mem ((c.tc : Thread Cert.Kernel6Ideal.nD Cert.Kernel6Ideal.τ).loc Cert.Kernel6Ideal.main_v7_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v88) = v0 c
          ∧ r.2.mem ((c.tc : Thread Cert.Reference6Ideal.nD Cert.Reference6Ideal.τ).loc Cert.Reference6Ideal.main_v90) = v1 c
          ∧ r.2.mem ((c.tc : Thread Cert.Reference6Ideal.nD Cert.Reference6Ideal.τ).loc Cert.Reference6Ideal.main_v92) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite3 : Cert.Pre_finite3.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
-- ==== Pre_finite.lean ====
abbrev S10x8320x1024 : Shape := ⟨3, ![10, 8320, 1024]⟩
abbrev S10x8320x256 : Shape := ⟨3, ![10, 8320, 256]⟩
abbrev S_ : Shape := ⟨0, ![]⟩

class Facts : Prop where
  bcast_S_S10x8320x1024 : S_.BroadcastsInDim S10x8320x1024 (![] : Fin 0 → Fin S10x8320x1024.rank)
  bcast_S_S10x8320x256 : S_.BroadcastsInDim S10x8320x256 (![] : Fin 0 → Fin S10x8320x256.rank)

variable [Facts]

def fn {F : FTy → Type} [FloatOps F] (main_arg0 : FVec F S10x8320x1024 .bf16) (main_arg1 : FVec F S10x8320x256 .bf16) (main_arg2 : FVec F S10x8320x256 .bf16) : IVec S10x8320x1024 1 × IVec S10x8320x256 1 :=
  let main_v0 : FVec F S10x8320x1024 .bf16 := Host.absf main_arg0
  let main_cst : FVec F S_ .bf16 := constant S_ .bf16 0x7F80#16
  let main_v1 : FVec F S10x8320x1024 .bf16 := broadcastInDim S10x8320x1024 ![] bcast_S_S10x8320x1024 main_cst
  let main_v2 : IVec S10x8320x1024 1 := cmpf .olt main_v0 main_v1
  let main_v3 : FVec F S10x8320x256 .bf16 := Host.absf main_arg1
  let main_cst_0 : FVec F S_ .bf16 := constant S_ .bf16 0x7F80#16
  let main_v4 : FVec F S10x8320x256 .bf16 := broadcastInDim S10x8320x256 ![] bcast_S_S10x8320x256 main_cst_0
  let main_v5 : IVec S10x8320x256 1 := cmpf .olt main_v3 main_v4
  (main_v2, main_v5)
-- ==== Pre_finite3.lean ====
abbrev S83200x512 : Shape := ⟨2, ![83200, 512]⟩
abbrev S1x128 : Shape := ⟨2, ![1, 128]⟩
abbrev S1024x1024 : Shape := ⟨2, ![1024, 1024]⟩
abbrev S83200x1024 : Shape := ⟨2, ![83200, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩

class Facts : Prop where
  bcast_S_S83200x512 : S_.BroadcastsInDim S83200x512 (![] : Fin 0 → Fin S83200x512.rank)

variable [Facts]

def fn {F : FTy → Type} [FloatOps F] (main_arg0 : FVec F S83200x512 .bf16) (main_arg1 : FVec F S83200x512 .bf16) (main_arg2 : FVec F S83200x512 .bf16) (main_arg3 : FVec F S83200x512 .bf16) (main_arg4 : FVec F S1x128 .f32) (main_arg5 : FVec F S1024x1024 .bf16) (main_arg6 : FVec F S83200x1024 .f32) (main_arg7 : FVec F S1x1024 .f32) (main_arg8 : FVec F S1024x4096 .bf16) (main_arg9 : FVec F S4096x1024 .bf16) : IVec S83200x512 1 × IVec S83200x512 1 :=
  let main_v0 : FVec F S83200x512 .bf16 := Host.absf main_arg1
  let main_cst : FVec F S_ .bf16 := constant S_ .bf16 0x7F80#16
  let main_v1 : FVec F S83200x512 .bf16 := broadcastInDim S83200x512 ![] bcast_S_S83200x512 main_cst
  let main_v2 : IVec S83200x512 1 := cmpf .olt main_v0 main_v1
  let main_v3 : FVec F S83200x512 .bf16 := Host.absf main_arg2
  let main_cst_0 : FVec F S_ .bf16 := constant S_ .bf16 0x7F80#16
  let main_v4 : FVec F S83200x512 .bf16 := broadcastInDim S83200x512 ![] bcast_S_S83200x512 main_cst_0
  let main_v5 : IVec S83200x512 1 := cmpf .olt main_v3 main_v4
  (main_v2, main_v5)
-- ==== Pre_finite6.lean ====
abbrev S83200x1024 : Shape := ⟨2, ![83200, 1024]⟩
abbrev S1x1024 : Shape := ⟨2, ![1, 1024]⟩
abbrev S1024x1536 : Shape := ⟨2, ![1024, 1536]⟩
abbrev S1x128 : Shape := ⟨2, ![1, 128]⟩
abbrev S8320x64 : Shape := ⟨2, ![8320, 64]⟩
abbrev S_ : Shape := ⟨0, ![]⟩
abbrev S1024x1280 : Shape := ⟨2, ![1024, 1280]⟩

class Facts : Prop where
  bcast_S_S1x1024 : S_.BroadcastsInDim S1x1024 (![] : Fin 0 → Fin S1x1024.rank)
  slices_S1024x1536_S1024x1280_0_0 : S1024x1536.Slices ![0, 0] S1024x1280
  bcast_S_S1024x1280 : S_.BroadcastsInDim S1024x1280 (![] : Fin 0 → Fin S1024x1280.rank)

variable [Facts]

def fn {F : FTy → Type} [FloatOps F] (main_arg0 : FVec F S83200x1024 .f32) (main_arg1 : FVec F S1x1024 .f32) (main_arg2 : FVec F S1024x1536 .f32) (main_arg3 : FVec F S1x128 .f32) (main_arg4 : FVec F S1x128 .f32) (main_arg5 : FVec F S8320x64 .f32) (main_arg6 : FVec F S8320x64 .f32) : IVec S1x1024 1 × IVec S1024x1280 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1024x1280 .f32 := (extractStridedSlice S1024x1280 ![0, 0] · slices_S1024x1536_S1024x1280_0_0) main_arg2
  let main_v4 : FVec F S1024x1280 .f32 := Host.absf main_v3
  let main_cst_0 : FVec F S_ .f32 := constant S_ .f32 0x7F800000#32
  let main_v5 : FVec F S1024x1280 .f32 := broadcastInDim S1024x1280 ![] bcast_S_S1024x1280 main_cst_0
  let main_v6 : IVec S1024x1280 1 := cmpf .olt main_v4 main_v5
  (main_v2, main_v6)
-- ==== Kernel.lean ====
abbrev S10x8320x1024 : Shape := ⟨3, ![10, 8320, 1024]⟩
abbrev S10x8320x256 : Shape := ⟨3, ![10, 8320, 256]⟩
abbrev S1x640x512 : Shape := ⟨3, ![1, 640, 512]⟩
abbrev S1x8320x128 : Shape := ⟨3, ![1, 8320, 128]⟩
abbrev S8448x128 : Shape := ⟨2, ![8448, 128]⟩
abbrev S8448x256 : Shape := ⟨2, ![8448, 256]⟩
abbrev S8x128 : Shape := ⟨2, ![8, 128]⟩
abbrev S5x512x128 : Shape := ⟨3, ![5, 512, 128]⟩
abbrev S5x512x256 : Shape := ⟨3, ![5, 512, 256]⟩
abbrev S128x128 : Shape := ⟨2, ![128, 128]⟩
abbrev S1x128 : Shape := ⟨2, ![1, 128]⟩
abbrev S640x128 : Shape := ⟨2, ![640, 128]⟩
abbrev S1x640x128 : Shape := ⟨3, ![1, 640, 128]⟩
abbrev S128 : Shape := ⟨1, ![128]⟩
abbrev S128x256 : Shape := ⟨2, ![128, 256]⟩
abbrev S1x128x512 : Shape := ⟨3, ![1, 128, 512]⟩
abbrev S128x512 : Shape := ⟨2, ![128, 512]⟩
abbrev S512x128 : Shape := ⟨2, ![512, 128]⟩
abbrev S1x512x128 : Shape := ⟨3, ![1, 512, 128]⟩
abbrev S512x256 : Shape := ⟨2, ![512, 256]⟩
abbrev S1x512x256 : Shape := ⟨3, ![1, 512, 256]⟩
abbrev S768x128 : Shape := ⟨2, ![768, 128]⟩
abbrev S768x256 : Shape := ⟨2, ![768, 256]⟩
abbrev S512x768 : Shape := ⟨2, ![512, 768]⟩
abbrev S1x128x128 : Shape := ⟨3, ![1, 128, 128]⟩
abbrev S1 : Shape := ⟨1, ![1]⟩
abbrev S1x1x1 : Shape := ⟨3, ![1, 1, 1]⟩
abbrev S512x1 : Shape := ⟨2, ![512, 1]⟩
abbrev S512 : Shape := ⟨1, ![512]⟩

abbrev nBuf : Space → Nat
  | .hbm => 4
  | .vmem => 14
  | .smem => 0
  | _ => 0

abbrev bufTy : (tb : Table) → Fin (tcTables nBuf tb) → BufTy
  | .hbm, ⟨0, _⟩ => ⟨S10x8320x1024, .bf16⟩
  | .hbm, ⟨1, _⟩ => ⟨S10x8320x256, .bf16⟩
  | .hbm, ⟨2, _⟩ => ⟨S10x8320x256, .bf16⟩
  | .hbm, ⟨3, _⟩ => ⟨S10x8320x1024, .bf16⟩
  | .local _ .vmem, ⟨0, _⟩ => ⟨S1x640x512, .bf16⟩
  | .local _ .vmem, ⟨1, _⟩ => ⟨S1x640x512, .bf16⟩
  | .local _ .vmem, ⟨2, _⟩ => ⟨S1x8320x128, .bf16⟩
  | .local _ .vmem, ⟨3, _⟩ => ⟨S1x8320x128, .bf16⟩
  | .local _ .vmem, ⟨4, _⟩ => ⟨S1x8320x128, .bf16⟩
  | .local _ .vmem, ⟨5, _⟩ => ⟨S1x8320x128, .bf16⟩
  | .local _ .vmem, ⟨6, _⟩ => ⟨S1x640x512, .bf16⟩
  | .local _ .vmem, ⟨7, _⟩ => ⟨S1x640x512, .bf16⟩
  | .local _ .vmem, ⟨8, _⟩ => ⟨S8448x128, .bf16⟩
  | .local _ .vmem, ⟨9, _⟩ => ⟨S8448x256, .bf16⟩
  | .local _ .vmem, ⟨10, _⟩ => ⟨S8x128, .f32⟩
  | .local _ .vmem, ⟨11, _⟩ => ⟨S5x512x128, .bf16⟩
  | .local _ .vmem, ⟨12, _⟩ => ⟨S5x512x128, .f32⟩
  | .local _ .vmem, ⟨13, _⟩ => ⟨S5x512x256, .f32⟩
  | _, _ => ⟨S10x8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![10, 2, 13], ![false, false, false]⟩

def k0_cond1 (i : grid0.Coords) : BitVec 1 :=
  let arg2 : BitVec 32 := BitVec.ofNat 32 (i 2).val
  let c0_i32 : BitVec 32 := 0#32
  let v1 : BitVec 1 := Scalar.cmpi .eq arg2 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_960 : BitVec 32 := 0#32
  let c13_i32 : BitVec 32 := 13#32
  let v1255 : BitVec 32 := Scalar.addi c0_i32_960 c13_i32
  let c1_i32_961 : BitVec 32 := 1#32
  ⟨c0_i32_960, v1255, c1_i32_961⟩
def k0_mult1 (k0_t1 : Fin k0_t1_loop.trips) : BitVec 32 :=
  let c0_i32_960 : BitVec 32 := 0#32
  let c1_i32_961 : BitVec 32 := 1#32
  let arg13 : BitVec 32 := Scf.iv c0_i32_960 c1_i32_961 k0_t1
  let c640_i32 : BitVec 32 := 640#32
  let v1270 : BitVec 32 := Scalar.muli arg13 c640_i32
  v1270
def k0_off1 (k0_t1 : Fin k0_t1_loop.trips) : Fin 3 → Nat :=
  let c0_971 : Index := 0#32
  let c0_i32_960 : BitVec 32 := 0#32
  let c1_i32_961 : BitVec 32 := 1#32
  let arg13 : BitVec 32 := Scf.iv c0_i32_960 c1_i32_961 k0_t1
  let c640_i32 : BitVec 32 := 640#32
  let v1270 : BitVec 32 := Scalar.muli arg13 c640_i32
  let v1271 : BitVec 32 := v1270
  let v1278 : Index := Scalar.indexCast v1271
  let c0_972 : Index := 0#32
  ![0, v1278.toNat, 0]
def k0_off2 (k0_t1 : Fin k0_t1_loop.trips) : Fin 2 → Nat :=
  let c0_i32_960 : BitVec 32 := 0#32
  let c1_i32_961 : BitVec 32 := 1#32
  let arg13 : BitVec 32 := Scf.iv c0_i32_960 c1_i32_961 k0_t1
  let c640_i32 : BitVec 32 := 640#32
  let v1270 : BitVec 32 := Scalar.muli arg13 c640_i32
  let v1271 : BitVec 32 := v1270
  let v1283 : Index := Scalar.indexCast v1271
  let c0_974 : Index := 0#32
  ![v1283.toNat, 0]
def k0_off3 (k0_t1 : Fin k0_t1_loop.trips) : Fin 2 → Nat :=
  let c0_i32_960 : BitVec 32 := 0#32
  let c1_i32_961 : BitVec 32 := 1#32
  let arg13 : BitVec 32 := Scf.iv c0_i32_960 c1_i32_961 k0_t1
  let c640_i32 : BitVec 32 := 640#32
  let v1270 : BitVec 32 := Scalar.muli arg13 c640_i32
  let v1271 : BitVec 32 := v1270
  let v1291 : Index := Scalar.indexCast v1271
  let c128_977 : Index := 128#32
  ![v1291.toNat, 128]
def k0_off4 (k0_t1 : Fin k0_t1_loop.trips) : Fin 2 → Nat :=
  let c0_i32_960 : BitVec 32 := 0#32
  let c1_i32_961 : BitVec 32 := 1#32
  let arg13 : BitVec 32 := Scf.iv c0_i32_960 c1_i32_961 k0_t1
  let c640_i32 : BitVec 32 := 640#32
  let v1270 : BitVec 32 := Scalar.muli arg13 c640_i32
  let v1271 : BitVec 32 := v1270
  let v1298 : Index := Scalar.indexCast v1271
  let c0_980 : Index := 0#32
  ![v1298.toNat, 0]
def k0_mult2 : BitVec 32 :=
  let c0_i32_74 : BitVec 32 := 0#32
  let c768_i32 : BitVec 32 := 768#32
  let v165 : BitVec 32 := Scalar.muli c0_i32_74 c768_i32
  v165
def k0_off5 (c0_i32_74 : BitVec 32) : Fin 2 → Nat :=
  let c768_i32 : BitVec 32 := 768#32
  let v165 : BitVec 32 := Scalar.muli c0_i32_74 c768_i32
  let v166 : BitVec 32 := v165
  let v167 : Index := Scalar.indexCast v166
  let c0_75 : Index := 0#32
  ![v167.toNat, 0]
def k0_off6 (c0_i32_74 : BitVec 32) : Fin 2 → Nat :=
  let c768_i32 : BitVec 32 := 768#32
  let v165 : BitVec 32 := Scalar.muli c0_i32_74 c768_i32
  let v166 : BitVec 32 := v165
  let v169 : Index := Scalar.indexCast v166
  let c0_76 : Index := 0#32
  ![v169.toNat, 0]
def k0_mult3 : BitVec 32 :=
  let c1_i32 : BitVec 32 := 1#32
  let c768_i32_147 : BitVec 32 := 768#32
  let v251 : BitVec 32 := Scalar.muli c1_i32 c768_i32_147
  v251
def k0_mult4 : BitVec 32 :=
  let c2_i32 : BitVec 32 := 2#32
  let c768_i32_220 : BitVec 32 := 768#32
  let v337 : BitVec 32 := Scalar.muli c2_i32 c768_i32_220
  v337
def k0_mult5 : BitVec 32 :=
  let c3_i32 : BitVec 32 := 3#32
  let c768_i32_293 : BitVec 32 := 768#32
  let v423 : BitVec 32 := Scalar.muli c3_i32 c768_i32_293
  v423
def k0_mult6 : BitVec 32 :=
  let c4_i32 : BitVec 32 := 4#32
  let c768_i32_366 : BitVec 32 := 768#32
  let v509 : BitVec 32 := Scalar.muli c4_i32 c768_i32_366
  v509
def k0_mult7 : BitVec 32 :=
  let c5_i32 : BitVec 32 := 5#32
  let c768_i32_439 : BitVec 32 := 768#32
  let v595 : BitVec 32 := Scalar.muli c5_i32 c768_i32_439
  v595
def k0_mult8 : BitVec 32 :=
  let c6_i32 : BitVec 32 := 6#32
  let c768_i32_512 : BitVec 32 := 768#32
  let v681 : BitVec 32 := Scalar.muli c6_i32 c768_i32_512
  v681
def k0_mult9 : BitVec 32 :=
  let c7_i32 : BitVec 32 := 7#32
  let c768_i32_585 : BitVec 32 := 768#32
  let v767 : BitVec 32 := Scalar.muli c7_i32 c768_i32_585
  v767
def k0_mult10 : BitVec 32 :=
  let c8_i32 : BitVec 32 := 8#32
  let c768_i32_658 : BitVec 32 := 768#32
  let v853 : BitVec 32 := Scalar.muli c8_i32 c768_i32_658
  v853
def k0_mult11 : BitVec 32 :=
  let c9_i32 : BitVec 32 := 9#32
  let c768_i32_731 : BitVec 32 := 768#32
  let v939 : BitVec 32 := Scalar.muli c9_i32 c768_i32_731
  v939
def k0_mult12 : BitVec 32 :=
  let c10_i32 : BitVec 32 := 10#32
  let c768_i32_804 : BitVec 32 := 768#32
  let v1025 : BitVec 32 := Scalar.muli c10_i32 c768_i32_804
  v1025
@[reducible] def k0_t2_loop : Scf.Loop 32 :=
  let c0_i32_959 : BitVec 32 := 0#32
  let c5_i32_960 : BitVec 32 := 5#32
  let v1255 : BitVec 32 := Scalar.addi c0_i32_959 c5_i32_960
  let c1_i32_961 : BitVec 32 := 1#32
  ⟨c0_i32_959, v1255, c1_i32_961⟩
def k0_off7 (k0_t2 : Fin k0_t2_loop.trips) : Fin 3 → Nat :=
  let c0_i32_959 : BitVec 32 := 0#32
  let c1_i32_961 : BitVec 32 := 1#32
  let arg13 : BitVec 32 := Scf.iv c0_i32_959 c1_i32_961 k0_t2
  let v1256 : Index := Scalar.indexCast arg13
  let c0_963 : Index := 0#32
  let c0_964 : Index := 0#32
  ![v1256.toNat, 0, 0]
@[reducible] def k0_t3_loop : Scf.Loop 32 :=
  let c0_i32_967 : BitVec 32 := 0#32
  let c11_i32_968 : BitVec 32 := 11#32
  let v1261 : BitVec 32 := Scalar.addi c0_i32_967 c11_i32_968
  let c1_i32_969 : BitVec 32 := 1#32
  ⟨c0_i32_967, v1261, c1_i32_969⟩
def k0_mult13 (k0_t3 : Fin k0_t3_loop.trips) : BitVec 32 :=
  let c0_i32_967 : BitVec 32 := 0#32
  let c1_i32_969 : BitVec 32 := 1#32
  let arg14 : BitVec 32 := Scf.iv c0_i32_967 c1_i32_969 k0_t3
  let c768_i32_979 : BitVec 32 := 768#32
  let v1289 : BitVec 32 := Scalar.muli arg14 c768_i32_979
  v1289
def k0_off8 (k0_t3 : Fin k0_t3_loop.trips) : Fin 2 → Nat :=
  let c0_i32_967 : BitVec 32 := 0#32
  let c1_i32_969 : BitVec 32 := 1#32
  let arg14 : BitVec 32 := Scf.iv c0_i32_967 c1_i32_969 k0_t3
  let c768_i32_979 : BitVec 32 := 768#32
  let v1289 : BitVec 32 := Scalar.muli arg14 c768_i32_979
  let v1290 : BitVec 32 := v1289
  let v1299 : Index := Scalar.indexCast v1290
  let c0_981 : Index := 0#32
  ![v1299.toNat, 0]
def k0_off9 (k0_t3 : Fin k0_t3_loop.trips) : Fin 2 → Nat :=
  let c0_i32_967 : BitVec 32 := 0#32
  let c1_i32_969 : BitVec 32 := 1#32
  let arg14 : BitVec 32 := Scf.iv c0_i32_967 c1_i32_969 k0_t3
  let c768_i32_979 : BitVec 32 := 768#32
  let v1289 : BitVec 32 := Scalar.muli arg14 c768_i32_979
  let v1290 : BitVec 32 := v1289
  let v1315 : Index := Scalar.indexCast v1290
  let c0_985 : Index := 0#32
  ![v1315.toNat, 0]
def k0_mult14 (k0_t2 : Fin k0_t2_loop.trips) : BitVec 32 :=
  let c0_i32_959 : BitVec 32 := 0#32
  let c1_i32_961 : BitVec 32 := 1#32
  let arg13 : BitVec 32 := Scf.iv c0_i32_959 c1_i32_961 k0_t2
  let c128_i32 : BitVec 32 := 128#32
  let v1267 : BitVec 32 := Scalar.muli arg13 c128_i32
  v1267
def k0_off10 (k0_t2 : Fin k0_t2_loop.trips) : Fin 3 → Nat :=
  let c0_971 : Index := 0#32
  let c0_i32_959 : BitVec 32 := 0#32
  let c1_i32_961 : BitVec 32 := 1#32
  let arg13 : BitVec 32 := Scf.iv c0_i32_959 c1_i32_961 k0_t2
  let c128_i32 : BitVec 32 := 128#32
  let v1267 : BitVec 32 := Scalar.muli arg13 c128_i32
  let v1268 : BitVec 32 := v1267
  let v1270 : Index := Scalar.indexCast v1268
  let c0_972 : Index := 0#32
  ![0, v1270.toNat, 0]
def k0_off11 (k0_t2 : Fin k0_t2_loop.trips) : Fin 3 → Nat :=
  let c0_973 : Index := 0#32
  let c0_i32_959 : BitVec 32 := 0#32
  let c1_i32_961 : BitVec 32 := 1#32
  let arg13 : BitVec 32 := Scf.iv c0_i32_959 c1_i32_961 k0_t2
  let c128_i32 : BitVec 32 := 128#32
  let v1267 : BitVec 32 := Scalar.muli arg13 c128_i32
  let v1268 : BitVec 32 := v1267
  let v1275 : Index := Scalar.indexCast v1268
  let c128_974 : Index := 128#32
  ![0, v1275.toNat, 128]
def k0_off12 (k0_t2 : Fin k0_t2_loop.trips) : Fin 3 → Nat :=
  let c0_975 : Index := 0#32
  let c0_i32_959 : BitVec 32 := 0#32
  let c1_i32_961 : BitVec 32 := 1#32
  let arg13 : BitVec 32 := Scf.iv c0_i32_959 c1_i32_961 k0_t2
  let c128_i32 : BitVec 32 := 128#32
  let v1267 : BitVec 32 := Scalar.muli arg13 c128_i32
  let v1268 : BitVec 32 := v1267
  let v1280 : Index := Scalar.indexCast v1268
  let c256_976 : Index := 256#32
  ![0, v1280.toNat, 256]
def k0_off13 (k0_t2 : Fin k0_t2_loop.trips) : Fin 3 → Nat :=
  let c0_977 : Index := 0#32
  let c0_i32_959 : BitVec 32 := 0#32
  let c1_i32_961 : BitVec 32 := 1#32
  let arg13 : BitVec 32 := Scf.iv c0_i32_959 c1_i32_961 k0_t2
  let c128_i32 : BitVec 32 := 128#32
  let v1267 : BitVec 32 := Scalar.muli arg13 c128_i32
  let v1268 : BitVec 32 := v1267
  let v1285 : Index := Scalar.indexCast v1268
  let c384_978 : Index := 384#32
  ![0, v1285.toNat, 384]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x640x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8320x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8320x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x640x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S10x8320x1024 : Shape := ⟨3, ![10, 8320, 1024]⟩
abbrev S10x8320x256 : Shape := ⟨3, ![10, 8320, 256]⟩
abbrev S10x8320x2x4x128 : Shape := ⟨5, ![10, 8320, 2, 4, 128]⟩
abbrev S10x8208x256 : Shape := ⟨3, ![10, 8208, 256]⟩
abbrev S10x8208x2x128 : Shape := ⟨4, ![10, 8208, 2, 128]⟩
abbrev S10x2x8208x8320x4 : Shape := ⟨5, ![10, 2, 8208, 8320, 4]⟩
abbrev S10x2x4x8320x8208 : Shape := ⟨5, ![10, 2, 4, 8320, 8208]⟩
abbrev S_ : Shape := ⟨0, ![]⟩
abbrev S10x2x4x8320 : Shape := ⟨4, ![10, 2, 4, 8320]⟩
abbrev S10x2x4x8320x1 : Shape := ⟨5, ![10, 2, 4, 8320, 1]⟩
abbrev S10x2x128x4x8320 : Shape := ⟨5, ![10, 2, 128, 4, 8320]⟩

abbrev nBuf : Space → Nat
  | .hbm => 35
  | .vmem => 0
  | .smem => 0
  | _ => 0

abbrev bufTy : (tb : Table) → Fin (tcTables nBuf tb) → BufTy
  | .hbm, ⟨0, _⟩ => ⟨S10x8320x1024, .bf16⟩
  | .hbm, ⟨1, _⟩ => ⟨S10x8320x256, .bf16⟩
  | .hbm, ⟨2, _⟩ => ⟨S10x8320x256, .bf16⟩
  | .hbm, ⟨3, _⟩ => ⟨S10x8320x1024, .f32⟩
  | .hbm, ⟨4, _⟩ => ⟨S10x8320x2x4x128, .f32⟩
  | .hbm, ⟨5, _⟩ => ⟨S10x8208x256, .bf16⟩
  | .hbm, ⟨6, _⟩ => ⟨S10x8208x256, .f32⟩
  | .hbm, ⟨7, _⟩ => ⟨S10x8208x2x128, .f32⟩
  | .hbm, ⟨8, _⟩ => ⟨S10x8208x256, .bf16⟩
  | .hbm, ⟨9, _⟩ => ⟨S10x8208x256, .f32⟩
  | .hbm, ⟨10, _⟩ => ⟨S10x8208x2x128, .f32⟩
  | .hbm, ⟨11, _⟩ => ⟨S10x2x8208x8320x4, .f32⟩
  | .hbm, ⟨12, _⟩ => ⟨S10x2x4x8320x8208, .f32⟩
  | .hbm, ⟨13, _⟩ => ⟨S_, .f32⟩
  | .hbm, ⟨14, _⟩ => ⟨S_, .f32⟩
  | .hbm, ⟨15, _⟩ => ⟨S10x2x4x8320x8208, .f32⟩
  | .hbm, ⟨16, _⟩ => ⟨S10x2x4x8320x8208, .f32⟩
  | .hbm, ⟨17, _⟩ => ⟨S_, .f32⟩
  | .hbm, ⟨18, _⟩ => ⟨S10x2x4x8320, .f32⟩
  | .hbm, ⟨19, _⟩ => ⟨S_, .f32⟩
  | .hbm, ⟨20, _⟩ => ⟨S10x2x4x8320, .f32⟩
  | .hbm, ⟨21, _⟩ => ⟨S10x2x4x8320, .f32⟩
  | .hbm, ⟨22, _⟩ => ⟨S10x2x4x8320x1, .f32⟩
  | .hbm, ⟨23, _⟩ => ⟨S10x2x4x8320x8208, .f32⟩
  | .hbm, ⟨24, _⟩ => ⟨S10x2x4x8320x8208, .f32⟩
  | .hbm, ⟨25, _⟩ => ⟨S10x2x4x8320x8208, .f32⟩
  | .hbm, ⟨26, _⟩ => ⟨S_, .f32⟩
  | .hbm, ⟨27, _⟩ => ⟨S10x2x4x8320, .f32⟩
  | .hbm, ⟨28, _⟩ => ⟨S10x2x4x8320x1, .f32⟩
  | .hbm, ⟨29, _⟩ => ⟨S10x2x4x8320x8208, .f32⟩
  | .hbm, ⟨30, _⟩ => ⟨S10x2x4x8320x8208, .f32⟩
  | .hbm, ⟨31, _⟩ => ⟨S10x2x128x4x8320, .f32⟩
  | .hbm, ⟨32, _⟩ => ⟨S10x8320x2x4x128, .f32⟩
  | .hbm, ⟨33, _⟩ => ⟨S10x8320x1024, .f32⟩
  | .hbm, ⟨34, _⟩ => ⟨S10x8320x1024, .bf16⟩
  | _, _ => ⟨S10x8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Kernel2.lean ====
abbrev S10x8320x1024 : Shape := ⟨3, ![10, 8320, 1024]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S8x8192x1024 : Shape := ⟨3, ![8, 8192, 1024]⟩
abbrev S1x128x1024 : Shape := ⟨3, ![1, 128, 1024]⟩
abbrev S1x640x1024 : Shape := ⟨3, ![1, 640, 1024]⟩
abbrev S128x1024 : Shape := ⟨2, ![128, 1024]⟩
abbrev S640x1024 : Shape := ⟨2, ![640, 1024]⟩
abbrev S640 : Shape := ⟨1, ![640]⟩
abbrev S640x1 : Shape := ⟨2, ![640, 1]⟩

abbrev nBuf : Space → Nat
  | .hbm => 7
  | .vmem => 26
  | .smem => 0
  | _ => 0

abbrev bufTy : (tb : Table) → Fin (tcTables nBuf tb) → BufTy
  | .hbm, ⟨0, _⟩ => ⟨S10x8320x1024, .bf16⟩
  | .hbm, ⟨1, _⟩ => ⟨S1024x1024, .bf16⟩
  | .hbm, ⟨2, _⟩ => ⟨S10x8320x1024, .f32⟩
  | .hbm, ⟨3, _⟩ => ⟨S1x1024, .f32⟩
  | .hbm, ⟨4, _⟩ => ⟨S1024x4096, .bf16⟩
  | .hbm, ⟨5, _⟩ => ⟨S4096x1024, .bf16⟩
  | .hbm, ⟨6, _⟩ => ⟨S8x8192x1024, .f32⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x1024, .bf16⟩
  | .local _ .vmem, ⟨5, _⟩ => ⟨S1x128x1024, .bf16⟩
  | .local _ .vmem, ⟨6, _⟩ => ⟨S1x128x1024, .bf16⟩
  | .local _ .vmem, ⟨7, _⟩ => ⟨S1x128x1024, .bf16⟩
  | .local _ .vmem, ⟨8, _⟩ => ⟨S1x128x1024, .bf16⟩
  | .local _ .vmem, ⟨9, _⟩ => ⟨S1x128x1024, .bf16⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .vmem, ⟨18, _⟩ => ⟨S1x128x1024, .f32⟩
  | .local _ .vmem, ⟨19, _⟩ => ⟨S1x128x1024, .f32⟩
  | .local _ .vmem, ⟨20, _⟩ => ⟨S1024x1024, .bf16⟩
  | .local _ .vmem, ⟨21, _⟩ => ⟨S1x1024, .f32⟩
  | .local _ .vmem, ⟨22, _⟩ => ⟨S1024x4096, .bf16⟩
  | .local _ .vmem, ⟨23, _⟩ => ⟨S4096x1024, .bf16⟩
  | .local _ .vmem, ⟨24, _⟩ => ⟨S1x640x1024, .f32⟩
  | .local _ .vmem, ⟨25, _⟩ => ⟨S1x640x1024, .f32⟩
  | _, _ => ⟨S10x8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨2, ![8, 13], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c5_i32 : BitVec 32 := 5#32
  let v1 : BitVec 32 := Scalar.muli c5_i32 arg1
  let c1_i32 : BitVec 32 := 1#32
  let v2 : BitVec 32 := Scalar.addi c1_i32 v1
  let c0_i32 : BitVec 32 := 0#32
  let v3 : BitVec 32 := Scalar.addi v2 c0_i32
  let c64_i32 : BitVec 32 := 64#32
  let v4 : BitVec 32 := Scalar.minsi v3 c64_i32
  let c0_i32_0 : BitVec 32 := 0#32
  let c0_i32_1 : BitVec 32 := 0#32
  ![v0.toNat, v4.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c5_i32 : BitVec 32 := 5#32
  let v1 : BitVec 32 := Scalar.muli c5_i32 arg1
  let c1_i32 : BitVec 32 := 1#32
  let v2 : BitVec 32 := Scalar.addi c1_i32 v1
  let c1_i32_0 : BitVec 32 := 1#32
  let v3 : BitVec 32 := Scalar.addi v2 c1_i32_0
  let c64_i32 : BitVec 32 := 64#32
  let v4 : BitVec 32 := Scalar.minsi v3 c64_i32
  let c0_i32 : BitVec 32 := 0#32
  let c0_i32_1 : BitVec 32 := 0#32
  ![v0.toNat, v4.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c5_i32 : BitVec 32 := 5#32
  let v1 : BitVec 32 := Scalar.muli c5_i32 arg1
  let c1_i32 : BitVec 32 := 1#32
  let v2 : BitVec 32 := Scalar.addi c1_i32 v1
  let c2_i32_0 : BitVec 32 := 2#32
  let v3 : BitVec 32 := Scalar.addi v2 c2_i32_0
  let c64_i32 : BitVec 32 := 64#32
  let v4 : BitVec 32 := Scalar.minsi v3 c64_i32
  let c0_i32 : BitVec 32 := 0#32
  let c0_i32_1 : BitVec 32 := 0#32
  ![v0.toNat, v4.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c5_i32 : BitVec 32 := 5#32
  let v1 : BitVec 32 := Scalar.muli c5_i32 arg1
  let c1_i32 : BitVec 32 := 1#32
  let v2 : BitVec 32 := Scalar.addi c1_i32 v1
  let c3_i32 : BitVec 32 := 3#32
  let v3 : BitVec 32 := Scalar.addi v2 c3_i32
  let c64_i32 : BitVec 32 := 64#32
  let v4 : BitVec 32 := Scalar.minsi v3 c64_i32
  let c0_i32 : BitVec 32 := 0#32
  let c0_i32_0 : BitVec 32 := 0#32
  ![v0.toNat, v4.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c5_i32 : BitVec 32 := 5#32
  let v1 : BitVec 32 := Scalar.muli c5_i32 arg1
  let c1_i32 : BitVec 32 := 1#32
  let v2 : BitVec 32 := Scalar.addi c1_i32 v1
  let c4_i32 : BitVec 32 := 4#32
  let v3 : BitVec 32 := Scalar.addi v2 c4_i32
  let c64_i32 : BitVec 32 := 64#32
  let v4 : BitVec 32 := Scalar.minsi v3 c64_i32
  let c0_i32 : BitVec 32 := 0#32
  let c0_i32_0 : BitVec 32 := 0#32
  ![v0.toNat, v4.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c5_i32 : BitVec 32 := 5#32
  let v1 : BitVec 32 := Scalar.muli c5_i32 arg1
  let c1_i32 : BitVec 32 := 1#32
  let v2 : BitVec 32 := Scalar.addi c1_i32 v1
  let c0_i32 : BitVec 32 := 0#32
  let v3 : BitVec 32 := Scalar.addi v2 c0_i32
  let c64_i32 : BitVec 32 := 64#32
  let v4 : BitVec 32 := Scalar.minsi v3 c64_i32
  let c0_i32_0 : BitVec 32 := 0#32
  let c0_i32_1 : BitVec 32 := 0#32
  ![v0.toNat, v4.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c5_i32 : BitVec 32 := 5#32
  let v1 : BitVec 32 := Scalar.muli c5_i32 arg1
  let c1_i32 : BitVec 32 := 1#32
  let v2 : BitVec 32 := Scalar.addi c1_i32 v1
  let c1_i32_0 : BitVec 32 := 1#32
  let v3 : BitVec 32 := Scalar.addi v2 c1_i32_0
  let c64_i32 : BitVec 32 := 64#32
  let v4 : BitVec 32 := Scalar.minsi v3 c64_i32
  let c0_i32 : BitVec 32 := 0#32
  let c0_i32_1 : BitVec 32 := 0#32
  ![v0.toNat, v4.toNat, c0_i32.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c5_i32 : BitVec 32 := 5#32
  let v1 : BitVec 32 := Scalar.muli c5_i32 arg1
  let c1_i32 : BitVec 32 := 1#32
  let v2 : BitVec 32 := Scalar.addi c1_i32 v1
  let c2_i32_0 : BitVec 32 := 2#32
  let v3 : BitVec 32 := Scalar.addi v2 c2_i32_0
  let c64_i32 : BitVec 32 := 64#32
  let v4 : BitVec 32 := Scalar.minsi v3 c64_i32
  let c0_i32 : BitVec 32 := 0#32
  let c0_i32_1 : BitVec 32 := 0#32
  ![v0.toNat, v4.toNat, c0_i32.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c5_i32 : BitVec 32 := 5#32
  let v1 : BitVec 32 := Scalar.muli c5_i32 arg1
  let c1_i32 : BitVec 32 := 1#32
  let v2 : BitVec 32 := Scalar.addi c1_i32 v1
  let c3_i32 : BitVec 32 := 3#32
  let v3 : BitVec 32 := Scalar.addi v2 c3_i32
  let c64_i32 : BitVec 32 := 64#32
  let v4 : BitVec 32 := Scalar.minsi v3 c64_i32
  let c0_i32 : BitVec 32 := 0#32
  let c0_i32_0 : BitVec 32 := 0#32
  ![v0.toNat, v4.toNat, c0_i32.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c5_i32 : BitVec 32 := 5#32
  let v1 : BitVec 32 := Scalar.muli c5_i32 arg1
  let c1_i32 : BitVec 32 := 1#32
  let v2 : BitVec 32 := Scalar.addi c1_i32 v1
  let c4_i32 : BitVec 32 := 4#32
  let v3 : BitVec 32 := Scalar.addi v2 c4_i32
  let c64_i32 : BitVec 32 := 64#32
  let v4 : BitVec 32 := Scalar.minsi v3 c64_i32
  let c0_i32 : BitVec 32 := 0#32
  let c0_i32_0 : BitVec 32 := 0#32
  ![v0.toNat, v4.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4096x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x640x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference2Ideal.lean ====
abbrev S10x8320x1024 : Shape := ⟨3, ![10, 8320, 1024]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S8x8192x1024 : Shape := ⟨3, ![8, 8192, 1024]⟩
abbrev S_ : Shape := ⟨0, ![]⟩
abbrev S8x8192 : Shape := ⟨2, ![8, 8192]⟩
abbrev S8x8192x1 : Shape := ⟨3, ![8, 8192, 1]⟩
abbrev S1024 : Shape := ⟨1, ![1024]⟩
abbrev S1x1x1024 : Shape := ⟨3, ![1, 1, 1024]⟩
abbrev S8x8192x4096 : Shape := ⟨3, ![8, 8192, 4096]⟩

abbrev nBuf : Space → Nat
  | .hbm => 38
  | .vmem => 0
  | .smem => 0
  | _ => 0

abbrev bufTy : (tb : Table) → Fin (tcTables nBuf tb) → BufTy
  | .hbm, ⟨0, _⟩ => ⟨S10x8320x1024, .bf16⟩
  | .hbm, ⟨1, _⟩ => ⟨S1024x1024, .bf16⟩
  | .hbm, ⟨2, _⟩ => ⟨S10x8320x1024, .f32⟩
  | .hbm, ⟨3, _⟩ => ⟨S1x1024, .f32⟩
  | .hbm, ⟨4, _⟩ => ⟨S1024x4096, .bf16⟩
  | .hbm, ⟨5, _⟩ => ⟨S4096x1024, .bf16⟩
  | .hbm, ⟨6, _⟩ => ⟨S8x8192x1024, .f32⟩
  | .hbm, ⟨7, _⟩ => ⟨S8x8192x1024, .bf16⟩
  | .hbm, ⟨8, _⟩ => ⟨S8x8192x1024, .f32⟩
  | .hbm, ⟨9, _⟩ => ⟨S1024x1024, .f32⟩
  | .hbm, ⟨10, _⟩ => ⟨S8x8192x1024, .f32⟩
  | .hbm, ⟨11, _⟩ => ⟨S8x8192x1024, .f32⟩
  | .hbm, ⟨12, _⟩ => ⟨S8x8192x1024, .f32⟩
  | .hbm, ⟨13, _⟩ => ⟨S_, .f32⟩
  | .hbm, ⟨14, _⟩ => ⟨S8x8192, .f32⟩
  | .hbm, ⟨15, _⟩ => ⟨S8x8192x1, .f32⟩
  | .hbm, ⟨16, _⟩ => ⟨S_, .f32⟩
  | .hbm, ⟨17, _⟩ => ⟨S8x8192x1, .f32⟩
  | .hbm, ⟨18, _⟩ => ⟨S8x8192x1, .f32⟩
  | .hbm, ⟨19, _⟩ => ⟨S_, .f32⟩
  | .hbm, ⟨20, _⟩ => ⟨S8x8192x1, .f32⟩
  | .hbm, ⟨21, _⟩ => ⟨S8x8192x1, .f32⟩
  | .hbm, ⟨22, _⟩ => ⟨S8x8192x1, .f32⟩
  | .hbm, ⟨23, _⟩ => ⟨S8x8192x1024, .f32⟩
  | .hbm, ⟨24, _⟩ => ⟨S8x8192x1024, .f32⟩
  | .hbm, ⟨25, _⟩ => ⟨S1024, .f32⟩
  | .hbm, ⟨26, _⟩ => ⟨S1x1x1024, .f32⟩
  | .hbm, ⟨27, _⟩ => ⟨S8x8192x1024, .f32⟩
  | .hbm, ⟨28, _⟩ => ⟨S8x8192x1024, .f32⟩
  | .hbm, ⟨29, _⟩ => ⟨S1024x4096, .f32⟩
  | .hbm, ⟨30, _⟩ => ⟨S8x8192x4096, .f32⟩
  | .hbm, ⟨31, _⟩ => ⟨S_, .f32⟩
  | .hbm, ⟨32, _⟩ => ⟨S8x8192x4096, .f32⟩
  | .hbm, ⟨33, _⟩ => ⟨S8x8192x4096, .f32⟩
  | .hbm, ⟨34, _⟩ => ⟨S8x8192x4096, .f32⟩
  | .hbm, ⟨35, _⟩ => ⟨S4096x1024, .f32⟩
  | .hbm, ⟨36, _⟩ => ⟨S8x8192x1024, .f32⟩
  | .hbm, ⟨37, _⟩ => ⟨S8x8192x1024, .f32⟩
  | _, _ => ⟨S10x8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_cst : Ref sig .tc := ⟨.hbm, 31, rfl⟩
abbrev main_call0_v0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel3.lean ====
abbrev S83200x512 : Shape := ⟨2, ![83200, 512]⟩
abbrev S1x128 : Shape := ⟨2, ![1, 128]⟩
abbrev S1024x1024 : Shape := ⟨2, ![1024, 1024]⟩
abbrev S83200x1024 : Shape := ⟨2, ![83200, 1024]⟩
abbrev S1x1024 : Shape := ⟨2, ![1, 1024]⟩
abbrev S1024x4096 : Shape := ⟨2, ![1024, 4096]⟩
abbrev S4096x1024 : Shape := ⟨2, ![4096, 1024]⟩
abbrev S512x1024 : Shape := ⟨2, ![512, 1024]⟩
abbrev S640x512 : Shape := ⟨2, ![640, 512]⟩
abbrev S640x1024 : Shape := ⟨2, ![640, 1024]⟩
abbrev S128x128 : Shape := ⟨2, ![128, 128]⟩
abbrev S640x128 : Shape := ⟨2, ![640, 128]⟩
abbrev S640 : Shape := ⟨1, ![640]⟩
abbrev S640x1 : Shape := ⟨2, ![640, 1]⟩

abbrev nBuf : Space → Nat
  | .hbm => 13
  | .vmem => 18
  | .smem => 0
  | _ => 0

abbrev bufTy : (tb : Table) → Fin (tcTables nBuf tb) → BufTy
  | .hbm, ⟨0, _⟩ => ⟨S83200x512, .bf16⟩
  | .hbm, ⟨1, _⟩ => ⟨S83200x512, .bf16⟩
  | .hbm, ⟨2, _⟩ => ⟨S83200x512, .bf16⟩
  | .hbm, ⟨3, _⟩ => ⟨S83200x512, .bf16⟩
  | .hbm, ⟨4, _⟩ => ⟨S1x128, .f32⟩
  | .hbm, ⟨5, _⟩ => ⟨S1024x1024, .bf16⟩
  | .hbm, ⟨6, _⟩ => ⟨S83200x1024, .f32⟩
  | .hbm, ⟨7, _⟩ => ⟨S1x1024, .f32⟩
  | .hbm, ⟨8, _⟩ => ⟨S1024x4096, .bf16⟩
  | .hbm, ⟨9, _⟩ => ⟨S4096x1024, .bf16⟩
  | .hbm, ⟨10, _⟩ => ⟨S512x1024, .bf16⟩
  | .hbm, ⟨11, _⟩ => ⟨S512x1024, .bf16⟩
  | .hbm, ⟨12, _⟩ => ⟨S83200x1024, .f32⟩
  | .local _ .vmem, ⟨0, _⟩ => ⟨S640x512, .bf16⟩
  | .local _ .vmem, ⟨1, _⟩ => ⟨S640x512, .bf16⟩
  | .local _ .vmem, ⟨2, _⟩ => ⟨S640x512, .bf16⟩
  | .local _ .vmem, ⟨3, _⟩ => ⟨S640x512, .bf16⟩
  | .local _ .vmem, ⟨4, _⟩ => ⟨S640x512, .bf16⟩
  | .local _ .vmem, ⟨5, _⟩ => ⟨S640x512, .bf16⟩
  | .local _ .vmem, ⟨6, _⟩ => ⟨S640x512, .bf16⟩
  | .local _ .vmem, ⟨7, _⟩ => ⟨S640x512, .bf16⟩
  | .local _ .vmem, ⟨8, _⟩ => ⟨S1x128, .f32⟩
  | .local _ .vmem, ⟨9, _⟩ => ⟨S512x1024, .bf16⟩
  | .local _ .vmem, ⟨10, _⟩ => ⟨S512x1024, .bf16⟩
  | .local _ .vmem, ⟨11, _⟩ => ⟨S640x1024, .f32⟩
  | .local _ .vmem, ⟨12, _⟩ => ⟨S640x1024, .f32⟩
  | .local _ .vmem, ⟨13, _⟩ => ⟨S1x1024, .f32⟩
  | .local _ .vmem, ⟨14, _⟩ => ⟨S1024x4096, .bf16⟩
  | .local _ .vmem, ⟨15, _⟩ => ⟨S4096x1024, .bf16⟩
  | .local _ .vmem, ⟨16, _⟩ => ⟨S640x1024, .f32⟩
  | .local _ .vmem, ⟨17, _⟩ => ⟨S640x1024, .f32⟩
  | _, _ => ⟨S83200x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![130], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S640x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S640x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S83200x512 : Shape := ⟨2, ![83200, 512]⟩
abbrev S1x128 : Shape := ⟨2, ![1, 128]⟩
abbrev S1024x1024 : Shape := ⟨2, ![1024, 1024]⟩
abbrev S83200x1024 : Shape := ⟨2, ![83200, 1024]⟩
abbrev S1x1024 : Shape := ⟨2, ![1, 1024]⟩
abbrev S1024x4096 : Shape := ⟨2, ![1024, 4096]⟩
abbrev S4096x1024 : Shape := ⟨2, ![4096, 1024]⟩
abbrev S83200x4x128 : Shape := ⟨3, ![83200, 4, 128]⟩
abbrev S_ : Shape := ⟨0, ![]⟩
abbrev S83200x4 : Shape := ⟨2, ![83200, 4]⟩
abbrev S83200x4x1 : Shape := ⟨3, ![83200, 4, 1]⟩
abbrev S128 : Shape := ⟨1, ![128]⟩
abbrev S1x1x128 : Shape := ⟨3, ![1, 1, 128]⟩
abbrev S83200 : Shape := ⟨1, ![83200]⟩
abbrev S83200x1 : Shape := ⟨2, ![83200, 1]⟩
abbrev S1024 : Shape := ⟨1, ![1024]⟩
abbrev S83200x4096 : Shape := ⟨2, ![83200, 4096]⟩

abbrev nBuf : Space → Nat
  | .hbm => 75
  | .vmem => 0
  | .smem => 0
  | _ => 0

abbrev bufTy : (tb : Table) → Fin (tcTables nBuf tb) → BufTy
  | .hbm, ⟨0, _⟩ => ⟨S83200x512, .bf16⟩
  | .hbm, ⟨1, _⟩ => ⟨S83200x512, .bf16⟩
  | .hbm, ⟨2, _⟩ => ⟨S83200x512, .bf16⟩
  | .hbm, ⟨3, _⟩ => ⟨S83200x512, .bf16⟩
  | .hbm, ⟨4, _⟩ => ⟨S1x128, .f32⟩
  | .hbm, ⟨5, _⟩ => ⟨S1024x1024, .bf16⟩
  | .hbm, ⟨6, _⟩ => ⟨S83200x1024, .f32⟩
  | .hbm, ⟨7, _⟩ => ⟨S1x1024, .f32⟩
  | .hbm, ⟨8, _⟩ => ⟨S1024x4096, .bf16⟩
  | .hbm, ⟨9, _⟩ => ⟨S4096x1024, .bf16⟩
  | .hbm, ⟨10, _⟩ => ⟨S83200x512, .f32⟩
  | .hbm, ⟨11, _⟩ => ⟨S83200x512, .f32⟩
  | .hbm, ⟨12, _⟩ => ⟨S83200x512, .f32⟩
  | .hbm, ⟨13, _⟩ => ⟨S83200x4x128, .f32⟩
  | .hbm, ⟨14, _⟩ => ⟨S83200x4x128, .f32⟩
  | .hbm, ⟨15, _⟩ => ⟨S_, .f32⟩
  | .hbm, ⟨16, _⟩ => ⟨S83200x4, .f32⟩
  | .hbm, ⟨17, _⟩ => ⟨S83200x4x1, .f32⟩
  | .hbm, ⟨18, _⟩ => ⟨S_, .f32⟩
  | .hbm, ⟨19, _⟩ => ⟨S83200x4x1, .f32⟩
  | .hbm, ⟨20, _⟩ => ⟨S83200x4x1, .f32⟩
  | .hbm, ⟨21, _⟩ => ⟨S_, .f32⟩
  | .hbm, ⟨22, _⟩ => ⟨S83200x4x1, .f32⟩
  | .hbm, ⟨23, _⟩ => ⟨S83200x4x1, .f32⟩
  | .hbm, ⟨24, _⟩ => ⟨S83200x4x1, .f32⟩
  | .hbm, ⟨25, _⟩ => ⟨S83200x4x128, .f32⟩
  | .hbm, ⟨26, _⟩ => ⟨S83200x4x128, .f32⟩
  | .hbm, ⟨27, _⟩ => ⟨S128, .f32⟩
  | .hbm, ⟨28, _⟩ => ⟨S1x1x128, .f32⟩
  | .hbm, ⟨29, _⟩ => ⟨S83200x4x128, .f32⟩
  | .hbm, ⟨30, _⟩ => ⟨S83200x4x128, .f32⟩
  | .hbm, ⟨31, _⟩ => ⟨S83200x512, .f32⟩
  | .hbm, ⟨32, _⟩ => ⟨S83200x4x128, .f32⟩
  | .hbm, ⟨33, _⟩ => ⟨S83200x4x128, .f32⟩
  | .hbm, ⟨34, _⟩ => ⟨S83200x4x128, .f32⟩
  | .hbm, ⟨35, _⟩ => ⟨S_, .f32⟩
  | .hbm, ⟨36, _⟩ => ⟨S83200x4x128, .f32⟩
  | .hbm, ⟨37, _⟩ => ⟨S83200x4x128, .f32⟩
  | .hbm, ⟨38, _⟩ => ⟨S_, .f32⟩
  | .hbm, ⟨39, _⟩ => ⟨S83200x4x128, .f32⟩
  | .hbm, ⟨40, _⟩ => ⟨S83200x4x128, .f32⟩
  | .hbm, ⟨41, _⟩ => ⟨S83200x4x128, .f32⟩
  | .hbm, ⟨42, _⟩ => ⟨S83200x4x128, .f32⟩
  | .hbm, ⟨43, _⟩ => ⟨S83200x512, .f32⟩
  | .hbm, ⟨44, _⟩ => ⟨S83200x512, .f32⟩
  | .hbm, ⟨45, _⟩ => ⟨S83200x1024, .f32⟩
  | .hbm, ⟨46, _⟩ => ⟨S1024x1024, .f32⟩
  | .hbm, ⟨47, _⟩ => ⟨S83200x1024, .f32⟩
  | .hbm, ⟨48, _⟩ => ⟨S83200x1024, .f32⟩
  | .hbm, ⟨49, _⟩ => ⟨S83200x1024, .f32⟩
  | .hbm, ⟨50, _⟩ => ⟨S_, .f32⟩
  | .hbm, ⟨51, _⟩ => ⟨S83200, .f32⟩
  | .hbm, ⟨52, _⟩ => ⟨S83200x1, .f32⟩
  | .hbm, ⟨53, _⟩ => ⟨S_, .f32⟩
  | .hbm, ⟨54, _⟩ => ⟨S83200x1, .f32⟩
  | .hbm, ⟨55, _⟩ => ⟨S83200x1, .f32⟩
  | .hbm, ⟨56, _⟩ => ⟨S_, .f32⟩
  | .hbm, ⟨57, _⟩ => ⟨S83200x1, .f32⟩
  | .hbm, ⟨58, _⟩ => ⟨S83200x1, .f32⟩
  | .hbm, ⟨59, _⟩ => ⟨S83200x1, .f32⟩
  | .hbm, ⟨60, _⟩ => ⟨S83200x1024, .f32⟩
  | .hbm, ⟨61, _⟩ => ⟨S83200x1024, .f32⟩
  | .hbm, ⟨62, _⟩ => ⟨S1024, .f32⟩
  | .hbm, ⟨63, _⟩ => ⟨S1x1024, .f32⟩
  | .hbm, ⟨64, _⟩ => ⟨S83200x1024, .f32⟩
  | .hbm, ⟨65, _⟩ => ⟨S83200x1024, .f32⟩
  | .hbm, ⟨66, _⟩ => ⟨S1024x4096, .f32⟩
  | .hbm, ⟨67, _⟩ => ⟨S83200x4096, .f32⟩
  | .hbm, ⟨68, _⟩ => ⟨S_, .f32⟩
  | .hbm, ⟨69, _⟩ => ⟨S83200x4096, .f32⟩
  | .hbm, ⟨70, _⟩ => ⟨S83200x4096, .f32⟩
  | .hbm, ⟨71, _⟩ => ⟨S83200x4096, .f32⟩
  | .hbm, ⟨72, _⟩ => ⟨S4096x1024, .f32⟩
  | .hbm, ⟨73, _⟩ => ⟨S83200x1024, .f32⟩
  | .hbm, ⟨74, _⟩ => ⟨S83200x1024, .f32⟩
  | _, _ => ⟨S83200x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_2 : Ref sig .tc := ⟨.hbm, 50, rfl⟩
abbrev main_v29 : Ref sig .tc := ⟨.hbm, 51, rfl⟩
abbrev main_v30 : Ref sig .tc := ⟨.hbm, 52, rfl⟩
abbrev main_cst_3 : Ref sig .tc := ⟨.hbm, 53, rfl⟩
abbrev main_v31 : Ref sig .tc := ⟨.hbm, 54, rfl⟩
abbrev main_v32 : Ref sig .tc := ⟨.hbm, 55, rfl⟩
abbrev main_cst_4 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_call1_cst : Ref sig .tc := ⟨.hbm, 68, rfl⟩
abbrev main_call1_v0 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩

abbrev nD : Nat := 1
abbrev τ : Topo := Topo.v7x

variable {F : FTy → Type} [FloatOps F]
-- ==== Kernel4.lean ====
abbrev S10x8320x1024 : Shape := ⟨3, ![10, 8320, 1024]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S2x8192x1024 : Shape := ⟨3, ![2, 8192, 1024]⟩
abbrev S1x128x1024 : Shape := ⟨3, ![1, 128, 1024]⟩
abbrev S1x640x1024 : Shape := ⟨3, ![1, 640, 1024]⟩
abbrev S128x1024 : Shape := ⟨2, ![128, 1024]⟩
abbrev S640x1024 : Shape := ⟨2, ![640, 1024]⟩
abbrev S640 : Shape := ⟨1, ![640]⟩
abbrev S640x1 : Shape := ⟨2, ![640, 1]⟩

abbrev nBuf : Space → Nat
  | .hbm => 7
  | .vmem => 26
  | .smem => 0
  | _ => 0

abbrev bufTy : (tb : Table) → Fin (tcTables nBuf tb) → BufTy
  | .hbm, ⟨0, _⟩ => ⟨S10x8320x1024, .bf16⟩
  | .hbm, ⟨1, _⟩ => ⟨S1024x1024, .bf16⟩
  | .hbm, ⟨2, _⟩ => ⟨S10x8320x1024, .f32⟩
  | .hbm, ⟨3, _⟩ => ⟨S1x1024, .f32⟩
  | .hbm, ⟨4, _⟩ => ⟨S1024x4096, .bf16⟩
  | .hbm, ⟨5, _⟩ => ⟨S4096x1024, .bf16⟩
  | .hbm, ⟨6, _⟩ => ⟨S2x8192x1024, .f32⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x1024, .bf16⟩
  | .local _ .vmem, ⟨5, _⟩ => ⟨S1x128x1024, .bf16⟩
  | .local _ .vmem, ⟨6, _⟩ => ⟨S1x128x1024, .bf16⟩
  | .local _ .vmem, ⟨7, _⟩ => ⟨S1x128x1024, .bf16⟩
  | .local _ .vmem, ⟨8, _⟩ => ⟨S1x128x1024, .bf16⟩
  | .local _ .vmem, ⟨9, _⟩ => ⟨S1x128x1024, .bf16⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .vmem, ⟨18, _⟩ => ⟨S1x128x1024, .f32⟩
  | .local _ .vmem, ⟨19, _⟩ => ⟨S1x128x1024, .f32⟩
  | .local _ .vmem, ⟨20, _⟩ => ⟨S1024x1024, .bf16⟩
  | .local _ .vmem, ⟨21, _⟩ => ⟨S1x1024, .f32⟩
  | .local _ .vmem, ⟨22, _⟩ => ⟨S1024x4096, .bf16⟩
  | .local _ .vmem, ⟨23, _⟩ => ⟨S4096x1024, .bf16⟩
  | .local _ .vmem, ⟨24, _⟩ => ⟨S1x640x1024, .f32⟩
  | .local _ .vmem, ⟨25, _⟩ => ⟨S1x640x1024, .f32⟩
  | _, _ => ⟨S10x8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨2, ![2, 13], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c5_i32 : BitVec 32 := 5#32
  let v1 : BitVec 32 := Scalar.muli c5_i32 arg1
  let c1_i32 : BitVec 32 := 1#32
  let v2 : BitVec 32 := Scalar.addi c1_i32 v1
  let c0_i32_0 : BitVec 32 := 0#32
  let v3 : BitVec 32 := Scalar.addi v2 c0_i32_0
  let c64_i32 : BitVec 32 := 64#32
  let v4 : BitVec 32 := Scalar.minsi v3 c64_i32
  let c0_i32_1 : BitVec 32 := 0#32
  let c0_i32_2 : BitVec 32 := 0#32
  ![v0.toNat, v4.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c5_i32 : BitVec 32 := 5#32
  let v1 : BitVec 32 := Scalar.muli c5_i32 arg1
  let c1_i32 : BitVec 32 := 1#32
  let v2 : BitVec 32 := Scalar.addi c1_i32 v1
  let c1_i32_0 : BitVec 32 := 1#32
  let v3 : BitVec 32 := Scalar.addi v2 c1_i32_0
  let c64_i32 : BitVec 32 := 64#32
  let v4 : BitVec 32 := Scalar.minsi v3 c64_i32
  let c0_i32_1 : BitVec 32 := 0#32
  let c0_i32_2 : BitVec 32 := 0#32
  ![v0.toNat, v4.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c5_i32 : BitVec 32 := 5#32
  let v1 : BitVec 32 := Scalar.muli c5_i32 arg1
  let c1_i32 : BitVec 32 := 1#32
  let v2 : BitVec 32 := Scalar.addi c1_i32 v1
  let c2_i32 : BitVec 32 := 2#32
  let v3 : BitVec 32 := Scalar.addi v2 c2_i32
  let c64_i32 : BitVec 32 := 64#32
  let v4 : BitVec 32 := Scalar.minsi v3 c64_i32
  let c0_i32_0 : BitVec 32 := 0#32
  let c0_i32_1 : BitVec 32 := 0#32
  ![v0.toNat, v4.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c5_i32 : BitVec 32 := 5#32
  let v1 : BitVec 32 := Scalar.muli c5_i32 arg1
  let c1_i32 : BitVec 32 := 1#32
  let v2 : BitVec 32 := Scalar.addi c1_i32 v1
  let c3_i32 : BitVec 32 := 3#32
  let v3 : BitVec 32 := Scalar.addi v2 c3_i32
  let c64_i32 : BitVec 32 := 64#32
  let v4 : BitVec 32 := Scalar.minsi v3 c64_i32
  let c0_i32_0 : BitVec 32 := 0#32
  let c0_i32_1 : BitVec 32 := 0#32
  ![v0.toNat, v4.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c5_i32 : BitVec 32 := 5#32
  let v1 : BitVec 32 := Scalar.muli c5_i32 arg1
  let c1_i32 : BitVec 32 := 1#32
  let v2 : BitVec 32 := Scalar.addi c1_i32 v1
  let c4_i32 : BitVec 32 := 4#32
  let v3 : BitVec 32 := Scalar.addi v2 c4_i32
  let c64_i32 : BitVec 32 := 64#32
  let v4 : BitVec 32 := Scalar.minsi v3 c64_i32
  let c0_i32_0 : BitVec 32 := 0#32
  let c0_i32_1 : BitVec 32 := 0#32
  ![v0.toNat, v4.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c5_i32 : BitVec 32 := 5#32
  let v1 : BitVec 32 := Scalar.muli c5_i32 arg1
  let c1_i32 : BitVec 32 := 1#32
  let v2 : BitVec 32 := Scalar.addi c1_i32 v1
  let c0_i32_0 : BitVec 32 := 0#32
  let v3 : BitVec 32 := Scalar.addi v2 c0_i32_0
  let c64_i32 : BitVec 32 := 64#32
  let v4 : BitVec 32 := Scalar.minsi v3 c64_i32
  let c0_i32_1 : BitVec 32 := 0#32
  let c0_i32_2 : BitVec 32 := 0#32
  ![v0.toNat, v4.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c5_i32 : BitVec 32 := 5#32
  let v1 : BitVec 32 := Scalar.muli c5_i32 arg1
  let c1_i32 : BitVec 32 := 1#32
  let v2 : BitVec 32 := Scalar.addi c1_i32 v1
  let c1_i32_0 : BitVec 32 := 1#32
  let v3 : BitVec 32 := Scalar.addi v2 c1_i32_0
  let c64_i32 : BitVec 32 := 64#32
  let v4 : BitVec 32 := Scalar.minsi v3 c64_i32
  let c0_i32_1 : BitVec 32 := 0#32
  let c0_i32_2 : BitVec 32 := 0#32
  ![v0.toNat, v4.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c5_i32 : BitVec 32 := 5#32
  let v1 : BitVec 32 := Scalar.muli c5_i32 arg1
  let c1_i32 : BitVec 32 := 1#32
  let v2 : BitVec 32 := Scalar.addi c1_i32 v1
  let c2_i32 : BitVec 32 := 2#32
  let v3 : BitVec 32 := Scalar.addi v2 c2_i32
  let c64_i32 : BitVec 32 := 64#32
  let v4 : BitVec 32 := Scalar.minsi v3 c64_i32
  let c0_i32_0 : BitVec 32 := 0#32
  let c0_i32_1 : BitVec 32 := 0#32
  ![v0.toNat, v4.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c5_i32 : BitVec 32 := 5#32
  let v1 : BitVec 32 := Scalar.muli c5_i32 arg1
  let c1_i32 : BitVec 32 := 1#32
  let v2 : BitVec 32 := Scalar.addi c1_i32 v1
  let c3_i32 : BitVec 32 := 3#32
  let v3 : BitVec 32 := Scalar.addi v2 c3_i32
  let c64_i32 : BitVec 32 := 64#32
  let v4 : BitVec 32 := Scalar.minsi v3 c64_i32
  let c0_i32_0 : BitVec 32 := 0#32
  let c0_i32_1 : BitVec 32 := 0#32
  ![v0.toNat, v4.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c5_i32 : BitVec 32 := 5#32
  let v1 : BitVec 32 := Scalar.muli c5_i32 arg1
  let c1_i32 : BitVec 32 := 1#32
  let v2 : BitVec 32 := Scalar.addi c1_i32 v1
  let c4_i32 : BitVec 32 := 4#32
  let v3 : BitVec 32 := Scalar.addi v2 c4_i32
  let c64_i32 : BitVec 32 := 64#32
  let v4 : BitVec 32 := Scalar.minsi v3 c64_i32
  let c0_i32_0 : BitVec 32 := 0#32
  let c0_i32_1 : BitVec 32 := 0#32
  ![v0.toNat, v4.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4096x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x640x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference4Ideal.lean ====
abbrev S10x8320x1024 : Shape := ⟨3, ![10, 8320, 1024]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1024 : Shape := ⟨1, ![1024]⟩
abbrev S1x1x1024 : Shape := ⟨3, ![1, 1, 1024]⟩
abbrev S2x8192x4096 : Shape := ⟨3, ![2, 8192, 4096]⟩

abbrev nBuf : Space → Nat
  | .hbm => 38
  | .vmem => 0
  | .smem => 0
  | _ => 0

abbrev bufTy : (tb : Table) → Fin (tcTables nBuf tb) → BufTy
  | .hbm, ⟨0, _⟩ => ⟨S10x8320x1024, .bf16⟩
  | .hbm, ⟨1, _⟩ => ⟨S1024x1024, .bf16⟩
  | .hbm, ⟨2, _⟩ => ⟨S10x8320x1024, .f32⟩
  | .hbm, ⟨3, _⟩ => ⟨S1x1024, .f32⟩
  | .hbm, ⟨4, _⟩ => ⟨S1024x4096, .bf16⟩
  | .hbm, ⟨5, _⟩ => ⟨S4096x1024, .bf16⟩
  | .hbm, ⟨6, _⟩ => ⟨S2x8192x1024, .f32⟩
  | .hbm, ⟨7, _⟩ => ⟨S2x8192x1024, .bf16⟩
  | .hbm, ⟨8, _⟩ => ⟨S2x8192x1024, .f32⟩
  | .hbm, ⟨9, _⟩ => ⟨S1024x1024, .f32⟩
  | .hbm, ⟨10, _⟩ => ⟨S2x8192x1024, .f32⟩
  | .hbm, ⟨11, _⟩ => ⟨S2x8192x1024, .f32⟩
  | .hbm, ⟨12, _⟩ => ⟨S2x8192x1024, .f32⟩
  | .hbm, ⟨13, _⟩ => ⟨S_, .f32⟩
  | .hbm, ⟨14, _⟩ => ⟨S2x8192, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S2x8192x1, .f32⟩
  | .hbm, ⟨23, _⟩ => ⟨S2x8192x1024, .f32⟩
  | .hbm, ⟨24, _⟩ => ⟨S2x8192x1024, .f32⟩
  | .hbm, ⟨25, _⟩ => ⟨S1024, .f32⟩
  | .hbm, ⟨26, _⟩ => ⟨S1x1x1024, .f32⟩
  | .hbm, ⟨27, _⟩ => ⟨S2x8192x1024, .f32⟩
  | .hbm, ⟨28, _⟩ => ⟨S2x8192x1024, .f32⟩
  | .hbm, ⟨29, _⟩ => ⟨S1024x4096, .f32⟩
  | .hbm, ⟨30, _⟩ => ⟨S2x8192x4096, .f32⟩
  | .hbm, ⟨31, _⟩ => ⟨S_, .f32⟩
  | .hbm, ⟨32, _⟩ => ⟨S2x8192x4096, .f32⟩
  | .hbm, ⟨33, _⟩ => ⟨S2x8192x4096, .f32⟩
  | .hbm, ⟨34, _⟩ => ⟨S2x8192x4096, .f32⟩
  | .hbm, ⟨35, _⟩ => ⟨S4096x1024, .f32⟩
  | .hbm, ⟨36, _⟩ => ⟨S2x8192x1024, .f32⟩
  | .hbm, ⟨37, _⟩ => ⟨S2x8192x1024, .f32⟩
  | _, _ => ⟨S10x8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_cst : Ref sig .tc := ⟨.hbm, 31, rfl⟩
abbrev main_call0_v0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel5.lean ====
abbrev S2x8192x1024 : Shape := ⟨3, ![2, 8192, 1024]⟩
abbrev S8x8192x1024 : Shape := ⟨3, ![8, 8192, 1024]⟩
abbrev S16x1024 : Shape := ⟨2, ![16, 1024]⟩
abbrev S1x1024 : Shape := ⟨2, ![1, 1024]⟩
abbrev S1024x2576 : Shape := ⟨2, ![1024, 2576]⟩
abbrev S_ : Shape := ⟨0, ![]⟩
abbrev S1024x128 : Shape := ⟨2, ![1024, 128]⟩
abbrev S1024x16 : Shape := ⟨2, ![1024, 16]⟩
abbrev S1 : Shape := ⟨1, ![1]⟩
abbrev S112x1024 : Shape := ⟨2, ![112, 1024]⟩
abbrev S128x1024 : Shape := ⟨2, ![128, 1024]⟩
abbrev S1024x512 : Shape := ⟨2, ![1024, 512]⟩
abbrev S1024x1536 : Shape := ⟨2, ![1024, 1536]⟩
abbrev S83200x1024 : Shape := ⟨2, ![83200, 1024]⟩
abbrev S83200x512 : Shape := ⟨2, ![83200, 512]⟩
abbrev S83200x1536 : Shape := ⟨2, ![83200, 1536]⟩
abbrev S83200x128 : Shape := ⟨2, ![83200, 128]⟩
abbrev S1x128x1024 : Shape := ⟨3, ![1, 128, 1024]⟩
abbrev S640x1024 : Shape := ⟨2, ![640, 1024]⟩
abbrev S640x512 : Shape := ⟨2, ![640, 512]⟩
abbrev S640x1536 : Shape := ⟨2, ![640, 1536]⟩
abbrev S640x128 : Shape := ⟨2, ![640, 128]⟩
abbrev S640 : Shape := ⟨1, ![640]⟩
abbrev S640x1 : Shape := ⟨2, ![640, 1]⟩

abbrev nBuf : Space → Nat
  | .hbm => 26
  | .vmem => 36
  | .smem => 0
  | _ => 0

abbrev bufTy : (tb : Table) → Fin (tcTables nBuf tb) → BufTy
  | .hbm, ⟨0, _⟩ => ⟨S2x8192x1024, .f32⟩
  | .hbm, ⟨1, _⟩ => ⟨S8x8192x1024, .f32⟩
  | .hbm, ⟨2, _⟩ => ⟨S16x1024, .f32⟩
  | .hbm, ⟨3, _⟩ => ⟨S1x1024, .f32⟩
  | .hbm, ⟨4, _⟩ => ⟨S1024x2576, .f32⟩
  | .hbm, ⟨5, _⟩ => ⟨S_, .f32⟩
  | .hbm, ⟨6, _⟩ => ⟨S1024x128, .f32⟩
  | .hbm, ⟨7, _⟩ => ⟨S1024x16, .f32⟩
  | .hbm, ⟨8, _⟩ => ⟨S_, .i32⟩
  | .hbm, ⟨9, _⟩ => ⟨S1, .i32⟩
  | .hbm, ⟨10, _⟩ => ⟨S1024x128, .f32⟩
  | .hbm, ⟨11, _⟩ => ⟨S_, .f32⟩
  | .hbm, ⟨12, _⟩ => ⟨S112x1024, .f32⟩
  | .hbm, ⟨13, _⟩ => ⟨S128x1024, .f32⟩
  | .hbm, ⟨14, _⟩ => ⟨S1024x512, .f32⟩
  | .hbm, ⟨15, _⟩ => ⟨S1024x512, .bf16⟩
  | .hbm, ⟨16, _⟩ => ⟨S1024x1536, .f32⟩
  | .hbm, ⟨17, _⟩ => ⟨S1024x1536, .bf16⟩
  | .hbm, ⟨18, _⟩ => ⟨S1024x512, .f32⟩
  | .hbm, ⟨19, _⟩ => ⟨S1024x512, .bf16⟩
  | .hbm, ⟨20, _⟩ => ⟨S1024x128, .bf16⟩
  | .hbm, ⟨21, _⟩ => ⟨S83200x1024, .f32⟩
  | .hbm, ⟨22, _⟩ => ⟨S83200x512, .bf16⟩
  | .hbm, ⟨23, _⟩ => ⟨S83200x1536, .bf16⟩
  | .hbm, ⟨24, _⟩ => ⟨S83200x512, .bf16⟩
  | .hbm, ⟨25, _⟩ => ⟨S83200x128, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .vmem, ⟨18, _⟩ => ⟨S1x128x1024, .f32⟩
  | .local _ .vmem, ⟨19, _⟩ => ⟨S1x128x1024, .f32⟩
  | .local _ .vmem, ⟨20, _⟩ => ⟨S128x1024, .f32⟩
  | .local _ .vmem, ⟨21, _⟩ => ⟨S1x1024, .f32⟩
  | .local _ .vmem, ⟨22, _⟩ => ⟨S1024x512, .bf16⟩
  | .local _ .vmem, ⟨23, _⟩ => ⟨S1024x1536, .bf16⟩
  | .local _ .vmem, ⟨24, _⟩ => ⟨S1024x512, .bf16⟩
  | .local _ .vmem, ⟨25, _⟩ => ⟨S1024x128, .bf16⟩
  | .local _ .vmem, ⟨26, _⟩ => ⟨S640x1024, .f32⟩
  | .local _ .vmem, ⟨27, _⟩ => ⟨S640x1024, .f32⟩
  | .local _ .vmem, ⟨28, _⟩ => ⟨S640x512, .bf16⟩
  | .local _ .vmem, ⟨29, _⟩ => ⟨S640x512, .bf16⟩
  | .local _ .vmem, ⟨30, _⟩ => ⟨S640x1536, .bf16⟩
  | .local _ .vmem, ⟨31, _⟩ => ⟨S640x1536, .bf16⟩
  | .local _ .vmem, ⟨32, _⟩ => ⟨S640x512, .bf16⟩
  | .local _ .vmem, ⟨33, _⟩ => ⟨S640x512, .bf16⟩
  | .local _ .vmem, ⟨34, _⟩ => ⟨S640x128, .f32⟩
  | .local _ .vmem, ⟨35, _⟩ => ⟨S640x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev main_v13_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35

abbrev nD : Nat := 1
abbrev τ : Topo := Topo.v7x

variable {F : FTy → Type} [FloatOps F]

abbrev grid0 : Pipeline.Grid := ⟨1, ![130], ![false]⟩

def cc0_transform_0 (i : grid0.Coords) : Fin 3 → Nat :=
  let arg0 : BitVec 32 := BitVec.ofNat 32 (i 0).val
  let c13_i32 : BitVec 32 := 13#32
  let v0 : BitVec 32 := Scalar.divsi arg0 c13_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c13_i32 c0_i32_1
  let v7 : BitVec 32 := Scalar.extui v6
  let c0_i32_2 : BitVec 32 := 0#32
  let v8 : BitVec 1 := Scalar.cmpi .slt c13_i32 c0_i32_2
  let v9 : BitVec 32 := Scalar.extui v8
  let v10 : BitVec 32 := Scalar.subi v7 v9
  let v11 : BitVec 1 := Scalar.cmpi .ne v5 v10
  let v12 : BitVec 32 := Scalar.remsi arg0 c13_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c13_i32_4 : BitVec 32 := 13#32
  let c0_i32_5 : BitVec 32 := 0#32
  let v17 : BitVec 1 := Scalar.cmpi .eq c13_i32_4 c0_i32_5
  let c1_i32_6 : BitVec 32 := 1#32
  let v18 : BitVec 32 := Scalar.select v17 c1_i32_6 c13_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 1 := Scalar.cmpi .sge v16 c0_i32_10
  let c2_i32 : BitVec 32 := 2#32
  let v28 : BitVec 1 := Scalar.cmpi .slt v16 c2_i32
  let v29 : BitVec 1 := Scalar.andi v27 v28
  let c0_i32_11 : BitVec 32 := 0#32
  let v30 : BitVec 32 := Scalar.subi v16 c0_i32_11
  let c0_i32_12 : BitVec 32 := 0#32
  let c1_i32_13 : BitVec 32 := 1#32
  let v31 : BitVec 32 := Scalar.maxsi c0_i32_12 v30
  let v32 : BitVec 32 := Scalar.minsi c1_i32_13 v31
  let c5_i32 : BitVec 32 := 5#32
  let v33 : BitVec 32 := Scalar.muli c5_i32 v26
  let c0_i32_14 : BitVec 32 := 0#32
  let v34 : BitVec 32 := Scalar.addi v33 c0_i32_14
  let c1_i32_15 : BitVec 32 := 1#32
  let v35 : BitVec 32 := Scalar.subi v34 c1_i32_15
  let c0_i32_16 : BitVec 32 := 0#32
  let v36 : BitVec 32 := Scalar.maxsi v35 c0_i32_16
  let c0_i32_17 : BitVec 32 := 0#32
  let v37 : BitVec 32 := Scalar.select v29 v36 c0_i32_17
  let c0_i32_18 : BitVec 32 := 0#32
  let c0_i32_19 : BitVec 32 := 0#32
  ![v32.toNat, v37.toNat, c0_i32_18.toNat]

def cc0_transform_1 (i : grid0.Coords) : Fin 3 → Nat :=
  let arg0 : BitVec 32 := BitVec.ofNat 32 (i 0).val
  let c13_i32 : BitVec 32 := 13#32
  let v0 : BitVec 32 := Scalar.divsi arg0 c13_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c13_i32 c0_i32_1
  let v7 : BitVec 32 := Scalar.extui v6
  let c0_i32_2 : BitVec 32 := 0#32
  let v8 : BitVec 1 := Scalar.cmpi .slt c13_i32 c0_i32_2
  let v9 : BitVec 32 := Scalar.extui v8
  let v10 : BitVec 32 := Scalar.subi v7 v9
  let v11 : BitVec 1 := Scalar.cmpi .ne v5 v10
  let v12 : BitVec 32 := Scalar.remsi arg0 c13_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c13_i32_4 : BitVec 32 := 13#32
  let c0_i32_5 : BitVec 32 := 0#32
  let v17 : BitVec 1 := Scalar.cmpi .eq c13_i32_4 c0_i32_5
  let c1_i32_6 : BitVec 32 := 1#32
  let v18 : BitVec 32 := Scalar.select v17 c1_i32_6 c13_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 1 := Scalar.cmpi .sge v16 c0_i32_10
  let c2_i32 : BitVec 32 := 2#32
  let v28 : BitVec 1 := Scalar.cmpi .slt v16 c2_i32
  let v29 : BitVec 1 := Scalar.andi v27 v28
  let c0_i32_11 : BitVec 32 := 0#32
  let v30 : BitVec 32 := Scalar.subi v16 c0_i32_11
  let c0_i32_12 : BitVec 32 := 0#32
  let c1_i32_13 : BitVec 32 := 1#32
  let v31 : BitVec 32 := Scalar.maxsi c0_i32_12 v30
  let v32 : BitVec 32 := Scalar.minsi c1_i32_13 v31
  let c5_i32 : BitVec 32 := 5#32
  let v33 : BitVec 32 := Scalar.muli c5_i32 v26
  let c1_i32_14 : BitVec 32 := 1#32
  let v34 : BitVec 32 := Scalar.addi v33 c1_i32_14
  let c1_i32_15 : BitVec 32 := 1#32
  let v35 : BitVec 32 := Scalar.subi v34 c1_i32_15
  let c0_i32_16 : BitVec 32 := 0#32
  let v36 : BitVec 32 := Scalar.maxsi v35 c0_i32_16
  let c0_i32_17 : BitVec 32 := 0#32
  let v37 : BitVec 32 := Scalar.select v29 v36 c0_i32_17
  let c0_i32_18 : BitVec 32 := 0#32
  let c0_i32_19 : BitVec 32 := 0#32
  ![v32.toNat, v37.toNat, c0_i32_18.toNat]

def cc0_transform_2 (i : grid0.Coords) : Fin 3 → Nat :=
  let arg0 : BitVec 32 := BitVec.ofNat 32 (i 0).val
  let c13_i32 : BitVec 32 := 13#32
  let v0 : BitVec 32 := Scalar.divsi arg0 c13_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c13_i32 c0_i32_1
  let v7 : BitVec 32 := Scalar.extui v6
  let c0_i32_2 : BitVec 32 := 0#32
  let v8 : BitVec 1 := Scalar.cmpi .slt c13_i32 c0_i32_2
  let v9 : BitVec 32 := Scalar.extui v8
  let v10 : BitVec 32 := Scalar.subi v7 v9
  let v11 : BitVec 1 := Scalar.cmpi .ne v5 v10
  let v12 : BitVec 32 := Scalar.remsi arg0 c13_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c13_i32_4 : BitVec 32 := 13#32
  let c0_i32_5 : BitVec 32 := 0#32
  let v17 : BitVec 1 := Scalar.cmpi .eq c13_i32_4 c0_i32_5
  let c1_i32_6 : BitVec 32 := 1#32
  let v18 : BitVec 32 := Scalar.select v17 c1_i32_6 c13_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 1 := Scalar.cmpi .sge v16 c0_i32_10
  let c2_i32 : BitVec 32 := 2#32
  let v28 : BitVec 1 := Scalar.cmpi .slt v16 c2_i32
  let v29 : BitVec 1 := Scalar.andi v27 v28
  let c0_i32_11 : BitVec 32 := 0#32
  let v30 : BitVec 32 := Scalar.subi v16 c0_i32_11
  let c0_i32_12 : BitVec 32 := 0#32
  let c1_i32_13 : BitVec 32 := 1#32
  let v31 : BitVec 32 := Scalar.maxsi c0_i32_12 v30
  let v32 : BitVec 32 := Scalar.minsi c1_i32_13 v31
  let c5_i32 : BitVec 32 := 5#32
  let v33 : BitVec 32 := Scalar.muli c5_i32 v26
  let c2_i32_14 : BitVec 32 := 2#32
  let v34 : BitVec 32 := Scalar.addi v33 c2_i32_14
  let c1_i32_15 : BitVec 32 := 1#32
  let v35 : BitVec 32 := Scalar.subi v34 c1_i32_15
  let c0_i32_16 : BitVec 32 := 0#32
  let v36 : BitVec 32 := Scalar.maxsi v35 c0_i32_16
  let c0_i32_17 : BitVec 32 := 0#32
  let v37 : BitVec 32 := Scalar.select v29 v36 c0_i32_17
  let c0_i32_18 : BitVec 32 := 0#32
  let c0_i32_19 : BitVec 32 := 0#32
  ![v32.toNat, v37.toNat, c0_i32_18.toNat]

def cc0_transform_3 (i : grid0.Coords) : Fin 3 → Nat :=
  let arg0 : BitVec 32 := BitVec.ofNat 32 (i 0).val
  let c13_i32 : BitVec 32 := 13#32
  let v0 : BitVec 32 := Scalar.divsi arg0 c13_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c13_i32 c0_i32_1
  let v7 : BitVec 32 := Scalar.extui v6
  let c0_i32_2 : BitVec 32 := 0#32
  let v8 : BitVec 1 := Scalar.cmpi .slt c13_i32 c0_i32_2
  let v9 : BitVec 32 := Scalar.extui v8
  let v10 : BitVec 32 := Scalar.subi v7 v9
  let v11 : BitVec 1 := Scalar.cmpi .ne v5 v10
  let v12 : BitVec 32 := Scalar.remsi arg0 c13_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c13_i32_4 : BitVec 32 := 13#32
  let c0_i32_5 : BitVec 32 := 0#32
  let v17 : BitVec 1 := Scalar.cmpi .eq c13_i32_4 c0_i32_5
  let c1_i32_6 : BitVec 32 := 1#32
  let v18 : BitVec 32 := Scalar.select v17 c1_i32_6 c13_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 1 := Scalar.cmpi .sge v16 c0_i32_10
  let c2_i32 : BitVec 32 := 2#32
  let v28 : BitVec 1 := Scalar.cmpi .slt v16 c2_i32
  let v29 : BitVec 1 := Scalar.andi v27 v28
  let c0_i32_11 : BitVec 32 := 0#32
  let v30 : BitVec 32 := Scalar.subi v16 c0_i32_11
  let c0_i32_12 : BitVec 32 := 0#32
  let c1_i32_13 : BitVec 32 := 1#32
  let v31 : BitVec 32 := Scalar.maxsi c0_i32_12 v30
  let v32 : BitVec 32 := Scalar.minsi c1_i32_13 v31
  let c5_i32 : BitVec 32 := 5#32
  let v33 : BitVec 32 := Scalar.muli c5_i32 v26
  let c3_i32 : BitVec 32 := 3#32
  let v34 : BitVec 32 := Scalar.addi v33 c3_i32
  let c1_i32_14 : BitVec 32 := 1#32
  let v35 : BitVec 32 := Scalar.subi v34 c1_i32_14
  let c0_i32_15 : BitVec 32 := 0#32
  let v36 : BitVec 32 := Scalar.maxsi v35 c0_i32_15
  let c0_i32_16 : BitVec 32 := 0#32
  let v37 : BitVec 32 := Scalar.select v29 v36 c0_i32_16
  let c0_i32_17 : BitVec 32 := 0#32
  let c0_i32_18 : BitVec 32 := 0#32
  ![v32.toNat, v37.toNat, c0_i32_17.toNat]

def cc0_transform_4 (i : grid0.Coords) : Fin 3 → Nat :=
  let arg0 : BitVec 32 := BitVec.ofNat 32 (i 0).val
  let c13_i32 : BitVec 32 := 13#32
  let v0 : BitVec 32 := Scalar.divsi arg0 c13_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c13_i32 c0_i32_1
  let v7 : BitVec 32 := Scalar.extui v6
  let c0_i32_2 : BitVec 32 := 0#32
  let v8 : BitVec 1 := Scalar.cmpi .slt c13_i32 c0_i32_2
  let v9 : BitVec 32 := Scalar.extui v8
  let v10 : BitVec 32 := Scalar.subi v7 v9
  let v11 : BitVec 1 := Scalar.cmpi .ne v5 v10
  let v12 : BitVec 32 := Scalar.remsi arg0 c13_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c13_i32_4 : BitVec 32 := 13#32
  let c0_i32_5 : BitVec 32 := 0#32
  let v17 : BitVec 1 := Scalar.cmpi .eq c13_i32_4 c0_i32_5
  let c1_i32_6 : BitVec 32 := 1#32
  let v18 : BitVec 32 := Scalar.select v17 c1_i32_6 c13_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 1 := Scalar.cmpi .sge v16 c0_i32_10
  let c2_i32 : BitVec 32 := 2#32
  let v28 : BitVec 1 := Scalar.cmpi .slt v16 c2_i32
  let v29 : BitVec 1 := Scalar.andi v27 v28
  let c0_i32_11 : BitVec 32 := 0#32
  let v30 : BitVec 32 := Scalar.subi v16 c0_i32_11
  let c0_i32_12 : BitVec 32 := 0#32
  let c1_i32_13 : BitVec 32 := 1#32
  let v31 : BitVec 32 := Scalar.maxsi c0_i32_12 v30
  let v32 : BitVec 32 := Scalar.minsi c1_i32_13 v31
  let c5_i32 : BitVec 32 := 5#32
  let v33 : BitVec 32 := Scalar.muli c5_i32 v26
  let c4_i32 : BitVec 32 := 4#32
  let v34 : BitVec 32 := Scalar.addi v33 c4_i32
  let c1_i32_14 : BitVec 32 := 1#32
  let v35 : BitVec 32 := Scalar.subi v34 c1_i32_14
  let c0_i32_15 : BitVec 32 := 0#32
  let v36 : BitVec 32 := Scalar.maxsi v35 c0_i32_15
  let c0_i32_16 : BitVec 32 := 0#32
  let v37 : BitVec 32 := Scalar.select v29 v36 c0_i32_16
  let c0_i32_17 : BitVec 32 := 0#32
  let c0_i32_18 : BitVec 32 := 0#32
  ![v32.toNat, v37.toNat, c0_i32_17.toNat]

def cc0_transform_5 (i : grid0.Coords) : Fin 3 → Nat :=
  let arg0 : BitVec 32 := BitVec.ofNat 32 (i 0).val
  let c13_i32 : BitVec 32 := 13#32
  let v0 : BitVec 32 := Scalar.divsi arg0 c13_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c13_i32 c0_i32_1
  let v7 : BitVec 32 := Scalar.extui v6
  let c0_i32_2 : BitVec 32 := 0#32
  let v8 : BitVec 1 := Scalar.cmpi .slt c13_i32 c0_i32_2
  let v9 : BitVec 32 := Scalar.extui v8
  let v10 : BitVec 32 := Scalar.subi v7 v9
  let v11 : BitVec 1 := Scalar.cmpi .ne v5 v10
  let v12 : BitVec 32 := Scalar.remsi arg0 c13_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c13_i32_4 : BitVec 32 := 13#32
  let c0_i32_5 : BitVec 32 := 0#32
  let v17 : BitVec 1 := Scalar.cmpi .eq c13_i32_4 c0_i32_5
  let c1_i32_6 : BitVec 32 := 1#32
  let v18 : BitVec 32 := Scalar.select v17 c1_i32_6 c13_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let v27 : BitVec 1 := Scalar.cmpi .sge v16 c2_i32
  let c10_i32 : BitVec 32 := 10#32
  let v28 : BitVec 1 := Scalar.cmpi .slt v16 c10_i32
  let v29 : BitVec 1 := Scalar.andi v27 v28
  let c2_i32_10 : BitVec 32 := 2#32
  let v30 : BitVec 32 := Scalar.subi v16 c2_i32_10
  let c0_i32_11 : BitVec 32 := 0#32
  let c7_i32 : BitVec 32 := 7#32
  let v31 : BitVec 32 := Scalar.maxsi c0_i32_11 v30
  let v32 : BitVec 32 := Scalar.minsi c7_i32 v31
  let c5_i32 : BitVec 32 := 5#32
  let v33 : BitVec 32 := Scalar.muli c5_i32 v26
  let c0_i32_12 : BitVec 32 := 0#32
  let v34 : BitVec 32 := Scalar.addi v33 c0_i32_12
  let c1_i32_13 : BitVec 32 := 1#32
  let v35 : BitVec 32 := Scalar.subi v34 c1_i32_13
  let c0_i32_14 : BitVec 32 := 0#32
  let v36 : BitVec 32 := Scalar.maxsi v35 c0_i32_14
  let c0_i32_15 : BitVec 32 := 0#32
  let v37 : BitVec 32 := Scalar.select v29 v36 c0_i32_15
  let c0_i32_16 : BitVec 32 := 0#32
  let c0_i32_17 : BitVec 32 := 0#32
  ![v32.toNat, v37.toNat, c0_i32_16.toNat]

def cc0_transform_6 (i : grid0.Coords) : Fin 3 → Nat :=
  let arg0 : BitVec 32 := BitVec.ofNat 32 (i 0).val
  let c13_i32 : BitVec 32 := 13#32
  let v0 : BitVec 32 := Scalar.divsi arg0 c13_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c13_i32 c0_i32_1
  let v7 : BitVec 32 := Scalar.extui v6
  let c0_i32_2 : BitVec 32 := 0#32
  let v8 : BitVec 1 := Scalar.cmpi .slt c13_i32 c0_i32_2
  let v9 : BitVec 32 := Scalar.extui v8
  let v10 : BitVec 32 := Scalar.subi v7 v9
  let v11 : BitVec 1 := Scalar.cmpi .ne v5 v10
  let v12 : BitVec 32 := Scalar.remsi arg0 c13_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c13_i32_4 : BitVec 32 := 13#32
  let c0_i32_5 : BitVec 32 := 0#32
  let v17 : BitVec 1 := Scalar.cmpi .eq c13_i32_4 c0_i32_5
  let c1_i32_6 : BitVec 32 := 1#32
  let v18 : BitVec 32 := Scalar.select v17 c1_i32_6 c13_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let v27 : BitVec 1 := Scalar.cmpi .sge v16 c2_i32
  let c10_i32 : BitVec 32 := 10#32
  let v28 : BitVec 1 := Scalar.cmpi .slt v16 c10_i32
  let v29 : BitVec 1 := Scalar.andi v27 v28
  let c2_i32_10 : BitVec 32 := 2#32
  let v30 : BitVec 32 := Scalar.subi v16 c2_i32_10
  let c0_i32_11 : BitVec 32 := 0#32
  let c7_i32 : BitVec 32 := 7#32
  let v31 : BitVec 32 := Scalar.maxsi c0_i32_11 v30
  let v32 : BitVec 32 := Scalar.minsi c7_i32 v31
  let c5_i32 : BitVec 32 := 5#32
  let v33 : BitVec 32 := Scalar.muli c5_i32 v26
  let c1_i32_12 : BitVec 32 := 1#32
  let v34 : BitVec 32 := Scalar.addi v33 c1_i32_12
  let c1_i32_13 : BitVec 32 := 1#32
  let v35 : BitVec 32 := Scalar.subi v34 c1_i32_13
  let c0_i32_14 : BitVec 32 := 0#32
  let v36 : BitVec 32 := Scalar.maxsi v35 c0_i32_14
  let c0_i32_15 : BitVec 32 := 0#32
  let v37 : BitVec 32 := Scalar.select v29 v36 c0_i32_15
  let c0_i32_16 : BitVec 32 := 0#32
  let c0_i32_17 : BitVec 32 := 0#32
  ![v32.toNat, v37.toNat, c0_i32_16.toNat]

def cc0_transform_7 (i : grid0.Coords) : Fin 3 → Nat :=
  let arg0 : BitVec 32 := BitVec.ofNat 32 (i 0).val
  let c13_i32 : BitVec 32 := 13#32
  let v0 : BitVec 32 := Scalar.divsi arg0 c13_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c13_i32 c0_i32_1
  let v7 : BitVec 32 := Scalar.extui v6
  let c0_i32_2 : BitVec 32 := 0#32
  let v8 : BitVec 1 := Scalar.cmpi .slt c13_i32 c0_i32_2
  let v9 : BitVec 32 := Scalar.extui v8
  let v10 : BitVec 32 := Scalar.subi v7 v9
  let v11 : BitVec 1 := Scalar.cmpi .ne v5 v10
  let v12 : BitVec 32 := Scalar.remsi arg0 c13_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c13_i32_4 : BitVec 32 := 13#32
  let c0_i32_5 : BitVec 32 := 0#32
  let v17 : BitVec 1 := Scalar.cmpi .eq c13_i32_4 c0_i32_5
  let c1_i32_6 : BitVec 32 := 1#32
  let v18 : BitVec 32 := Scalar.select v17 c1_i32_6 c13_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let v27 : BitVec 1 := Scalar.cmpi .sge v16 c2_i32
  let c10_i32 : BitVec 32 := 10#32
  let v28 : BitVec 1 := Scalar.cmpi .slt v16 c10_i32
  let v29 : BitVec 1 := Scalar.andi v27 v28
  let c2_i32_10 : BitVec 32 := 2#32
  let v30 : BitVec 32 := Scalar.subi v16 c2_i32_10
  let c0_i32_11 : BitVec 32 := 0#32
  let c7_i32 : BitVec 32 := 7#32
  let v31 : BitVec 32 := Scalar.maxsi c0_i32_11 v30
  let v32 : BitVec 32 := Scalar.minsi c7_i32 v31
  let c5_i32 : BitVec 32 := 5#32
  let v33 : BitVec 32 := Scalar.muli c5_i32 v26
  let c2_i32_12 : BitVec 32 := 2#32
  let v34 : BitVec 32 := Scalar.addi v33 c2_i32_12
  let c1_i32_13 : BitVec 32 := 1#32
  let v35 : BitVec 32 := Scalar.subi v34 c1_i32_13
  let c0_i32_14 : BitVec 32 := 0#32
  let v36 : BitVec 32 := Scalar.maxsi v35 c0_i32_14
  let c0_i32_15 : BitVec 32 := 0#32
  let v37 : BitVec 32 := Scalar.select v29 v36 c0_i32_15
  let c0_i32_16 : BitVec 32 := 0#32
  let c0_i32_17 : BitVec 32 := 0#32
  ![v32.toNat, v37.toNat, c0_i32_16.toNat]

def cc0_transform_8 (i : grid0.Coords) : Fin 3 → Nat :=
  let arg0 : BitVec 32 := BitVec.ofNat 32 (i 0).val
  let c13_i32 : BitVec 32 := 13#32
  let v0 : BitVec 32 := Scalar.divsi arg0 c13_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c13_i32 c0_i32_1
  let v7 : BitVec 32 := Scalar.extui v6
  let c0_i32_2 : BitVec 32 := 0#32
  let v8 : BitVec 1 := Scalar.cmpi .slt c13_i32 c0_i32_2
  let v9 : BitVec 32 := Scalar.extui v8
  let v10 : BitVec 32 := Scalar.subi v7 v9
  let v11 : BitVec 1 := Scalar.cmpi .ne v5 v10
  let v12 : BitVec 32 := Scalar.remsi arg0 c13_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c13_i32_4 : BitVec 32 := 13#32
  let c0_i32_5 : BitVec 32 := 0#32
  let v17 : BitVec 1 := Scalar.cmpi .eq c13_i32_4 c0_i32_5
  let c1_i32_6 : BitVec 32 := 1#32
  let v18 : BitVec 32 := Scalar.select v17 c1_i32_6 c13_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let v27 : BitVec 1 := Scalar.cmpi .sge v16 c2_i32
  let c10_i32 : BitVec 32 := 10#32
  let v28 : BitVec 1 := Scalar.cmpi .slt v16 c10_i32
  let v29 : BitVec 1 := Scalar.andi v27 v28
  let c2_i32_10 : BitVec 32 := 2#32
  let v30 : BitVec 32 := Scalar.subi v16 c2_i32_10
  let c0_i32_11 : BitVec 32 := 0#32
  let c7_i32 : BitVec 32 := 7#32
  let v31 : BitVec 32 := Scalar.maxsi c0_i32_11 v30
  let v32 : BitVec 32 := Scalar.minsi c7_i32 v31
  let c5_i32 : BitVec 32 := 5#32
  let v33 : BitVec 32 := Scalar.muli c5_i32 v26
  let c3_i32 : BitVec 32 := 3#32
  let v34 : BitVec 32 := Scalar.addi v33 c3_i32
  let c1_i32_12 : BitVec 32 := 1#32
  let v35 : BitVec 32 := Scalar.subi v34 c1_i32_12
  let c0_i32_13 : BitVec 32 := 0#32
  let v36 : BitVec 32 := Scalar.maxsi v35 c0_i32_13
  let c0_i32_14 : BitVec 32 := 0#32
  let v37 : BitVec 32 := Scalar.select v29 v36 c0_i32_14
  let c0_i32_15 : BitVec 32 := 0#32
  let c0_i32_16 : BitVec 32 := 0#32
  ![v32.toNat, v37.toNat, c0_i32_15.toNat]

def cc0_transform_9 (i : grid0.Coords) : Fin 3 → Nat :=
  let arg0 : BitVec 32 := BitVec.ofNat 32 (i 0).val
  let c13_i32 : BitVec 32 := 13#32
  let v0 : BitVec 32 := Scalar.divsi arg0 c13_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c13_i32 c0_i32_1
  let v7 : BitVec 32 := Scalar.extui v6
  let c0_i32_2 : BitVec 32 := 0#32
  let v8 : BitVec 1 := Scalar.cmpi .slt c13_i32 c0_i32_2
  let v9 : BitVec 32 := Scalar.extui v8
  let v10 : BitVec 32 := Scalar.subi v7 v9
  let v11 : BitVec 1 := Scalar.cmpi .ne v5 v10
  let v12 : BitVec 32 := Scalar.remsi arg0 c13_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c13_i32_4 : BitVec 32 := 13#32
  let c0_i32_5 : BitVec 32 := 0#32
  let v17 : BitVec 1 := Scalar.cmpi .eq c13_i32_4 c0_i32_5
  let c1_i32_6 : BitVec 32 := 1#32
  let v18 : BitVec 32 := Scalar.select v17 c1_i32_6 c13_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let v27 : BitVec 1 := Scalar.cmpi .sge v16 c2_i32
  let c10_i32 : BitVec 32 := 10#32
  let v28 : BitVec 1 := Scalar.cmpi .slt v16 c10_i32
  let v29 : BitVec 1 := Scalar.andi v27 v28
  let c2_i32_10 : BitVec 32 := 2#32
  let v30 : BitVec 32 := Scalar.subi v16 c2_i32_10
  let c0_i32_11 : BitVec 32 := 0#32
  let c7_i32 : BitVec 32 := 7#32
  let v31 : BitVec 32 := Scalar.maxsi c0_i32_11 v30
  let v32 : BitVec 32 := Scalar.minsi c7_i32 v31
  let c5_i32 : BitVec 32 := 5#32
  let v33 : BitVec 32 := Scalar.muli c5_i32 v26
  let c4_i32 : BitVec 32 := 4#32
  let v34 : BitVec 32 := Scalar.addi v33 c4_i32
  let c1_i32_12 : BitVec 32 := 1#32
  let v35 : BitVec 32 := Scalar.subi v34 c1_i32_12
  let c0_i32_13 : BitVec 32 := 0#32
  let v36 : BitVec 32 := Scalar.maxsi v35 c0_i32_13
  let c0_i32_14 : BitVec 32 := 0#32
  let v37 : BitVec 32 := Scalar.select v29 v36 c0_i32_14
  let c0_i32_15 : BitVec 32 := 0#32
  let c0_i32_16 : BitVec 32 := 0#32
  ![v32.toNat, v37.toNat, c0_i32_15.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1536 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S640x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S640x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S640x1536 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S640x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S640x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference5Ideal.lean ====
abbrev S2x8192x1024 : Shape := ⟨3, ![2, 8192, 1024]⟩
abbrev S8x8192x1024 : Shape := ⟨3, ![8, 8192, 1024]⟩
abbrev S16x1024 : Shape := ⟨2, ![16, 1024]⟩
abbrev S1x1024 : Shape := ⟨2, ![1, 1024]⟩
abbrev S1024x2576 : Shape := ⟨2, ![1024, 2576]⟩
abbrev S10x8192x1024 : Shape := ⟨3, ![10, 8192, 1024]⟩
abbrev S_ : Shape := ⟨0, ![]⟩
abbrev S112x1024 : Shape := ⟨2, ![112, 1024]⟩
abbrev S128x1024 : Shape := ⟨2, ![128, 1024]⟩
abbrev S1x128x1024 : Shape := ⟨3, ![1, 128, 1024]⟩
abbrev S10x128x1024 : Shape := ⟨3, ![10, 128, 1024]⟩
abbrev S10x8320x1024 : Shape := ⟨3, ![10, 8320, 1024]⟩
abbrev S83200x1024 : Shape := ⟨2, ![83200, 1024]⟩
abbrev S83200 : Shape := ⟨1, ![83200]⟩
abbrev S83200x1 : Shape := ⟨2, ![83200, 1]⟩
abbrev S1024 : Shape := ⟨1, ![1024]⟩
abbrev S83200x2576 : Shape := ⟨2, ![83200, 2576]⟩
abbrev S83200x16 : Shape := ⟨2, ![83200, 16]⟩
abbrev S83200x128 : Shape := ⟨2, ![83200, 128]⟩
abbrev S83200x512 : Shape := ⟨2, ![83200, 512]⟩
abbrev S83200x1536 : Shape := ⟨2, ![83200, 1536]⟩

abbrev nBuf : Space → Nat
  | .hbm => 41
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S8x8192x1024, .f32⟩
  | .hbm, ⟨2, _⟩ => ⟨S16x1024, .f32⟩
  | .hbm, ⟨3, _⟩ => ⟨S1x1024, .f32⟩
  | .hbm, ⟨4, _⟩ => ⟨S1024x2576, .f32⟩
  | .hbm, ⟨5, _⟩ => ⟨S10x8192x1024, .f32⟩
  | .hbm, ⟨6, _⟩ => ⟨S_, .f32⟩
  | .hbm, ⟨7, _⟩ => ⟨S112x1024, .f32⟩
  | .hbm, ⟨8, _⟩ => ⟨S128x1024, .f32⟩
  | .hbm, ⟨9, _⟩ => ⟨S1x128x1024, .f32⟩
  | .hbm, ⟨10, _⟩ => ⟨S10x128x1024, .f32⟩
  | .hbm, ⟨11, _⟩ => ⟨S10x8320x1024, .f32⟩
  | .hbm, ⟨12, _⟩ => ⟨S83200x1024, .f32⟩
  | .hbm, ⟨13, _⟩ => ⟨S83200x1024, .f32⟩
  | .hbm, ⟨14, _⟩ => ⟨S_, .f32⟩
  | .hbm, ⟨15, _⟩ => ⟨S83200, .f32⟩
  | .hbm, ⟨16, _⟩ => ⟨S83200x1, .f32⟩
  | .hbm, ⟨17, _⟩ => ⟨S_, .f32⟩
  | .hbm, ⟨18, _⟩ => ⟨S83200x1, .f32⟩
  | .hbm, ⟨19, _⟩ => ⟨S83200x1, .f32⟩
  | .hbm, ⟨20, _⟩ => ⟨S_, .f32⟩
  | .hbm, ⟨21, _⟩ => ⟨S83200x1, .f32⟩
  | .hbm, ⟨22, _⟩ => ⟨S83200x1, .f32⟩
  | .hbm, ⟨23, _⟩ => ⟨S83200x1, .f32⟩
  | .hbm, ⟨24, _⟩ => ⟨S83200x1024, .f32⟩
  | .hbm, ⟨25, _⟩ => ⟨S83200x1024, .f32⟩
  | .hbm, ⟨26, _⟩ => ⟨S1024, .f32⟩
  | .hbm, ⟨27, _⟩ => ⟨S1x1024, .f32⟩
  | .hbm, ⟨28, _⟩ => ⟨S83200x1024, .f32⟩
  | .hbm, ⟨29, _⟩ => ⟨S83200x1024, .f32⟩
  | .hbm, ⟨30, _⟩ => ⟨S83200x2576, .f32⟩
  | .hbm, ⟨31, _⟩ => ⟨S83200x16, .f32⟩
  | .hbm, ⟨32, _⟩ => ⟨S_, .i32⟩
  | .hbm, ⟨33, _⟩ => ⟨S_, .f32⟩
  | .hbm, ⟨34, _⟩ => ⟨S83200x128, .f32⟩
  | .hbm, ⟨35, _⟩ => ⟨S83200x512, .f32⟩
  | .hbm, ⟨36, _⟩ => ⟨S83200x512, .bf16⟩
  | .hbm, ⟨37, _⟩ => ⟨S83200x1536, .f32⟩
  | .hbm, ⟨38, _⟩ => ⟨S83200x1536, .bf16⟩
  | .hbm, ⟨39, _⟩ => ⟨S83200x512, .f32⟩
  | .hbm, ⟨40, _⟩ => ⟨S83200x512, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c : Ref sig .tc := ⟨.hbm, 32, rfl⟩
abbrev main_call0_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel6.lean ====
abbrev S83200x1024 : Shape := ⟨2, ![83200, 1024]⟩
abbrev S1x1024 : Shape := ⟨2, ![1, 1024]⟩
abbrev S1024x1536 : Shape := ⟨2, ![1024, 1536]⟩
abbrev S1x128 : Shape := ⟨2, ![1, 128]⟩
abbrev S8320x64 : Shape := ⟨2, ![8320, 64]⟩
abbrev S8320x128 : Shape := ⟨2, ![8320, 128]⟩
abbrev S1024x1024 : Shape := ⟨2, ![1024, 1024]⟩
abbrev S1024x256 : Shape := ⟨2, ![1024, 256]⟩
abbrev S83200x256 : Shape := ⟨2, ![83200, 256]⟩
abbrev S640x1024 : Shape := ⟨2, ![640, 1024]⟩
abbrev S640x128 : Shape := ⟨2, ![640, 128]⟩
abbrev S640x256 : Shape := ⟨2, ![640, 256]⟩
abbrev S640 : Shape := ⟨1, ![640]⟩
abbrev S640x1 : Shape := ⟨2, ![640, 1]⟩
abbrev S128x128 : Shape := ⟨2, ![128, 128]⟩

abbrev nBuf : Space → Nat
  | .hbm => 17
  | .vmem => 18
  | .smem => 0
  | _ => 0

abbrev bufTy : (tb : Table) → Fin (tcTables nBuf tb) → BufTy
  | .hbm, ⟨0, _⟩ => ⟨S83200x1024, .f32⟩
  | .hbm, ⟨1, _⟩ => ⟨S1x1024, .f32⟩
  | .hbm, ⟨2, _⟩ => ⟨S1024x1536, .f32⟩
  | .hbm, ⟨3, _⟩ => ⟨S1x128, .f32⟩
  | .hbm, ⟨4, _⟩ => ⟨S1x128, .f32⟩
  | .hbm, ⟨5, _⟩ => ⟨S8320x64, .f32⟩
  | .hbm, ⟨6, _⟩ => ⟨S8320x64, .f32⟩
  | .hbm, ⟨7, _⟩ => ⟨S1024x1536, .bf16⟩
  | .hbm, ⟨8, _⟩ => ⟨S8320x128, .f32⟩
  | .hbm, ⟨9, _⟩ => ⟨S8320x64, .f32⟩
  | .hbm, ⟨10, _⟩ => ⟨S8320x128, .f32⟩
  | .hbm, ⟨11, _⟩ => ⟨S1024x1024, .bf16⟩
  | .hbm, ⟨12, _⟩ => ⟨S1024x256, .bf16⟩
  | .hbm, ⟨13, _⟩ => ⟨S1024x256, .bf16⟩
  | .hbm, ⟨14, _⟩ => ⟨S83200x1024, .bf16⟩
  | .hbm, ⟨15, _⟩ => ⟨S83200x256, .bf16⟩
  | .hbm, ⟨16, _⟩ => ⟨S83200x256, .bf16⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S1024x1024, .bf16⟩
  | .local _ .vmem, ⟨4, _⟩ => ⟨S1024x256, .bf16⟩
  | .local _ .vmem, ⟨5, _⟩ => ⟨S1024x256, .bf16⟩
  | .local _ .vmem, ⟨6, _⟩ => ⟨S1x128, .f32⟩
  | .local _ .vmem, ⟨7, _⟩ => ⟨S1x128, .f32⟩
  | .local _ .vmem, ⟨8, _⟩ => ⟨S640x128, .f32⟩
  | .local _ .vmem, ⟨9, _⟩ => ⟨S640x128, .f32⟩
  | .local _ .vmem, ⟨10, _⟩ => ⟨S640x128, .f32⟩
  | .local _ .vmem, ⟨11, _⟩ => ⟨S640x128, .f32⟩
  | .local _ .vmem, ⟨12, _⟩ => ⟨S640x1024, .bf16⟩
  | .local _ .vmem, ⟨13, _⟩ => ⟨S640x1024, .bf16⟩
  | .local _ .vmem, ⟨14, _⟩ => ⟨S640x256, .bf16⟩
  | .local _ .vmem, ⟨15, _⟩ => ⟨S640x256, .bf16⟩
  | .local _ .vmem, ⟨16, _⟩ => ⟨S640x256, .bf16⟩
  | .local _ .vmem, ⟨17, _⟩ => ⟨S640x256, .bf16⟩
  | _, _ => ⟨S83200x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![130], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c13_i32 : BitVec 32 := 13#32
  let c0_i32 : BitVec 32 := 0#32
  let v0 : BitVec 1 := Scalar.cmpi .eq c13_i32 c0_i32
  let c1_i32 : BitVec 32 := 1#32
  let v1 : BitVec 32 := Scalar.select v0 c1_i32 c13_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c13_i32 : BitVec 32 := 13#32
  let c0_i32 : BitVec 32 := 0#32
  let v0 : BitVec 1 := Scalar.cmpi .eq c13_i32 c0_i32
  let c1_i32 : BitVec 32 := 1#32
  let v1 : BitVec 32 := Scalar.select v0 c1_i32 c13_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S640x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S640x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S640x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S640x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S640x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference6Ideal.lean ====
abbrev S83200x1024 : Shape := ⟨2, ![83200, 1024]⟩
abbrev S1x1024 : Shape := ⟨2, ![1, 1024]⟩
abbrev S1024x1536 : Shape := ⟨2, ![1024, 1536]⟩
abbrev S1x128 : Shape := ⟨2, ![1, 128]⟩
abbrev S8320x64 : Shape := ⟨2, ![8320, 64]⟩
abbrev S_ : Shape := ⟨0, ![]⟩
abbrev S83200 : Shape := ⟨1, ![83200]⟩
abbrev S83200x1 : Shape := ⟨2, ![83200, 1]⟩
abbrev S1024 : Shape := ⟨1, ![1024]⟩
abbrev S83200x1536 : Shape := ⟨2, ![83200, 1536]⟩
abbrev S10x8320x8x128 : Shape := ⟨4, ![10, 8320, 8, 128]⟩
abbrev S10x8320x8 : Shape := ⟨3, ![10, 8320, 8]⟩
abbrev S10x8320x8x1 : Shape := ⟨4, ![10, 8320, 8, 1]⟩
abbrev S128 : Shape := ⟨1, ![128]⟩
abbrev S1x1x1x128 : Shape := ⟨4, ![1, 1, 1, 128]⟩
abbrev S10x8320x8x64 : Shape := ⟨4, ![10, 8320, 8, 64]⟩
abbrev S8320x1x64 : Shape := ⟨3, ![8320, 1, 64]⟩
abbrev S1x8320x1x64 : Shape := ⟨4, ![1, 8320, 1, 64]⟩
abbrev S83200x256 : Shape := ⟨2, ![83200, 256]⟩
abbrev S10x8320x2x128 : Shape := ⟨4, ![10, 8320, 2, 128]⟩
abbrev S10x8320x2 : Shape := ⟨3, ![10, 8320, 2]⟩
abbrev S10x8320x2x1 : Shape := ⟨4, ![10, 8320, 2, 1]⟩
abbrev S10x8320x2x64 : Shape := ⟨4, ![10, 8320, 2, 64]⟩

abbrev nBuf : Space → Nat
  | .hbm => 110
  | .vmem => 0
  | .smem => 0
  | _ => 0

abbrev bufTy : (tb : Table) → Fin (tcTables nBuf tb) → BufTy
  | .hbm, ⟨0, _⟩ => ⟨S83200x1024, .f32⟩
  | .hbm, ⟨1, _⟩ => ⟨S1x1024, .f32⟩
  | .hbm, ⟨2, _⟩ => ⟨S1024x1536, .f32⟩
  | .hbm, ⟨3, _⟩ => ⟨S1x128, .f32⟩
  | .hbm, ⟨4, _⟩ => ⟨S1x128, .f32⟩
  | .hbm, ⟨5, _⟩ => ⟨S8320x64, .f32⟩
  | .hbm, ⟨6, _⟩ => ⟨S8320x64, .f32⟩
  | .hbm, ⟨7, _⟩ => ⟨S83200x1024, .f32⟩
  | .hbm, ⟨8, _⟩ => ⟨S_, .f32⟩
  | .hbm, ⟨9, _⟩ => ⟨S83200, .f32⟩
  | .hbm, ⟨10, _⟩ => ⟨S83200x1, .f32⟩
  | .hbm, ⟨11, _⟩ => ⟨S_, .f32⟩
  | .hbm, ⟨12, _⟩ => ⟨S83200x1, .f32⟩
  | .hbm, ⟨13, _⟩ => ⟨S83200x1, .f32⟩
  | .hbm, ⟨14, _⟩ => ⟨S_, .f32⟩
  | .hbm, ⟨15, _⟩ => ⟨S83200x1, .f32⟩
  | .hbm, ⟨16, _⟩ => ⟨S83200x1, .f32⟩
  | .hbm, ⟨17, _⟩ => ⟨S83200x1, .f32⟩
  | .hbm, ⟨18, _⟩ => ⟨S83200x1024, .f32⟩
  | .hbm, ⟨19, _⟩ => ⟨S83200x1024, .f32⟩
  | .hbm, ⟨20, _⟩ => ⟨S1024, .f32⟩
  | .hbm, ⟨21, _⟩ => ⟨S1x1024, .f32⟩
  | .hbm, ⟨22, _⟩ => ⟨S83200x1024, .f32⟩
  | .hbm, ⟨23, _⟩ => ⟨S83200x1024, .f32⟩
  | .hbm, ⟨24, _⟩ => ⟨S83200x1536, .f32⟩
  | .hbm, ⟨25, _⟩ => ⟨S83200x1024, .f32⟩
  | .hbm, ⟨26, _⟩ => ⟨S10x8320x8x128, .f32⟩
  | .hbm, ⟨27, _⟩ => ⟨S10x8320x8x128, .f32⟩
  | .hbm, ⟨28, _⟩ => ⟨S_, .f32⟩
  | .hbm, ⟨29, _⟩ => ⟨S10x8320x8, .f32⟩
  | .hbm, ⟨30, _⟩ => ⟨S10x8320x8x1, .f32⟩
  | .hbm, ⟨31, _⟩ => ⟨S_, .f32⟩
  | .hbm, ⟨32, _⟩ => ⟨S10x8320x8x1, .f32⟩
  | .hbm, ⟨33, _⟩ => ⟨S10x8320x8x1, .f32⟩
  | .hbm, ⟨34, _⟩ => ⟨S_, .f32⟩
  | .hbm, ⟨35, _⟩ => ⟨S10x8320x8x1, .f32⟩
  | .hbm, ⟨36, _⟩ => ⟨S10x8320x8x1, .f32⟩
  | .hbm, ⟨37, _⟩ => ⟨S10x8320x8x1, .f32⟩
  | .hbm, ⟨38, _⟩ => ⟨S10x8320x8x128, .f32⟩
  | .hbm, ⟨39, _⟩ => ⟨S10x8320x8x128, .f32⟩
  | .hbm, ⟨40, _⟩ => ⟨S128, .f32⟩
  | .hbm, ⟨41, _⟩ => ⟨S1x1x1x128, .f32⟩
  | .hbm, ⟨42, _⟩ => ⟨S10x8320x8x128, .f32⟩
  | .hbm, ⟨43, _⟩ => ⟨S10x8320x8x128, .f32⟩
  | .hbm, ⟨44, _⟩ => ⟨S10x8320x8x64, .f32⟩
  | .hbm, ⟨45, _⟩ => ⟨S10x8320x8x64, .f32⟩
  | .hbm, ⟨46, _⟩ => ⟨S8320x1x64, .f32⟩
  | .hbm, ⟨47, _⟩ => ⟨S8320x1x64, .f32⟩
  | .hbm, ⟨48, _⟩ => ⟨S1x8320x1x64, .f32⟩
  | .hbm, ⟨49, _⟩ => ⟨S10x8320x8x64, .f32⟩
  | .hbm, ⟨50, _⟩ => ⟨S10x8320x8x64, .f32⟩
  | .hbm, ⟨51, _⟩ => ⟨S1x8320x1x64, .f32⟩
  | .hbm, ⟨52, _⟩ => ⟨S10x8320x8x64, .f32⟩
  | .hbm, ⟨53, _⟩ => ⟨S10x8320x8x64, .f32⟩
  | .hbm, ⟨54, _⟩ => ⟨S10x8320x8x64, .f32⟩
  | .hbm, ⟨55, _⟩ => ⟨S1x8320x1x64, .f32⟩
  | .hbm, ⟨56, _⟩ => ⟨S10x8320x8x64, .f32⟩
  | .hbm, ⟨57, _⟩ => ⟨S10x8320x8x64, .f32⟩
  | .hbm, ⟨58, _⟩ => ⟨S1x8320x1x64, .f32⟩
  | .hbm, ⟨59, _⟩ => ⟨S10x8320x8x64, .f32⟩
  | .hbm, ⟨60, _⟩ => ⟨S10x8320x8x64, .f32⟩
  | .hbm, ⟨61, _⟩ => ⟨S10x8320x8x64, .f32⟩
  | .hbm, ⟨62, _⟩ => ⟨S10x8320x8x128, .f32⟩
  | .hbm, ⟨63, _⟩ => ⟨S_, .f32⟩
  | .hbm, ⟨64, _⟩ => ⟨S10x8320x8x128, .f32⟩
  | .hbm, ⟨65, _⟩ => ⟨S10x8320x8x128, .f32⟩
  | .hbm, ⟨66, _⟩ => ⟨S83200x256, .f32⟩
  | .hbm, ⟨67, _⟩ => ⟨S10x8320x2x128, .f32⟩
  | .hbm, ⟨68, _⟩ => ⟨S10x8320x2x128, .f32⟩
  | .hbm, ⟨69, _⟩ => ⟨S_, .f32⟩
  | .hbm, ⟨70, _⟩ => ⟨S10x8320x2, .f32⟩
  | .hbm, ⟨71, _⟩ => ⟨S10x8320x2x1, .f32⟩
  | .hbm, ⟨72, _⟩ => ⟨S_, .f32⟩
  | .hbm, ⟨73, _⟩ => ⟨S10x8320x2x1, .f32⟩
  | .hbm, ⟨74, _⟩ => ⟨S10x8320x2x1, .f32⟩
  | .hbm, ⟨75, _⟩ => ⟨S_, .f32⟩
  | .hbm, ⟨76, _⟩ => ⟨S10x8320x2x1, .f32⟩
  | .hbm, ⟨77, _⟩ => ⟨S10x8320x2x1, .f32⟩
  | .hbm, ⟨78, _⟩ => ⟨S10x8320x2x1, .f32⟩
  | .hbm, ⟨79, _⟩ => ⟨S10x8320x2x128, .f32⟩
  | .hbm, ⟨80, _⟩ => ⟨S10x8320x2x128, .f32⟩
  | .hbm, ⟨81, _⟩ => ⟨S128, .f32⟩
  | .hbm, ⟨82, _⟩ => ⟨S1x1x1x128, .f32⟩
  | .hbm, ⟨83, _⟩ => ⟨S10x8320x2x128, .f32⟩
  | .hbm, ⟨84, _⟩ => ⟨S10x8320x2x128, .f32⟩
  | .hbm, ⟨85, _⟩ => ⟨S10x8320x2x64, .f32⟩
  | .hbm, ⟨86, _⟩ => ⟨S10x8320x2x64, .f32⟩
  | .hbm, ⟨87, _⟩ => ⟨S8320x1x64, .f32⟩
  | .hbm, ⟨88, _⟩ => ⟨S8320x1x64, .f32⟩
  | .hbm, ⟨89, _⟩ => ⟨S1x8320x1x64, .f32⟩
  | .hbm, ⟨90, _⟩ => ⟨S10x8320x2x64, .f32⟩
  | .hbm, ⟨91, _⟩ => ⟨S10x8320x2x64, .f32⟩
  | .hbm, ⟨92, _⟩ => ⟨S1x8320x1x64, .f32⟩
  | .hbm, ⟨93, _⟩ => ⟨S10x8320x2x64, .f32⟩
  | .hbm, ⟨94, _⟩ => ⟨S10x8320x2x64, .f32⟩
  | .hbm, ⟨95, _⟩ => ⟨S10x8320x2x64, .f32⟩
  | .hbm, ⟨96, _⟩ => ⟨S1x8320x1x64, .f32⟩
  | .hbm, ⟨97, _⟩ => ⟨S10x8320x2x64, .f32⟩
  | .hbm, ⟨98, _⟩ => ⟨S10x8320x2x64, .f32⟩
  | .hbm, ⟨99, _⟩ => ⟨S1x8320x1x64, .f32⟩
  | .hbm, ⟨100, _⟩ => ⟨S10x8320x2x64, .f32⟩
  | .hbm, ⟨101, _⟩ => ⟨S10x8320x2x64, .f32⟩
  | .hbm, ⟨102, _⟩ => ⟨S10x8320x2x64, .f32⟩
  | .hbm, ⟨103, _⟩ => ⟨S10x8320x2x128, .f32⟩
  | .hbm, ⟨104, _⟩ => ⟨S83200x1024, .f32⟩
  | .hbm, ⟨105, _⟩ => ⟨S83200x1024, .bf16⟩
  | .hbm, ⟨106, _⟩ => ⟨S83200x256, .f32⟩
  | .hbm, ⟨107, _⟩ => ⟨S83200x256, .bf16⟩
  | .hbm, ⟨108, _⟩ => ⟨S83200x256, .f32⟩
  | .hbm, ⟨109, _⟩ => ⟨S83200x256, .bf16⟩
  | _, _ => ⟨S83200x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_5 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_6 : Ref sig .tc := ⟨.hbm, 69, rfl⟩
abbrev main_v55 : Ref sig .tc := ⟨.hbm, 70, rfl⟩
abbrev main_v56 : Ref sig .tc := ⟨.hbm, 71, rfl⟩
abbrev main_cst_7 : Ref sig .tc := ⟨.hbm, 72, rfl⟩
abbrev main_v57 : Ref sig .tc := ⟨.hbm, 73, rfl⟩
abbrev main_v58 : Ref sig .tc := ⟨.hbm, 74, rfl⟩
abbrev main_cst_8 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩

abbrev nD : Nat := 1
abbrev τ : Topo := Topo.v7x

variable {F : FTy → Type} [FloatOps F]
-- ==== Proof.Buf.lean ====
module

public import Idealize.ShloMosaic.Lib.VecWindow

@[expose] public section

/-!
# Buffers filled block by block

The contents of three kinds of buffer while they are being filled: a stack of five slices filled slice
by slice, a grid of five by four tiles filled tile by tile, and a tall table filled by bands of rows.
-/

noncomputable section

namespace Cert.Proof

open Idealize.ShloMosaic

variable {α : Type}

/-- The index of three coordinates. -/
def ix3 {a b c : ℕ} (x : Fin a) (y : Fin b) (z : Fin c) : (⟨3, ![a, b, c]⟩ : Shape).Idx :=
  Fin.cons x (Fin.cons y (Fin.cons z finZeroElim))

/-- The index of two coordinates. -/
def ix2 {a b : ℕ} (x : Fin a) (y : Fin b) : (⟨2, ![a, b]⟩ : Shape).Idx :=
  Fin.cons x (Fin.cons y finZeroElim)

@[simp] theorem ix3_val0 {a b c : ℕ} (x : Fin a) (y : Fin b) (z : Fin c) : (ix3 x y z 0).val = x.val := rfl
@[simp] theorem ix3_val1 {a b c : ℕ} (x : Fin a) (y : Fin b) (z : Fin c) : (ix3 x y z 1).val = y.val := rfl
@[simp] theorem ix3_val2 {a b c : ℕ} (x : Fin a) (y : Fin b) (z : Fin c) : (ix3 x y z 2).val = z.val := rfl
@[simp] theorem ix2_val0 {a b : ℕ} (x : Fin a) (y : Fin b) : (ix2 x y 0).val = x.val := rfl
@[simp] theorem ix2_val1 {a b : ℕ} (x : Fin a) (y : Fin b) : (ix2 x y 1).val = y.val := rfl

theorem ix3_eta {a b c : ℕ} (y : (⟨3, ![a, b, c]⟩ : Shape).Idx) : (ix3 (y 0) (y 1) (y 2) : (⟨3, ![a, b, c]⟩ : Shape).Idx) = y := by
  funext i
  fin_cases i <;> rfl

theorem ix2_eta {a b : ℕ} (y : (⟨2, ![a, b]⟩ : Shape).Idx) : (ix2 (y 0) (y 1) : (⟨2, ![a, b]⟩ : Shape).Idx) = y := by
  funext i
  fin_cases i <;> rfl

/-- The first `k` slices of a stack of five hold `A`, the others what `X` has there. -/
def spart {a b : ℕ} (k : ℕ) (A : Fin 5 → (⟨3, ![1, a, b]⟩ : Shape).Idx → α) (X : (⟨3, ![5, a, b]⟩ : Shape).Idx → α) :
    (⟨3, ![5, a, b]⟩ : Shape).Idx → α :=
  fun y => if (y 0).val < k then A (y 0) (ix3 0 (y 1) (y 2)) else X y

/-- The stack of five slices. -/
def stack {a b : ℕ} (A : Fin 5 → (⟨3, ![1, a, b]⟩ : Shape).Idx → α) : (⟨3, ![5, a, b]⟩ : Shape).Idx → α :=
  fun y => A (y 0) (ix3 0 (y 1) (y 2))

theorem spart_zero {a b : ℕ} (A : Fin 5 → (⟨3, ![1, a, b]⟩ : Shape).Idx → α) (X : (⟨3, ![5, a, b]⟩ : Shape).Idx → α) :
    spart 0 A X = X := rfl

theorem spart_five {a b : ℕ} (A : Fin 5 → (⟨3, ![1, a, b]⟩ : Shape).Idx → α) (X : (⟨3, ![5, a, b]⟩ : Shape).Idx → α) :
    spart 5 A X = stack A := by
  funext y
  exact if_pos (y 0).isLt

theorem put_spart {a b : ℕ} (k : ℕ) (hk : k < 5) (A : Fin 5 → (⟨3, ![1, a, b]⟩ : Shape).Idx → α) (X : (⟨3, ![5, a, b]⟩ : Shape).Idx → α) :
    VecWindow.put (s := ⟨3, ![5, a, b]⟩) (spart k A X) ![k, 0, 0] ![1, a, b] (A ⟨k, hk⟩) = spart (k + 1) A X := by
  funext y
  have h1 : (y 1).val < b ∨ (y 1).val < a := Or.inr (y 1).isLt
  have h2 : (y 2).val < b := (y 2).isLt
  have h1' : (y 1).val < a := (y 1).isLt
  unfold VecWindow.put spart
  by_cases h : (y 0).val = k
  · rw [dif_pos (by intro i; fin_cases i <;> simp <;> omega), if_pos (by omega)]
    have e : (⟨k, hk⟩ : Fin 5) = y 0 := Fin.ext h.symm
    rw [e]
    congr 1
    funext i
    apply Fin.ext
    fin_cases i
    · simp [Rect.unitLocal, h]; rfl
    · simp [Rect.unitLocal]; rfl
    · simp [Rect.unitLocal]; rfl
  · rw [dif_neg (fun hh => by have := hh 0; simp at this; omega)]
    by_cases h' : (y 0).val < k
    · rw [if_pos h', if_pos (by omega)]
    · rw [if_neg h', if_neg (by omega)]

theorem window_spart {a b : ℕ} (k : ℕ) (hk : k < 5) (A B : Fin 5 → (⟨3, ![1, a, b]⟩ : Shape).Idx → α)
    (inb : ∀ i, (![k, 0, 0] : Fin 3 → ℕ) i + (![1, a, b] : Fin 3 → ℕ) i ≤ (⟨3, ![5, a, b]⟩ : Shape).size i) :
    VecWindow.window (s := ⟨3, ![5, a, b]⟩) (spart k A (stack B)) ![k, 0, 0] ![1, a, b] inb = B ⟨k, hk⟩ := by
  funext y
  have y0 : (y 0).val = 0 := by have : (y 0).val < 1 := (y 0).isLt; omega
  unfold VecWindow.window spart
  have e0 : (((Rect.unit (s := ⟨3, ![5, a, b]⟩) ![k, 0, 0] ![1, a, b] inb).emb y) 0).val = k + 1 * (y 0).val := rfl
  rw [if_neg (by omega)]
  unfold stack
  have e : (((Rect.unit (s := ⟨3, ![5, a, b]⟩) ![k, 0, 0] ![1, a, b] inb).emb y) 0) = (⟨k, hk⟩ : Fin 5) := Fin.ext (by show k + 1 * (y 0).val = k; omega)
  rw [e]
  congr 1
  funext i
  apply Fin.ext
  fin_cases i
  · exact y0.symm
  · exact (show 0 + 1 * (y 1).val = (y 1).val by omega)
  · exact (show 0 + 1 * (y 2).val = (y 2).val by omega)

theorem window_stack {a b : ℕ} (k : ℕ) (hk : k < 5) (B : Fin 5 → (⟨3, ![1, a, b]⟩ : Shape).Idx → α)
    (inb : ∀ i, (![k, 0, 0] : Fin 3 → ℕ) i + (![1, a, b] : Fin 3 → ℕ) i ≤ (⟨3, ![5, a, b]⟩ : Shape).size i) :
    VecWindow.window (s := ⟨3, ![5, a, b]⟩) (stack B) ![k, 0, 0] ![1, a, b] inb = B ⟨k, hk⟩ := by
  rw [← spart_five B (spart k B (stack B))]
  rw [spart_five]
  have := window_spart k hk B B inb
  have e : spart k B (stack B) = stack B := by
    funext y
    unfold spart stack
    split <;> rfl
  rwa [e] at this

/-- Tiles of 128 rows and 128 columns in reading order: the first `n` hold `B`, the others what `X` has there. -/
def gpart (n : ℕ) (B : Fin 5 → Fin 4 → (⟨3, ![1, 128, 128]⟩ : Shape).Idx → α) (X : (⟨3, ![1, 640, 512]⟩ : Shape).Idx → α) :
    (⟨3, ![1, 640, 512]⟩ : Shape).Idx → α :=
  fun y => if 4 * ((y 1).val / 128) + (y 2).val / 128 < n then
    B ⟨(y 1).val / 128, Nat.div_lt_of_lt_mul (y 1).isLt⟩ ⟨(y 2).val / 128, Nat.div_lt_of_lt_mul (y 2).isLt⟩
      (ix3 0 ⟨(y 1).val % 128, Nat.mod_lt _ (by decide)⟩ ⟨(y 2).val % 128, Nat.mod_lt _ (by decide)⟩) else X y

/-- All twenty tiles. -/
def tiles (B : Fin 5 → Fin 4 → (⟨3, ![1, 128, 128]⟩ : Shape).Idx → α) : (⟨3, ![1, 640, 512]⟩ : Shape).Idx → α :=
  fun y => B ⟨(y 1).val / 128, Nat.div_lt_of_lt_mul (y 1).isLt⟩ ⟨(y 2).val / 128, Nat.div_lt_of_lt_mul (y 2).isLt⟩
      (ix3 0 ⟨(y 1).val % 128, Nat.mod_lt _ (by decide)⟩ ⟨(y 2).val % 128, Nat.mod_lt _ (by decide)⟩)

theorem gpart_zero (B : Fin 5 → Fin 4 → (⟨3, ![1, 128, 128]⟩ : Shape).Idx → α) (X : (⟨3, ![1, 640, 512]⟩ : Shape).Idx → α) :
    gpart 0 B X = X := rfl

theorem gpart_all (B : Fin 5 → Fin 4 → (⟨3, ![1, 128, 128]⟩ : Shape).Idx → α) (X : (⟨3, ![1, 640, 512]⟩ : Shape).Idx → α) :
    gpart 20 B X = tiles B := by
  funext y
  have h1 : (y 1).val < 640 := (y 1).isLt
  have h2 : (y 2).val < 512 := (y 2).isLt
  exact if_pos (by omega)

theorem put_gpart (s g : ℕ) (hs : s < 5) (hg : g < 4) (B : Fin 5 → Fin 4 → (⟨3, ![1, 128, 128]⟩ : Shape).Idx → α)
    (X : (⟨3, ![1, 640, 512]⟩ : Shape).Idx → α) :
    VecWindow.put (s := ⟨3, ![1, 640, 512]⟩) (gpart (4 * s + g) B X) ![0, 128 * s, 128 * g] ![1, 128, 128] (B ⟨s, hs⟩ ⟨g, hg⟩)
      = gpart (4 * s + g + 1) B X := by
  funext y
  have h0 : (y 0).val < 1 := (y 0).isLt
  have h1 : (y 1).val < 640 := (y 1).isLt
  have h2 : (y 2).val < 512 := (y 2).isLt
  unfold VecWindow.put gpart
  by_cases h : (y 1).val / 128 = s ∧ (y 2).val / 128 = g
  · obtain ⟨rfl, rfl⟩ := h
    rw [dif_pos (by intro i; fin_cases i <;> simp <;> omega), if_pos (by omega)]
    congr 1
    funext i
    apply Fin.ext
    fin_cases i
    · simp [Rect.unitLocal]
    · simp [Rect.unitLocal]; omega
    · simp [Rect.unitLocal]; omega
  · rw [dif_neg (fun hh => by have a := hh 1; have b := hh 2; simp at a b; omega)]
    by_cases h' : 4 * ((y 1).val / 128) + (y 2).val / 128 < 4 * s + g
    · rw [if_pos h', if_pos (by omega)]
    · rw [if_neg h', if_neg (by omega)]

/-- The first `n` rows of a table hold `f`, the others what `X` has there. -/
def rpart {a b : ℕ} (n : ℕ) (f X : (⟨2, ![a, b]⟩ : Shape).Idx → α) : (⟨2, ![a, b]⟩ : Shape).Idx → α :=
  fun y => if (y 0).val < n then f y else X y

theorem rpart_zero {a b : ℕ} (f X : (⟨2, ![a, b]⟩ : Shape).Idx → α) : rpart 0 f X = X := rfl

theorem rpart_all {a b : ℕ} (f X : (⟨2, ![a, b]⟩ : Shape).Idx → α) : rpart a f X = f := by
  funext y
  exact if_pos (y 0).isLt

theorem put_rpart {a b : ℕ} (n r : ℕ) (hr : n + r ≤ a) (f X : (⟨2, ![a, b]⟩ : Shape).Idx → α) (w : (⟨2, ![r, b]⟩ : Shape).Idx → α)
    (hw : ∀ (p : Fin r) (q : Fin b), w (ix2 p q) = f (ix2 ⟨n + p.val, by omega⟩ q)) :
    VecWindow.put (s := ⟨2, ![a, b]⟩) (rpart n f X) ![n, 0] ![r, b] w = rpart (n + r) f X := by
  funext y
  have h1 : (y 1).val < b := (y 1).isLt
  unfold VecWindow.put rpart
  by_cases h : n ≤ (y 0).val ∧ (y 0).val < n + r
  · rw [dif_pos (by intro i; fin_cases i <;> simp <;> omega), if_pos h.2]
    have := hw ⟨(y 0).val - n, by omega⟩ (y 1)
    refine Eq.trans (congrArg w ?_) (this.trans (congrArg f ?_))
    · funext i
      apply Fin.ext
      fin_cases i <;> simp [Rect.unitLocal] <;> rfl
    · funext i
      apply Fin.ext
      fin_cases i
      · show n + ((y 0).val - n) = (y 0).val
        omega
      · rfl
  · rw [dif_neg (fun hh => by have := hh 0; simp at this; omega)]
    by_cases h' : (y 0).val < n
    · rw [if_pos h', if_pos (by omega)]
    · rw [if_neg h', if_neg (by omega)]

theorem put_put_rpart {a b : ℕ} (n r : ℕ) (hr : n + r ≤ a) (f X : (⟨2, ![a, b + b]⟩ : Shape).Idx → α) (w w' : (⟨2, ![r, b]⟩ : Shape).Idx → α)
    (hw : ∀ (p : Fin r) (q : Fin b), w (ix2 p q) = f (ix2 ⟨n + p.val, by omega⟩ ⟨q.val, by omega⟩))
    (hw' : ∀ (p : Fin r) (q : Fin b), w' (ix2 p q) = f (ix2 ⟨n + p.val, by omega⟩ ⟨b + q.val, by omega⟩)) :
    VecWindow.put (s := ⟨2, ![a, b + b]⟩) (VecWindow.put (s := ⟨2, ![a, b + b]⟩) (rpart n f X) ![n, 0] ![r, b] w) ![n, b] ![r, b] w'
      = rpart (n + r) f X := by
  funext y
  have h1 : (y 1).val < b + b := (y 1).isLt
  have key : ∀ (o : ℕ) (ho : o + b ≤ b + b) (u : (⟨2, ![r, b]⟩ : Shape).Idx → α)
      (hu : ∀ (p : Fin r) (q : Fin b), u (ix2 p q) = f (ix2 ⟨n + p.val, by omega⟩ ⟨o + q.val, by omega⟩))
      (hh : ∀ i, (![n, o] : Fin 2 → ℕ) i ≤ (y i).val ∧ (y i).val < (![n, o] : Fin 2 → ℕ) i + (![r, b] : Fin 2 → ℕ) i),
      u (Rect.unitLocal (s := ⟨2, ![a, b + b]⟩) (off := ![n, o]) (size := ![r, b]) y hh) = f y := by
    intro o ho u hu hh
    have a0 : n ≤ (y 0).val ∧ (y 0).val < n + r := hh 0
    have a1 : o ≤ (y 1).val ∧ (y 1).val < o + b := hh 1
    refine Eq.trans (congrArg u ?_) ((hu ⟨(y 0).val - n, by omega⟩ ⟨(y 1).val - o, by omega⟩).trans (congrArg f ?_))
    · funext i
      apply Fin.ext
      fin_cases i <;> simp [Rect.unitLocal] <;> rfl
    · funext i
      apply Fin.ext
      fin_cases i
      · show n + ((y 0).val - n) = (y 0).val
        omega
      · show o + ((y 1).val - o) = (y 1).val
        omega
  unfold VecWindow.put rpart
  by_cases h : n ≤ (y 0).val ∧ (y 0).val < n + r
  · rw [if_pos h.2]
    by_cases h' : (y 1).val < b
    · rw [dif_neg (fun hh => by have := hh 1; simp at this; omega)]
      rw [dif_pos (by intro i; fin_cases i <;> simp <;> omega)]
      exact key 0 (by omega) w (by simpa using hw) _
    · rw [dif_pos (by intro i; fin_cases i <;> simp <;> omega)]
      exact key b (by omega) w' hw' _
  · rw [dif_neg (fun hh => by have := hh 0; simp at this; omega)]
    rw [dif_neg (fun hh => by have := hh 0; simp at this; omega)]
    by_cases h' : (y 0).val < n
    · rw [if_pos h', if_pos (by omega)]
    · rw [if_neg h', if_neg (by omega)]

end Cert.Proof

end
-- ==== Proof.PI.Prog.lean ====
module

public import proofs.«01_k».proof.Proof.Gen.KernelIdeal.Loops

@[expose] public section

/-!
# The kernel body as a structured program

The printed body is one long straight line cut into parts: five row blocks are prepared, eleven key
chunks are each folded into the five accumulators, and the five quotients are written. Here that line is
written as a composition of small steps, each with the rest of the program as a parameter, and the two
programs are shown to be the same.
-/

noncomputable section

namespace Cert.Proof.PI

open Cert.KernelIdeal Cert.KernelIdeal.Gen
open Idealize.ShloMosaic Idealize.ShloMosaic.TcCoe Idealize.ShloMosaic.Tactic
open Idealize.SL Idealize.SL.Sem

variable {F : FTy → Type} [FloatOps F] {α : Type}

/-- Programs of the core. -/
abbrev PP (F : FTy → Type) [FloatOps F] (α : Type) := Prog (TpuEff nD τ sig (Elt F) Λ₀ .tc) α

/-- One row block is prepared: its query rows, gathered head by head, are kept and its accumulator cleared. -/
def initS (arg3 : Memref sig .tc .vmem S1x640x512 .bf16) (harg3 : arg3.IsWhole) (arg10 : Memref sig .tc .vmem S5x512x128 .bf16) (harg10 : arg10.IsWhole) (arg12 : Memref sig .tc .vmem S5x512x256 .f32) (harg12 : arg12.IsWhole)
    (oq o : Fin 3 → ℕ) (hq : ∀ a, oq a + S1x128x512.size a ≤ S1x640x512.size a)
    (h10 : ∀ a, o a + S1x512x128.size a ≤ S5x512x128.size a)
    (p10 : (Rect.unit (s := S5x512x128) o S1x512x128.size h10).PackedRows (EltTy.packing .bf16))
    (h12 : ∀ a, o a + S1x512x256.size a ≤ S5x512x256.size a)
    (κ : FVec F S512x128 .bf16 → PP F α) : PP F α := do
  let v5 : Vec F S1x128x512 .bf16 ← Prog.lift (.load arg3 (Rect.unit (s := S1x640x512) oq S1x128x512.size hq).toLoadRect (View.loadsAt_vmem h_S1x128x512))
  let _v12 : Vec F S1x512x128 .bf16 ← Prog.lift (.load arg10 (Rect.unit (s := S5x512x128) o S1x512x128.size h10).toLoadRect (View.loadsAt_vmem h_S1x512x128))
  Prog.lift (.store arg10 (Rect.unit (s := S5x512x128) o S1x512x128.size h10) (k0_pay27 v5) Finset.univ (View.stores_vmem h_S1x512x128 (harg10.storeExact_slice rfl _ p10) (fun _ => rfl)) (.inl rfl))
  let _v16 : Vec F S1x512x256 .f32 ← Prog.lift (.load arg12 (Rect.unit (s := S5x512x256) o S1x512x256.size h12).toLoadRect (View.loadsAt_vmem h_S1x512x256))
  Prog.lift (.store arg12 (Rect.unit (s := S5x512x256) o S1x512x256.size h12) (k0_pay28 (F := F)) Finset.univ (View.stores_vmem_bits_univ h_S1x512x256 rfl) (.inl rfl))
  κ (k0_pay26 v5)

/-- The bound of one row block is stored. -/
def boundS (arg11 : Memref sig .tc .vmem S5x512x128 .f32) (harg11 : arg11.IsWhole)
    (o : Fin 3 → ℕ) (h11 : ∀ a, o a + S1x512x128.size a ≤ S5x512x128.size a)
    (v0 : FVec F S128x128 .bf16) (v4 : Vec F S1x128 .f32) (qs : FVec F S512x128 .bf16) (κ : PP F α) : PP F α := do
  let _v : Vec F S1x512x128 .f32 ← Prog.lift (.load arg11 (Rect.unit (s := S5x512x128) o S1x512x128.size h11).toLoadRect (View.loadsAt_vmem h_S1x512x128))
  Prog.lift (.store arg11 (Rect.unit (s := S5x512x128) o S1x512x128.size h11) (k0_pay47 v4 (k0_pay42 v0 qs)) Finset.univ (View.stores_vmem_bits_univ h_S1x512x128 rfl) (.inl rfl))
  κ

/-- One key chunk is folded into one row block's accumulator. -/
def accS (arg10 : Memref sig .tc .vmem S5x512x128 .bf16) (harg10 : arg10.IsWhole) (arg11 : Memref sig .tc .vmem S5x512x128 .f32) (harg11 : arg11.IsWhole) (arg12 : Memref sig .tc .vmem S5x512x256 .f32) (harg12 : arg12.IsWhole)
    (o : Fin 3 → ℕ) (h10 : ∀ a, o a + S1x512x128.size a ≤ S5x512x128.size a)
    (h12 : ∀ a, o a + S1x512x256.size a ≤ S5x512x256.size a)
    (kc : Vec F S768x128 .bf16) (va : Vec F S768x256 .bf16) (κ : PP F α) : PP F α := do
  let q : Vec F S1x512x128 .bf16 ← Prog.lift (.load arg10 (Rect.unit (s := S5x512x128) o S1x512x128.size h10).toLoadRect (View.loadsAt_vmem h_S1x512x128))
  let b : Vec F S1x512x128 .f32 ← Prog.lift (.load arg11 (Rect.unit (s := S5x512x128) o S1x512x128.size h10).toLoadRect (View.loadsAt_vmem h_S1x512x128))
  let a : Vec F S1x512x256 .f32 ← Prog.lift (.load arg12 (Rect.unit (s := S5x512x256) o S1x512x256.size h12).toLoadRect (View.loadsAt_vmem h_S1x512x256))
  let _a : Vec F S1x512x256 .f32 ← Prog.lift (.load arg12 (Rect.unit (s := S5x512x256) o S1x512x256.size h12).toLoadRect (View.loadsAt_vmem h_S1x512x256))
  Prog.lift (.store arg12 (Rect.unit (s := S5x512x256) o S1x512x256.size h12) (k0_pay130 kc va q b a) Finset.univ (View.stores_vmem_bits_univ h_S1x512x256 rfl) (.inl rfl))
  κ

/-- One key chunk is folded into the five accumulators. -/
def chunkS (arg7 : Memref sig .tc .vmem S8448x128 .bf16) (harg7 : arg7.IsWhole) (arg8 : Memref sig .tc .vmem S8448x256 .bf16) (harg8 : arg8.IsWhole) (arg10 : Memref sig .tc .vmem S5x512x128 .bf16) (harg10 : arg10.IsWhole) (arg11 : Memref sig .tc .vmem S5x512x128 .f32) (harg11 : arg11.IsWhole) (arg12 : Memref sig .tc .vmem S5x512x256 .f32) (harg12 : arg12.IsWhole)
    (o5 : Fin 2 → ℕ) (h7 : ∀ a, o5 a + S768x128.size a ≤ S8448x128.size a) (o6 : Fin 2 → ℕ) (h8 : ∀ a, o6 a + S768x256.size a ≤ S8448x256.size a)
    (κ : PP F α) : PP F α := do
  let kc : Vec F S768x128 .bf16 ← Prog.lift (.load arg7 (Rect.unit (s := S8448x128) o5 S768x128.size h7).toLoadRect (View.loadsAt_vmem h_S768x128))
  let va : Vec F S768x256 .bf16 ← Prog.lift (.load arg8 (Rect.unit (s := S8448x256) o6 S768x256.size h8).toLoadRect (View.loadsAt_vmem h_S768x256))
  accS arg10 harg10 arg11 harg11 arg12 harg12 ![0, 0, 0] inb_S5x512x128_S1x512x128_0_0_0 inb_S5x512x256_S1x512x256_0_0_0 kc va <|
  accS arg10 harg10 arg11 harg11 arg12 harg12 ![1, 0, 0] inb_S5x512x128_S1x512x128_1_0_0 inb_S5x512x256_S1x512x256_1_0_0 kc va <|
  accS arg10 harg10 arg11 harg11 arg12 harg12 ![2, 0, 0] inb_S5x512x128_S1x512x128_2_0_0 inb_S5x512x256_S1x512x256_2_0_0 kc va <|
  accS arg10 harg10 arg11 harg11 arg12 harg12 ![3, 0, 0] inb_S5x512x128_S1x512x128_3_0_0 inb_S5x512x256_S1x512x256_3_0_0 kc va <|
  accS arg10 harg10 arg11 harg11 arg12 harg12 ![4, 0, 0] inb_S5x512x128_S1x512x128_4_0_0 inb_S5x512x256_S1x512x256_4_0_0 kc va <|
  κ

/-- One block of 128 rows and 128 columns of the result is stored. -/
def putS (arg6 : Memref sig .tc .vmem S1x640x512 .bf16) (harg6 : arg6.IsWhole)
    (o : Fin 3 → ℕ) (h6 : ∀ a, o a + S1x128x128.size a ≤ S1x640x512.size a)
    (p6 : (Rect.unit (s := S1x640x512) o S1x128x128.size h6).PackedRows (EltTy.packing .bf16))
    (x : FVec F S1x128x128 .bf16) (κ : PP F α) : PP F α := do
  let _v : Vec F S1x128x128 .bf16 ← Prog.lift (.load arg6 (Rect.unit (s := S1x640x512) o S1x128x128.size h6).toLoadRect (View.loadsAt_vmem h_S1x128x128))
  Prog.lift (.store arg6 (Rect.unit (s := S1x640x512) o S1x128x128.size h6) x Finset.univ (View.stores_vmem h_S1x128x128 (harg6.storeExact_slice rfl _ p6) (fun _ => rfl)) (.inl rfl))
  κ

/-- One row block's accumulator is read, divided by its row sums and written, head by head. -/
def writeS (arg6 : Memref sig .tc .vmem S1x640x512 .bf16) (harg6 : arg6.IsWhole) (arg12 : Memref sig .tc .vmem S5x512x256 .f32) (harg12 : arg12.IsWhole)
    (o : Fin 3 → ℕ) (h12 : ∀ a, o a + S1x512x256.size a ≤ S5x512x256.size a)
    (o0 o1 o2 o3 : Fin 3 → ℕ)
    (h0 : ∀ a, o0 a + S1x128x128.size a ≤ S1x640x512.size a) (p0 : (Rect.unit (s := S1x640x512) o0 S1x128x128.size h0).PackedRows (EltTy.packing .bf16))
    (h1 : ∀ a, o1 a + S1x128x128.size a ≤ S1x640x512.size a) (p1 : (Rect.unit (s := S1x640x512) o1 S1x128x128.size h1).PackedRows (EltTy.packing .bf16))
    (h2 : ∀ a, o2 a + S1x128x128.size a ≤ S1x640x512.size a) (p2 : (Rect.unit (s := S1x640x512) o2 S1x128x128.size h2).PackedRows (EltTy.packing .bf16))
    (h3 : ∀ a, o3 a + S1x128x128.size a ≤ S1x640x512.size a) (p3 : (Rect.unit (s := S1x640x512) o3 S1x128x128.size h3).PackedRows (EltTy.packing .bf16))
    (κ : Vec F S1x512x256 .f32 → PP F α) : PP F α := do
  let v : Vec F S1x512x256 .f32 ← Prog.lift (.load arg12 (Rect.unit (s := S5x512x256) o S1x512x256.size h12).toLoadRect (View.loadsAt_vmem h_S1x512x256))
  putS arg6 harg6 o0 h0 p0 (k0_pay162 v) <|
  putS arg6 harg6 o1 h1 p1 (k0_pay163 v) <|
  putS arg6 harg6 o2 h2 p2 (k0_pay1 (k0_pay164 v)) <|
  putS arg6 harg6 o3 h3 p3 (k0_pay2 (k0_pay161 v)) <|
  κ v

/-- The key, value and bound scratches are filled from the blocks. -/
def fillS (i : grid0.Coords) (arg3 : Memref sig .tc .vmem S1x640x512 .bf16) (harg3 : arg3.IsWhole) (arg4 : Memref sig .tc .vmem S1x8320x128 .bf16) (harg4 : arg4.IsWhole) (arg5 : Memref sig .tc .vmem S1x8320x128 .bf16) (harg5 : arg5.IsWhole) (arg6 : Memref sig .tc .vmem S1x640x512 .bf16) (harg6 : arg6.IsWhole) (arg7 : Memref sig .tc .vmem S8448x128 .bf16) (harg7 : arg7.IsWhole) (arg8 : Memref sig .tc .vmem S8448x256 .bf16) (harg8 : arg8.IsWhole) (arg9 : Memref sig .tc .vmem S8x128 .f32) (harg9 : arg9.IsWhole) (arg10 : Memref sig .tc .vmem S5x512x128 .bf16) (harg10 : arg10.IsWhole) (arg11 : Memref sig .tc .vmem S5x512x128 .f32) (harg11 : arg11.IsWhole) (arg12 : Memref sig .tc .vmem S5x512x256 .f32) (harg12 : arg12.IsWhole) (k0_h1 : k0_cond1 i = 1#1)
    (κ : PP F α) : PP F α := do
  let v1256 : FVec F S1x128 .f32 ← Scf.Loop.for k0_t1_loop (k0_t1_ok i k0_h1) (k0_pay21 (F := F)) (k0_t1_body i arg3 harg3 arg4 harg4 arg5 harg5 arg6 harg6 arg7 harg7 arg8 harg8 arg9 harg9 arg10 harg10 arg11 harg11 arg12 harg12 k0_h1)
  let v1259 : Vec F S8x128 .f32 ← Prog.lift (.load arg9 (Rect.unit (s := S8x128) ![0, 0] S8x128.size inb_S8x128_S8x128_0_0).toLoadRect (View.loadsAt_vmem h_S8x128))
  Prog.lift (.store arg9 (Rect.unit (s := S8x128) ![0, 0] S8x128.size inb_S8x128_S8x128_0_0) (k0_pay23 v1256) Finset.univ (View.stores_vmem_bits_univ h_S8x128 rfl) (.inl rfl))
  let v1263 : Vec F S128x128 .bf16 ← Prog.lift (.load arg7 (Rect.unit (s := S8448x128) ![8320, 0] S128x128.size inb_S8448x128_S128x128_8320_0).toLoadRect (View.loadsAt_vmem h_S128x128))
  Prog.lift (.store arg7 (Rect.unit (s := S8448x128) ![8320, 0] S128x128.size inb_S8448x128_S128x128_8320_0) (k0_pay24 (F := F)) Finset.univ (View.stores_vmem h_S128x128 (harg7.storeExact_slice rfl _ packedbf16_S8448x128_S128x128_8320_0) (fun _ => rfl)) (.inl rfl))
  let v1267 : Vec F S128x256 .bf16 ← Prog.lift (.load arg8 (Rect.unit (s := S8448x256) ![8320, 0] S128x256.size inb_S8448x256_S128x256_8320_0).toLoadRect (View.loadsAt_vmem h_S128x256))
  Prog.lift (.store arg8 (Rect.unit (s := S8448x256) ![8320, 0] S128x256.size inb_S8448x256_S128x256_8320_0) (k0_pay25 (F := F)) Finset.univ (View.stores_vmem h_S128x256 (harg8.storeExact_slice rfl _ packedbf16_S8448x256_S128x256_8320_0) (fun _ => rfl)) (.inl rfl))
  κ

/-- The least row sum of the five accumulators. -/
def lmin (x0 x1 x2 x3 x4 : Vec F S1x512x256 .f32) : F .f32 :=
  k0_pay3 (k0_pay3 (k0_pay3 (k0_pay3 (k0_pay138 (k0_pay131 x0)) (k0_pay131 x1)) (k0_pay131 x2)) (k0_pay131 x3)) (k0_pay131 x4)

/-- The test that sends the row blocks through the second, running-maximum pass. -/
def redoCond (l : F .f32) : BitVec 1 :=
  Scalar.cmpi .ne (Scalar.extui (Scalar.xori (Scalar.cmpf .oge l (Scalar.ofBits .f32 0x14461206#32)) 1#1)) 0#32

/-- The second pass where the test asks for it. -/
def redoS (i : grid0.Coords) (arg3 : Memref sig .tc .vmem S1x640x512 .bf16) (harg3 : arg3.IsWhole) (arg4 : Memref sig .tc .vmem S1x8320x128 .bf16) (harg4 : arg4.IsWhole) (arg5 : Memref sig .tc .vmem S1x8320x128 .bf16) (harg5 : arg5.IsWhole) (arg6 : Memref sig .tc .vmem S1x640x512 .bf16) (harg6 : arg6.IsWhole) (arg7 : Memref sig .tc .vmem S8448x128 .bf16) (harg7 : arg7.IsWhole) (arg8 : Memref sig .tc .vmem S8448x256 .bf16) (harg8 : arg8.IsWhole) (arg9 : Memref sig .tc .vmem S8x128 .f32) (harg9 : arg9.IsWhole) (arg10 : Memref sig .tc .vmem S5x512x128 .bf16) (harg10 : arg10.IsWhole) (arg11 : Memref sig .tc .vmem S5x512x128 .f32) (harg11 : arg11.IsWhole) (arg12 : Memref sig .tc .vmem S5x512x256 .f32) (harg12 : arg12.IsWhole) (l : F .f32) : PP F PUnit :=
  if redoCond l = 1#1 then do
    Scf.Loop.for k0_t2_loop k0_t2_ok ⟨⟩ (k0_t2_body i arg3 harg3 arg4 harg4 arg5 harg5 arg6 harg6 arg7 harg7 arg8 harg8 arg9 harg9 arg10 harg10 arg11 harg11 arg12 harg12)
    pure ⟨⟩
  else do
    pure ⟨⟩

/-- The body after the fill. -/
def mainS (i : grid0.Coords) (arg3 : Memref sig .tc .vmem S1x640x512 .bf16) (harg3 : arg3.IsWhole) (arg4 : Memref sig .tc .vmem S1x8320x128 .bf16) (harg4 : arg4.IsWhole) (arg5 : Memref sig .tc .vmem S1x8320x128 .bf16) (harg5 : arg5.IsWhole) (arg6 : Memref sig .tc .vmem S1x640x512 .bf16) (harg6 : arg6.IsWhole) (arg7 : Memref sig .tc .vmem S8448x128 .bf16) (harg7 : arg7.IsWhole) (arg8 : Memref sig .tc .vmem S8448x256 .bf16) (harg8 : arg8.IsWhole) (arg9 : Memref sig .tc .vmem S8x128 .f32) (harg9 : arg9.IsWhole) (arg10 : Memref sig .tc .vmem S5x512x128 .bf16) (harg10 : arg10.IsWhole) (arg11 : Memref sig .tc .vmem S5x512x128 .f32) (harg11 : arg11.IsWhole) (arg12 : Memref sig .tc .vmem S5x512x256 .f32) (harg12 : arg12.IsWhole) : PP F PUnit := do
  let v4 : Vec F S1x128 .f32 ← Prog.lift (.load arg9 (Rect.unit (s := S8x128) ![0, 0] S1x128.size inb_S8x128_S1x128_0_0).toLoadRect (View.loadsAt_vmem h_S1x128))
  initS arg3 harg3 arg10 harg10 arg12 harg12 ![0, 0, 0] ![0, 0, 0] inb_S1x640x512_S1x128x512_0_0_0 inb_S5x512x128_S1x512x128_0_0_0 packedbf16_S5x512x128_S1x512x128_0_0_0 inb_S5x512x256_S1x512x256_0_0_0 fun q0 =>
  initS arg3 harg3 arg10 harg10 arg12 harg12 ![0, 128, 0] ![1, 0, 0] inb_S1x640x512_S1x128x512_0_128_0 inb_S5x512x128_S1x512x128_1_0_0 packedbf16_S5x512x128_S1x512x128_1_0_0 inb_S5x512x256_S1x512x256_1_0_0 fun q1 =>
  initS arg3 harg3 arg10 harg10 arg12 harg12 ![0, 256, 0] ![2, 0, 0] inb_S1x640x512_S1x128x512_0_256_0 inb_S5x512x128_S1x512x128_2_0_0 packedbf16_S5x512x128_S1x512x128_2_0_0 inb_S5x512x256_S1x512x256_2_0_0 fun q2 =>
  initS arg3 harg3 arg10 harg10 arg12 harg12 ![0, 384, 0] ![3, 0, 0] inb_S1x640x512_S1x128x512_0_384_0 inb_S5x512x128_S1x512x128_3_0_0 packedbf16_S5x512x128_S1x512x128_3_0_0 inb_S5x512x256_S1x512x256_3_0_0 fun q3 =>
  initS arg3 harg3 arg10 harg10 arg12 harg12 ![0, 512, 0] ![4, 0, 0] inb_S1x640x512_S1x128x512_0_512_0 inb_S5x512x128_S1x512x128_4_0_0 packedbf16_S5x512x128_S1x512x128_4_0_0 inb_S5x512x256_S1x512x256_4_0_0 fun q4 =>
  boundS arg11 harg11 ![0, 0, 0] inb_S5x512x128_S1x512x128_0_0_0 (k0_pay20 (F := F)) v4 q0 <|
  boundS arg11 harg11 ![1, 0, 0] inb_S5x512x128_S1x512x128_1_0_0 (k0_pay20 (F := F)) v4 q1 <|
  boundS arg11 harg11 ![2, 0, 0] inb_S5x512x128_S1x512x128_2_0_0 (k0_pay20 (F := F)) v4 q2 <|
  boundS arg11 harg11 ![3, 0, 0] inb_S5x512x128_S1x512x128_3_0_0 (k0_pay20 (F := F)) v4 q3 <|
  boundS arg11 harg11 ![4, 0, 0] inb_S5x512x128_S1x512x128_4_0_0 (k0_pay20 (F := F)) v4 q4 <|
  chunkS arg7 harg7 arg8 harg8 arg10 harg10 arg11 harg11 arg12 harg12 (k0_off5 0#32) (k0_off5_inb 0) (k0_off6 0#32) (k0_off6_inb 0) <|
  chunkS arg7 harg7 arg8 harg8 arg10 harg10 arg11 harg11 arg12 harg12 (k0_off5 1#32) (k0_off5_inb 1) (k0_off6 1#32) (k0_off6_inb 1) <|
  chunkS arg7 harg7 arg8 harg8 arg10 harg10 arg11 harg11 arg12 harg12 (k0_off5 2#32) (k0_off5_inb 2) (k0_off6 2#32) (k0_off6_inb 2) <|
  chunkS arg7 harg7 arg8 harg8 arg10 harg10 arg11 harg11 arg12 harg12 (k0_off5 3#32) (k0_off5_inb 3) (k0_off6 3#32) (k0_off6_inb 3) <|
  chunkS arg7 harg7 arg8 harg8 arg10 harg10 arg11 harg11 arg12 harg12 (k0_off5 4#32) (k0_off5_inb 4) (k0_off6 4#32) (k0_off6_inb 4) <|
  chunkS arg7 harg7 arg8 harg8 arg10 harg10 arg11 harg11 arg12 harg12 (k0_off5 5#32) (k0_off5_inb 5) (k0_off6 5#32) (k0_off6_inb 5) <|
  chunkS arg7 harg7 arg8 harg8 arg10 harg10 arg11 harg11 arg12 harg12 (k0_off5 6#32) (k0_off5_inb 6) (k0_off6 6#32) (k0_off6_inb 6) <|
  chunkS arg7 harg7 arg8 harg8 arg10 harg10 arg11 harg11 arg12 harg12 (k0_off5 7#32) (k0_off5_inb 7) (k0_off6 7#32) (k0_off6_inb 7) <|
  chunkS arg7 harg7 arg8 harg8 arg10 harg10 arg11 harg11 arg12 harg12 (k0_off5 8#32) (k0_off5_inb 8) (k0_off6 8#32) (k0_off6_inb 8) <|
  chunkS arg7 harg7 arg8 harg8 arg10 harg10 arg11 harg11 arg12 harg12 (k0_off5 9#32) (k0_off5_inb 9) (k0_off6 9#32) (k0_off6_inb 9) <|
  chunkS arg7 harg7 arg8 harg8 arg10 harg10 arg11 harg11 arg12 harg12 (k0_off5 10#32) (k0_off5_inb 10) (k0_off6 10#32) (k0_off6_inb 10) <|
  writeS arg6 harg6 arg12 harg12 ![0, 0, 0] inb_S5x512x256_S1x512x256_0_0_0 ![0, 0, 0] ![0, 0, 128] ![0, 0, 256] ![0, 0, 384] inb_S1x640x512_S1x128x128_0_0_0 packedbf16_S1x640x512_S1x128x128_0_0_0 inb_S1x640x512_S1x128x128_0_0_128 packedbf16_S1x640x512_S1x128x128_0_0_128 inb_S1x640x512_S1x128x128_0_0_256 packedbf16_S1x640x512_S1x128x128_0_0_256 inb_S1x640x512_S1x128x128_0_0_384 packedbf16_S1x640x512_S1x128x128_0_0_384 fun x0 =>
  writeS arg6 harg6 arg12 harg12 ![1, 0, 0] inb_S5x512x256_S1x512x256_1_0_0 ![0, 128, 0] ![0, 128, 128] ![0, 128, 256] ![0, 128, 384] inb_S1x640x512_S1x128x128_0_128_0 packedbf16_S1x640x512_S1x128x128_0_128_0 inb_S1x640x512_S1x128x128_0_128_128 packedbf16_S1x640x512_S1x128x128_0_128_128 inb_S1x640x512_S1x128x128_0_128_256 packedbf16_S1x640x512_S1x128x128_0_128_256 inb_S1x640x512_S1x128x128_0_128_384 packedbf16_S1x640x512_S1x128x128_0_128_384 fun x1 =>
  writeS arg6 harg6 arg12 harg12 ![2, 0, 0] inb_S5x512x256_S1x512x256_2_0_0 ![0, 256, 0] ![0, 256, 128] ![0, 256, 256] ![0, 256, 384] inb_S1x640x512_S1x128x128_0_256_0 packedbf16_S1x640x512_S1x128x128_0_256_0 inb_S1x640x512_S1x128x128_0_256_128 packedbf16_S1x640x512_S1x128x128_0_256_128 inb_S1x640x512_S1x128x128_0_256_256 packedbf16_S1x640x512_S1x128x128_0_256_256 inb_S1x640x512_S1x128x128_0_256_384 packedbf16_S1x640x512_S1x128x128_0_256_384 fun x2 =>
  writeS arg6 harg6 arg12 harg12 ![3, 0, 0] inb_S5x512x256_S1x512x256_3_0_0 ![0, 384, 0] ![0, 384, 128] ![0, 384, 256] ![0, 384, 384] inb_S1x640x512_S1x128x128_0_384_0 packedbf16_S1x640x512_S1x128x128_0_384_0 inb_S1x640x512_S1x128x128_0_384_128 packedbf16_S1x640x512_S1x128x128_0_384_128 inb_S1x640x512_S1x128x128_0_384_256 packedbf16_S1x640x512_S1x128x128_0_384_256 inb_S1x640x512_S1x128x128_0_384_384 packedbf16_S1x640x512_S1x128x128_0_384_384 fun x3 =>
  writeS arg6 harg6 arg12 harg12 ![4, 0, 0] inb_S5x512x256_S1x512x256_4_0_0 ![0, 512, 0] ![0, 512, 128] ![0, 512, 256] ![0, 512, 384] inb_S1x640x512_S1x128x128_0_512_0 packedbf16_S1x640x512_S1x128x128_0_512_0 inb_S1x640x512_S1x128x128_0_512_128 packedbf16_S1x640x512_S1x128x128_0_512_128 inb_S1x640x512_S1x128x128_0_512_256 packedbf16_S1x640x512_S1x128x128_0_512_256 inb_S1x640x512_S1x128x128_0_512_384 packedbf16_S1x640x512_S1x128x128_0_512_384 fun x4 =>
  redoS i arg3 harg3 arg4 harg4 arg5 harg5 arg6 harg6 arg7 harg7 arg8 harg8 arg9 harg9 arg10 harg10 arg11 harg11 arg12 harg12 (lmin x0 x1 x2 x3 x4)

set_option maxRecDepth 65536 in
set_option maxHeartbeats 4000000 in
/-- At a point that fills the scratches the printed body is the fill and then the main line. -/
theorem skel_fill (i : grid0.Coords) (arg3 : Memref sig .tc .vmem S1x640x512 .bf16) (harg3 : arg3.IsWhole) (arg4 : Memref sig .tc .vmem S1x8320x128 .bf16) (harg4 : arg4.IsWhole) (arg5 : Memref sig .tc .vmem S1x8320x128 .bf16) (harg5 : arg5.IsWhole) (arg6 : Memref sig .tc .vmem S1x640x512 .bf16) (harg6 : arg6.IsWhole) (arg7 : Memref sig .tc .vmem S8448x128 .bf16) (harg7 : arg7.IsWhole) (arg8 : Memref sig .tc .vmem S8448x256 .bf16) (harg8 : arg8.IsWhole) (arg9 : Memref sig .tc .vmem S8x128 .f32) (harg9 : arg9.IsWhole) (arg10 : Memref sig .tc .vmem S5x512x128 .bf16) (harg10 : arg10.IsWhole) (arg11 : Memref sig .tc .vmem S5x512x128 .f32) (harg11 : arg11.IsWhole) (arg12 : Memref sig .tc .vmem S5x512x256 .f32) (harg12 : arg12.IsWhole) (h : k0_cond1 i = 1#1) :
    cc0_gqa_attention_skel (F := F) i arg3 harg3 arg4 harg4 arg5 harg5 arg6 harg6 arg7 harg7 arg8 harg8 arg9 harg9 arg10 harg10 arg11 harg11 arg12 harg12 = fillS i arg3 harg3 arg4 harg4 arg5 harg5 arg6 harg6 arg7 harg7 arg8 harg8 arg9 harg9 arg10 harg10 arg11 harg11 arg12 harg12 h (mainS i arg3 harg3 arg4 harg4 arg5 harg5 arg6 harg6 arg7 harg7 arg8 harg8 arg9 harg9 arg10 harg10 arg11 harg11 arg12 harg12) := by
  unfold cc0_gqa_attention_skel
  simp only [k0_part40_eq_skeleton]; unfold k0_part40_skel
  simp only [k0_part2_eq_skeleton,k0_part3_eq_skeleton,k0_part4_eq_skeleton,k0_part5_eq_skeleton,k0_part6_eq_skeleton,k0_part7_eq_skeleton,k0_part8_eq_skeleton,k0_part9_eq_skeleton,k0_part10_eq_skeleton,k0_part11_eq_skeleton,k0_part12_eq_skeleton,k0_part13_eq_skeleton,k0_part14_eq_skeleton,k0_part15_eq_skeleton,k0_part16_eq_skeleton,k0_part17_eq_skeleton,k0_part18_eq_skeleton,k0_part19_eq_skeleton,k0_part20_eq_skeleton,k0_part21_eq_skeleton,k0_part22_eq_skeleton,k0_part23_eq_skeleton,k0_part24_eq_skeleton,k0_part25_eq_skeleton,k0_part26_eq_skeleton,k0_part27_eq_skeleton,k0_part28_eq_skeleton,k0_part29_eq_skeleton,k0_part30_eq_skeleton,k0_part31_eq_skeleton,k0_part32_eq_skeleton,k0_part33_eq_skeleton,k0_part34_eq_skeleton,k0_part35_eq_skeleton,k0_part36_eq_skeleton,k0_part37_eq_skeleton,k0_part38_eq_skeleton,k0_part39_eq_skeleton]
  unfold k0_part2_skel
  rw [dif_pos h]
  unfold fillS
  simp only [Prog.bind_assoc]
  refine congrArg (bind _) (funext fun _ => ?_)
  iterate 6 refine congrArg (Prog.op _) (funext fun _ => ?_)
  unfold mainS
  repeat (first | refine congrArg (Prog.op _) (funext fun _ => ?_) | unfold initS | unfold boundS | unfold chunkS | unfold accS | unfold writeS | unfold putS)
  unfold redoS redoCond lmin
  sl_kernel_rfl

set_option maxRecDepth 65536 in
set_option maxHeartbeats 4000000 in
/-- At any other point it is the main line. -/
theorem skel_main (i : grid0.Coords) (arg3 : Memref sig .tc .vmem S1x640x512 .bf16) (harg3 : arg3.IsWhole) (arg4 : Memref sig .tc .vmem S1x8320x128 .bf16) (harg4 : arg4.IsWhole) (arg5 : Memref sig .tc .vmem S1x8320x128 .bf16) (harg5 : arg5.IsWhole) (arg6 : Memref sig .tc .vmem S1x640x512 .bf16) (harg6 : arg6.IsWhole) (arg7 : Memref sig .tc .vmem S8448x128 .bf16) (harg7 : arg7.IsWhole) (arg8 : Memref sig .tc .vmem S8448x256 .bf16) (harg8 : arg8.IsWhole) (arg9 : Memref sig .tc .vmem S8x128 .f32) (harg9 : arg9.IsWhole) (arg10 : Memref sig .tc .vmem S5x512x128 .bf16) (harg10 : arg10.IsWhole) (arg11 : Memref sig .tc .vmem S5x512x128 .f32) (harg11 : arg11.IsWhole) (arg12 : Memref sig .tc .vmem S5x512x256 .f32) (harg12 : arg12.IsWhole) (h : ¬ k0_cond1 i = 1#1) :
    cc0_gqa_attention_skel (F := F) i arg3 harg3 arg4 harg4 arg5 harg5 arg6 harg6 arg7 harg7 arg8 harg8 arg9 harg9 arg10 harg10 arg11 harg11 arg12 harg12 = mainS i arg3 harg3 arg4 harg4 arg5 harg5 arg6 harg6 arg7 harg7 arg8 harg8 arg9 harg9 arg10 harg10 arg11 harg11 arg12 harg12 := by
  unfold cc0_gqa_attention_skel
  simp only [k0_part40_eq_skeleton]; unfold k0_part40_skel
  simp only [k0_part2_eq_skeleton,k0_part3_eq_skeleton,k0_part4_eq_skeleton,k0_part5_eq_skeleton,k0_part6_eq_skeleton,k0_part7_eq_skeleton,k0_part8_eq_skeleton,k0_part9_eq_skeleton,k0_part10_eq_skeleton,k0_part11_eq_skeleton,k0_part12_eq_skeleton,k0_part13_eq_skeleton,k0_part14_eq_skeleton,k0_part15_eq_skeleton,k0_part16_eq_skeleton,k0_part17_eq_skeleton,k0_part18_eq_skeleton,k0_part19_eq_skeleton,k0_part20_eq_skeleton,k0_part21_eq_skeleton,k0_part22_eq_skeleton,k0_part23_eq_skeleton,k0_part24_eq_skeleton,k0_part25_eq_skeleton,k0_part26_eq_skeleton,k0_part27_eq_skeleton,k0_part28_eq_skeleton,k0_part29_eq_skeleton,k0_part30_eq_skeleton,k0_part31_eq_skeleton,k0_part32_eq_skeleton,k0_part33_eq_skeleton,k0_part34_eq_skeleton,k0_part35_eq_skeleton,k0_part36_eq_skeleton,k0_part37_eq_skeleton,k0_part38_eq_skeleton,k0_part39_eq_skeleton]
  unfold k0_part2_skel
  rw [dif_neg h]
  unfold mainS
  repeat (first | refine congrArg (Prog.op _) (funext fun _ => ?_) | unfold initS | unfold boundS | unfold chunkS | unfold accS | unfold writeS | unfold putS)
  unfold redoS redoCond lmin
  sl_kernel_rfl

end Cert.Proof.PI

end
-- ==== Proof.PI.Fun.lean ====
module

public import proofs.«01_k».proof.Proof.PI.Prog
public import proofs.«01_k».proof.Proof.Buf

@[expose] public section

/-!
# What the body computes

The contents of every buffer of the body as functions of the three input blocks.
-/

noncomputable section

namespace Cert.Proof.PI

open Cert.KernelIdeal Cert.KernelIdeal.Gen
open Idealize.ShloMosaic Idealize.ShloMosaic.TcCoe

variable {F : FTy → Type} [FloatOps F]

theorem trips1 : k0_t1_loop.trips = 13 := by decide
theorem trips2 : k0_t2_loop.trips = 5 := by decide
theorem trips3 : k0_t3_loop.trips = 11 := by decide

/-- A trip of the filling loop, of any number. -/
def tr1 (n : ℕ) : Fin k0_t1_loop.trips := ⟨n % 13, by rw [trips1]; omega⟩
/-- A trip of the loop over key chunks, of any number. -/
def tr3 (n : ℕ) : Fin k0_t3_loop.trips := ⟨n % 11, by rw [trips3]; omega⟩

/-- The `n`-th band of 640 rows of a key or value block. -/
def band (K : Vec F S1x8320x128 .bf16) (n : ℕ) : Vec F S1x640x128 .bf16 :=
  fun z => K (ix3 (a := 1) (b := 8320) (c := 128) 0 ⟨(640 * n + (z 1).val) % 8320, Nat.mod_lt _ (by decide)⟩ (z 2))

/-- The `n`-th chunk of 768 rows of a table. -/
def chunk {e : EltTy} {w : ℕ} (X : Vec F (⟨2, ![8448, w]⟩ : Shape) e) (n : ℕ) : Vec F (⟨2, ![768, w]⟩ : Shape) e :=
  fun z => X (ix2 (a := 8448) (b := w) ⟨(768 * n + (z 0).val) % 8448, Nat.mod_lt _ (by decide)⟩ (z 1))

/-- A row of the key table: a key, or zero after the keys. -/
def kpG (K : Vec F S1x8320x128 .bf16) (r : ℕ) (hr : r < 8448) (q : Fin 128) : Elt F .bf16 :=
  if h : r < 8320 then k0_pay18 (band K (r / 640)) (ix2 (a := 640) (b := 128) ⟨r % 640, Nat.mod_lt _ (by decide)⟩ q)
  else k0_pay24 (F := F) (ix2 (a := 128) (b := 128) ⟨r - 8320, by omega⟩ q)

/-- The key table: the keys, and zero rows after them. -/
def kpF (K : Vec F S1x8320x128 .bf16) : Vec F S8448x128 .bf16 := fun y => kpG K (y 0).val (y 0).isLt (y 1)

/-- A row of the value table: the value beside a row of ones, zero where the row is no key. -/
def vaugG (V : Vec F S1x8320x128 .bf16) (r : ℕ) (hr : r < 8448) (q : ℕ) (hq : q < 256) : Elt F .bf16 :=
  if h : r < 8320 then
    if h' : q < 128 then
      k0_pay15 0#32 1#32 (tr1 (r / 640)) (band V (r / 640)) (ix2 (a := 640) (b := 128) ⟨r % 640, Nat.mod_lt _ (by decide)⟩ ⟨q, h'⟩)
    else
      k0_pay16 (F := F) 0#32 1#32 (tr1 (r / 640)) (ix2 (a := 640) (b := 128) ⟨r % 640, Nat.mod_lt _ (by decide)⟩ ⟨q - 128, by omega⟩)
  else k0_pay25 (F := F) (ix2 (a := 128) (b := 256) ⟨r - 8320, by omega⟩ ⟨q, hq⟩)

/-- The value table: the values beside a column block of ones, zero at the rows that are no key, and zero rows after them. -/
def vaugF (V : Vec F S1x8320x128 .bf16) : Vec F S8448x256 .bf16 := fun y => vaugG V (y 0).val (y 0).isLt (y 1).val (y 1).isLt

/-- The largest squared norm of a key among the first `n` bands. -/
def kmaxF (K : Vec F S1x8320x128 .bf16) : ℕ → FVec F S1x128 .f32
  | 0 => k0_pay21 (F := F)
  | n + 1 => k0_pay22 (kmaxF K n) (k0_pay14 0#32 1#32 (tr1 n)) (k0_pay19 (k0_pay20 (F := F)) (band K n))

/-- The table of the largest squared norm. -/
def k9F (K : Vec F S1x8320x128 .bf16) : Vec F S8x128 .f32 := k0_pay23 (kmaxF K 13)

theorem inbQ (s : Fin 5) : ∀ a, (![0, 128 * s.val, 0] : Fin 3 → ℕ) a + S1x128x512.size a ≤ S1x640x512.size a := by
  intro a
  have := s.isLt
  fin_cases a <;> simp <;> omega

/-- The `s`-th block of 128 query rows. -/
def qrow (X3 : Vec F S1x640x512 .bf16) (s : Fin 5) : Vec F S1x128x512 .bf16 :=
  VecWindow.window (s := S1x640x512) X3 ![0, 128 * s.val, 0] S1x128x512.size (inbQ s)

/-- The row of the bound table that is read. -/
def nrm (X9 : Vec F S8x128 .f32) : Vec F S1x128 .f32 :=
  VecWindow.window (s := S8x128) X9 ![0, 0] S1x128.size inb_S8x128_S1x128_0_0

/-- The query rows of block `s`, gathered head by head. -/
def qF (X3 : Vec F S1x640x512 .bf16) (s : Fin 5) : Vec F S1x512x128 .bf16 := k0_pay27 (qrow X3 s)

/-- The bound of the exponents of block `s`. -/
def bF (X3 : Vec F S1x640x512 .bf16) (X9 : Vec F S8x128 .f32) (s : Fin 5) : Vec F S1x512x128 .f32 :=
  k0_pay47 (nrm X9) (k0_pay42 (k0_pay20 (F := F)) (k0_pay26 (qrow X3 s)))

/-- The accumulator of block `s` after `n` key chunks. -/
def accF (X3 : Vec F S1x640x512 .bf16) (X7 : Vec F S8448x128 .bf16) (X8 : Vec F S8448x256 .bf16) (X9 : Vec F S8x128 .f32) :
    ℕ → Fin 5 → Vec F S1x512x256 .f32
  | 0, _ => k0_pay28 (F := F)
  | n + 1, s => k0_pay130 (chunk X7 n) (chunk X8 n) (qF X3 s) (bF X3 X9 s) (accF X3 X7 X8 X9 n s)

/-- The four tiles written from an accumulator. -/
def outT (a : Vec F S1x512x256 .f32) (g : Fin 4) : FVec F S1x128x128 .bf16 :=
  ![k0_pay162 a, k0_pay163 a, k0_pay1 (k0_pay164 a), k0_pay2 (k0_pay161 a)] g

/-- The running maximum and accumulator of the second pass after `n` key chunks. -/
def redF (q : Vec F S1x512x128 .bf16) (X7 : Vec F S8448x128 .bf16) (X8 : Vec F S8448x256 .bf16) :
    ℕ → FVec F S512x1 .f32 × FVec F S512x256 .f32
  | 0 => (k0_pay4 (F := F), k0_pay5 (F := F))
  | n + 1 => (k0_pay7 q (tr3 n) (redF q X7 X8 n).1 (chunk X7 n),
      k0_pay8 q (tr3 n) (redF q X7 X8 n).1 (redF q X7 X8 n).2 (chunk X7 n) (chunk X8 n))

/-- The four tiles the second pass writes from its accumulator. -/
def redT (a : FVec F S512x256 .f32) (g : Fin 4) : FVec F S1x128x128 .bf16 :=
  ![k0_pay10 a, k0_pay11 a, k0_pay12 a, k0_pay13 a] g

/-- The least row sum of the five accumulators. -/
def minF (X3 : Vec F S1x640x512 .bf16) (X7 : Vec F S8448x128 .bf16) (X8 : Vec F S8448x256 .bf16) (X9 : Vec F S8x128 .f32) : F .f32 :=
  lmin (accF X3 X7 X8 X9 11 0) (accF X3 X7 X8 X9 11 1) (accF X3 X7 X8 X9 11 2) (accF X3 X7 X8 X9 11 3) (accF X3 X7 X8 X9 11 4)

/-- The result of the first pass. -/
def fastF (X3 : Vec F S1x640x512 .bf16) (X7 : Vec F S8448x128 .bf16) (X8 : Vec F S8448x256 .bf16) (X9 : Vec F S8x128 .f32) :
    Vec F S1x640x512 .bf16 := tiles fun s => outT (accF X3 X7 X8 X9 11 s)

/-- The result of the second pass. -/
def slowF (X3 : Vec F S1x640x512 .bf16) (X7 : Vec F S8448x128 .bf16) (X8 : Vec F S8448x256 .bf16) :
    Vec F S1x640x512 .bf16 := tiles fun s => redT (redF (qF X3 s) X7 X8 11).2

/-- The block of the result, from the queries and the filled tables. -/
def tabF (X3 : Vec F S1x640x512 .bf16) (X7 : Vec F S8448x128 .bf16) (X8 : Vec F S8448x256 .bf16) (X9 : Vec F S8x128 .f32) :
    Vec F S1x640x512 .bf16 :=
  if redoCond (minF X3 X7 X8 X9) = 1#1 then slowF X3 X7 X8 else fastF X3 X7 X8 X9

/-- The block of the result, from the three input blocks. -/
def outF (X3 : Vec F S1x640x512 .bf16) (K V : Vec F S1x8320x128 .bf16) : Vec F S1x640x512 .bf16 :=
  tabF X3 (kpF K) (vaugF V) (k9F K)

end Cert.Proof.PI

end
-- ==== Proof.PI.Step.lean ====
module

public import proofs.«01_k».proof.Proof.PI.Fun
public import Idealize.ShloMosaic.Lib.Tactic
public import Idealize.ShloMosaic.Lib.Pipeline.Kit
public import Idealize.ShloMosaic.Lib.Pipeline.TableIdle

@[expose] public section

/-!
# The steps of the body

What each small step of the structured program does to the buffers, with the rest of the program as a
parameter.
-/

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable {α : Type} (𝒱 : Variants) (c : Dev nD) (bd : Option 𝒱.V) (E : Set ℕ)

/-- A buffer of the core held whole, reading as `x`. -/
abbrev own {s : Shape} {e : EltTy} (m : Memref sig .tc .vmem s e) (x : Vec F s e) : sProp 𝕄G :=
  m.view.loc (c : Thread nD τ) ↦[m.view.set]{fullShare} m.view.rep x

/-- A buffer held at raw contents is held at what they read as. -/
theorem own_read {s : Shape} {e : EltTy} (m : Memref sig .tc .vmem s e) (f : BufTy.Contents (Elt F) m.view.ty) :
    (m.view.loc (c : Thread nD τ) ↦[m.view.set]{fullShare} f : sProp 𝕄G) ⊢ own c m (m.view.read (Elt F) f) := by
  have h : (m.view.loc (c : Thread nD τ) ↦[m.view.set]{fullShare} f : sProp 𝕄G) ⊢ Idealize.ShloMosaic.owns (c : Thread nD τ) m fullShare (m.view.read (Elt F) f) := by
    unfold Idealize.ShloMosaic.owns
    iintro H
    iexists f
    isplitr [H]
    · ipureintro; rfl
    · iexact H
  exact h.trans (Idealize.ShloMosaic.rep_of_owns (c : Thread nD τ) m fullShare _)

/-- One key chunk is folded into the accumulator of slice `s`. -/
theorem wp_accS (arg10 : Memref sig .tc .vmem S5x512x128 .bf16) (harg10 : arg10.IsWhole) (arg11 : Memref sig .tc .vmem S5x512x128 .f32) (harg11 : arg11.IsWhole) (arg12 : Memref sig .tc .vmem S5x512x256 .f32) (harg12 : arg12.IsWhole) (s : ℕ) (hs : s < 5)
    (o : Fin 3 → ℕ) (ho : o = ![s, 0, 0]) (h10 : ∀ a, o a + S1x512x128.size a ≤ S5x512x128.size a)
    (h12 : ∀ a, o a + S1x512x256.size a ≤ S5x512x256.size a)
    (kc : Vec F S768x128 .bf16) (va : Vec F S768x256 .bf16) (κ : PP F α) (Q : α → sProp 𝕄G)
    (q : Fin 5 → Vec F S1x512x128 .bf16) (b : Fin 5 → Vec F S1x512x128 .f32) (a a' : Fin 5 → Vec F S1x512x256 .f32)
    (ha : ∀ t, a' t = k0_pay130 kc va (q t) (b t) (a t))
    :
    iprop(own c arg10 (stack q) ∗ own c arg11 (stack b) ∗ own c arg12 (spart s a' (stack a)) ∗ (own c arg10 (stack q) ∗ own c arg11 (stack b) ∗ own c arg12 (spart (s + 1) a' (stack a)) -∗ wp frame (wpE (defs₀ (F := F)) 𝒱 (c : Thread nD τ) bd) E κ Q))
      ⊢ wp frame (wpE (defs₀ (F := F)) 𝒱 (c : Thread nD τ) bd) E (accS arg10 harg10 arg11 harg11 arg12 harg12 o h10 h12 kc va κ) Q := by
  subst ho
  iintro ⟨H10, H11, H12, Hκ⟩
  unfold accS
  sl_exec
  ihave H12' := (own_read c arg12 _) $$ H12
  rw [View.read_writes_rep_unit arg12.view _ _ _ rfl, View.readAt_rep_unit arg10.view _ _ rfl h10, View.readAt_rep_unit arg11.view _ _ rfl h10,
    View.readAt_rep_unit arg12.view _ _ rfl h12, window_stack s hs q, window_stack s hs b, window_spart s hs a' a, ← ha ⟨s, hs⟩, put_spart s hs a' (stack a)]
  iapply Hκ
  isplitl [H10]; · iexact H10
  isplitl [H11]; · iexact H11
  iexact H12'

/-- One block of query rows is gathered and its accumulator cleared. -/
theorem wp_initS (arg3 : Memref sig .tc .vmem S1x640x512 .bf16) (harg3 : arg3.IsWhole) (arg10 : Memref sig .tc .vmem S5x512x128 .bf16) (harg10 : arg10.IsWhole) (arg12 : Memref sig .tc .vmem S5x512x256 .f32) (harg12 : arg12.IsWhole) (s : ℕ) (hs : s < 5)
    (oq o : Fin 3 → ℕ) (hoq : oq = ![0, 128 * s, 0]) (ho : o = ![s, 0, 0]) (hq : ∀ a, oq a + S1x128x512.size a ≤ S1x640x512.size a)
    (h10 : ∀ a, o a + S1x512x128.size a ≤ S5x512x128.size a)
    (p10 : (Rect.unit (s := S5x512x128) o S1x512x128.size h10).PackedRows (EltTy.packing .bf16))
    (h12 : ∀ a, o a + S1x512x256.size a ≤ S5x512x256.size a)
    (κ : FVec F S512x128 .bf16 → PP F α) (Q : α → sProp 𝕄G) (X3 : Vec F S1x640x512 .bf16)
    (X10 : Vec F S5x512x128 .bf16) (X12 : Vec F S5x512x256 .f32)
    :
    iprop(own c arg3 X3 ∗ own c arg10 (spart s (qF X3) X10) ∗ own c arg12 (spart s (fun _ => k0_pay28 (F := F)) X12) ∗ (own c arg3 X3 ∗ own c arg10 (spart (s + 1) (qF X3) X10) ∗ own c arg12 (spart (s + 1) (fun _ => k0_pay28 (F := F)) X12) -∗ wp frame (wpE (defs₀ (F := F)) 𝒱 (c : Thread nD τ) bd) E (κ (k0_pay26 (qrow X3 ⟨s, hs⟩))) Q))
      ⊢ wp frame (wpE (defs₀ (F := F)) 𝒱 (c : Thread nD τ) bd) E (initS arg3 harg3 arg10 harg10 arg12 harg12 oq o hq h10 p10 h12 κ) Q := by
  subst ho hoq
  iintro ⟨H3, H10, H12, Hκ⟩
  unfold initS
  sl_exec
  ihave H10' := (own_read c arg10 _) $$ H10
  ihave H12' := (own_read c arg12 _) $$ H12
  rw [View.read_writes_rep_unit arg12.view _ _ _ rfl, View.read_writes_rep_unit arg10.view _ _ _ rfl, View.readAt_rep_unit arg3.view _ _ rfl hq]
  rw [show k0_pay27 (VecWindow.window X3 ![0, 128 * s, 0] S1x128x512.size hq) = qF X3 ⟨s, hs⟩ from rfl,
    put_spart s hs (qF X3) X10, put_spart s hs (fun _ => k0_pay28 (F := F)) X12]
  iapply Hκ
  isplitl [H3]; · iexact H3
  isplitl [H10']; · iexact H10'
  iexact H12'

/-- The bound of slice `s` is stored. -/
theorem wp_boundS (arg11 : Memref sig .tc .vmem S5x512x128 .f32) (harg11 : arg11.IsWhole) (s : ℕ) (hs : s < 5) (o : Fin 3 → ℕ) (ho : o = ![s, 0, 0]) (h11 : ∀ a, o a + S1x512x128.size a ≤ S5x512x128.size a)
    (v0 : FVec F S128x128 .bf16) (v4 : Vec F S1x128 .f32) (qs : FVec F S512x128 .bf16) (κ : PP F α) (Q : α → sProp 𝕄G)
    (b : Fin 5 → Vec F S1x512x128 .f32) (hb : b ⟨s, hs⟩ = k0_pay47 v4 (k0_pay42 v0 qs)) (X11 : Vec F S5x512x128 .f32)
    :
    iprop(own c arg11 (spart s b X11) ∗ (own c arg11 (spart (s + 1) b X11) -∗ wp frame (wpE (defs₀ (F := F)) 𝒱 (c : Thread nD τ) bd) E κ Q))
      ⊢ wp frame (wpE (defs₀ (F := F)) 𝒱 (c : Thread nD τ) bd) E (boundS arg11 harg11 o h11 v0 v4 qs κ) Q := by
  subst ho
  iintro ⟨H11, Hκ⟩
  unfold boundS
  sl_exec
  ihave H11' := (own_read c arg11 _) $$ H11
  rw [View.read_writes_rep_unit arg11.view _ _ _ rfl, ← hb, put_spart s hs b X11]
  iapply Hκ
  iexact H11'

/-- One tile of the result is stored. -/
theorem wp_putS (arg6 : Memref sig .tc .vmem S1x640x512 .bf16) (harg6 : arg6.IsWhole) (s g : ℕ) (hs : s < 5) (hg : g < 4) (o : Fin 3 → ℕ) (ho : o = ![0, 128 * s, 128 * g]) (h6 : ∀ a, o a + S1x128x128.size a ≤ S1x640x512.size a)
    (p6 : (Rect.unit (s := S1x640x512) o S1x128x128.size h6).PackedRows (EltTy.packing .bf16))
    (x : FVec F S1x128x128 .bf16) (κ : PP F α) (Q : α → sProp 𝕄G)
    (T : Fin 5 → Fin 4 → Vec F S1x128x128 .bf16) (hT : T ⟨s, hs⟩ ⟨g, hg⟩ = x) (X6 : Vec F S1x640x512 .bf16)
    :
    iprop(own c arg6 (gpart (4 * s + g) T X6) ∗ (own c arg6 (gpart (4 * s + g + 1) T X6) -∗ wp frame (wpE (defs₀ (F := F)) 𝒱 (c : Thread nD τ) bd) E κ Q))
      ⊢ wp frame (wpE (defs₀ (F := F)) 𝒱 (c : Thread nD τ) bd) E (putS arg6 harg6 o h6 p6 x κ) Q := by
  subst ho
  iintro ⟨H6, Hκ⟩
  unfold putS
  sl_exec
  ihave H6' := (own_read c arg6 _) $$ H6
  rw [View.read_writes_rep_unit arg6.view _ _ _ rfl, ← hT, put_gpart s g hs hg T X6]
  iapply Hκ
  iexact H6'

/-- The key chunk and the value chunk are read. -/
theorem wp_load78 (arg7 : Memref sig .tc .vmem S8448x128 .bf16) (harg7 : arg7.IsWhole) (arg8 : Memref sig .tc .vmem S8448x256 .bf16) (harg8 : arg8.IsWhole) (o5 : Fin 2 → ℕ) (h7 : ∀ a, o5 a + S768x128.size a ≤ S8448x128.size a)
    (o6 : Fin 2 → ℕ) (h8 : ∀ a, o6 a + S768x256.size a ≤ S8448x256.size a)
    (κ : Vec F S768x128 .bf16 → Vec F S768x256 .bf16 → PP F α) (Q : α → sProp 𝕄G) (X7 : Vec F S8448x128 .bf16) (X8 : Vec F S8448x256 .bf16)
    :
    iprop(own c arg7 X7 ∗ own c arg8 X8 ∗ (own c arg7 X7 ∗ own c arg8 X8 -∗ wp frame (wpE (defs₀ (F := F)) 𝒱 (c : Thread nD τ) bd) E (κ (VecWindow.window (s := S8448x128) X7 o5 S768x128.size h7) (VecWindow.window (s := S8448x256) X8 o6 S768x256.size h8)) Q))
      ⊢ wp frame (wpE (defs₀ (F := F)) 𝒱 (c : Thread nD τ) bd) E (do
      let kc : Vec F S768x128 .bf16 ← Prog.lift (.load arg7 (Rect.unit (s := S8448x128) o5 S768x128.size h7).toLoadRect (View.loadsAt_vmem h_S768x128))
      let va : Vec F S768x256 .bf16 ← Prog.lift (.load arg8 (Rect.unit (s := S8448x256) o6 S768x256.size h8).toLoadRect (View.loadsAt_vmem h_S768x256))
      κ kc va) Q := by
  iintro ⟨H7, H8, Hκ⟩
  sl_exec
  rw [View.readAt_rep_unit arg7.view _ _ rfl h7, View.readAt_rep_unit arg8.view _ _ rfl h8]
  iapply Hκ
  isplitl [H7]; · iexact H7
  iexact H8

/-- One accumulator is read. -/
theorem wp_load12 (arg12 : Memref sig .tc .vmem S5x512x256 .f32) (harg12 : arg12.IsWhole) (o : Fin 3 → ℕ) (h12 : ∀ a, o a + S1x512x256.size a ≤ S5x512x256.size a)
    (κ : Vec F S1x512x256 .f32 → PP F α) (Q : α → sProp 𝕄G) (X12 : Vec F S5x512x256 .f32)
    :
    iprop(own c arg12 X12 ∗ (own c arg12 X12 -∗ wp frame (wpE (defs₀ (F := F)) 𝒱 (c : Thread nD τ) bd) E (κ (VecWindow.window (s := S5x512x256) X12 o S1x512x256.size h12)) Q))
      ⊢ wp frame (wpE (defs₀ (F := F)) 𝒱 (c : Thread nD τ) bd) E (do
      let v : Vec F S1x512x256 .f32 ← Prog.lift (.load arg12 (Rect.unit (s := S5x512x256) o S1x512x256.size h12).toLoadRect (View.loadsAt_vmem h_S1x512x256))
      κ v) Q := by
  iintro ⟨H12, Hκ⟩
  sl_exec
  rw [View.readAt_rep_unit arg12.view _ _ rfl h12]
  iapply Hκ
  iexact H12

attribute [local irreducible] accS putS

/-- A window of 768 rows of a table is its chunk. -/
theorem window_chunk {e : EltTy} {w : ℕ} (n : ℕ) (hn : n < 11) (X : Vec F (⟨2, ![8448, w]⟩ : Shape) e)
    (inb : ∀ a, (![768 * n, 0] : Fin 2 → ℕ) a + (![768, w] : Fin 2 → ℕ) a ≤ (⟨2, ![8448, w]⟩ : Shape).size a) :
    VecWindow.window (s := ⟨2, ![8448, w]⟩) X ![768 * n, 0] ![768, w] inb = chunk X n := by
  funext z
  have h0 : (z 0).val < 768 := (z 0).isLt
  refine congrArg X (funext fun i => Fin.ext ?_)
  fin_cases i
  · show 768 * n + 1 * (z 0).val = (768 * n + (z 0).val) % 8448
    omega
  · show 0 + 1 * (z 1).val = (z 1).val
    omega

/-- One key chunk is folded into the five accumulators. -/
theorem wp_chunkS (arg7 : Memref sig .tc .vmem S8448x128 .bf16) (harg7 : arg7.IsWhole) (arg8 : Memref sig .tc .vmem S8448x256 .bf16) (harg8 : arg8.IsWhole) (arg10 : Memref sig .tc .vmem S5x512x128 .bf16) (harg10 : arg10.IsWhole) (arg11 : Memref sig .tc .vmem S5x512x128 .f32) (harg11 : arg11.IsWhole) (arg12 : Memref sig .tc .vmem S5x512x256 .f32) (harg12 : arg12.IsWhole) (n : ℕ) (hn : n < 11)
    (o5 : Fin 2 → ℕ) (ho5 : o5 = ![768 * n, 0]) (h7 : ∀ a, o5 a + S768x128.size a ≤ S8448x128.size a)
    (o6 : Fin 2 → ℕ) (ho6 : o6 = ![768 * n, 0]) (h8 : ∀ a, o6 a + S768x256.size a ≤ S8448x256.size a)
    (κ : PP F α) (Q : α → sProp 𝕄G) (X7 : Vec F S8448x128 .bf16) (X8 : Vec F S8448x256 .bf16)
    (q : Fin 5 → Vec F S1x512x128 .bf16) (b : Fin 5 → Vec F S1x512x128 .f32) (a a' : Fin 5 → Vec F S1x512x256 .f32)
    (ha : ∀ t, a' t = k0_pay130 (chunk X7 n) (chunk X8 n) (q t) (b t) (a t))
    :
    iprop(own c arg7 X7 ∗ own c arg8 X8 ∗ own c arg10 (stack q) ∗ own c arg11 (stack b) ∗ own c arg12 (stack a) ∗ (own c arg7 X7 ∗ own c arg8 X8 ∗ own c arg10 (stack q) ∗ own c arg11 (stack b) ∗ own c arg12 (stack a') -∗ wp frame (wpE (defs₀ (F := F)) 𝒱 (c : Thread nD τ) bd) E κ Q))
      ⊢ wp frame (wpE (defs₀ (F := F)) 𝒱 (c : Thread nD τ) bd) E (chunkS arg7 harg7 arg8 harg8 arg10 harg10 arg11 harg11 arg12 harg12 o5 h7 o6 h8 κ) Q := by
  subst ho5 ho6
  iintro ⟨H7, H8, H10, H11, H12, Hκ⟩
  unfold chunkS
  iapply (wp_load78 𝒱 c bd E arg7 harg7 arg8 harg8 _ h7 _ h8 _ Q X7 X8)
  isplitl [H7]; · iexact H7
  isplitl [H8]; · iexact H8
  iintro ⟨H7, H8⟩
  rw [window_chunk n hn X7 h7, window_chunk n hn X8 h8,
    ← spart_zero a' (stack a)]
  iapply (wp_accS 𝒱 c bd E arg10 harg10 arg11 harg11 arg12 harg12 0 (by decide) _ rfl _ _ (chunk X7 n) (chunk X8 n) _ Q q b a a' ha)
  isplitl [H10]; · iexact H10
  isplitl [H11]; · iexact H11
  isplitl [H12]; · iexact H12
  iintro ⟨H10, H11, H12⟩
  iapply (wp_accS 𝒱 c bd E arg10 harg10 arg11 harg11 arg12 harg12 1 (by decide) _ rfl _ _ (chunk X7 n) (chunk X8 n) _ Q q b a a' ha)
  isplitl [H10]; · iexact H10
  isplitl [H11]; · iexact H11
  isplitl [H12]; · iexact H12
  iintro ⟨H10, H11, H12⟩
  iapply (wp_accS 𝒱 c bd E arg10 harg10 arg11 harg11 arg12 harg12 2 (by decide) _ rfl _ _ (chunk X7 n) (chunk X8 n) _ Q q b a a' ha)
  isplitl [H10]; · iexact H10
  isplitl [H11]; · iexact H11
  isplitl [H12]; · iexact H12
  iintro ⟨H10, H11, H12⟩
  iapply (wp_accS 𝒱 c bd E arg10 harg10 arg11 harg11 arg12 harg12 3 (by decide) _ rfl _ _ (chunk X7 n) (chunk X8 n) _ Q q b a a' ha)
  isplitl [H10]; · iexact H10
  isplitl [H11]; · iexact H11
  isplitl [H12]; · iexact H12
  iintro ⟨H10, H11, H12⟩
  iapply (wp_accS 𝒱 c bd E arg10 harg10 arg11 harg11 arg12 harg12 4 (by decide) _ rfl _ _ (chunk X7 n) (chunk X8 n) _ Q q b a a' ha)
  isplitl [H10]; · iexact H10
  isplitl [H11]; · iexact H11
  isplitl [H12]; · iexact H12
  iintro ⟨H10, H11, H12⟩
  rw [show spart (4 + 1) a' (stack a) = stack a' from spart_five a' (stack a)]
  iapply Hκ
  isplitl [H7]; · iexact H7
  isplitl [H8]; · iexact H8
  isplitl [H10]; · iexact H10
  isplitl [H11]; · iexact H11
  iexact H12

/-- One accumulator is divided by its row sums and written, head by head. -/
theorem wp_writeS (arg6 : Memref sig .tc .vmem S1x640x512 .bf16) (harg6 : arg6.IsWhole) (arg12 : Memref sig .tc .vmem S5x512x256 .f32) (harg12 : arg12.IsWhole) (s : ℕ) (hs : s < 5) (o : Fin 3 → ℕ) (ho : o = ![s, 0, 0]) (h12 : ∀ a, o a + S1x512x256.size a ≤ S5x512x256.size a)
    (o0 o1 o2 o3 : Fin 3 → ℕ) (e0 : o0 = ![0, 128 * s, 128 * 0]) (e1 : o1 = ![0, 128 * s, 128 * 1]) (e2 : o2 = ![0, 128 * s, 128 * 2]) (e3 : o3 = ![0, 128 * s, 128 * 3])
    (h0 : ∀ a, o0 a + S1x128x128.size a ≤ S1x640x512.size a) (p0 : (Rect.unit (s := S1x640x512) o0 S1x128x128.size h0).PackedRows (EltTy.packing .bf16))
    (h1 : ∀ a, o1 a + S1x128x128.size a ≤ S1x640x512.size a) (p1 : (Rect.unit (s := S1x640x512) o1 S1x128x128.size h1).PackedRows (EltTy.packing .bf16))
    (h2 : ∀ a, o2 a + S1x128x128.size a ≤ S1x640x512.size a) (p2 : (Rect.unit (s := S1x640x512) o2 S1x128x128.size h2).PackedRows (EltTy.packing .bf16))
    (h3 : ∀ a, o3 a + S1x128x128.size a ≤ S1x640x512.size a) (p3 : (Rect.unit (s := S1x640x512) o3 S1x128x128.size h3).PackedRows (EltTy.packing .bf16))
    (κ : Vec F S1x512x256 .f32 → PP F α) (Q : α → sProp 𝕄G) (a : Fin 5 → Vec F S1x512x256 .f32) (X6 : Vec F S1x640x512 .bf16)
    :
    iprop(own c arg6 (gpart (4 * s) (fun t => outT (a t)) X6) ∗ own c arg12 (stack a) ∗ (own c arg6 (gpart (4 * (s + 1)) (fun t => outT (a t)) X6) ∗ own c arg12 (stack a) -∗ wp frame (wpE (defs₀ (F := F)) 𝒱 (c : Thread nD τ) bd) E (κ (a ⟨s, hs⟩)) Q))
      ⊢ wp frame (wpE (defs₀ (F := F)) 𝒱 (c : Thread nD τ) bd) E (writeS arg6 harg6 arg12 harg12 o h12 o0 o1 o2 o3 h0 p0 h1 p1 h2 p2 h3 p3 κ) Q := by
  subst ho
  iintro ⟨H6, H12, Hκ⟩
  unfold writeS
  iapply (wp_load12 𝒱 c bd E arg12 harg12 _ h12 _ Q (stack a))
  isplitl [H12]; · iexact H12
  iintro H12
  rw [window_stack s hs a]
  iapply (wp_putS 𝒱 c bd E arg6 harg6 s 0 hs (by decide) o0 e0 h0 p0 (k0_pay162 (a ⟨s, hs⟩)) _ Q (fun t => outT (a t)) rfl X6)
  isplitl [H6]; · iexact H6
  iintro H6
  iapply (wp_putS 𝒱 c bd E arg6 harg6 s 1 hs (by decide) o1 e1 h1 p1 (k0_pay163 (a ⟨s, hs⟩)) _ Q (fun t => outT (a t)) rfl X6)
  isplitl [H6]; · iexact H6
  iintro H6
  iapply (wp_putS 𝒱 c bd E arg6 harg6 s 2 hs (by decide) o2 e2 h2 p2 (k0_pay1 (k0_pay164 (a ⟨s, hs⟩))) _ Q (fun t => outT (a t)) rfl X6)
  isplitl [H6]; · iexact H6
  iintro H6
  iapply (wp_putS 𝒱 c bd E arg6 harg6 s 3 hs (by decide) o3 e3 h3 p3 (k0_pay2 (k0_pay161 (a ⟨s, hs⟩))) _ Q (fun t => outT (a t)) rfl X6)
  isplitl [H6]; · iexact H6
  iintro H6
  iapply Hκ
  isplitl [H6]; · iexact H6
  iexact H12

end Cert.Proof.PI

end
-- ==== Proof.PI.Fill.lean ====
module

public import proofs.«01_k».proof.Proof.PI.Step
public import Idealize.ShloMosaic.Lib.Scf

@[expose] public section

/-!
# The body

The loop that fills the tables, the main line, and the second pass; together the body's triple at a point
that fills the tables and at a point that finds them filled.
-/

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable {α : Type} (𝒱 : Variants) (c : Dev nD) (bd : Option 𝒱.V) (E : Set ℕ)

theorem off1_eq (k : Fin k0_t1_loop.trips) : k0_off1 k = ![0, 640 * k.val, 0] := by revert k; decide
theorem off2_eq (k : Fin k0_t1_loop.trips) : k0_off2 k = ![640 * k.val, 0] := by revert k; decide
theorem off3_eq (k : Fin k0_t1_loop.trips) : k0_off3 k = ![640 * k.val, 128] := by revert k; decide
theorem off4_eq (k : Fin k0_t1_loop.trips) : k0_off4 k = ![640 * k.val, 0] := by revert k; decide
theorem off7_eq (k : Fin k0_t2_loop.trips) : k0_off7 k = ![k.val, 0, 0] := by revert k; decide
theorem off8_eq (k : Fin k0_t3_loop.trips) : k0_off8 k = ![768 * k.val, 0] := by revert k; decide
theorem off9_eq (k : Fin k0_t3_loop.trips) : k0_off9 k = ![768 * k.val, 0] := by revert k; decide
theorem off10_eq (k : Fin k0_t2_loop.trips) : k0_off10 k = ![0, 128 * k.val, 128 * 0] := by revert k; decide
theorem off11_eq (k : Fin k0_t2_loop.trips) : k0_off11 k = ![0, 128 * k.val, 128 * 1] := by revert k; decide
theorem off12_eq (k : Fin k0_t2_loop.trips) : k0_off12 k = ![0, 128 * k.val, 128 * 2] := by revert k; decide
theorem off13_eq (k : Fin k0_t2_loop.trips) : k0_off13 k = ![0, 128 * k.val, 128 * 3] := by revert k; decide

theorem inbB (k : ℕ) (hk : k < 13) : ∀ a, (![0, 640 * k, 0] : Fin 3 → ℕ) a + S1x640x128.size a ≤ S1x8320x128.size a := by
  intro a
  fin_cases a <;> simp <;> omega

/-- A window of 640 rows of a block is its band. -/
theorem window_band (k : ℕ) (hk : k < 13) (K : Vec F S1x8320x128 .bf16)
    (inb : ∀ a, (![0, 640 * k, 0] : Fin 3 → ℕ) a + S1x640x128.size a ≤ S1x8320x128.size a) :
    VecWindow.window (s := S1x8320x128) K ![0, 640 * k, 0] S1x640x128.size inb = band K k := by
  funext z
  have h0 : (z 0).val < 1 := (z 0).isLt
  have h1 : (z 1).val < 640 := (z 1).isLt
  refine congrArg K (funext fun i => Fin.ext ?_)
  fin_cases i
  · show 0 + 1 * (z 0).val = 0
    omega
  · show 640 * k + 1 * (z 1).val = (640 * k + (z 1).val) % 8320
    omega
  · show 0 + 1 * (z 2).val = (z 2).val
    omega

theorem kpF_band (K : Vec F S1x8320x128 .bf16) (k : ℕ) (hk : k < 13) (p : Fin 640) (q : Fin 128) :
    k0_pay18 (band K k) (ix2 p q) = kpF K (ix2 (a := 8448) (b := 128) ⟨640 * k + p.val, by omega⟩ q) := by
  have hp := p.isLt
  show _ = kpG K (640 * k + p.val) (by omega) q
  unfold kpG
  rw [dif_pos (by omega)]
  have e : (640 * k + p.val) / 640 = k := by omega
  have e' : (640 * k + p.val) % 640 = p.val := by omega
  simp only [e, e']

theorem kpF_tail (K : Vec F S1x8320x128 .bf16) (p : Fin 128) (q : Fin 128) :
    k0_pay24 (F := F) (ix2 p q) = kpF K (ix2 (a := 8448) (b := 128) ⟨8320 + p.val, by omega⟩ q) := by
  show _ = kpG K (8320 + p.val) (by omega) q
  unfold kpG
  rw [dif_neg (by omega)]
  have e : 8320 + p.val - 8320 = p.val := by omega
  simp only [e]

theorem vaugF_left (V : Vec F S1x8320x128 .bf16) (k : Fin k0_t1_loop.trips) (hk : k.val < 13) (p : Fin 640) (q : Fin 128) :
    k0_pay15 0#32 1#32 k (band V k) (ix2 p q) = vaugF V (ix2 (a := 8448) (b := 256) ⟨640 * k.val + p.val, by omega⟩ ⟨q.val, by omega⟩) := by
  have hp := p.isLt
  show _ = vaugG V (640 * k.val + p.val) (by omega) q.val (by omega)
  unfold vaugG
  rw [dif_pos (by omega), dif_pos q.isLt]
  have e : (640 * k.val + p.val) / 640 = k.val := by omega
  have e' : (640 * k.val + p.val) % 640 = p.val := by omega
  have e'' : tr1 k.val = k := Fin.ext (by show k.val % 13 = k.val; omega)
  simp only [e, e', e'']

theorem vaugF_right (V : Vec F S1x8320x128 .bf16) (k : Fin k0_t1_loop.trips) (hk : k.val < 13) (p : Fin 640) (q : Fin 128) :
    k0_pay16 (F := F) 0#32 1#32 k (ix2 p q) = vaugF V (ix2 (a := 8448) (b := 256) ⟨640 * k.val + p.val, by omega⟩ ⟨128 + q.val, by omega⟩) := by
  have hp := p.isLt
  show _ = vaugG V (640 * k.val + p.val) (by omega) (128 + q.val) (by omega)
  unfold vaugG
  rw [dif_pos (by omega), dif_neg (by omega)]
  have e : (640 * k.val + p.val) / 640 = k.val := by omega
  have e' : (640 * k.val + p.val) % 640 = p.val := by omega
  have e'' : tr1 k.val = k := Fin.ext (by show k.val % 13 = k.val; omega)
  have e3 : 128 + q.val - 128 = q.val := by omega
  simp only [e, e', e'', e3]

theorem vaugF_tail (V : Vec F S1x8320x128 .bf16) (p : Fin 128) (q : Fin 256) :
    k0_pay25 (F := F) (ix2 p q) = vaugF V (ix2 (a := 8448) (b := 256) ⟨8320 + p.val, by omega⟩ q) := by
  show _ = vaugG V (8320 + p.val) (by omega) q.val q.isLt
  unfold vaugG
  rw [dif_neg (by omega)]
  have e : 8320 + p.val - 8320 = p.val := by omega
  simp only [e]

/-- The filling loop's invariant: before trip `n` the first `n` bands of both tables are filled, and the carried value is their largest squared norm. -/
def fillI (arg4 : Memref sig .tc .vmem S1x8320x128 .bf16) (harg4 : arg4.IsWhole) (arg5 : Memref sig .tc .vmem S1x8320x128 .bf16) (harg5 : arg5.IsWhole) (arg7 : Memref sig .tc .vmem S8448x128 .bf16) (harg7 : arg7.IsWhole) (arg8 : Memref sig .tc .vmem S8448x256 .bf16) (harg8 : arg8.IsWhole) (K V : Vec F S1x8320x128 .bf16) (X7 : Vec F S8448x128 .bf16) (X8 : Vec F S8448x256 .bf16) (n : ℕ) (acc : FVec F S1x128 .f32) : sProp 𝕄G :=
  iprop(own c arg4 K ∗ own c arg5 V ∗ own c arg7 (rpart (640 * n) (kpF K) X7) ∗ own c arg8 (rpart (640 * n) (vaugF V) X8) ∗ ⌜acc = kmaxF K n⌝)

theorem wp_t1 (i : grid0.Coords) (arg3 : Memref sig .tc .vmem S1x640x512 .bf16) (harg3 : arg3.IsWhole) (arg4 : Memref sig .tc .vmem S1x8320x128 .bf16) (harg4 : arg4.IsWhole) (arg5 : Memref sig .tc .vmem S1x8320x128 .bf16) (harg5 : arg5.IsWhole) (arg6 : Memref sig .tc .vmem S1x640x512 .bf16) (harg6 : arg6.IsWhole) (arg7 : Memref sig .tc .vmem S8448x128 .bf16) (harg7 : arg7.IsWhole) (arg8 : Memref sig .tc .vmem S8448x256 .bf16) (harg8 : arg8.IsWhole) (arg9 : Memref sig .tc .vmem S8x128 .f32) (harg9 : arg9.IsWhole) (arg10 : Memref sig .tc .vmem S5x512x128 .bf16) (harg10 : arg10.IsWhole) (arg11 : Memref sig .tc .vmem S5x512x128 .f32) (harg11 : arg11.IsWhole) (arg12 : Memref sig .tc .vmem S5x512x256 .f32) (harg12 : arg12.IsWhole) (h : k0_cond1 i = 1#1)
    (K V : Vec F S1x8320x128 .bf16) (X7 : Vec F S8448x128 .bf16) (X8 : Vec F S8448x256 .bf16) (k : Fin k0_t1_loop.trips) (acc : FVec F S1x128 .f32) :
    fillI c arg4 harg4 arg5 harg5 arg7 harg7 arg8 harg8 K V X7 X8 k.val acc ⊢ wp frame (wpE (defs₀ (F := F)) 𝒱 (c : Thread nD τ) bd) E (k0_t1_body i arg3 harg3 arg4 harg4 arg5 harg5 arg6 harg6 arg7 harg7 arg8 harg8 arg9 harg9 arg10 harg10 arg11 harg11 arg12 harg12 h k acc) (fillI c arg4 harg4 arg5 harg5 arg7 harg7 arg8 harg8 K V X7 X8 (k.val + 1)) := by
  have hk : k.val < 13 := trips1 ▸ k.isLt
  unfold fillI
  iintro ⟨H4, H5, H7, H8, %hacc⟩
  subst hacc
  unfold k0_t1_body
  sl_exec
  sl_step
  ihave H7' := (own_read c arg7 _) $$ H7
  ihave H8' := (own_read c arg8 _) $$ H8
  have e3 : tr1 k.val = k := Fin.ext (by show k.val % 13 = k.val; omega)
  have hv := put_put_rpart (a := 8448) (b := 128) (640 * k.val) 640 (by omega) (vaugF V) X8 (k0_pay15 0#32 1#32 k (band V k.val)) (k0_pay16 (F := F) 0#32 1#32 k)
    (fun p q => (vaugF_left V k hk p q)) (fun p q => (vaugF_right V k hk p q))
  have hkp := put_rpart (a := 8448) (b := 128) (640 * k.val) 640 (by omega) (kpF K) X7 (k0_pay18 (band K k.val)) (fun p q => kpF_band K k.val hk p q)
  rw [View.readAt_rep_unit arg4.view _ _ (off1_eq k) (inbB k.val hk), View.readAt_rep_unit arg5.view _ _ (off1_eq k) (inbB k.val hk),
    window_band k.val hk K, window_band k.val hk V,
    View.read_writes_rep_unit arg7.view _ _ _ (off4_eq k), hkp,
    View.read_writes_cons_put arg8.view _ _ _ _ (off3_eq k), View.read_writes_rep_unit arg8.view _ _ _ (off2_eq k)]
  isplitl [H4]; · iexact H4
  isplitl [H5]; · iexact H5
  isplitl [H7']; · iexact H7'
  isplitl [H8']
  · rw [show 640 * (k.val + 1) = 640 * k.val + 640 from rfl, ← hv]
    iexact H8'
  ipureintro
  show _ = k0_pay22 (kmaxF K k.val) (k0_pay14 0#32 1#32 (tr1 k.val)) (k0_pay19 (k0_pay20 (F := F)) (band K k.val))
  rw [e3]
  refine congrArg₂ (k0_pay22 (kmaxF K k.val)) rfl ?_
  show k0_pay19 (k0_pay20 (F := F)) (View.readAt (Elt F) arg4.view (Rect.unit (s := S1x8320x128) (k0_off1 k) S1x640x128.size (k0_off1_inb i k h)).toLoadRect (arg4.view.rep K)) = _
  rw [View.readAt_rep_unit arg4.view _ _ (off1_eq k) (inbB k.val hk), window_band k.val hk K]

end Cert.Proof.PI

end
-- ==== Proof.PI.Body.lean ====
module

public import proofs.«01_k».proof.Proof.PI.Fill
public import Idealize.ShloMosaic.Lib.Scf

@[expose] public section

/-!
# The body's triples

The fill of the tables, the second pass, the main line, and together the body at a point that fills the
tables and at a point that finds them filled.
-/

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable {α : Type} (𝒱 : Variants) (c : Dev nD) (bd : Option 𝒱.V) (E : Set ℕ)

/-- The tables are filled from the key and value blocks, whatever they held. -/
theorem wp_fillS (i : grid0.Coords) (arg3 : Memref sig .tc .vmem S1x640x512 .bf16) (harg3 : arg3.IsWhole) (arg4 : Memref sig .tc .vmem S1x8320x128 .bf16) (harg4 : arg4.IsWhole) (arg5 : Memref sig .tc .vmem S1x8320x128 .bf16) (harg5 : arg5.IsWhole) (arg6 : Memref sig .tc .vmem S1x640x512 .bf16) (harg6 : arg6.IsWhole) (arg7 : Memref sig .tc .vmem S8448x128 .bf16) (harg7 : arg7.IsWhole) (arg8 : Memref sig .tc .vmem S8448x256 .bf16) (harg8 : arg8.IsWhole) (arg9 : Memref sig .tc .vmem S8x128 .f32) (harg9 : arg9.IsWhole) (arg10 : Memref sig .tc .vmem S5x512x128 .bf16) (harg10 : arg10.IsWhole) (arg11 : Memref sig .tc .vmem S5x512x128 .f32) (harg11 : arg11.IsWhole) (arg12 : Memref sig .tc .vmem S5x512x256 .f32) (harg12 : arg12.IsWhole) (h : k0_cond1 i = 1#1) (κ : PP F α) (Q : α → sProp 𝕄G)
    (K V : Vec F S1x8320x128 .bf16) (X7 : Vec F S8448x128 .bf16) (X8 : Vec F S8448x256 .bf16) (X9 : Vec F S8x128 .f32) :
    iprop(own c arg4 K ∗ own c arg5 V ∗ own c arg7 X7 ∗ own c arg8 X8 ∗ own c arg9 X9 ∗
      (own c arg4 K ∗ own c arg5 V ∗ own c arg7 (kpF K) ∗ own c arg8 (vaugF V) ∗ own c arg9 (k9F K) -∗ wp frame (wpE (defs₀ (F := F)) 𝒱 (c : Thread nD τ) bd) E κ Q))
      ⊢ wp frame (wpE (defs₀ (F := F)) 𝒱 (c : Thread nD τ) bd) E (fillS i arg3 harg3 arg4 harg4 arg5 harg5 arg6 harg6 arg7 harg7 arg8 harg8 arg9 harg9 arg10 harg10 arg11 harg11 arg12 harg12 h κ) Q := by
  iintro ⟨H4, H5, H7, H8, H9, Hκ⟩
  unfold fillS
  iapply (Scf.wp_for_bind frame (wpE (defs₀ (F := F)) 𝒱 (c : Thread nD τ) bd) E _ _ _ _ _ _ (fillI c arg4 harg4 arg5 harg5 arg7 harg7 arg8 harg8 K V X7 X8)
    (fun k acc => wp_t1 𝒱 c bd E i arg3 harg3 arg4 harg4 arg5 harg5 arg6 harg6 arg7 harg7 arg8 harg8 arg9 harg9 arg10 harg10 arg11 harg11 arg12 harg12 h K V X7 X8 k acc)) $$ [H4 H5 H7 H8]
  · unfold fillI
    rw [show 640 * 0 = 0 from rfl, rpart_zero, rpart_zero]
    isplitl [H4]; · iexact H4
    isplitl [H5]; · iexact H5
    isplitl [H7]; · iexact H7
    isplitl [H8]; · iexact H8
    ipureintro; rfl
  iintro %acc HI
  unfold fillI
  icases HI with ⟨H4, H5, H7, H8, %hacc⟩
  subst hacc
  sl_exec
  ihave H7' := (own_read c arg7 _) $$ H7
  ihave H8' := (own_read c arg8 _) $$ H8
  ihave H9' := (own_read c arg9 _) $$ H9
  have t13 : (Scf.trips (k0_t1_loop.lb) (k0_t1_loop.ub) (k0_t1_loop.st)) = 13 := trips1
  have hv := put_rpart (a := 8448) (b := 256) 8320 128 (by omega) (vaugF V) X8 (k0_pay25 (F := F)) (fun p q => (vaugF_tail V p q))
  have hkp := put_rpart (a := 8448) (b := 128) 8320 128 (by omega) (kpF K) X7 (k0_pay24 (F := F)) (fun p q => kpF_tail K p q)
  rw [show 8320 + 128 = 8448 from rfl, rpart_all] at hv hkp
  rw [t13, View.read_writes_rep_unit arg7.view _ _ _ rfl, View.read_writes_rep_unit arg8.view _ _ _ rfl,
    View.read_writes_full arg9.view]
  rw [show 640 * 13 = 8320 from rfl, hv, hkp]
  iapply Hκ
  isplitl [H4]; · iexact H4
  isplitl [H5]; · iexact H5
  isplitl [H7']; · iexact H7'
  isplitl [H8']; · iexact H8'
  iexact H9'

/-- The inner loop's invariant: before trip `n` the carried pair is that of `n` chunks. -/
def redI (arg7 : Memref sig .tc .vmem S8448x128 .bf16) (harg7 : arg7.IsWhole) (arg8 : Memref sig .tc .vmem S8448x256 .bf16) (harg8 : arg8.IsWhole) (q : Vec F S1x512x128 .bf16) (X7 : Vec F S8448x128 .bf16) (X8 : Vec F S8448x256 .bf16) (n : ℕ) (acc : FVec F S512x1 .f32 × FVec F S512x256 .f32) : sProp 𝕄G :=
  iprop(own c arg7 X7 ∗ own c arg8 X8 ∗ ⌜acc = redF q X7 X8 n⌝)

theorem wp_t3 (i : grid0.Coords) (arg3 : Memref sig .tc .vmem S1x640x512 .bf16) (harg3 : arg3.IsWhole) (arg4 : Memref sig .tc .vmem S1x8320x128 .bf16) (harg4 : arg4.IsWhole) (arg5 : Memref sig .tc .vmem S1x8320x128 .bf16) (harg5 : arg5.IsWhole) (arg6 : Memref sig .tc .vmem S1x640x512 .bf16) (harg6 : arg6.IsWhole) (arg7 : Memref sig .tc .vmem S8448x128 .bf16) (harg7 : arg7.IsWhole) (arg8 : Memref sig .tc .vmem S8448x256 .bf16) (harg8 : arg8.IsWhole) (arg9 : Memref sig .tc .vmem S8x128 .f32) (harg9 : arg9.IsWhole) (arg10 : Memref sig .tc .vmem S5x512x128 .bf16) (harg10 : arg10.IsWhole) (arg11 : Memref sig .tc .vmem S5x512x128 .f32) (harg11 : arg11.IsWhole) (arg12 : Memref sig .tc .vmem S5x512x256 .f32) (harg12 : arg12.IsWhole)
    (q : Vec F S1x512x128 .bf16) (X7 : Vec F S8448x128 .bf16) (X8 : Vec F S8448x256 .bf16) (k : Fin k0_t3_loop.trips) (acc : FVec F S512x1 .f32 × FVec F S512x256 .f32) :
    redI c arg7 harg7 arg8 harg8 q X7 X8 k.val acc ⊢ wp frame (wpE (defs₀ (F := F)) 𝒱 (c : Thread nD τ) bd) E (k0_t3_body i arg3 harg3 arg4 harg4 arg5 harg5 arg6 harg6 arg7 harg7 arg8 harg8 arg9 harg9 arg10 harg10 arg11 harg11 arg12 harg12 q k acc) (redI c arg7 harg7 arg8 harg8 q X7 X8 (k.val + 1)) := by
  have hk : k.val < 11 := trips3 ▸ k.isLt
  unfold redI
  iintro ⟨H7, H8, %hacc⟩
  subst hacc
  unfold k0_t3_body
  sl_exec
  sl_step
  isplitl [H7]; · iexact H7
  isplitl [H8]; · iexact H8
  ipureintro
  have e3 : tr3 k.val = k := Fin.ext (by show k.val % 11 = k.val; omega)
  have i7 : ∀ a, (![768 * k.val, 0] : Fin 2 → ℕ) a + S768x128.size a ≤ S8448x128.size a := off8_eq k ▸ k0_off8_inb k
  have i8 : ∀ a, (![768 * k.val, 0] : Fin 2 → ℕ) a + S768x256.size a ≤ S8448x256.size a := off9_eq k ▸ k0_off9_inb k
  have r7 : View.readAt (Elt F) arg7.view (Rect.unit (s := S8448x128) (k0_off8 k) S768x128.size (k0_off8_inb k)).toLoadRect (arg7.view.rep X7) = chunk X7 k.val := by
    rw [View.readAt_rep_unit arg7.view _ _ (off8_eq k) i7, window_chunk k.val hk X7 i7]
  have r8 : View.readAt (Elt F) arg8.view (Rect.unit (s := S8448x256) (k0_off9 k) S768x256.size (k0_off9_inb k)).toLoadRect (arg8.view.rep X8) = chunk X8 k.val := by
    rw [View.readAt_rep_unit arg8.view _ _ (off9_eq k) i8, window_chunk k.val hk X8 i8]
  show _ = (k0_pay7 q (tr3 k.val) (redF q X7 X8 k.val).1 (chunk X7 k.val), k0_pay8 q (tr3 k.val) (redF q X7 X8 k.val).1 (redF q X7 X8 k.val).2 (chunk X7 k.val) (chunk X8 k.val))
  rw [e3, ← r7, ← r8]

/-- One block of gathered query rows is read. -/
theorem wp_load10 (arg10 : Memref sig .tc .vmem S5x512x128 .bf16) (harg10 : arg10.IsWhole) (o : Fin 3 → ℕ) (h10 : ∀ a, o a + S1x512x128.size a ≤ S5x512x128.size a)
    (κ : Vec F S1x512x128 .bf16 → PP F α) (Q : α → sProp 𝕄G) (X10 : Vec F S5x512x128 .bf16) :
    iprop(own c arg10 X10 ∗ (own c arg10 X10 -∗ wp frame (wpE (defs₀ (F := F)) 𝒱 (c : Thread nD τ) bd) E (κ (View.readAt (Elt F) arg10.view (Rect.unit (s := S5x512x128) o S1x512x128.size h10).toLoadRect (arg10.view.rep X10))) Q))
      ⊢ wp frame (wpE (defs₀ (F := F)) 𝒱 (c : Thread nD τ) bd) E (do
        let v : Vec F S1x512x128 .bf16 ← Prog.lift (.load arg10 (Rect.unit (s := S5x512x128) o S1x512x128.size h10).toLoadRect (View.loadsAt_vmem h_S1x512x128))
        κ v) Q := by
  iintro ⟨H10, Hκ⟩
  sl_exec
  iapply Hκ
  iexact H10

/-- The outer loop's invariant: before trip `n` the first `n` row blocks of the result are rewritten. -/
def outI (arg6 : Memref sig .tc .vmem S1x640x512 .bf16) (harg6 : arg6.IsWhole) (arg7 : Memref sig .tc .vmem S8448x128 .bf16) (harg7 : arg7.IsWhole) (arg8 : Memref sig .tc .vmem S8448x256 .bf16) (harg8 : arg8.IsWhole) (arg10 : Memref sig .tc .vmem S5x512x128 .bf16) (harg10 : arg10.IsWhole) (q : Fin 5 → Vec F S1x512x128 .bf16) (X7 : Vec F S8448x128 .bf16) (X8 : Vec F S8448x256 .bf16) (X6 : Vec F S1x640x512 .bf16) (n : ℕ) (_ : Unit) : sProp 𝕄G :=
  iprop(own c arg6 (gpart (4 * n) (fun s => redT (redF (q s) X7 X8 11).2) X6) ∗ own c arg7 X7 ∗ own c arg8 X8 ∗ own c arg10 (stack q))

theorem wp_t2 (i : grid0.Coords) (arg3 : Memref sig .tc .vmem S1x640x512 .bf16) (harg3 : arg3.IsWhole) (arg4 : Memref sig .tc .vmem S1x8320x128 .bf16) (harg4 : arg4.IsWhole) (arg5 : Memref sig .tc .vmem S1x8320x128 .bf16) (harg5 : arg5.IsWhole) (arg6 : Memref sig .tc .vmem S1x640x512 .bf16) (harg6 : arg6.IsWhole) (arg7 : Memref sig .tc .vmem S8448x128 .bf16) (harg7 : arg7.IsWhole) (arg8 : Memref sig .tc .vmem S8448x256 .bf16) (harg8 : arg8.IsWhole) (arg9 : Memref sig .tc .vmem S8x128 .f32) (harg9 : arg9.IsWhole) (arg10 : Memref sig .tc .vmem S5x512x128 .bf16) (harg10 : arg10.IsWhole) (arg11 : Memref sig .tc .vmem S5x512x128 .f32) (harg11 : arg11.IsWhole) (arg12 : Memref sig .tc .vmem S5x512x256 .f32) (harg12 : arg12.IsWhole)
    (q : Fin 5 → Vec F S1x512x128 .bf16) (X7 : Vec F S8448x128 .bf16) (X8 : Vec F S8448x256 .bf16) (X6 : Vec F S1x640x512 .bf16) (k : Fin k0_t2_loop.trips) (acc : Unit) :
    outI c arg6 harg6 arg7 harg7 arg8 harg8 arg10 harg10 q X7 X8 X6 k.val acc ⊢ wp frame (wpE (defs₀ (F := F)) 𝒱 (c : Thread nD τ) bd) E (k0_t2_body i arg3 harg3 arg4 harg4 arg5 harg5 arg6 harg6 arg7 harg7 arg8 harg8 arg9 harg9 arg10 harg10 arg11 harg11 arg12 harg12 k acc) (outI c arg6 harg6 arg7 harg7 arg8 harg8 arg10 harg10 q X7 X8 X6 (k.val + 1)) := by
  have hk : k.val < 5 := trips2 ▸ k.isLt
  have i10 : ∀ a, (![k.val, 0, 0] : Fin 3 → ℕ) a + S1x512x128.size a ≤ S5x512x128.size a := off7_eq k ▸ k0_off7_inb k
  have r10 : View.readAt (Elt F) arg10.view (Rect.unit (s := S5x512x128) (k0_off7 k) S1x512x128.size (k0_off7_inb k)).toLoadRect (arg10.view.rep (stack q)) = q ⟨k.val, hk⟩ := by
    rw [View.readAt_rep_unit arg10.view _ _ (off7_eq k) i10, window_stack k.val hk q i10]
  unfold outI
  iintro ⟨H6, H7, H8, H10⟩
  unfold k0_t2_body
  iapply (wp_load10 𝒱 c bd E arg10 harg10 _ (k0_off7_inb k) _ _ (stack q))
  isplitl [H10]; · iexact H10
  iintro H10
  rw [r10]
  iapply (Scf.wp_for_bind frame (wpE (defs₀ (F := F)) 𝒱 (c : Thread nD τ) bd) E _ _ _ _ _ _ (redI c arg7 harg7 arg8 harg8 (q ⟨k.val, hk⟩) X7 X8)
    (fun t acc => wp_t3 𝒱 c bd E i arg3 harg3 arg4 harg4 arg5 harg5 arg6 harg6 arg7 harg7 arg8 harg8 arg9 harg9 arg10 harg10 arg11 harg11 arg12 harg12 (q ⟨k.val, hk⟩) X7 X8 t acc)) $$ [H7 H8]
  · unfold redI
    isplitl [H7]; · iexact H7
    isplitl [H8]; · iexact H8
    ipureintro; rfl
  iintro %acc HI
  unfold redI
  icases HI with ⟨H7, H8, %hacc⟩
  have t11 : (Scf.trips (k0_t3_loop.lb) (k0_t3_loop.ub) (k0_t3_loop.st)) = 11 := trips3
  rw [t11] at hacc
  obtain ⟨m, a⟩ := acc
  sl_exec
  sl_step
  ihave H6' := (own_read c arg6 _) $$ H6
  have ea : a = (redF (q ⟨k.val, hk⟩) X7 X8 11).2 := congrArg Prod.snd hacc
  subst ea
  rw [View.read_writes_cons_put arg6.view _ _ _ _ (off13_eq k), View.read_writes_cons_put arg6.view _ _ _ _ (off12_eq k),
    View.read_writes_cons_put arg6.view _ _ _ _ (off11_eq k), View.read_writes_rep_unit arg6.view _ _ _ (off10_eq k)]
  have g0 := put_gpart k.val 0 hk (by decide) (fun s => redT (redF (q s) X7 X8 11).2) X6
  have g1 := put_gpart k.val 1 hk (by decide) (fun s => redT (redF (q s) X7 X8 11).2) X6
  have g2 := put_gpart k.val 2 hk (by decide) (fun s => redT (redF (q s) X7 X8 11).2) X6
  have g3 := put_gpart k.val 3 hk (by decide) (fun s => redT (redF (q s) X7 X8 11).2) X6
  have gg : gpart (4 * (k.val + 1)) (fun s => redT (redF (q s) X7 X8 11).2) X6 = _ := g3.symm
  rw [show 4 * k.val + 3 = 4 * k.val + 2 + 1 from rfl, ← g2, show 4 * k.val + 2 = 4 * k.val + 1 + 1 from rfl, ← g1,
    show 4 * k.val + 1 = 4 * k.val + 0 + 1 from rfl, ← g0] at gg
  isplitl [H6']
  · rw [gg]; iexact H6'
  isplitl [H7]; · iexact H7
  isplitl [H8]; · iexact H8
  iexact H10

/-- The test and the second pass where it is asked for. -/
theorem wp_redoS (i : grid0.Coords) (arg3 : Memref sig .tc .vmem S1x640x512 .bf16) (harg3 : arg3.IsWhole) (arg4 : Memref sig .tc .vmem S1x8320x128 .bf16) (harg4 : arg4.IsWhole) (arg5 : Memref sig .tc .vmem S1x8320x128 .bf16) (harg5 : arg5.IsWhole) (arg6 : Memref sig .tc .vmem S1x640x512 .bf16) (harg6 : arg6.IsWhole) (arg7 : Memref sig .tc .vmem S8448x128 .bf16) (harg7 : arg7.IsWhole) (arg8 : Memref sig .tc .vmem S8448x256 .bf16) (harg8 : arg8.IsWhole) (arg9 : Memref sig .tc .vmem S8x128 .f32) (harg9 : arg9.IsWhole) (arg10 : Memref sig .tc .vmem S5x512x128 .bf16) (harg10 : arg10.IsWhole) (arg11 : Memref sig .tc .vmem S5x512x128 .f32) (harg11 : arg11.IsWhole) (arg12 : Memref sig .tc .vmem S5x512x256 .f32) (harg12 : arg12.IsWhole) (l : F .f32) (Q : PUnit → sProp 𝕄G)
    (q : Fin 5 → Vec F S1x512x128 .bf16) (X7 : Vec F S8448x128 .bf16) (X8 : Vec F S8448x256 .bf16) (X6 : Vec F S1x640x512 .bf16) :
    iprop(own c arg6 X6 ∗ own c arg7 X7 ∗ own c arg8 X8 ∗ own c arg10 (stack q) ∗
      (own c arg6 (if redoCond l = 1#1 then tiles (fun s => redT (redF (q s) X7 X8 11).2) else X6) ∗ own c arg7 X7 ∗ own c arg8 X8 ∗ own c arg10 (stack q) -∗ Q ⟨⟩))
      ⊢ wp frame (wpE (defs₀ (F := F)) 𝒱 (c : Thread nD τ) bd) E (redoS i arg3 harg3 arg4 harg4 arg5 harg5 arg6 harg6 arg7 harg7 arg8 harg8 arg9 harg9 arg10 harg10 arg11 harg11 arg12 harg12 l) Q := by
  iintro ⟨H6, H7, H8, H10, Hκ⟩
  unfold redoS
  by_cases hl : redoCond l = 1#1
  · rw [if_pos hl, if_pos hl]
    iapply (Scf.wp_for_bind frame (wpE (defs₀ (F := F)) 𝒱 (c : Thread nD τ) bd) E _ _ _ _ _ _ (outI c arg6 harg6 arg7 harg7 arg8 harg8 arg10 harg10 q X7 X8 X6)
      (fun t acc => wp_t2 𝒱 c bd E i arg3 harg3 arg4 harg4 arg5 harg5 arg6 harg6 arg7 harg7 arg8 harg8 arg9 harg9 arg10 harg10 arg11 harg11 arg12 harg12 q X7 X8 X6 t acc)) $$ [H6 H7 H8 H10]
    · unfold outI
      rw [show 4 * 0 = 0 from rfl, gpart_zero]
      isplitl [H6]; · iexact H6
      isplitl [H7]; · iexact H7
      isplitl [H8]; · iexact H8
      iexact H10
    iintro %acc HI
    unfold outI
    icases HI with ⟨H6, H7, H8, H10⟩
    have t5 : (Scf.trips (k0_t2_loop.lb) (k0_t2_loop.ub) (k0_t2_loop.st)) = 5 := trips2
    rw [t5, show 4 * 5 = 20 from rfl, gpart_all]
    sl_step
    iapply Hκ
    isplitl [H6]; · iexact H6
    isplitl [H7]; · iexact H7
    isplitl [H8]; · iexact H8
    iexact H10
  · rw [if_neg hl, if_neg hl]
    sl_step
    iapply Hκ
    isplitl [H6]; · iexact H6
    isplitl [H7]; · iexact H7
    isplitl [H8]; · iexact H8
    iexact H10

/-- The row of the bound table is read. -/
theorem wp_load9 (arg9 : Memref sig .tc .vmem S8x128 .f32) (harg9 : arg9.IsWhole) (κ : Vec F S1x128 .f32 → PP F α) (Q : α → sProp 𝕄G) (X9 : Vec F S8x128 .f32) :
    iprop(own c arg9 X9 ∗ (own c arg9 X9 -∗ wp frame (wpE (defs₀ (F := F)) 𝒱 (c : Thread nD τ) bd) E (κ (nrm X9)) Q))
      ⊢ wp frame (wpE (defs₀ (F := F)) 𝒱 (c : Thread nD τ) bd) E (do
        let v4 : Vec F S1x128 .f32 ← Prog.lift (.load arg9 (Rect.unit (s := S8x128) ![0, 0] S1x128.size inb_S8x128_S1x128_0_0).toLoadRect (View.loadsAt_vmem h_S1x128))
        κ v4) Q := by
  iintro ⟨H9, Hκ⟩
  sl_exec
  rw [View.readAt_rep_unit arg9.view _ _ rfl inb_S8x128_S1x128_0_0]
  iapply Hκ
  iexact H9

/-- The main line: the block of the result from the queries and the filled tables. -/
theorem wp_mainS (i : grid0.Coords) (arg3 : Memref sig .tc .vmem S1x640x512 .bf16) (harg3 : arg3.IsWhole) (arg4 : Memref sig .tc .vmem S1x8320x128 .bf16) (harg4 : arg4.IsWhole) (arg5 : Memref sig .tc .vmem S1x8320x128 .bf16) (harg5 : arg5.IsWhole) (arg6 : Memref sig .tc .vmem S1x640x512 .bf16) (harg6 : arg6.IsWhole) (arg7 : Memref sig .tc .vmem S8448x128 .bf16) (harg7 : arg7.IsWhole) (arg8 : Memref sig .tc .vmem S8448x256 .bf16) (harg8 : arg8.IsWhole) (arg9 : Memref sig .tc .vmem S8x128 .f32) (harg9 : arg9.IsWhole) (arg10 : Memref sig .tc .vmem S5x512x128 .bf16) (harg10 : arg10.IsWhole) (arg11 : Memref sig .tc .vmem S5x512x128 .f32) (harg11 : arg11.IsWhole) (arg12 : Memref sig .tc .vmem S5x512x256 .f32) (harg12 : arg12.IsWhole) (Q : PUnit → sProp 𝕄G)
    (X3 X6 : Vec F S1x640x512 .bf16) (X7 : Vec F S8448x128 .bf16) (X8 : Vec F S8448x256 .bf16) (X9 : Vec F S8x128 .f32)
    (X10 : Vec F S5x512x128 .bf16) (X11 : Vec F S5x512x128 .f32) (X12 : Vec F S5x512x256 .f32) :
    iprop(own c arg3 X3 ∗ own c arg6 X6 ∗ own c arg7 X7 ∗ own c arg8 X8 ∗ own c arg9 X9 ∗ own c arg10 X10 ∗ own c arg11 X11 ∗ own c arg12 X12 ∗
      (own c arg3 X3 ∗ own c arg6 (tabF X3 X7 X8 X9) ∗ own c arg7 X7 ∗ own c arg8 X8 ∗ own c arg9 X9 ∗ own c arg10 (stack (qF X3)) ∗ own c arg11 (stack (bF X3 X9)) ∗ own c arg12 (stack (accF X3 X7 X8 X9 11)) -∗ Q ⟨⟩))
      ⊢ wp frame (wpE (defs₀ (F := F)) 𝒱 (c : Thread nD τ) bd) E (mainS i arg3 harg3 arg4 harg4 arg5 harg5 arg6 harg6 arg7 harg7 arg8 harg8 arg9 harg9 arg10 harg10 arg11 harg11 arg12 harg12) Q := by
  iintro ⟨H3, H6, H7, H8, H9, H10, H11, H12, Hκ⟩
  unfold mainS
  iapply (wp_load9 𝒱 c bd E arg9 harg9 _ Q X9)
  isplitl [H9]; · iexact H9
  iintro H9
  rw [← spart_zero (qF X3) X10, ← spart_zero (fun _ => k0_pay28 (F := F)) X12, ← spart_zero (bF X3 X9) X11]
  iapply (wp_initS 𝒱 c bd E arg3 harg3 arg10 harg10 arg12 harg12 0 (by decide) _ _ rfl rfl _ _ _ _ _ Q X3 X10 X12)
  isplitl [H3]; · iexact H3
  isplitl [H10]; · iexact H10
  isplitl [H12]; · iexact H12
  iintro ⟨H3, H10, H12⟩
  iapply (wp_initS 𝒱 c bd E arg3 harg3 arg10 harg10 arg12 harg12 1 (by decide) _ _ rfl rfl _ _ _ _ _ Q X3 X10 X12)
  isplitl [H3]; · iexact H3
  isplitl [H10]; · iexact H10
  isplitl [H12]; · iexact H12
  iintro ⟨H3, H10, H12⟩
  iapply (wp_initS 𝒱 c bd E arg3 harg3 arg10 harg10 arg12 harg12 2 (by decide) _ _ rfl rfl _ _ _ _ _ Q X3 X10 X12)
  isplitl [H3]; · iexact H3
  isplitl [H10]; · iexact H10
  isplitl [H12]; · iexact H12
  iintro ⟨H3, H10, H12⟩
  iapply (wp_initS 𝒱 c bd E arg3 harg3 arg10 harg10 arg12 harg12 3 (by decide) _ _ rfl rfl _ _ _ _ _ Q X3 X10 X12)
  isplitl [H3]; · iexact H3
  isplitl [H10]; · iexact H10
  isplitl [H12]; · iexact H12
  iintro ⟨H3, H10, H12⟩
  iapply (wp_initS 𝒱 c bd E arg3 harg3 arg10 harg10 arg12 harg12 4 (by decide) _ _ rfl rfl _ _ _ _ _ Q X3 X10 X12)
  isplitl [H3]; · iexact H3
  isplitl [H10]; · iexact H10
  isplitl [H12]; · iexact H12
  iintro ⟨H3, H10, H12⟩
  iapply (wp_boundS 𝒱 c bd E arg11 harg11 0 (by decide) _ rfl _ (k0_pay20 (F := F)) (nrm X9) (k0_pay26 (qrow X3 0)) _ Q (bF X3 X9) rfl X11)
  isplitl [H11]; · iexact H11
  iintro H11
  iapply (wp_boundS 𝒱 c bd E arg11 harg11 1 (by decide) _ rfl _ (k0_pay20 (F := F)) (nrm X9) (k0_pay26 (qrow X3 1)) _ Q (bF X3 X9) rfl X11)
  isplitl [H11]; · iexact H11
  iintro H11
  iapply (wp_boundS 𝒱 c bd E arg11 harg11 2 (by decide) _ rfl _ (k0_pay20 (F := F)) (nrm X9) (k0_pay26 (qrow X3 2)) _ Q (bF X3 X9) rfl X11)
  isplitl [H11]; · iexact H11
  iintro H11
  iapply (wp_boundS 𝒱 c bd E arg11 harg11 3 (by decide) _ rfl _ (k0_pay20 (F := F)) (nrm X9) (k0_pay26 (qrow X3 3)) _ Q (bF X3 X9) rfl X11)
  isplitl [H11]; · iexact H11
  iintro H11
  iapply (wp_boundS 𝒱 c bd E arg11 harg11 4 (by decide) _ rfl _ (k0_pay20 (F := F)) (nrm X9) (k0_pay26 (qrow X3 4)) _ Q (bF X3 X9) rfl X11)
  isplitl [H11]; · iexact H11
  iintro H11
  rw [show spart (4 + 1) (qF X3) X10 = stack (qF X3) from spart_five _ _, show spart (4 + 1) (bF X3 X9) X11 = stack (bF X3 X9) from spart_five _ _,
    show spart (4 + 1) (fun _ => k0_pay28 (F := F)) X12 = stack (accF X3 X7 X8 X9 0) from spart_five _ _]
  iapply (wp_chunkS 𝒱 c bd E arg7 harg7 arg8 harg8 arg10 harg10 arg11 harg11 arg12 harg12 0 (by decide) _ (by decide) _ _ (by decide) _ _ Q X7 X8 (qF X3) (bF X3 X9) (accF X3 X7 X8 X9 0) (accF X3 X7 X8 X9 1) (fun _ => rfl))
  isplitl [H7]; · iexact H7
  isplitl [H8]; · iexact H8
  isplitl [H10]; · iexact H10
  isplitl [H11]; · iexact H11
  isplitl [H12]; · iexact H12
  iintro ⟨H7, H8, H10, H11, H12⟩
  iapply (wp_chunkS 𝒱 c bd E arg7 harg7 arg8 harg8 arg10 harg10 arg11 harg11 arg12 harg12 1 (by decide) _ (by decide) _ _ (by decide) _ _ Q X7 X8 (qF X3) (bF X3 X9) (accF X3 X7 X8 X9 1) (accF X3 X7 X8 X9 2) (fun _ => rfl))
  isplitl [H7]; · iexact H7
  isplitl [H8]; · iexact H8
  isplitl [H10]; · iexact H10
  isplitl [H11]; · iexact H11
  isplitl [H12]; · iexact H12
  iintro ⟨H7, H8, H10, H11, H12⟩
  iapply (wp_chunkS 𝒱 c bd E arg7 harg7 arg8 harg8 arg10 harg10 arg11 harg11 arg12 harg12 2 (by decide) _ (by decide) _ _ (by decide) _ _ Q X7 X8 (qF X3) (bF X3 X9) (accF X3 X7 X8 X9 2) (accF X3 X7 X8 X9 3) (fun _ => rfl))
  isplitl [H7]; · iexact H7
  isplitl [H8]; · iexact H8
  isplitl [H10]; · iexact H10
  isplitl [H11]; · iexact H11
  isplitl [H12]; · iexact H12
  iintro ⟨H7, H8, H10, H11, H12⟩
  iapply (wp_chunkS 𝒱 c bd E arg7 harg7 arg8 harg8 arg10 harg10 arg11 harg11 arg12 harg12 3 (by decide) _ (by decide) _ _ (by decide) _ _ Q X7 X8 (qF X3) (bF X3 X9) (accF X3 X7 X8 X9 3) (accF X3 X7 X8 X9 4) (fun _ => rfl))
  isplitl [H7]; · iexact H7
  isplitl [H8]; · iexact H8
  isplitl [H10]; · iexact H10
  isplitl [H11]; · iexact H11
  isplitl [H12]; · iexact H12
  iintro ⟨H7, H8, H10, H11, H12⟩
  iapply (wp_chunkS 𝒱 c bd E arg7 harg7 arg8 harg8 arg10 harg10 arg11 harg11 arg12 harg12 4 (by decide) _ (by decide) _ _ (by decide) _ _ Q X7 X8 (qF X3) (bF X3 X9) (accF X3 X7 X8 X9 4) (accF X3 X7 X8 X9 5) (fun _ => rfl))
  isplitl [H7]; · iexact H7
  isplitl [H8]; · iexact H8
  isplitl [H10]; · iexact H10
  isplitl [H11]; · iexact H11
  isplitl [H12]; · iexact H12
  iintro ⟨H7, H8, H10, H11, H12⟩
  iapply (wp_chunkS 𝒱 c bd E arg7 harg7 arg8 harg8 arg10 harg10 arg11 harg11 arg12 harg12 5 (by decide) _ (by decide) _ _ (by decide) _ _ Q X7 X8 (qF X3) (bF X3 X9) (accF X3 X7 X8 X9 5) (accF X3 X7 X8 X9 6) (fun _ => rfl))
  isplitl [H7]; · iexact H7
  isplitl [H8]; · iexact H8
  isplitl [H10]; · iexact H10
  isplitl [H11]; · iexact H11
  isplitl [H12]; · iexact H12
  iintro ⟨H7, H8, H10, H11, H12⟩
  iapply (wp_chunkS 𝒱 c bd E arg7 harg7 arg8 harg8 arg10 harg10 arg11 harg11 arg12 harg12 6 (by decide) _ (by decide) _ _ (by decide) _ _ Q X7 X8 (qF X3) (bF X3 X9) (accF X3 X7 X8 X9 6) (accF X3 X7 X8 X9 7) (fun _ => rfl))
  isplitl [H7]; · iexact H7
  isplitl [H8]; · iexact H8
  isplitl [H10]; · iexact H10
  isplitl [H11]; · iexact H11
  isplitl [H12]; · iexact H12
  iintro ⟨H7, H8, H10, H11, H12⟩
  iapply (wp_chunkS 𝒱 c bd E arg7 harg7 arg8 harg8 arg10 harg10 arg11 harg11 arg12 harg12 7 (by decide) _ (by decide) _ _ (by decide) _ _ Q X7 X8 (qF X3) (bF X3 X9) (accF X3 X7 X8 X9 7) (accF X3 X7 X8 X9 8) (fun _ => rfl))
  isplitl [H7]; · iexact H7
  isplitl [H8]; · iexact H8
  isplitl [H10]; · iexact H10
  isplitl [H11]; · iexact H11
  isplitl [H12]; · iexact H12
  iintro ⟨H7, H8, H10, H11, H12⟩
  iapply (wp_chunkS 𝒱 c bd E arg7 harg7 arg8 harg8 arg10 harg10 arg11 harg11 arg12 harg12 8 (by decide) _ (by decide) _ _ (by decide) _ _ Q X7 X8 (qF X3) (bF X3 X9) (accF X3 X7 X8 X9 8) (accF X3 X7 X8 X9 9) (fun _ => rfl))
  isplitl [H7]; · iexact H7
  isplitl [H8]; · iexact H8
  isplitl [H10]; · iexact H10
  isplitl [H11]; · iexact H11
  isplitl [H12]; · iexact H12
  iintro ⟨H7, H8, H10, H11, H12⟩
  iapply (wp_chunkS 𝒱 c bd E arg7 harg7 arg8 harg8 arg10 harg10 arg11 harg11 arg12 harg12 9 (by decide) _ (by decide) _ _ (by decide) _ _ Q X7 X8 (qF X3) (bF X3 X9) (accF X3 X7 X8 X9 9) (accF X3 X7 X8 X9 10) (fun _ => rfl))
  isplitl [H7]; · iexact H7
  isplitl [H8]; · iexact H8
  isplitl [H10]; · iexact H10
  isplitl [H11]; · iexact H11
  isplitl [H12]; · iexact H12
  iintro ⟨H7, H8, H10, H11, H12⟩
  iapply (wp_chunkS 𝒱 c bd E arg7 harg7 arg8 harg8 arg10 harg10 arg11 harg11 arg12 harg12 10 (by decide) _ (by decide) _ _ (by decide) _ _ Q X7 X8 (qF X3) (bF X3 X9) (accF X3 X7 X8 X9 10) (accF X3 X7 X8 X9 11) (fun _ => rfl))
  isplitl [H7]; · iexact H7
  isplitl [H8]; · iexact H8
  isplitl [H10]; · iexact H10
  isplitl [H11]; · iexact H11
  isplitl [H12]; · iexact H12
  iintro ⟨H7, H8, H10, H11, H12⟩
  rw [← gpart_zero (fun t => outT (accF X3 X7 X8 X9 11 t)) X6]
  iapply (wp_writeS 𝒱 c bd E arg6 harg6 arg12 harg12 0 (by decide) _ rfl _ _ _ _ _ rfl rfl rfl rfl _ _ _ _ _ _ _ _ _ Q (accF X3 X7 X8 X9 11) X6)
  isplitl [H6]; · iexact H6
  isplitl [H12]; · iexact H12
  iintro ⟨H6, H12⟩
  iapply (wp_writeS 𝒱 c bd E arg6 harg6 arg12 harg12 1 (by decide) _ rfl _ _ _ _ _ rfl rfl rfl rfl _ _ _ _ _ _ _ _ _ Q (accF X3 X7 X8 X9 11) X6)
  isplitl [H6]; · iexact H6
  isplitl [H12]; · iexact H12
  iintro ⟨H6, H12⟩
  iapply (wp_writeS 𝒱 c bd E arg6 harg6 arg12 harg12 2 (by decide) _ rfl _ _ _ _ _ rfl rfl rfl rfl _ _ _ _ _ _ _ _ _ Q (accF X3 X7 X8 X9 11) X6)
  isplitl [H6]; · iexact H6
  isplitl [H12]; · iexact H12
  iintro ⟨H6, H12⟩
  iapply (wp_writeS 𝒱 c bd E arg6 harg6 arg12 harg12 3 (by decide) _ rfl _ _ _ _ _ rfl rfl rfl rfl _ _ _ _ _ _ _ _ _ Q (accF X3 X7 X8 X9 11) X6)
  isplitl [H6]; · iexact H6
  isplitl [H12]; · iexact H12
  iintro ⟨H6, H12⟩
  iapply (wp_writeS 𝒱 c bd E arg6 harg6 arg12 harg12 4 (by decide) _ rfl _ _ _ _ _ rfl rfl rfl rfl _ _ _ _ _ _ _ _ _ Q (accF X3 X7 X8 X9 11) X6)
  isplitl [H6]; · iexact H6
  isplitl [H12]; · iexact H12
  iintro ⟨H6, H12⟩
  rw [show gpart (4 * (4 + 1)) (fun t => outT (accF X3 X7 X8 X9 11 t)) X6 = fastF X3 X7 X8 X9 from gpart_all _ _]
  iapply (wp_redoS 𝒱 c bd E i arg3 harg3 arg4 harg4 arg5 harg5 arg6 harg6 arg7 harg7 arg8 harg8 arg9 harg9 arg10 harg10 arg11 harg11 arg12 harg12 _ Q (qF X3) X7 X8 (fastF X3 X7 X8 X9))
  isplitl [H6]; · iexact H6
  isplitl [H7]; · iexact H7
  isplitl [H8]; · iexact H8
  isplitl [H10]; · iexact H10
  iintro ⟨H6, H7, H8, H10⟩
  iapply Hκ
  isplitl [H3]; · iexact H3
  isplitl [H6]; · iexact H6
  isplitl [H7]; · iexact H7
  isplitl [H8]; · iexact H8
  isplitl [H9]; · iexact H9
  isplitl [H10]; · iexact H10
  isplitl [H11]; · iexact H11
  iexact H12

end Cert.Proof.PI

end
-- ==== Proof.PI.Run.lean ====
module

public import proofs.«01_k».proof.Proof.PI.Body
public import proofs.«01_k».proof.Proof.Gen.KernelIdeal.Frame
public import Idealize.ShloMosaic.Lib.Pipeline.ValueKit
public import Idealize.ShloMosaic.Lib.Pipeline.TableIdle

@[expose] public section

/-!
# The run

The grid has 260 points, thirteen to each batch and key-value head. The tables are filled at the first of
the thirteen and found filled at the twelve others; every point writes its own output block.
-/

noncomputable section

namespace Cert.Proof.PI

open Cert.KernelIdeal Cert.KernelIdeal.Gen
open Idealize.ShloMosaic Idealize.ShloMosaic.TcCoe Idealize.ShloMosaic.Tactic
open Idealize.ShloMosaic.Pipeline (Dat BodyObligation ΦA)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

/-- The fill's condition holds at the first of each thirteen points. -/
theorem cond1 : ∀ t : Fin cfg0.N, k0_cond1 (grid0.coords t) = 1#1 ↔ t.val % 13 = 0 :=
  (by decide +kernel : ∀ t : Fin grid0.N, k0_cond1 (grid0.coords t) = 1#1 ↔ t.val % 13 = 0)

/-- The block of the keys at a point: its batch and its head. -/
theorem idx1 : ∀ t : Fin cfg0.N, win0_1.index t = ![t.val / 26, 0, t.val / 13 % 2] :=
  (by decide +kernel : ∀ t : Fin grid0.N, win0_1.index t = ![t.val / 26, 0, t.val / 13 % 2])

/-- The block of the values at a point: its batch and its head. -/
theorem idx2 : ∀ t : Fin cfg0.N, win0_2.index t = ![t.val / 26, 0, t.val / 13 % 2] :=
  (by decide +kernel : ∀ t : Fin grid0.N, win0_2.index t = ![t.val / 26, 0, t.val / 13 % 2])

/-- The queries' block, the keys' block and the values' block at a point. -/
def qblk (c : Dev nD) (t : Fin cfg0.N) : Vec F S1x640x512 .bf16 := iblk m c 0 t
@[inherit_doc qblk] def kblk (c : Dev nD) (t : Fin cfg0.N) : Vec F S1x8320x128 .bf16 := iblk m c 1 t
@[inherit_doc qblk] def vblk (c : Dev nD) (t : Fin cfg0.N) : Vec F S1x8320x128 .bf16 := iblk m c 2 t

/-- An entry of the keys' block in the array. -/
theorem kblk_apply (c : Dev nD) (t : Fin cfg0.N) (y : S1x8320x128.Idx) (y' : S10x8320x256.Idx)
    (h0 : (y' 0).val = t.val / 26) (h1 : (y' 1).val = (y 1).val) (h2 : (y' 2).val = 128 * (t.val / 13 % 2) + (y 2).val) :
    kblk m c t y = m ((c : Thread nD τ).loc main_arg1) y' := by
  unfold kblk iblk V
  blk_simp [idx1 t]
  congr 1; funext a; apply Fin.ext
  blk_simp [idx1 t]
  have e0 : (y 0).val = 0 := by have := (y 0).isLt; change _ < 1 at this; omega
  fin_cases a
  · simpa using by omega
  · simpa using by omega
  · simpa using by omega

/-- Over the thirteen points of a batch and a head the keys' block is the same. -/
theorem kblk_same (c : Dev nD) (t t' : Fin cfg0.N) (h : t.val / 13 = t'.val / 13) : kblk m c t = kblk m c t' := by
  funext y
  have ht : t.val < 260 := t.isLt
  have y1 := (y 1).isLt; change _ < 8320 at y1
  have y2 := (y 2).isLt; change _ < 128 at y2
  rw [kblk_apply m c t y (ix3 ⟨t.val / 26, by omega⟩ ⟨(y 1).val, y1⟩ ⟨128 * (t.val / 13 % 2) + (y 2).val, by omega⟩) rfl rfl rfl]
  exact (kblk_apply m c t' y _ (show t.val / 26 = t'.val / 26 by omega) rfl
    (show 128 * (t.val / 13 % 2) + (y 2).val = 128 * (t'.val / 13 % 2) + (y 2).val by omega)).symm

/-- An entry of the values' block in the array. -/
theorem vblk_apply (c : Dev nD) (t : Fin cfg0.N) (y : S1x8320x128.Idx) (y' : S10x8320x256.Idx)
    (h0 : (y' 0).val = t.val / 26) (h1 : (y' 1).val = (y 1).val) (h2 : (y' 2).val = 128 * (t.val / 13 % 2) + (y 2).val) :
    vblk m c t y = m ((c : Thread nD τ).loc main_arg2) y' := by
  unfold vblk iblk V
  blk_simp [idx2 t]
  congr 1; funext a; apply Fin.ext
  blk_simp [idx2 t]
  have e0 : (y 0).val = 0 := by have := (y 0).isLt; change _ < 1 at this; omega
  fin_cases a
  · simpa using by omega
  · simpa using by omega
  · simpa using by omega

/-- Over the thirteen points of a batch and a head the values' block is the same. -/
theorem vblk_same (c : Dev nD) (t t' : Fin cfg0.N) (h : t.val / 13 = t'.val / 13) : vblk m c t = vblk m c t' := by
  funext y
  have ht : t.val < 260 := t.isLt
  have y1 := (y 1).isLt; change _ < 8320 at y1
  have y2 := (y 2).isLt; change _ < 128 at y2
  rw [vblk_apply m c t y (ix3 ⟨t.val / 26, by omega⟩ ⟨(y 1).val, y1⟩ ⟨128 * (t.val / 13 % 2) + (y 2).val, by omega⟩) rfl rfl rfl]
  exact (vblk_apply m c t' y _ (show t.val / 26 = t'.val / 26 by omega) rfl
    (show 128 * (t.val / 13 % 2) + (y 2).val = 128 * (t'.val / 13 % 2) + (y 2).val by omega)).symm

/-! ## The whole body at a point -/

section
variable (𝒱 : Variants) (c : Dev nD) (bd : Option 𝒱.V) (E : Set ℕ)

/-- The body at a point that fills the tables. -/
theorem wp_first (i : grid0.Coords) (arg3 : Memref sig .tc .vmem S1x640x512 .bf16) (harg3 : arg3.IsWhole) (arg4 : Memref sig .tc .vmem S1x8320x128 .bf16) (harg4 : arg4.IsWhole) (arg5 : Memref sig .tc .vmem S1x8320x128 .bf16) (harg5 : arg5.IsWhole) (arg6 : Memref sig .tc .vmem S1x640x512 .bf16) (harg6 : arg6.IsWhole) (arg7 : Memref sig .tc .vmem S8448x128 .bf16) (harg7 : arg7.IsWhole) (arg8 : Memref sig .tc .vmem S8448x256 .bf16) (harg8 : arg8.IsWhole) (arg9 : Memref sig .tc .vmem S8x128 .f32) (harg9 : arg9.IsWhole) (arg10 : Memref sig .tc .vmem S5x512x128 .bf16) (harg10 : arg10.IsWhole) (arg11 : Memref sig .tc .vmem S5x512x128 .f32) (harg11 : arg11.IsWhole) (arg12 : Memref sig .tc .vmem S5x512x256 .f32) (harg12 : arg12.IsWhole) (h : k0_cond1 i = 1#1) (Q : PUnit → sProp 𝕄)
    (X3 X6 : Vec F S1x640x512 .bf16) (K V : Vec F S1x8320x128 .bf16) (X7 : Vec F S8448x128 .bf16) (X8 : Vec F S8448x256 .bf16) (X9 : Vec F S8x128 .f32) (X10 : Vec F S5x512x128 .bf16) (X11 : Vec F S5x512x128 .f32) (X12 : Vec F S5x512x256 .f32) :
    iprop(own c arg3 X3 ∗ own c arg4 K ∗ own c arg5 V ∗ own c arg6 X6 ∗ own c arg7 X7 ∗ own c arg8 X8 ∗ own c arg9 X9 ∗ own c arg10 X10 ∗ own c arg11 X11 ∗ own c arg12 X12 ∗
      (own c arg3 X3 ∗ own c arg4 K ∗ own c arg5 V ∗ own c arg6 (outF X3 K V) ∗ own c arg7 (kpF K) ∗ own c arg8 (vaugF V) ∗ own c arg9 (k9F K)
        ∗ (∃ X, own c arg10 X) ∗ (∃ X, own c arg11 X) ∗ (∃ X, own c arg12 X) -∗ Q ⟨⟩))
      ⊢ wp frame (wpE (defs₀ (F := F)) 𝒱 (c : Thread nD τ) bd) E (cc0_gqa_attention i arg3 harg3 arg4 harg4 arg5 harg5 arg6 harg6 arg7 harg7 arg8 harg8 arg9 harg9 arg10 harg10 arg11 harg11 arg12 harg12) Q := by
  rw [cc0_gqa_attention_eq_skeleton, skel_fill (h := h)]
  iintro ⟨H3, H4, H5, H6, H7, H8, H9, H10, H11, H12, Hκ⟩
  iapply (wp_fillS 𝒱 c bd E i arg3 harg3 arg4 harg4 arg5 harg5 arg6 harg6 arg7 harg7 arg8 harg8 arg9 harg9 arg10 harg10 arg11 harg11 arg12 harg12 h _ Q K V X7 X8 X9)
  isplitl [H4]; · iexact H4
  isplitl [H5]; · iexact H5
  isplitl [H7]; · iexact H7
  isplitl [H8]; · iexact H8
  isplitl [H9]; · iexact H9
  iintro ⟨H4, H5, H7, H8, H9⟩
  iapply (wp_mainS 𝒱 c bd E i arg3 harg3 arg4 harg4 arg5 harg5 arg6 harg6 arg7 harg7 arg8 harg8 arg9 harg9 arg10 harg10 arg11 harg11 arg12 harg12 Q X3 X6 (kpF K) (vaugF V) (k9F K) X10 X11 X12)
  isplitl [H3]; · iexact H3
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H3, H6, H7, H8, H9, H10, H11, H12⟩
  iapply Hκ
  isplitl [H3]; · iexact H3
  isplitl [H4]; · iexact H4
  isplitl [H5]; · iexact H5
  isplitl [H6]; · unfold outF; iexact H6
  isplitl [H7]; · iexact H7
  isplitl [H8]; · iexact H8
  isplitl [H9]; · iexact H9
  isplitl [H10]; · iexists _; iexact H10
  isplitl [H11]; · iexists _; iexact H11
  iexists _; iexact H12

/-- The body at a point that finds the tables filled. -/
theorem wp_next (i : grid0.Coords) (arg3 : Memref sig .tc .vmem S1x640x512 .bf16) (harg3 : arg3.IsWhole) (arg4 : Memref sig .tc .vmem S1x8320x128 .bf16) (harg4 : arg4.IsWhole) (arg5 : Memref sig .tc .vmem S1x8320x128 .bf16) (harg5 : arg5.IsWhole) (arg6 : Memref sig .tc .vmem S1x640x512 .bf16) (harg6 : arg6.IsWhole) (arg7 : Memref sig .tc .vmem S8448x128 .bf16) (harg7 : arg7.IsWhole) (arg8 : Memref sig .tc .vmem S8448x256 .bf16) (harg8 : arg8.IsWhole) (arg9 : Memref sig .tc .vmem S8x128 .f32) (harg9 : arg9.IsWhole) (arg10 : Memref sig .tc .vmem S5x512x128 .bf16) (harg10 : arg10.IsWhole) (arg11 : Memref sig .tc .vmem S5x512x128 .f32) (harg11 : arg11.IsWhole) (arg12 : Memref sig .tc .vmem S5x512x256 .f32) (harg12 : arg12.IsWhole) (h : ¬ k0_cond1 i = 1#1) (Q : PUnit → sProp 𝕄)
    (X3 X6 : Vec F S1x640x512 .bf16) (K V : Vec F S1x8320x128 .bf16) (X10 : Vec F S5x512x128 .bf16) (X11 : Vec F S5x512x128 .f32) (X12 : Vec F S5x512x256 .f32) :
    iprop(own c arg3 X3 ∗ own c arg6 X6 ∗ own c arg7 (kpF K) ∗ own c arg8 (vaugF V) ∗ own c arg9 (k9F K) ∗ own c arg10 X10 ∗ own c arg11 X11 ∗ own c arg12 X12 ∗
      (own c arg3 X3 ∗ own c arg6 (outF X3 K V) ∗ own c arg7 (kpF K) ∗ own c arg8 (vaugF V) ∗ own c arg9 (k9F K)
        ∗ (∃ X, own c arg10 X) ∗ (∃ X, own c arg11 X) ∗ (∃ X, own c arg12 X) -∗ Q ⟨⟩))
      ⊢ wp frame (wpE (defs₀ (F := F)) 𝒱 (c : Thread nD τ) bd) E (cc0_gqa_attention i arg3 harg3 arg4 harg4 arg5 harg5 arg6 harg6 arg7 harg7 arg8 harg8 arg9 harg9 arg10 harg10 arg11 harg11 arg12 harg12) Q := by
  rw [cc0_gqa_attention_eq_skeleton, skel_main (h := h)]
  iintro ⟨H3, H6, H7, H8, H9, H10, H11, H12, Hκ⟩
  iapply (wp_mainS 𝒱 c bd E i arg3 harg3 arg4 harg4 arg5 harg5 arg6 harg6 arg7 harg7 arg8 harg8 arg9 harg9 arg10 harg10 arg11 harg11 arg12 harg12 Q X3 X6 (kpF K) (vaugF V) (k9F K) X10 X11 X12)
  isplitl [H3]; · iexact H3
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H3, H6, H7, H8, H9, H10, H11, H12⟩
  iapply Hκ
  isplitl [H3]; · iexact H3
  isplitl [H6]; · unfold outF; iexact H6
  isplitl [H7]; · iexact H7
  isplitl [H8]; · iexact H8
  isplitl [H9]; · iexact H9
  isplitl [H10]; · iexists _; iexact H10
  isplitl [H11]; · iexists _; iexact H11
  iexists _; iexact H12

end

/-! ## What is carried from point to point -/

/-- A whole scratch buffer held is its points-to. -/
theorem whole7 (c : Dev nD) (x : Vec F S8448x128 .bf16) : (own c (Memref.whole cc0_scratch0) x : sProp 𝕄) = (((c : Thread nD τ).loc cc0_scratch0) ↦{fullShare} x) :=
  (owns_eq_rep (c : Thread nD τ) (Memref.whole cc0_scratch0) fullShare x).symm.trans (owns_whole (c : Thread nD τ) cc0_scratch0 fullShare x)
@[inherit_doc whole7] theorem whole8 (c : Dev nD) (x : Vec F S8448x256 .bf16) : (own c (Memref.whole cc0_scratch1) x : sProp 𝕄) = (((c : Thread nD τ).loc cc0_scratch1) ↦{fullShare} x) :=
  (owns_eq_rep (c : Thread nD τ) (Memref.whole cc0_scratch1) fullShare x).symm.trans (owns_whole (c : Thread nD τ) cc0_scratch1 fullShare x)
@[inherit_doc whole7] theorem whole9 (c : Dev nD) (x : Vec F S8x128 .f32) : (own c (Memref.whole cc0_scratch2) x : sProp 𝕄) = (((c : Thread nD τ).loc cc0_scratch2) ↦{fullShare} x) :=
  (owns_eq_rep (c : Thread nD τ) (Memref.whole cc0_scratch2) fullShare x).symm.trans (owns_whole (c : Thread nD τ) cc0_scratch2 fullShare x)
@[inherit_doc whole7] theorem whole10 (c : Dev nD) (x : Vec F S5x512x128 .bf16) : (own c (Memref.whole cc0_scratch3) x : sProp 𝕄) = (((c : Thread nD τ).loc cc0_scratch3) ↦{fullShare} x) :=
  (owns_eq_rep (c : Thread nD τ) (Memref.whole cc0_scratch3) fullShare x).symm.trans (owns_whole (c : Thread nD τ) cc0_scratch3 fullShare x)
@[inherit_doc whole7] theorem whole11 (c : Dev nD) (x : Vec F S5x512x128 .f32) : (own c (Memref.whole cc0_scratch4) x : sProp 𝕄) = (((c : Thread nD τ).loc cc0_scratch4) ↦{fullShare} x) :=
  (owns_eq_rep (c : Thread nD τ) (Memref.whole cc0_scratch4) fullShare x).symm.trans (owns_whole (c : Thread nD τ) cc0_scratch4 fullShare x)
@[inherit_doc whole7] theorem whole12 (c : Dev nD) (x : Vec F S5x512x256 .f32) : (own c (Memref.whole cc0_scratch5) x : sProp 𝕄) = (((c : Thread nD τ).loc cc0_scratch5) ↦{fullShare} x) :=
  (owns_eq_rep (c : Thread nD τ) (Memref.whole cc0_scratch5) fullShare x).symm.trans (owns_whole (c : Thread nD τ) cc0_scratch5 fullShare x)

/-- The six scratch buffers at given contents. -/
def scr (c : Dev nD) (X7 : Vec F S8448x128 .bf16) (X8 : Vec F S8448x256 .bf16) (X9 : Vec F S8x128 .f32) (X10 : Vec F S5x512x128 .bf16) (X11 : Vec F S5x512x128 .f32) (X12 : Vec F S5x512x256 .f32) : sProp 𝕄 :=
  iprop(own c (Memref.whole cc0_scratch0) X7 ∗ own c (Memref.whole cc0_scratch1) X8 ∗ own c (Memref.whole cc0_scratch2) X9 ∗ own c (Memref.whole cc0_scratch3) X10 ∗ own c (Memref.whole cc0_scratch4) X11 ∗ own c (Memref.whole cc0_scratch5) X12)

/-- The tables of a batch and a head, and the other scratch buffers at anything. -/
def held (c : Dev nD) (K V : Vec F S1x8320x128 .bf16) : sProp 𝕄 :=
  iprop((∃ X10 X11 X12, scr c (kpF K) (vaugF V) (k9F K) X10 X11 X12) ∗ ∃ r, prngReg c r)

/-- The scratch buffers at anything are held at some contents. -/
theorem any_open (c : Dev nD) : (ΦA spec0 c : sProp 𝕄) ⊢ iprop((∃ X7 X8 X9 X10 X11 X12, scr c X7 X8 X9 X10 X11 X12) ∗ ∃ r, prngReg c r) := by
  unfold Pipeline.ΦA
  rw [scopedRest0_eq]
  unfold scr
  iintro ⟨⟨⟨%X7, H7⟩, ⟨%X8, H8⟩, ⟨%X9, H9⟩, ⟨%X10, H10⟩, ⟨%X11, H11⟩, ⟨%X12, H12⟩⟩, Hr⟩
  isplitr [Hr]
  · iexists X7; iexists X8; iexists X9; iexists X10; iexists X11; iexists X12
    rw [whole7 c X7, whole8 c X8, whole9 c X9, whole10 c X10, whole11 c X11, whole12 c X12]
    isplitl [H7]; · iexact H7
    isplitl [H8]; · iexact H8
    isplitl [H9]; · iexact H9
    isplitl [H10]; · iexact H10
    isplitl [H11]; · iexact H11
    iexact H12
  iexact Hr

/-- Held at some contents they are at anything. -/
theorem any_close (c : Dev nD) (X7 : Vec F S8448x128 .bf16) (X8 : Vec F S8448x256 .bf16) (X9 : Vec F S8x128 .f32) (X10 : Vec F S5x512x128 .bf16) (X11 : Vec F S5x512x128 .f32) (X12 : Vec F S5x512x256 .f32) : iprop(scr c X7 X8 X9 X10 X11 X12 ∗ ∃ r, prngReg c r) ⊢ (ΦA spec0 c : sProp 𝕄) := by
  unfold Pipeline.ΦA
  rw [scopedRest0_eq]
  unfold scr
  rw [whole7 c X7, whole8 c X8, whole9 c X9, whole10 c X10, whole11 c X11, whole12 c X12]
  iintro ⟨⟨H7, H8, H9, H10, H11, H12⟩, Hr⟩
  isplitr [Hr]
  · isplitl [H7]; · iexists X7; iexact H7
    isplitl [H8]; · iexists X8; iexact H8
    isplitl [H9]; · iexists X9; iexact H9
    isplitl [H10]; · iexists X10; iexact H10
    isplitl [H11]; · iexists X11; iexact H11
    iexists X12; iexact H12
  iexact Hr

/-- The tables forgotten. -/
theorem held_any (c : Dev nD) (K V : Vec F S1x8320x128 .bf16) : held c K V ⊢ (ΦA spec0 c : sProp 𝕄) := by
  unfold held
  iintro ⟨⟨%X10, %X11, %X12, H⟩, Hr⟩
  iapply (any_close c _ _ _ X10 X11 X12)
  isplitl [H]; · iexact H
  iexact Hr

/-- What is carried before point `n`: at the first of each thirteen points scratch at anything, at the others the tables. -/
def carried (c : Dev nD) (n : ℕ) (h : n ≤ cfg0.N) : sProp 𝕄 :=
  if h' : n % 13 = 0 then ΦA spec0 c
  else held c (kblk m c ⟨n - 1, by omega⟩) (vblk m c ⟨n - 1, by omega⟩)

theorem carried_first (c : Dev nD) (n : ℕ) (h : n ≤ cfg0.N) (h' : n % 13 = 0) : carried m c n h = ΦA spec0 c := dif_pos h'

theorem carried_next (c : Dev nD) (t : Fin cfg0.N) (h : t.val ≤ cfg0.N) (h' : ¬ t.val % 13 = 0) :
    carried m c t.val h = held c (kblk m c t) (vblk m c t) := by
  unfold carried
  rw [dif_neg h', kblk_same m c ⟨t.val - 1, by omega⟩ t (show (t.val - 1) / 13 = t.val / 13 by omega),
    vblk_same m c ⟨t.val - 1, by omega⟩ t (show (t.val - 1) / 13 = t.val / 13 by omega)]

/-- The tables held after a point give what is carried to the next. -/
theorem carried_after (c : Dev nD) (t : Fin cfg0.N) (h : t.val + 1 ≤ cfg0.N) :
    held c (kblk m c t) (vblk m c t) ⊢ carried m c (t.val + 1) h := by
  unfold carried
  by_cases h' : (t.val + 1) % 13 = 0
  · rw [dif_pos h']; exact held_any c _ _
  · rw [dif_neg h']; exact .rfl

/-- The output block at a point. -/
def oblk (c : Dev nD) (t : Fin cfg0.N) : Vec F S1x640x512 .bf16 := outF (qblk m c t) (kblk m c t) (vblk m c t)

/-- The proof data: arrays as launched, inputs left in place, the output block of each point. -/
def dats (_ : Fin 1) (c : Dev nD) : Dat τ (Elt F) Unit ℕ (UR sig nD τ) ℕ cfg0 c where
  A w := V m c (Pipeline.arrRef spec0 w)
  after w t := match w with
    | ⟨0, _⟩ => qblk m c t
    | ⟨1, _⟩ => kblk m c t
    | ⟨2, _⟩ => vblk m c t
    | ⟨3, _⟩ => oblk m c t
  Φ t := carried m c t.val (Nat.le_of_lt_succ t.isLt)
  q _ := fullShare
  owed _ := 0

theorem after_w0 (c : Dev nD) (t : Fin cfg0.N) : (dats m 0 c).after 0 t = qblk m c t := by dsimp only [dats]
theorem after_w1 (c : Dev nD) (t : Fin cfg0.N) : (dats m 0 c).after 1 t = kblk m c t := by dsimp only [dats]
theorem after_w2 (c : Dev nD) (t : Fin cfg0.N) : (dats m 0 c).after 2 t = vblk m c t := by dsimp only [dats]
theorem after_w3 (c : Dev nD) (t : Fin cfg0.N) : (dats m 0 c).after 3 t = oblk m c t := by dsimp only [dats]
theorem before_w0 (c : Dev nD) (t : Fin cfg0.N) (d) : (dats m 0 c).before 0 t d = qblk m c t :=
  before0_0_of m (dats m 0 c) (by dsimp only [dats]) (fun t => after_w0 m c t) t d
theorem before_w1 (c : Dev nD) (t : Fin cfg0.N) (d) : (dats m 0 c).before 1 t d = kblk m c t :=
  before0_1_of m (dats m 0 c) (by dsimp only [dats]) (fun t => after_w1 m c t) t d
theorem before_w2 (c : Dev nD) (t : Fin cfg0.N) (d) : (dats m 0 c).before 2 t d = vblk m c t :=
  before0_2_of m (dats m 0 c) (by dsimp only [dats]) (fun t => after_w2 m c t) t d
theorem Φ_before (c : Dev nD) (t : Fin cfg0.N) : (dats m 0 c).Φ t.castSucc = carried m c t.val (Nat.le_of_lt t.isLt) := by
  dsimp only [dats]; exact Pipeline.Dat.Φ_castSucc (carried m c) t
theorem Φ_after (c : Dev nD) (t : Fin cfg0.N) : (dats m 0 c).Φ t.succ = carried m c (t.val + 1) t.isLt := by
  dsimp only [dats]; rfl

/-- The body table's entry is the kernel on the point's staging memrefs. -/
theorem prog_eq (t : Fin cfg0.N) : (defs₀ (F := F)) .tc cfg0.body (cfg0.bodyArgs t (cfg0.slots t)) = bodyAt0 t := rfl

set_option backward.isDefEq.respectTransparency.types false in
/-- The body takes what is carried before a point to what is carried after it, and leaves the output block. -/
theorem body_obligation (𝒱₀ : Variants) (c : Dev nD) : BodyObligation (dats (F := F) m 0 c) (defs₀ (F := F)) 𝒱₀ () Set.univ := fun t => by
  rw [bigSep_W0, bigSep_W0]
  dsimp only
  simp only [before_w0, before_w1, before_w2, after_w0, after_w1, after_w2, after_w3]
  rw [Φ_before, Φ_after]
  unfold Dat.owesAt Pipeline.owesWithin
  rw [show (dats m 0 c).owed t.castSucc = 0 from rfl, show (dats m 0 c).owed t.succ = 0 from rfl]
  simp only [owns_eq_rep (c : Thread nD τ)]
  sl_rw [prog_eq t]
  by_cases h : t.val % 13 = 0
  · rw [carried_first m c t.val _ h]
    iintro ⟨HΦ, HW, ⟨%d0, H3⟩, ⟨%d1, H4⟩, ⟨%d2, H5⟩, ⟨%d3, H6⟩⟩
    ihave HΦ' := (any_open c) $$ HΦ
    unfold scr
    icases HΦ' with ⟨⟨%X7, %X8, %X9, %X10, %X11, %X12, H7, H8, H9, H10, H11, H12⟩, Hr⟩
    iapply (wp_first 𝒱₀ c none Set.univ (grid0.coords t) _ _ _ _ _ _ _ _ _ _ _ _ _ _ _ _ _ _ _ _ ((cond1 t).mpr h) _ (qblk m c t) _ (kblk m c t) (vblk m c t) X7 X8 X9 X10 X11 X12)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro ⟨H3, H4, H5, H6, H7, H8, H9, ⟨%Y10, H10⟩, ⟨%Y11, H11⟩, ⟨%Y12, H12⟩⟩
    isplitl [H7 H8 H9 H10 H11 H12 Hr]
    · iapply (carried_after m c t _)
      unfold held scr
      isplitr [Hr]
      · iexists Y10; iexists Y11; iexists Y12
        isplitl [H7]; · iexact H7
        isplitl [H8]; · iexact H8
        isplitl [H9]; · iexact H9
        isplitl [H10]; · iexact H10
        isplitl [H11]; · iexact H11
        iexact H12
      iexact Hr
    isplitl [HW]; · iexact HW
    isplitl [H3]; · iexact H3
    isplitl [H4]; · iexact H4
    isplitl [H5]; · iexact H5
    iexact H6
  · rw [carried_next m c t _ h]
    unfold held scr
    iintro ⟨⟨⟨%X10, %X11, %X12, H7, H8, H9, H10, H11, H12⟩, Hr⟩, HW, ⟨%d0, H3⟩, ⟨%d1, H4⟩, ⟨%d2, H5⟩, ⟨%d3, H6⟩⟩
    iapply (wp_next 𝒱₀ c none Set.univ (grid0.coords t) _ _ _ _ _ _ _ _ _ _ _ _ _ _ _ _ _ _ _ _ (fun e => h ((cond1 t).mp e)) _ (qblk m c t) _ (kblk m c t) (vblk m c t) X10 X11 X12)
    isplitl [H3]; · iexact H3
    isplitl [H6]; · iexact H6
    isplitl [H7]; · iexact H7
    isplitl [H8]; · iexact H8
    isplitl [H9]; · iexact H9
    isplitl [H10]; · iexact H10
    isplitl [H11]; · iexact H11
    isplitl [H12]; · iexact H12
    iintro ⟨H3, H6, H7, H8, H9, ⟨%Y10, H10⟩, ⟨%Y11, H11⟩, ⟨%Y12, H12⟩⟩
    isplitl [H7 H8 H9 H10 H11 H12 Hr]
    · iapply (carried_after m c t _)
      unfold held scr
      isplitr [Hr]
      · iexists Y10; iexists Y11; iexists Y12
        isplitl [H7]; · iexact H7
        isplitl [H8]; · iexact H8
        isplitl [H9]; · iexact H9
        isplitl [H10]; · iexact H10
        isplitl [H11]; · iexact H11
        iexact H12
      iexact Hr
    isplitl [HW]; · iexact HW
    isplitl [H3]; · iexact H3
    isplitl [H4]; · iexact H4
    isplitl [H5]; · iexact H5
    iexact H6

/-! ## The run -/

/-- The program ends, its arrays at what the points wrote and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track cfgs (dats m) 0 launch0 defs₀ Variants.none m ρ main
    (hbody := fun c => (body_obligation m Variants.none c).loose)
    (hshare := fun c => (dats m 0 c).share_full fun _ => rfl)
    (howed := fun _ _ => rfl) (V := V m) (hmain := hmain m Variants.none)
    (hA := fun _ _ => rfl)
    (hin := fun c => by
      rw [show (dats m 0 c).Φ 0 = carried m c 0 (Nat.zero_le _) from rfl, carried_first m c 0 _ rfl])
    (hout := fun c => by
      rw [show (dats m 0 c).Φ (Fin.last cfg0.N) = carried m c cfg0.N le_rfl from rfl, carried_first m c _ _ (by rw [show cfg0.N = 260 from N_0])])
    (Q' := fun r => Pipeline.FramePost cfgs (dats m) 0 (V m) r ∧ r.2.sem = fun _ => 0) (hQ' := fun _ h => h)

/-- The program ends with its arguments unchanged and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) fun _ _ => rfl) (run_main m ρ)

end Cert.Proof.PI

end

end
-- ==== Proof.Soft.lean ====
module

public import Idealize.ShloMosaic.Lib.Pipeline.ValueKit

@[expose] public section

/-!
# Sums of weighted values

A quotient of two sums with common weights `2 ^ (s - M)` does not depend on `M`, whatever the values weighted, and is the
softmax of the natural exponentials that a reference takes.
-/

noncomputable section

namespace Cert.Val

open Idealize.ShloMosaic

/-- A sum of reals is the real sum. -/
theorem coe_sum {ι : Type} (S : Finset ι) (f : ι → ℝ) : (∑ i ∈ S, ((f i : ℝ) : EReal)) = ((∑ i ∈ S, f i : ℝ) : EReal) := by
  classical
  induction S using Finset.induction_on with
  | empty => simp
  | insert a S ha ih => rw [Finset.sum_insert ha, Finset.sum_insert ha, ih, EReal.coe_add]

/-- A nonnegative real distributes over any sum. -/
theorem mul_sum {ι : Type} (S : Finset ι) (c : ℝ) (hc : 0 ≤ c) (f : ι → EReal) :
    (c : EReal) * ∑ i ∈ S, f i = ∑ i ∈ S, (c : EReal) * f i := by
  classical
  induction S using Finset.induction_on with
  | empty => simp
  | insert a S ha ih =>
    rw [Finset.sum_insert ha, Finset.sum_insert ha, ← ih,
      EReal.left_distrib_of_nonneg_of_ne_top (by exact_mod_cast hc) (EReal.coe_ne_top c)]

/-- A dot product of reals is real. -/
theorem dot_real {ι : Type} [Fintype ι] (f g : ι → ℝ) :
    (∑ i, ((f i : ℝ) : EReal) * ((g i : ℝ) : EReal)) = ((∑ i, f i * g i : ℝ) : EReal) := by
  rw [← coe_sum]
  exact Finset.sum_congr rfl fun i _ => (EReal.coe_mul _ _).symm

/-- A dot product of extended reals that are real is the real dot product. -/
theorem sum_mul_real {ι : Type} [Fintype ι] (f g : ι → EReal) (hf : ∀ i, f i = ((f i).toReal : EReal))
    (hg : ∀ i, g i = ((g i).toReal : EReal)) : (∑ i, f i * g i) = ((∑ i, (f i).toReal * (g i).toReal : ℝ) : EReal) := by
  rw [← dot_real]
  exact Finset.sum_congr rfl fun i _ => congrArg₂ (· * ·) (hf i) (hg i)

/-- A maximum from minus infinity of values below plus infinity, one of which is a real, is a real. -/
theorem fold_max_real {ι : Type} [Fintype ι] (f : ι → EReal) (ht : ∀ i, f i ≠ ⊤) (i : ι) (hb : f i ≠ ⊥) :
    ∃ M : ℝ, Finset.fold max ⊥ f Finset.univ = (M : EReal) := by
  refine ⟨(Finset.fold max ⊥ f Finset.univ).toReal, (EReal.coe_toReal (ne_of_lt ?_) (ne_of_gt ?_)).symm⟩
  · exact (Finset.fold_max_lt _).2 ⟨bot_lt_top, fun x _ => lt_top_iff_ne_top.2 (ht x)⟩
  · exact (Finset.lt_fold_max _).2 (Or.inr ⟨i, Finset.mem_univ _, bot_lt_iff_ne_bot.2 hb⟩)

/-- The word of minus infinity. -/
theorem ofBits_bot : Ideal.ofBits FTy.f32 4286578688#32 = ⊥ := by simp [Ideal.ofBits, Ideal.ieee]

/-- The word of two. -/
theorem ofBits_two : Ideal.ofBits FTy.f32 1073741824#32 = ((2 : ℝ) : EReal) := by
  have h1 : (0x40000000#32).extractLsb' 31 1 = 0#1 := by decide
  have h2 : (0x40000000#32).extractLsb' 23 8 = 128#8 := by decide
  have h3 : (0x40000000#32).extractLsb' 0 23 = 0#23 := by decide
  norm_num [Ideal.ofBits, Ideal.ieee, h1, h2, h3, zpow_neg, zpow_ofNat]

/-- The factor of the bound is a real. -/
theorem ofBits_factor : ∃ r : ℝ, Ideal.ofBits FTy.f32 1065361408#32 = (r : EReal) := by
  simp only [Ideal.ofBits, Ideal.ieee]
  norm_num
  exact ⟨_, rfl⟩

/-- The weight of a score. -/
def wt (x : ℝ) : ℝ := (2 : ℝ) ^ x

theorem wt_pos (x : ℝ) : 0 < wt x := Real.rpow_pos_of_pos (by norm_num) x

theorem wt_sub (x y : ℝ) : wt (x - y) = (wt y)⁻¹ * wt x := by
  unfold wt
  rw [Real.rpow_sub (by norm_num)]
  ring

/-- The two-power of a difference of reals. -/
theorem exp2_sub (x y : ℝ) : Ideal.exp2 ((x : EReal) - (y : EReal)) = ((wt (x - y) : ℝ) : EReal) := by
  rw [← EReal.coe_sub, Ideal.exp2_coe]
  rfl

theorem log_two : Ideal.log ((2 : ℝ) : EReal) = ((Real.log 2 : ℝ) : EReal) := by
  show (if (2 : ℝ) ≤ 0 then (⊥ : EReal) else ((Real.log 2 : ℝ) : EReal)) = _
  rw [if_neg (by norm_num)]

/-- The natural exponential of a scaled score. -/
theorem exp_sub (x y : ℝ) : Ideal.exp ((x : EReal) * Ideal.log ((2 : ℝ) : EReal) - (y : EReal)) =
    (((Real.exp y)⁻¹ * wt x : ℝ) : EReal) := by
  rw [log_two, ← EReal.coe_mul, ← EReal.coe_sub, Ideal.exp_coe, Real.exp_sub]
  unfold wt
  rw [Real.rpow_def_of_pos (by norm_num)]
  congr 1
  rw [mul_comm x, div_eq_inv_mul]

/-- The weighted mean both sides compute. -/
def mean {ι : Type} [Fintype ι] (s : ι → ℝ) (v : ι → EReal) : EReal :=
  (((∑ i, wt (s i))⁻¹ : ℝ) : EReal) * ∑ i, ((wt (s i) : ℝ) : EReal) * v i

/-- A quotient by a nonzero real. -/
theorem div_real (x : EReal) (r : ℝ) (h : r ≠ 0) : Ideal.div x (r : EReal) = ((r⁻¹ : ℝ) : EReal) * x := by
  have h' : ((r : ℝ) : EReal) ≠ 0 := by exact_mod_cast h
  simp only [Ideal.div, h', if_false, EReal.coe_inv]
  exact mul_comm _ _

theorem sum_wt_pos {ι : Type} [Fintype ι] [Nonempty ι] (s : ι → ℝ) : 0 < ∑ i, wt (s i) :=
  Finset.sum_pos (fun i _ => wt_pos _) Finset.univ_nonempty

/-- The quotient of the weighted sums is the mean, whatever is taken off the scores. -/
theorem mean_of_div {ι : Type} [Fintype ι] [Nonempty ι] (s : ι → ℝ) (v : ι → EReal) (M : ℝ) :
    Ideal.div (∑ i, ((wt (s i - M) : ℝ) : EReal) * v i) (∑ i, ((wt (s i - M) : ℝ) : EReal)) = mean s v := by
  have hM := wt_pos M
  have hZ := sum_wt_pos s
  have e1 : (∑ i, ((wt (s i - M) : ℝ) : EReal)) = (((wt M)⁻¹ * ∑ i, wt (s i) : ℝ) : EReal) := by
    rw [coe_sum, Finset.mul_sum]
    exact congrArg _ (Finset.sum_congr rfl fun i _ => wt_sub _ _)
  have e2 : (∑ i, ((wt (s i - M) : ℝ) : EReal) * v i) = (((wt M)⁻¹ : ℝ) : EReal) * ∑ i, ((wt (s i) : ℝ) : EReal) * v i := by
    rw [mul_sum _ _ (inv_pos.2 hM).le]
    refine Finset.sum_congr rfl fun i _ => ?_
    rw [wt_sub, EReal.coe_mul, mul_assoc]
  rw [e1, e2, div_real _ _ (mul_pos (inv_pos.2 hM) hZ).ne', ← mul_assoc, ← EReal.coe_mul]
  unfold mean
  congr 2
  field_simp

/-- The softmax of the scaled scores, applied to the values, is the mean. -/
theorem mean_of_softmax {ι : Type} [Fintype ι] [Nonempty ι] (s : ι → ℝ) (v : ι → EReal) (M : ℝ) :
    (∑ i, v i * Ideal.div (Ideal.exp ((s i : EReal) * Ideal.log ((2 : ℝ) : EReal) - (M : EReal)))
      (∑ j, Ideal.exp ((s j : EReal) * Ideal.log ((2 : ℝ) : EReal) - (M : EReal)))) = mean s v := by
  have hM := Real.exp_pos M
  have hZ := sum_wt_pos s
  have e1 : (∑ j, Ideal.exp ((s j : EReal) * Ideal.log ((2 : ℝ) : EReal) - (M : EReal))) =
      (((Real.exp M)⁻¹ * ∑ i, wt (s i) : ℝ) : EReal) := by
    rw [Finset.mul_sum, ← coe_sum]
    exact Finset.sum_congr rfl fun i _ => exp_sub _ _
  rw [e1]
  unfold mean
  rw [mul_sum _ _ (inv_pos.2 hZ).le]
  refine Finset.sum_congr rfl fun i _ => ?_
  rw [exp_sub, div_real _ _ (mul_pos (inv_pos.2 hM) hZ).ne', ← EReal.coe_mul, mul_comm (v i), ← mul_assoc (((∑ i, wt (s i))⁻¹ : ℝ) : EReal), ← EReal.coe_mul]
  congr 2
  field_simp

end Cert.Val

end
-- ==== Proof.Ref.lean ====
module

public import proofs.«01_k».proof.Proof.Gen.ReferenceIdeal.Run
public import proofs.«01_k».proof.Proof.Soft

@[expose] public section

set_option maxRecDepth 16384

/-!
# The reference at an index

The reference's result, at an index, is the weighted mean of the values by the scores of the query row.
-/

noncomputable section

namespace Cert.Val

open Cert.ReferenceIdeal Cert.ReferenceIdeal.Gen Cert.ReferenceIdeal.Value
open Idealize.ShloMosaic Idealize.ShloMosaic.TcCoe

/-- The reference's scaled scores. -/
def scores (q : Vec Ideal S10x8320x1024 .bf16) (k : Vec Ideal S10x8320x256 .bf16) : FVec Ideal S10x2x4x8320x8208 .f32 :=
  mulf (transpose S10x2x4x8320x8208 [0, 1, 4, 3, 2] (Host.dotGeneral dot_S10x8208x2x128_S10x8320x2x4x128_S10x2x8208x8320x4_3_4_1_13_02_02 none (shapeCast _ (extf .f32 (extractStridedSlice S10x8208x256 ![0, 112, 0] k slices_S10x8320x256_S10x8208x256_0_112_0) bitsLt_bf16_f32) shapeCasts_S10x8208x256_S10x8208x2x128) (shapeCast _ (extf .f32 q bitsLt_bf16_f32) shapeCasts_S10x8320x1024_S10x8320x2x4x128)) transposes_S10x2x8208x8320x4_S10x2x4x8320x8208_0_1_4_3_2) (broadcastInDim S10x2x4x8320x8208 ![] bcast_S_S10x2x4x8320x8208 (Host.log (constant S_ .f32 0x40000000#32)))

/-- The row maxima of scores. -/
def rowMax (S : FVec Ideal S10x2x4x8320x8208 .f32) : FVec Ideal S10x2x4x8320 .f32 :=
  maximumf (broadcastInDim S10x2x4x8320 ![] bcast_S_S10x2x4x8320 (constant S_ .f32 0xFF800000#32)) (Host.reduce FloatOps.maximumf S (constant S_ .f32 0xFF800000#32) reducesTo_S10x2x4x8320x8208_S10x2x4x8320_d4 h_S_)

/-- The exponentials of scores less a value of their row. -/
def exps (S : FVec Ideal S10x2x4x8320x8208 .f32) (M : FVec Ideal S10x2x4x8320 .f32) : FVec Ideal S10x2x4x8320x8208 .f32 :=
  Host.exp (subf S (broadcastInDim S10x2x4x8320x8208 ![0, 1, 2, 3, 4] bcast_S10x2x4x8320x1_S10x2x4x8320x8208_0_1_2_3_4 (broadcastInDim S10x2x4x8320x1 ![0, 1, 2, 3] bcast_S10x2x4x8320_S10x2x4x8320x1_0_1_2_3 M)))

/-- The result from the exponentials and the values. -/
def mix (e : FVec Ideal S10x2x4x8320x8208 .f32) (v : Vec Ideal S10x8320x256 .bf16) : Vec Ideal S10x8320x1024 .bf16 :=
  truncf .bf16 (shapeCast S10x8320x1024 (transpose S10x8320x2x4x128 [0, 4, 1, 3, 2] (Host.dotGeneral dot_S10x8208x2x128_S10x2x4x8320x8208_S10x2x128x4x8320_1_4_3_23_02_01 none (shapeCast _ (extf .f32 (extractStridedSlice S10x8208x256 ![0, 112, 0] v slices_S10x8320x256_S10x8208x256_0_112_0) bitsLt_bf16_f32) shapeCasts_S10x8208x256_S10x8208x2x128) (Host.divf e (broadcastInDim S10x2x4x8320x8208 ![0, 1, 2, 3, 4] bcast_S10x2x4x8320x1_S10x2x4x8320x8208_0_1_2_3_4 (broadcastInDim S10x2x4x8320x1 ![0, 1, 2, 3] bcast_S10x2x4x8320_S10x2x4x8320x1_0_1_2_3 (Host.reduceAdd e (constant S_ .f32 0x00000000#32) reducesTo_S10x2x4x8320x8208_S10x2x4x8320_d4 h_S_))))) transposes_S10x2x128x4x8320_S10x8320x2x4x128_0_4_1_3_2) shapeCasts_S10x8320x2x4x128_S10x8320x1024) bitsLt_bf16_f32

/-- The reference's result in these parts. -/
theorem res_parts (m : (ℓ : Loc nD τ sig) → Buf (Elt Ideal) ℓ) (c : Dev nD) :
    res_main_v27 (F := Ideal) m c =
      mix (exps (scores (m ((c.tc : Thread nD τ).loc main_arg0)) (m ((c.tc : Thread nD τ).loc main_arg1)))
        (rowMax (scores (m ((c.tc : Thread nD τ).loc main_arg0)) (m ((c.tc : Thread nD τ).loc main_arg1)))))
        (m ((c.tc : Thread nD τ).loc main_arg2)) := rfl

/-- A real score of the query row `r` of batch `b` in column `col`'s head with the `j`-th key. -/
def score (q : Vec Ideal S10x8320x1024 .bf16) (k : Vec Ideal S10x8320x256 .bf16) (b : Fin 10) (r : Fin 8320) (col : Fin 1024)
    (j : Fin 8208) : ℝ :=
  ∑ x : Fin 128, (k (ix3 b ⟨112 + j.val, by omega⟩ ⟨col.val / 512 * 128 + x.val, by omega⟩) : EReal).toReal *
    (q (ix3 b r ⟨col.val / 512 * 512 + col.val / 128 % 4 * 128 + x.val, by omega⟩) : EReal).toReal

/-- The scaled scores at an index. -/
theorem scores_apply (q : Vec Ideal S10x8320x1024 .bf16) (k : Vec Ideal S10x8320x256 .bf16) (y : S10x2x4x8320x8208.Idx) :
    (scores q k y : EReal) = (∑ x : Fin 128,
        (k (ix3 (y 0) ⟨112 + (y 4).val, by have := (y 4).isLt; simp at this; omega⟩ ⟨(y 1).val * 128 + x.val, by have := (y 1).isLt; simp at this; omega⟩) : EReal) *
          q (ix3 (y 0) (y 3) ⟨(y 1).val * 512 + (y 2).val * 128 + x.val, by have := (y 1).isLt; have := (y 2).isLt; simp at *; omega⟩)) *
      Ideal.log (Ideal.ofBits FTy.f32 1073741824#32) := by
  unfold scores
  pointwise

/-- The scaled scores of finite queries and keys. -/
theorem scores_real (q : Vec Ideal S10x8320x1024 .bf16) (k : Vec Ideal S10x8320x256 .bf16)
    (hq : ∀ i, (q i : EReal) = ((q i : EReal).toReal : EReal)) (hk : ∀ i, (k i : EReal) = ((k i : EReal).toReal : EReal))
    (y : S10x2x4x8320x8208.Idx) : ∃ r : ℝ, (scores q k y : EReal) = (r : EReal) := by
  rw [scores_apply, ofBits_two, log_two]
  exact ⟨_, (congrArg (· * _) (sum_mul_real _ _ (fun _ => hk _) (fun _ => hq _))).trans (EReal.coe_mul _ _).symm⟩

theorem reduces_rows : S10x2x4x8320x8208.Reduces [4] S10x2x4x8320 := by decide

/-- A row maximum of real scores is real: any reduction by maximum over one axis. -/
theorem reduce_real {s t u : Shape} {a : Fin s.rank} (x : FVec Ideal s .f32) (h' : s.ReducesTo [a] t) (h : s.Reduces [a] t)
    (hu : 0 < u.numel) (ha : 0 < s.size a) (hx : ∀ i, ∃ r : ℝ, (x i : EReal) = (r : EReal)) (j : t.Idx) :
    ∃ M : ℝ, Host.reduce (FloatOps.maximumf (F := Ideal) (φ := .f32)) x (constant (F := Ideal) u .f32 0xFF800000#32) h' hu j =
      ((M : EReal) : Ideal .f32) := by
  have e := Host.reduce_eq_fold_single (u := u) (FloatOps.maximumf (F := Ideal) (φ := .f32)) x (constant (F := Ideal) u .f32 0xFF800000#32) h' h hu j
  obtain ⟨M, hM⟩ := fold_max_real (fun k : Fin (s.size a) => (x (h.lift j k) : EReal))
    (fun k => by obtain ⟨r, hr⟩ := hx (h.lift j k); rw [hr]; exact EReal.coe_ne_top r) ⟨0, ha⟩
    (by obtain ⟨r, hr⟩ := hx (h.lift j ⟨0, ha⟩); rw [hr]; exact EReal.coe_ne_bot r)
  refine ⟨M, e.trans (Eq.trans ?_ hM)⟩
  rw [← ofBits_bot]
  rfl

/-- A maximum with a vector that is minus infinity at an index. -/
theorem max_bot_apply {s : Shape} (A B : FVec Ideal s .f32) (j : s.Idx) (hA : (A j : EReal) = ⊥) :
    (maximumf A B j : EReal) = B j :=
  (congrArg (fun a : EReal => max a (B j)) hA).trans (max_eq_right bot_le)

/-- A splat of minus infinity at an index. -/
theorem splat_bot (j : S10x2x4x8320.Idx) :
    (broadcastInDim S10x2x4x8320 ![] bcast_S_S10x2x4x8320 (constant (F := Ideal) S_ .f32 0xFF800000#32) j : EReal) = ⊥ :=
  ofBits_bot

/-- The row maxima of real scores are real. -/
theorem rowMax_real (S : FVec Ideal S10x2x4x8320x8208 .f32) (hS : ∀ i, ∃ r : ℝ, (S i : EReal) = (r : EReal)) (y : S10x2x4x8320.Idx) :
    ∃ M : ℝ, (rowMax S y : EReal) = (M : EReal) := by
  obtain ⟨M, hM⟩ := reduce_real S reducesTo_S10x2x4x8320x8208_S10x2x4x8320_d4 reduces_rows h_S_ (by decide) hS y
  unfold rowMax
  exact ⟨M, (max_bot_apply _ _ y (splat_bot y)).trans hM⟩

/-- The exponentials at an index. -/
theorem exps_apply (S : FVec Ideal S10x2x4x8320x8208 .f32) (M : FVec Ideal S10x2x4x8320 .f32) (y : S10x2x4x8320x8208.Idx) :
    (exps S M y : EReal) = Ideal.exp ((S y : EReal) - M (ix4 (y 0) (y 1) (y 2) (y 3))) := by
  unfold exps
  pointwise

/-- The result at an index, from the exponentials. -/
theorem mix_apply (e : FVec Ideal S10x2x4x8320x8208 .f32) (v : Vec Ideal S10x8320x256 .bf16) (b : Fin 10) (r : Fin 8320) (col : Fin 1024) :
    (mix e v (ix3 b r col) : EReal) = ∑ x : Fin 8208,
      (v (ix3 b ⟨112 + x.val, by omega⟩ ⟨col.val / 512 * 128 + col.val % 128, by omega⟩) : EReal) *
        Ideal.div (e (ix5 b ⟨col.val / 512, by omega⟩ ⟨col.val / 128 % 4, by omega⟩ r x))
          (∑ x_1 : Fin 8208, (e (ix5 b ⟨col.val / 512, by omega⟩ ⟨col.val / 128 % 4, by omega⟩ r x_1) : EReal)) := by
  unfold mix
  pointwise

/-- The reference's result at an index is the weighted mean of the values. -/
theorem ref_mean (q : Vec Ideal S10x8320x1024 .bf16) (k v : Vec Ideal S10x8320x256 .bf16)
    (hq : ∀ i, (q i : EReal) = ((q i : EReal).toReal : EReal)) (hk : ∀ i, (k i : EReal) = ((k i : EReal).toReal : EReal))
    (b : Fin 10) (r : Fin 8320) (col : Fin 1024) :
    (mix (exps (scores q k) (rowMax (scores q k))) v (ix3 b r col) : EReal) =
      mean (score q k b r col) (fun j : Fin 8208 =>
        (v (ix3 b ⟨112 + j.val, by omega⟩ ⟨col.val / 512 * 128 + col.val % 128, by omega⟩) : EReal)) := by
  obtain ⟨M, hM⟩ := rowMax_real (scores q k) (scores_real q k hq hk) (ix4 b ⟨col.val / 512, by omega⟩ ⟨col.val / 128 % 4, by omega⟩ r)
  have he : ∀ x : Fin 8208, (exps (scores q k) (rowMax (scores q k)) (ix5 b ⟨col.val / 512, by omega⟩ ⟨col.val / 128 % 4, by omega⟩ r x) : EReal) =
      Ideal.exp ((score q k b r col x : EReal) * Ideal.log ((2 : ℝ) : EReal) - (M : EReal)) := by
    intro x
    rw [exps_apply]
    refine congrArg Ideal.exp (congrArg₂ (fun a b : EReal => a - b) ?_ hM)
    rw [scores_apply, ofBits_two]
    refine congrArg (· * _) ?_
    unfold score
    rw [← dot_real]
    exact Finset.sum_congr rfl fun x _ => congrArg₂ (· * ·) (hk _) (hq _)
  rw [mix_apply]
  simp only [he]
  exact mean_of_softmax _ _ M

end Cert.Val

end
-- ==== Proof.PI.Val.lean ====
module

public import proofs.«01_k».proof.Proof.PI.Fun
public import proofs.«01_k».proof.Proof.Soft

@[expose] public section

set_option maxRecDepth 16384

/-!
# The body's values at an index

Each payload of the body on extended reals, read at an index.
-/

noncomputable section

namespace Cert.Val

open Cert.KernelIdeal Cert.KernelIdeal.Gen Cert.Proof.PI
open Idealize.ShloMosaic Idealize.ShloMosaic.TcCoe

theorem own_ix3 {a b c : ℕ} (x : Fin a) (y : Fin b) (z : Fin c) : Cert.Proof.ix3 x y z = ix3 x y z := by
  funext i
  fin_cases i <;> rfl

theorem own_ix2 {a b : ℕ} (x : Fin a) (y : Fin b) : Cert.Proof.ix2 x y = ix2 x y := by
  funext i
  fin_cases i <;> rfl

/-! ## The tables -/

/-- The test that a row of a band is a key. -/
theorem mask_val : ∀ (n : Fin 13) (x : Fin 640),
    IntOp.cmpi CmpIPredicate.sge (IntOp.addi (BitVec.ofNat 32 x.val) (Scalar.muli (Scf.iv 0#32 1#32 n.val) 640#32)) 112#32 =
      if 112 ≤ 640 * n.val + x.val then 1#1 else 0#1 := by decide +kernel

/-- The test that a row of a chunk is a key. -/
theorem mask2_val : ∀ (n : Fin 11) (x : Fin 768),
    IntOp.andi (IntOp.cmpi CmpIPredicate.sge (IntOp.addi (BitVec.ofNat 32 x.val) (Scalar.muli (Scf.iv 0#32 1#32 n.val) 768#32)) 112#32)
      (IntOp.cmpi CmpIPredicate.slt (IntOp.addi (BitVec.ofNat 32 x.val) (Scalar.muli (Scf.iv 0#32 1#32 n.val) 768#32)) 8320#32) =
      if 112 ≤ 768 * n.val + x.val ∧ 768 * n.val + x.val < 8320 then 1#1 else 0#1 := by decide +kernel

/-- A choice by the word of a test. -/
theorem sel_ite {α : Type} (C : Prop) [Decidable C] (a b : α) : Scalar.select (if C then 1#1 else 0#1) a b = if C then a else b := by
  unfold Scalar.select
  by_cases h : C
  · rw [if_pos h, if_pos h]; exact if_pos rfl
  · rw [if_neg h, if_neg h]; exact if_neg (by decide)

/-- A row of a band. -/
theorem band_at (K : Vec Ideal S1x8320x128 .bf16) (n : ℕ) (r : Fin 640) (d : Fin 128) :
    band K n (ix3 0 r d) = K (ix3 0 ⟨(640 * n + r.val) % 8320, Nat.mod_lt _ (by decide)⟩ d) :=
  congrArg K (own_ix3 _ _ _)

theorem pay18_at (x : Vec Ideal S1x640x128 .bf16) (r : Fin 640) (d : Fin 128) :
    (k0_pay18 x (ix2 r d) : EReal) = x (ix3 0 r d) := by
  pointwise [k0_pay18, k0_pay17]

theorem pay24_at (r : Fin 128) (d : Fin 128) : (k0_pay24 (F := Ideal) (ix2 r d) : EReal) = 0 := by
  pointwise [k0_pay24]

theorem pay25_at (r : Fin 128) (d : Fin 256) : (k0_pay25 (F := Ideal) (ix2 r d) : EReal) = 0 := by
  pointwise [k0_pay25]

theorem pay15_at (n : Fin k0_t1_loop.trips) (hn : n.val < 13) (x : Vec Ideal S1x640x128 .bf16) (r : Fin 640) (d : Fin 128) :
    (k0_pay15 0#32 1#32 n x (ix2 r d) : EReal) = if 112 ≤ 640 * n.val + r.val then (x (ix3 0 r d) : EReal) else 0 := by
  pointwise [k0_pay15, k0_pay14]
  have e := mask_val ⟨n.val, hn⟩ r
  exact (congrArg (fun c => Scalar.select c _ _) e).trans (sel_ite _ _ _)

theorem pay16_at (n : Fin k0_t1_loop.trips) (hn : n.val < 13) (r : Fin 640) (d : Fin 128) :
    (k0_pay16 (F := Ideal) 0#32 1#32 n (ix2 r d) : EReal) = if 112 ≤ 640 * n.val + r.val then 1 else 0 := by
  pointwise [k0_pay16, k0_pay14]
  have e := mask_val ⟨n.val, hn⟩ r
  exact (congrArg (fun c => Scalar.select c _ _) e).trans (sel_ite _ _ _)

/-- A key row of the key table is the key. -/
theorem kp_key (K : Vec Ideal S1x8320x128 .bf16) (y : Fin 8448) (h : y.val < 8320) (d : Fin 128) :
    (kpF K (ix2 y d) : EReal) = K (ix3 0 ⟨y.val, h⟩ d) := by
  show (kpG K y.val y.isLt d : EReal) = _
  unfold kpG
  rw [dif_pos h, own_ix2, pay18_at]
  rw [band_at]
  refine congrArg K (congrArg (fun r => ix3 0 r d) (Fin.ext ?_))
  show (640 * (y.val / 640) + y.val % 640) % 8320 = y.val
  omega

/-- A row of the key table after the keys is zero. -/
theorem kp_pad (K : Vec Ideal S1x8320x128 .bf16) (y : Fin 8448) (h : ¬ y.val < 8320) (d : Fin 128) :
    (kpF K (ix2 y d) : EReal) = 0 := by
  show (kpG K y.val y.isLt d : EReal) = _
  unfold kpG
  rw [dif_neg h, own_ix2, pay24_at]

/-- A value column of the value table. -/
theorem va_val (V : Vec Ideal S1x8320x128 .bf16) (y : Fin 8448) (d : Fin 128) :
    (vaugF V (ix2 y ⟨d.val, by omega⟩) : EReal) =
      if h : 112 ≤ y.val ∧ y.val < 8320 then (V (ix3 0 ⟨y.val, h.2⟩ d) : EReal) else 0 := by
  show (vaugG V y.val y.isLt d.val _ : EReal) = _
  unfold vaugG
  by_cases h : y.val < 8320
  · have ht : (tr1 (y.val / 640)).val = y.val / 640 := by show y.val / 640 % 13 = _; omega
    rw [dif_pos h, dif_pos d.isLt, own_ix2, pay15_at _ (by rw [ht]; omega), ht]
    by_cases h' : 112 ≤ y.val
    · rw [if_pos (by show 112 ≤ 640 * (y.val / 640) + y.val % 640; omega), dif_pos ⟨h', h⟩]
      rw [band_at]
      refine congrArg V (congrArg (fun r => ix3 0 r d) (Fin.ext ?_))
      show (640 * (y.val / 640) + y.val % 640) % 8320 = y.val
      omega
    · rw [if_neg (by show ¬ 112 ≤ 640 * (y.val / 640) + y.val % 640; omega), dif_neg (fun e => h' e.1)]
  · rw [dif_neg h, own_ix2, pay25_at, dif_neg (fun e => h e.2)]

/-- A column of ones of the value table. -/
theorem va_one (V : Vec Ideal S1x8320x128 .bf16) (y : Fin 8448) (d : Fin 128) :
    (vaugF V (ix2 y ⟨128 + d.val, by omega⟩) : EReal) = if 112 ≤ y.val ∧ y.val < 8320 then 1 else 0 := by
  show (vaugG V y.val y.isLt (128 + d.val) _ : EReal) = _
  unfold vaugG
  by_cases h : y.val < 8320
  · have ht : (tr1 (y.val / 640)).val = y.val / 640 := by show y.val / 640 % 13 = _; omega
    rw [dif_pos h, dif_neg (by omega), own_ix2, pay16_at _ (by rw [ht]; omega), ht]
    by_cases h' : 112 ≤ y.val
    · rw [if_pos (by show 112 ≤ 640 * (y.val / 640) + y.val % 640; omega), if_pos ⟨h', h⟩]
    · rw [if_neg (by show ¬ 112 ≤ 640 * (y.val / 640) + y.val % 640; omega), if_neg (fun e => h' e.1)]
  · rw [dif_neg h, own_ix2, pay25_at, if_neg (fun e => h e.2)]

/-- A row that is no key has no value. -/
theorem va_zero (V : Vec Ideal S1x8320x128 .bf16) (y : Fin 8448) (col : Fin 256) (h : ¬ (112 ≤ y.val ∧ y.val < 8320)) :
    (vaugF V (ix2 y col) : EReal) = 0 := by
  by_cases hc : col.val < 128
  · exact (va_val V y ⟨col.val, hc⟩).trans (dif_neg h)
  · have e := va_one V y ⟨col.val - 128, by omega⟩
    rw [if_neg h] at e
    rw [← e]
    exact congrArg (fun c => vaugF V (ix2 y c)) (Fin.ext (by show col.val = 128 + (col.val - 128); omega))

/-! ## The bound -/

/-- A squared norm with its rounding left over, of reals, is a nonnegative real. -/
theorem norm_real {ι : Type} [Fintype ι] (f : ι → EReal) (hf : ∀ i, f i = ((f i).toReal : EReal)) :
    ∃ r : ℝ, 0 ≤ r ∧ (∑ i, f i * f i + ∑ i, (f i * f i - f i * f i)) = (r : EReal) := by
  refine ⟨∑ i, (f i).toReal * (f i).toReal, Finset.sum_nonneg fun i _ => mul_self_nonneg _, ?_⟩
  have h0 : ∀ i, f i * f i - f i * f i = 0 := by
    intro i
    rw [hf i, ← EReal.coe_mul, ← EReal.coe_sub, sub_self, EReal.coe_zero]
  rw [sum_mul_real f f hf hf]
  simp [h0]

theorem pay22_at (m : FVec Ideal S1x128 .f32) (n : Fin k0_t1_loop.trips) (x : Vec Ideal S1x640x128 .bf16) (l : Fin 128) :
    (k0_pay22 m (k0_pay14 0#32 1#32 n) (k0_pay19 (k0_pay20 (F := Ideal)) x) (ix2 0 l) : EReal) =
      max (m (ix2 0 l) : EReal) (Finset.fold max (Ideal.ofBits FTy.f32 4286578688#32)
        (fun r : Fin 640 =>
          Scalar.select
            (IntOp.cmpi CmpIPredicate.sge (IntOp.addi (BitVec.ofNat 32 r.val) (Scalar.muli (Scf.iv 0#32 1#32 n.val) 640#32)) 112#32)
            (∑ d : Fin 128, (x (ix3 0 r d) : EReal) * x (ix3 0 r d) +
              ∑ d : Fin 128, ((x (ix3 0 r d) : EReal) * x (ix3 0 r d) - (x (ix3 0 r d) : EReal) * x (ix3 0 r d)))
            (0 : EReal))
        Finset.univ) := by
  pointwise [k0_pay22, k0_pay14, k0_pay19, k0_pay20, k0_pay17]

/-- The largest squared norm of finite keys is a nonnegative real, the same in every lane. -/
theorem kmax_real (K : Vec Ideal S1x8320x128 .bf16) (hK : ∀ i, (K i : EReal) = ((K i : EReal).toReal : EReal)) (n : ℕ) :
    ∃ r : ℝ, 0 ≤ r ∧ ∀ l : Fin 128, (kmaxF K n (ix2 0 l) : EReal) = (r : EReal) := by
  induction n with
  | zero =>
    refine ⟨0, le_rfl, fun l => ?_⟩
    unfold kmaxF
    pointwise [k0_pay21]
    exact EReal.coe_zero.symm
  | succ n ih =>
    obtain ⟨r, hr, h⟩ := ih
    have hterm : ∀ x : Fin 640, ∃ t : ℝ, Scalar.select
            (IntOp.cmpi CmpIPredicate.sge (IntOp.addi (BitVec.ofNat 32 x.val) (Scalar.muli (Scf.iv 0#32 1#32 (tr1 n).val) 640#32)) 112#32)
            (∑ d : Fin 128, (band K n (ix3 0 x d) : EReal) * band K n (ix3 0 x d) +
              ∑ d : Fin 128, ((band K n (ix3 0 x d) : EReal) * band K n (ix3 0 x d) - (band K n (ix3 0 x d) : EReal) * band K n (ix3 0 x d)))
            (0 : EReal) = (t : EReal) := by
      intro x
      obtain ⟨t, _, ht⟩ := norm_real (fun d : Fin 128 => (band K n (ix3 0 x d) : EReal)) (fun d => hK _)
      unfold Scalar.select
      split_ifs
      · exact ⟨t, ht⟩
      · exact ⟨0, EReal.coe_zero.symm⟩
    choose g hg using hterm
    obtain ⟨M, hM⟩ := fold_max_real (fun x : Fin 640 => (g x : EReal)) (fun x => EReal.coe_ne_top _) 0 (EReal.coe_ne_bot _)
    refine ⟨max r M, le_max_of_le_left hr, fun l => ?_⟩
    unfold kmaxF
    rw [pay22_at, h l, ofBits_bot, funext hg, hM]
    exact (EReal.coe_strictMono.monotone.map_max).symm

theorem pay26_at (x : Vec Ideal S1x128x512 .bf16) (r : Fin 512) (d : Fin 128) :
    (k0_pay26 x (ix2 r d) : EReal) = x (ix3 0 ⟨r.val % 128, Nat.mod_lt _ (by decide)⟩ ⟨128 * (r.val / 128) + d.val, by omega⟩) := by
  pointwise [k0_pay26]
  split_ifs <;> exact congrArg x (congrArg₂ (ix3 0) (Fin.ext (by simp <;> omega)) (Fin.ext (by simp <;> omega)))

theorem pay27_at (x : Vec Ideal S1x128x512 .bf16) (r : Fin 512) (d : Fin 128) :
    (k0_pay27 x (ix3 0 r d) : EReal) = k0_pay26 x (ix2 r d) := by
  pointwise [k0_pay27]

theorem pay47_at (m : FVec Ideal S1x128 .f32) (x : Vec Ideal S1x128x512 .bf16) (r : Fin 512) (l : Fin 128) :
    (k0_pay47 m (k0_pay42 (k0_pay20 (F := Ideal)) (k0_pay26 x)) (ix3 0 r l) : EReal) =
      Ideal.sqrt ((∑ d : Fin 128, (k0_pay26 x (ix2 r d) : EReal) * k0_pay26 x (ix2 r d) +
            ∑ d : Fin 128, ((k0_pay26 x (ix2 r d) : EReal) * k0_pay26 x (ix2 r d) - (k0_pay26 x (ix2 r d) : EReal) * k0_pay26 x (ix2 r d))) *
          m (ix2 0 l)) * Ideal.ofBits FTy.f32 1065361408#32 := by
  pointwise [k0_pay47, k0_pay42, k0_pay20]

theorem pay23_at (x : FVec Ideal S1x128 .f32) (r : Fin 8) (l : Fin 128) : (k0_pay23 x (ix2 r l) : EReal) = x (ix2 0 l) := by
  pointwise [k0_pay23]

/-- A query row of a block. -/
theorem q_val (X3 : Vec Ideal S1x640x512 .bf16) (s : Fin 5) (r : Fin 512) (d : Fin 128) :
    (qF X3 s (ix3 0 r d) : EReal) = X3 (ix3 0 ⟨128 * s.val + r.val % 128, by omega⟩ ⟨128 * (r.val / 128) + d.val, by omega⟩) := by
  unfold qF
  rw [pay27_at, pay26_at]
  refine congrArg X3 ?_
  funext a
  fin_cases a <;> apply Fin.ext <;> simp [ix3]

/-- The bound of a row is a real, the same in every lane. -/
theorem bound_real (X3 : Vec Ideal S1x640x512 .bf16) (K : Vec Ideal S1x8320x128 .bf16)
    (hX : ∀ i, (X3 i : EReal) = ((X3 i : EReal).toReal : EReal)) (hK : ∀ i, (K i : EReal) = ((K i : EReal).toReal : EReal))
    (s : Fin 5) (r : Fin 512) : ∃ B : ℝ, ∀ l : Fin 128, (bF X3 (k9F K) s (ix3 0 r l) : EReal) = (B : EReal) := by
  obtain ⟨k, hk, h⟩ := kmax_real K hK 13
  obtain ⟨n, hn, e⟩ := norm_real (fun d : Fin 128 => (k0_pay26 (qrow X3 s) (ix2 r d) : EReal))
    (fun d => by rw [pay26_at]; exact hX _)
  obtain ⟨c, hc⟩ := ofBits_factor
  refine ⟨Real.sqrt (n * k) * c, fun l => ?_⟩
  have hm : (nrm (k9F K) (ix2 0 l) : EReal) = (k : EReal) := by
    refine Eq.trans ?_ (h l)
    refine Eq.trans ?_ (pay23_at (kmaxF K 13) 0 l)
    refine congrArg (k9F K) ?_
    funext a
    fin_cases a <;> apply Fin.ext <;> simp [ix2]
  unfold bF
  rw [pay47_at, hm]
  rw [e, hc, ← EReal.coe_mul, Ideal.sqrt_coe, if_neg (not_lt.2 (mul_nonneg hn hk)), ← EReal.coe_mul]

end Cert.Val

end
-- ==== Proof.PI.Sum.lean ====
module

public import proofs.«01_k».proof.Proof.PI.Val

@[expose] public section

set_option maxRecDepth 16384

/-!
# The sums over the key chunks

Both passes leave in the accumulator the sum over all table rows of the values weighted by `2 ^ (score - M)`, for some
real `M`, so that the quotient they write is the weighted mean.
-/

noncomputable section

namespace Cert.Val

open Cert.KernelIdeal Cert.KernelIdeal.Gen Cert.Proof.PI
open Idealize.ShloMosaic Idealize.ShloMosaic.TcCoe

/-- A table row of any number. -/
def trow (y : ℕ) : Fin 8448 := ⟨y % 8448, Nat.mod_lt _ (by decide)⟩

/-- The real score of a query row with a table row. -/
def sc (q : Vec Ideal S1x512x128 .bf16) (X7 : Vec Ideal S8448x128 .bf16) (r : Fin 512) (y : ℕ) : ℝ :=
  ∑ d : Fin 128, (q (ix3 0 r d) : EReal).toReal * (X7 (ix2 (trow y) d) : EReal).toReal

/-- The values of a column weighted by their scores less `M`, over the first `n` table rows. -/
def wsum (q : Vec Ideal S1x512x128 .bf16) (X7 : Vec Ideal S8448x128 .bf16) (X8 : Vec Ideal S8448x256 .bf16) (r : Fin 512) (M : ℝ)
    (n : ℕ) (col : Fin 256) : EReal :=
  ∑ y ∈ Finset.range n, ((wt (sc q X7 r y - M) : ℝ) : EReal) * X8 (ix2 (trow y) col)

/-- The sum over one more chunk. -/
theorem sum_chunk (f : ℕ → EReal) (n : ℕ) :
    (∑ y ∈ Finset.range (768 * (n + 1)), f y) = (∑ y ∈ Finset.range (768 * n), f y) + ∑ x : Fin 768, f (768 * n + x.val) := by
  rw [Nat.mul_succ, Finset.sum_range_add, Fin.sum_univ_eq_sum_range (fun x => f (768 * n + x)) 768]

/-- The score of a chunk's row. -/
theorem score_chunk (q : Vec Ideal S1x512x128 .bf16) (X7 : Vec Ideal S8448x128 .bf16)
    (hq : ∀ i, (q i : EReal) = ((q i : EReal).toReal : EReal)) (h7 : ∀ i, (X7 i : EReal) = ((X7 i : EReal).toReal : EReal))
    (r : Fin 512) (n : ℕ) (x : Fin 768) :
    (∑ d : Fin 128, (q (ix3 0 r d) : EReal) * chunk X7 n (ix2 x d)) = ((sc q X7 r (768 * n + x.val) : ℝ) : EReal) := by
  have e : ∀ d : Fin 128, chunk X7 n (ix2 x d) = X7 (ix2 (trow (768 * n + x.val)) d) := fun d => congrArg X7 (own_ix2 _ _)
  simp only [e]
  exact sum_mul_real _ _ (fun d => hq _) (fun d => h7 _)

theorem value_chunk (X8 : Vec Ideal S8448x256 .bf16) (n : ℕ) (x : Fin 768) (col : Fin 256) :
    chunk X8 n (ix2 x col) = X8 (ix2 (trow (768 * n + x.val)) col) := congrArg X8 (own_ix2 _ _)

/-! ## The first pass -/

/-- One chunk of the first pass. -/
theorem pay130_at (k : Vec Ideal S768x128 .bf16) (v : Vec Ideal S768x256 .bf16) (q : Vec Ideal S1x512x128 .bf16)
    (b : Vec Ideal S1x512x128 .f32) (a : Vec Ideal S1x512x256 .f32) (r : Fin 512) (col : Fin 256) (B : EReal)
    (hb : ∀ l : Fin 128, (b (ix3 0 r l) : EReal) = B) :
    (k0_pay130 k v q b a (ix3 0 r col) : EReal) = (a (ix3 0 r col) : EReal) +
      ∑ x : Fin 768, Ideal.exp2 ((∑ d : Fin 128, (q (ix3 0 r d) : EReal) * k (ix2 x d)) - B) * v (ix2 x col) := by
  pointwise [k0_pay130]
  refine congrArg (fun z : EReal => (a (ix3 0 r col) : EReal) + z) (Finset.sum_congr rfl fun x _ => ?_)
  refine congrArg (fun z : EReal => Ideal.exp2 ((∑ d : Fin 128, (q (ix3 0 r d) : EReal) * k (ix2 x d)) - z) * v (ix2 x col)) ?_
  split_ifs <;> exact hb _

/-- The accumulator of the first pass. -/
theorem acc_val (X3 : Vec Ideal S1x640x512 .bf16) (X7 : Vec Ideal S8448x128 .bf16) (X8 : Vec Ideal S8448x256 .bf16) (X9 : Vec Ideal S8x128 .f32)
    (s : Fin 5) (hq : ∀ i, (qF X3 s i : EReal) = ((qF X3 s i : EReal).toReal : EReal))
    (h7 : ∀ i, (X7 i : EReal) = ((X7 i : EReal).toReal : EReal)) (r : Fin 512) (B : ℝ)
    (hb : ∀ l : Fin 128, (bF X3 X9 s (ix3 0 r l) : EReal) = (B : EReal)) (n : ℕ) (col : Fin 256) :
    (accF X3 X7 X8 X9 n s (ix3 0 r col) : EReal) = wsum (qF X3 s) X7 X8 r B (768 * n) col := by
  induction n with
  | zero =>
    unfold accF wsum
    pointwise [k0_pay28]
    exact (Finset.sum_range_zero _).symm
  | succ n ih =>
    unfold accF
    rw [pay130_at _ _ _ _ _ r col B hb, ih]
    unfold wsum
    rw [sum_chunk]
    refine congrArg _ (Finset.sum_congr rfl fun x _ => ?_)
    rw [score_chunk _ _ hq h7, exp2_sub, value_chunk]

/-! ## The second pass -/

/-- The masked score of a chunk's row. -/
theorem pay6_at (q : Vec Ideal S1x512x128 .bf16) (n : Fin k0_t3_loop.trips) (hn : n.val < 11) (k : Vec Ideal S768x128 .bf16) (r : Fin 512) (x : Fin 768) :
    (k0_pay6 q n k (ix2 r x) : EReal) = if 112 ≤ 768 * n.val + x.val ∧ 768 * n.val + x.val < 8320 then
      (∑ d : Fin 128, (q (ix3 0 r d) : EReal) * k (ix2 x d)) else ⊥ := by
  pointwise [k0_pay6]
  rw [ofBits_bot]
  exact (congrArg (fun c => Scalar.select c _ _) (mask2_val ⟨n.val, hn⟩ x)).trans (sel_ite _ _ _)

theorem pay7_at (q : Vec Ideal S1x512x128 .bf16) (n : Fin k0_t3_loop.trips) (m : FVec Ideal S512x1 .f32) (k : Vec Ideal S768x128 .bf16) (r : Fin 512) :
    (k0_pay7 q n m k (ix2 r 0) : EReal) =
      max (m (ix2 r 0) : EReal) (Finset.fold max ⊥ (fun x : Fin 768 => (k0_pay6 q n k (ix2 r x) : EReal)) Finset.univ) := by
  rw [← ofBits_bot]
  pointwise [k0_pay7]

theorem pay8_at (q : Vec Ideal S1x512x128 .bf16) (n : Fin k0_t3_loop.trips) (m : FVec Ideal S512x1 .f32) (a : FVec Ideal S512x256 .f32)
    (k : Vec Ideal S768x128 .bf16) (v : Vec Ideal S768x256 .bf16) (r : Fin 512) (col : Fin 256) :
    (k0_pay8 q n m a k v (ix2 r col) : EReal) =
      Ideal.exp2 ((m (ix2 r 0) : EReal) - k0_pay7 q n m k (ix2 r 0)) * a (ix2 r col) +
        ∑ x : Fin 768, Ideal.exp2 ((k0_pay6 q n k (ix2 r x) : EReal) - k0_pay7 q n m k (ix2 r 0)) * v (ix2 x col) := by
  pointwise [k0_pay8]
  rfl

/-- The largest masked score of a chunk is a real. -/
theorem chunk_max (q : Vec Ideal S1x512x128 .bf16) (X7 : Vec Ideal S8448x128 .bf16)
    (hq : ∀ i, (q i : EReal) = ((q i : EReal).toReal : EReal)) (h7 : ∀ i, (X7 i : EReal) = ((X7 i : EReal).toReal : EReal))
    (r : Fin 512) (n : Fin k0_t3_loop.trips) (hn : n.val < 11) :
    ∃ L : ℝ, Finset.fold max ⊥ (fun x : Fin 768 => (k0_pay6 q n (chunk X7 n.val) (ix2 r x) : EReal)) Finset.univ = (L : EReal) := by
  refine fold_max_real _ (fun x => ?_) ⟨112, by decide⟩ ?_
  · rw [pay6_at _ _ hn, score_chunk _ _ hq h7]
    split_ifs
    · exact EReal.coe_ne_top _
    · exact bot_ne_top
  · rw [pay6_at _ _ hn, score_chunk _ _ hq h7, if_pos (by constructor <;> simp only <;> omega)]
    exact EReal.coe_ne_bot _

/-- A chunk of the second pass, its weights taken from a real. -/
theorem chunk_sum (q : Vec Ideal S1x512x128 .bf16) (X7 : Vec Ideal S8448x128 .bf16) (X8 : Vec Ideal S8448x256 .bf16)
    (hq : ∀ i, (q i : EReal) = ((q i : EReal).toReal : EReal)) (h7 : ∀ i, (X7 i : EReal) = ((X7 i : EReal).toReal : EReal))
    (h8 : ∀ (y : Fin 8448) (col : Fin 256), ¬ (112 ≤ y.val ∧ y.val < 8320) → (X8 (ix2 y col) : EReal) = 0)
    (r : Fin 512) (n : Fin k0_t3_loop.trips) (hn : n.val < 11) (M : ℝ) (col : Fin 256) :
    (∑ x : Fin 768, Ideal.exp2 ((k0_pay6 q n (chunk X7 n.val) (ix2 r x) : EReal) - (M : EReal)) * chunk X8 n.val (ix2 x col)) =
      ∑ x : Fin 768, ((wt (sc q X7 r (768 * n.val + x.val) - M) : ℝ) : EReal) * X8 (ix2 (trow (768 * n.val + x.val)) col) := by
  refine Finset.sum_congr rfl fun x _ => ?_
  rw [pay6_at _ _ hn, score_chunk _ _ hq h7, value_chunk]
  split_ifs with h
  · rw [exp2_sub]
  · rw [h8 _ _ (by show ¬ (112 ≤ (768 * n.val + x.val) % 8448 ∧ (768 * n.val + x.val) % 8448 < 8320); omega), mul_zero, mul_zero]

/-- The running maximum and the accumulator of the second pass. -/
theorem red_val (q : Vec Ideal S1x512x128 .bf16) (X7 : Vec Ideal S8448x128 .bf16) (X8 : Vec Ideal S8448x256 .bf16)
    (hq : ∀ i, (q i : EReal) = ((q i : EReal).toReal : EReal)) (h7 : ∀ i, (X7 i : EReal) = ((X7 i : EReal).toReal : EReal))
    (h8 : ∀ (y : Fin 8448) (col : Fin 256), ¬ (112 ≤ y.val ∧ y.val < 8320) → (X8 (ix2 y col) : EReal) = 0)
    (r : Fin 512) (n : ℕ) (hn : n < 11) :
    ∃ M : ℝ, ((redF q X7 X8 (n + 1)).1 (ix2 r 0) : EReal) = (M : EReal) ∧
      ∀ col : Fin 256, ((redF q X7 X8 (n + 1)).2 (ix2 r col) : EReal) = wsum q X7 X8 r M (768 * (n + 1)) col := by
  have ht : (tr3 n).val = n := Nat.mod_eq_of_lt hn
  obtain ⟨L, hL⟩ := chunk_max q X7 hq h7 r (tr3 n) (by rw [ht]; exact hn)
  have hS := fun M col => chunk_sum q X7 X8 hq h7 h8 r (tr3 n) (by rw [ht]; exact hn) M col
  rw [ht] at hL
  simp only [ht] at hS
  cases n with
  | zero =>
    have h1 : (k0_pay7 q (tr3 0) (k0_pay4 (F := Ideal)) (chunk X7 0) (ix2 r 0) : EReal) = (L : EReal) := by
      rw [pay7_at, hL]
      exact max_eq_right (ofBits_bot.trans_le bot_le)
    refine ⟨L, h1, fun col => ?_⟩
    show (k0_pay8 q (tr3 0) (k0_pay4 (F := Ideal)) (k0_pay5 (F := Ideal)) (chunk X7 0) (chunk X8 0) (ix2 r col) : EReal) = _
    have h0 : ((k0_pay5 (F := Ideal)) (ix2 r col) : EReal) = 0 := by pointwise [k0_pay5]
    rw [pay8_at, h1, hS L col, h0, mul_zero]
    unfold wsum
    rw [sum_chunk]
    exact congrArg (fun z : EReal => z + _) (Finset.sum_range_zero _).symm
  | succ n =>
    obtain ⟨m, hm, ha⟩ := red_val q X7 X8 hq h7 h8 r n (by omega)
    have h1 : (k0_pay7 q (tr3 (n + 1)) (redF q X7 X8 (n + 1)).1 (chunk X7 (n + 1)) (ix2 r 0) : EReal) = ((max m L : ℝ) : EReal) := by
      rw [pay7_at, hL, hm]
      exact (EReal.coe_strictMono.monotone.map_max).symm
    refine ⟨max m L, h1, fun col => ?_⟩
    show (k0_pay8 q (tr3 (n + 1)) (redF q X7 X8 (n + 1)).1 (redF q X7 X8 (n + 1)).2 (chunk X7 (n + 1)) (chunk X8 (n + 1)) (ix2 r col) : EReal) = _
    rw [pay8_at, h1, hS _ col, hm, ha col, exp2_sub]
    unfold wsum
    rw [sum_chunk _ (n + 1), mul_sum _ _ (wt_pos _).le]
    refine congrArg (fun z : EReal => z + _) (Finset.sum_congr rfl fun y _ => ?_)
    rw [← mul_assoc, ← EReal.coe_mul]
    congr 2
    unfold wt
    rw [← Real.rpow_add (by norm_num)]
    congr 1
    ring

/-! ## The quotient -/

/-- The sum over all table rows is the sum over the keys. -/
theorem wsum_keys (q : Vec Ideal S1x512x128 .bf16) (X7 : Vec Ideal S8448x128 .bf16) (X8 : Vec Ideal S8448x256 .bf16)
    (h8 : ∀ (y : Fin 8448) (col : Fin 256), ¬ (112 ≤ y.val ∧ y.val < 8320) → (X8 (ix2 y col) : EReal) = 0)
    (r : Fin 512) (M : ℝ) (col : Fin 256) :
    wsum q X7 X8 r M 8448 col = ∑ j : Fin 8208, ((wt (sc q X7 r (112 + j.val) - M) : ℝ) : EReal) * X8 (ix2 (trow (112 + j.val)) col) := by
  unfold wsum
  have e : Finset.range 8448 = Finset.range (112 + (8208 + 128)) := rfl
  rw [e, Finset.sum_range_add, Finset.sum_range_add,
    Finset.sum_eq_zero (s := Finset.range 112), Finset.sum_eq_zero (s := Finset.range 128), zero_add, add_zero]
  · exact (Fin.sum_univ_eq_sum_range (fun j => ((wt (sc q X7 r (112 + j) - M) : ℝ) : EReal) * X8 (ix2 (trow (112 + j)) col)) 8208).symm
  · intro y hy
    have := Finset.mem_range.1 hy
    rw [h8 _ _ (by show ¬ (112 ≤ (112 + (8208 + y)) % 8448 ∧ (112 + (8208 + y)) % 8448 < 8320); omega), mul_zero]
  · intro y hy
    have := Finset.mem_range.1 hy
    rw [h8 _ _ (by show ¬ (112 ≤ y % 8448 ∧ y % 8448 < 8320); omega), mul_zero]

/-- The quotient of a value column's sum by a column of ones' is the weighted mean of the values. -/
theorem quot_mean (q : Vec Ideal S1x512x128 .bf16) (X7 : Vec Ideal S8448x128 .bf16) (V : Vec Ideal S1x8320x128 .bf16)
    (r : Fin 512) (M : ℝ) (d : Fin 128) :
    Ideal.div (wsum q X7 (vaugF V) r M 8448 ⟨d.val, by omega⟩) (wsum q X7 (vaugF V) r M 8448 ⟨128 + d.val, by omega⟩) =
      mean (fun j : Fin 8208 => sc q X7 r (112 + j.val)) (fun j : Fin 8208 => (V (ix3 0 ⟨112 + j.val, by omega⟩ d) : EReal)) := by
  rw [wsum_keys _ _ _ (fun y col h => va_zero V y col h), wsum_keys _ _ _ (fun y col h => va_zero V y col h),
    ← mean_of_div _ _ M]
  have ht : ∀ j : Fin 8208, (trow (112 + j.val)).val = 112 + j.val := fun j => Nat.mod_eq_of_lt (by omega)
  refine congrArg₂ Ideal.div (Finset.sum_congr rfl fun j _ => ?_) (Finset.sum_congr rfl fun j _ => ?_)
  · rw [va_val, dif_pos (by rw [ht]; omega)]
    exact congrArg (fun z => _ * V (ix3 0 z d)) (Fin.ext (ht j))
  · rw [va_one, if_pos (by rw [ht]; omega), mul_one]

theorem outT_at (a : Vec Ideal S1x512x256 .f32) (g : Fin 4) (i d : Fin 128) :
    (outT a g (ix3 0 i d) : EReal) = Ideal.div (a (ix3 0 ⟨128 * g.val + i.val, by omega⟩ ⟨d.val, by omega⟩))
      (a (ix3 0 ⟨128 * g.val + i.val, by omega⟩ ⟨128 + d.val, by omega⟩)) := by
  fin_cases g
  · show (k0_pay162 a (ix3 0 i d) : EReal) = _
    pointwise [k0_pay162, k0_pay161, k0_pay160]
  · show (k0_pay163 a (ix3 0 i d) : EReal) = _
    pointwise [k0_pay163, k0_pay161, k0_pay160]
  · show (k0_pay1 (k0_pay164 a) (ix3 0 i d) : EReal) = _
    pointwise [k0_pay1, k0_pay164, k0_pay161, k0_pay160]
  · show (k0_pay2 (k0_pay161 a) (ix3 0 i d) : EReal) = _
    pointwise [k0_pay2, k0_pay161, k0_pay160]

theorem redT_at (a : FVec Ideal S512x256 .f32) (g : Fin 4) (i d : Fin 128) :
    (redT a g (ix3 0 i d) : EReal) = Ideal.div (a (ix2 ⟨128 * g.val + i.val, by omega⟩ ⟨d.val, by omega⟩))
      (a (ix2 ⟨128 * g.val + i.val, by omega⟩ ⟨128 + d.val, by omega⟩)) := by
  fin_cases g
  · show (k0_pay10 a (ix3 0 i d) : EReal) = _
    pointwise [k0_pay10, k0_pay9]
  · show (k0_pay11 a (ix3 0 i d) : EReal) = _
    pointwise [k0_pay11, k0_pay9]
  · show (k0_pay12 a (ix3 0 i d) : EReal) = _
    pointwise [k0_pay12, k0_pay9]
  · show (k0_pay13 a (ix3 0 i d) : EReal) = _
    pointwise [k0_pay13, k0_pay9]

/-- The key table of finite keys is finite. -/
theorem kp_real (K : Vec Ideal S1x8320x128 .bf16) (hK : ∀ i, (K i : EReal) = ((K i : EReal).toReal : EReal)) (i : S8448x128.Idx) :
    (kpF K i : EReal) = ((kpF K i : EReal).toReal : EReal) := by
  obtain ⟨y, d, rfl⟩ : ∃ (y : Fin 8448) (d : Fin 128), i = ix2 y d := ⟨i 0, i 1, by funext a; fin_cases a <;> rfl⟩
  by_cases h : y.val < 8320
  · rw [kp_key K y h]; exact hK _
  · rw [kp_pad K y h]; simp

/-- The gathered queries of finite queries are finite. -/
theorem qF_real (X3 : Vec Ideal S1x640x512 .bf16) (hX : ∀ i, (X3 i : EReal) = ((X3 i : EReal).toReal : EReal)) (s : Fin 5)
    (i : S1x512x128.Idx) : (qF X3 s i : EReal) = ((qF X3 s i : EReal).toReal : EReal) := by
  obtain ⟨r, d, rfl⟩ : ∃ (r : Fin 512) (d : Fin 128), i = ix3 0 r d :=
    ⟨i 1, i 2, by funext a; fin_cases a; exacts [Subsingleton.elim (α := Fin 1) _ _, rfl, rfl]⟩
  rw [q_val]
  exact hX _

/-- The block of the result, at an index: the weighted mean, whichever pass was taken. -/
theorem outF_mean (X3 : Vec Ideal S1x640x512 .bf16) (K V : Vec Ideal S1x8320x128 .bf16)
    (hX : ∀ i, (X3 i : EReal) = ((X3 i : EReal).toReal : EReal)) (hK : ∀ i, (K i : EReal) = ((K i : EReal).toReal : EReal))
    (i : Fin 640) (col : Fin 512) :
    (outF X3 K V (ix3 0 i col) : EReal) =
      mean (fun j : Fin 8208 => sc (qF X3 ⟨i.val / 128, by omega⟩) (kpF K) ⟨128 * (col.val / 128) + i.val % 128, by omega⟩ (112 + j.val))
        (fun j : Fin 8208 => (V (ix3 0 ⟨112 + j.val, by omega⟩ ⟨col.val % 128, Nat.mod_lt _ (by decide)⟩) : EReal)) := by
  have hq := qF_real X3 hX ⟨i.val / 128, by omega⟩
  have h7 := kp_real K hK
  show ((tabF X3 (kpF K) (vaugF V) (k9F K)) (ix3 0 i col) : EReal) = _
  unfold tabF
  split_ifs
  · obtain ⟨M, -, h⟩ := red_val (qF X3 ⟨i.val / 128, by omega⟩) (kpF K) (vaugF V) hq h7 (fun y c h => va_zero V y c h)
      ⟨128 * (col.val / 128) + i.val % 128, by omega⟩ 10 (by omega)
    show (redT (redF (qF X3 ⟨i.val / 128, _⟩) (kpF K) (vaugF V) 11).2 ⟨col.val / 128, _⟩ (Cert.Proof.ix3 0 ⟨i.val % 128, _⟩ ⟨col.val % 128, _⟩) : EReal) = _
    rw [own_ix3, redT_at, h, h]
    exact quot_mean _ _ _ _ M ⟨col.val % 128, Nat.mod_lt _ (by decide)⟩
  · obtain ⟨B, hb⟩ := bound_real X3 K hX hK ⟨i.val / 128, by omega⟩ ⟨128 * (col.val / 128) + i.val % 128, by omega⟩
    show (outT (accF X3 (kpF K) (vaugF V) (k9F K) 11 ⟨i.val / 128, _⟩) ⟨col.val / 128, _⟩ (Cert.Proof.ix3 0 ⟨i.val % 128, _⟩ ⟨col.val % 128, _⟩) : EReal) = _
    rw [own_ix3, outT_at, acc_val X3 _ _ _ _ hq h7 _ B hb 11, acc_val X3 _ _ _ _ hq h7 _ B hb 11]
    exact quot_mean _ _ _ _ B ⟨col.val % 128, Nat.mod_lt _ (by decide)⟩

end Cert.Val

end
-- ==== Proof.Match.lean ====
module

public import proofs.«01_k».proof.Proof.Ref
public import proofs.«01_k».proof.Proof.PI.Sum

@[expose] public section

set_option maxRecDepth 16384

/-!
# A block of the kernel's result is the reference's

The block computed from the blocks of the three arrays at a batch, a key head and a band of query rows is the
reference's result there.
-/

noncomputable section

namespace Cert.Val

open Cert.Proof.PI
open Idealize.ShloMosaic Idealize.ShloMosaic.TcCoe

/-- The reference's result as a function of the three arrays. -/
def attn (q : Vec Ideal Cert.ReferenceIdeal.S10x8320x1024 .bf16) (k v : Vec Ideal Cert.ReferenceIdeal.S10x8320x256 .bf16) :
    Vec Ideal Cert.ReferenceIdeal.S10x8320x1024 .bf16 := mix (exps (scores q k) (rowMax (scores q k))) v

theorem block_eq (q : Vec Ideal Cert.ReferenceIdeal.S10x8320x1024 .bf16) (k v : Vec Ideal Cert.ReferenceIdeal.S10x8320x256 .bf16)
    (hq : ∀ i, (q i : EReal) = ((q i : EReal).toReal : EReal)) (hk : ∀ i, (k i : EReal) = ((k i : EReal).toReal : EReal))
    (X3 : Vec Ideal Cert.KernelIdeal.S1x640x512 .bf16) (K V : Vec Ideal Cert.KernelIdeal.S1x8320x128 .bf16)
    (b : Fin 10) (h : Fin 2) (n : Fin 13)
    (hX : ∀ (i : Fin 640) (c : Fin 512), (X3 (ix3 0 i c) : EReal) = q (ix3 b ⟨640 * n.val + i.val, by omega⟩ ⟨512 * h.val + c.val, by omega⟩))
    (hK : ∀ (y : Fin 8320) (d : Fin 128), (K (ix3 0 y d) : EReal) = k (ix3 b y ⟨128 * h.val + d.val, by omega⟩))
    (hV : ∀ (y : Fin 8320) (d : Fin 128), (V (ix3 0 y d) : EReal) = v (ix3 b y ⟨128 * h.val + d.val, by omega⟩))
    (i : Fin 640) (c : Fin 512) :
    (outF X3 K V (ix3 0 i c) : EReal) = attn q k v (ix3 b ⟨640 * n.val + i.val, by omega⟩ ⟨512 * h.val + c.val, by omega⟩) := by
  have hXr : ∀ i, (X3 i : EReal) = ((X3 i : EReal).toReal : EReal) := by
    intro i
    obtain ⟨r, d, rfl⟩ : ∃ (r : Fin 640) (d : Fin 512), i = ix3 0 r d :=
      ⟨i 1, i 2, by funext a; fin_cases a; exacts [Subsingleton.elim (α := Fin 1) _ _, rfl, rfl]⟩
    rw [hX]; exact hq _
  have hKr : ∀ i, (K i : EReal) = ((K i : EReal).toReal : EReal) := by
    intro i
    obtain ⟨r, d, rfl⟩ : ∃ (r : Fin 8320) (d : Fin 128), i = ix3 0 r d :=
      ⟨i 1, i 2, by funext a; fin_cases a; exacts [Subsingleton.elim (α := Fin 1) _ _, rfl, rfl]⟩
    rw [hK]; exact hk _
  rw [outF_mean X3 K V hXr hKr]
  refine Eq.trans ?_ (ref_mean q k v hq hk b ⟨640 * n.val + i.val, by omega⟩ ⟨512 * h.val + c.val, by omega⟩).symm
  refine congrArg₂ mean (funext fun j => ?_) (funext fun j => ?_)
  · unfold sc score
    refine Finset.sum_congr rfl fun d _ => ?_
    rw [mul_comm, q_val, hX]
    have ht : (trow (112 + j.val)).val = 112 + j.val := Nat.mod_eq_of_lt (by omega)
    rw [kp_key K _ (by rw [ht]; omega), hK]
    refine congrArg₂ (· * ·) (congrArg (fun z => (k z : EReal).toReal) ?_) (congrArg (fun z => (q z : EReal).toReal) ?_)
    · funext a; fin_cases a <;> apply Fin.ext
      · rfl
      · exact ht
      · show 128 * h.val + d.val = (512 * h.val + c.val) / 512 * 128 + d.val; omega
    · funext a; fin_cases a <;> apply Fin.ext
      · rfl
      · show 640 * n.val + (128 * (i.val / 128) + (128 * (c.val / 128) + i.val % 128) % 128) = 640 * n.val + i.val; omega
      · show 512 * h.val + (128 * ((128 * (c.val / 128) + i.val % 128) / 128) + d.val) =
          (512 * h.val + c.val) / 512 * 512 + (512 * h.val + c.val) / 128 % 4 * 128 + d.val
        omega
  · rw [hV]
    refine congrArg v ?_
    funext a; fin_cases a <;> apply Fin.ext
    · rfl
    · rfl
    · show 128 * h.val + c.val % 128 = (512 * h.val + c.val) / 512 * 128 + (512 * h.val + c.val) % 128; omega

end Cert.Val

end
-- ==== Proof.Final.lean ====
module

public import proofs.«01_k».proof.Proof.Match
public import proofs.«01_k».proof.Proof.PI.Run
public import Idealize.ShloMosaic.Lib.Pipeline.ValueKit

@[expose] public section

set_option maxRecDepth 16384

/-!
# The kernel's result array is the reference's

Every point writes its own block, the blocks tile the array, and each block is the reference's result there.
-/

noncomputable section

namespace Cert.Val

open Cert.KernelIdeal Cert.KernelIdeal.Gen Cert.Proof.PI
open Idealize.ShloMosaic Idealize.ShloMosaic.TcCoe

variable (m : (ℓ : Loc nD τ sig) → Buf (Elt Ideal) ℓ)

/-- The block of the queries at a point: its batch, its band of rows and its head. -/
theorem idx0 : ∀ t : Fin cfg0.N, win0_0.index t = ![t.val / 26, t.val % 13, t.val / 13 % 2] :=
  (by decide +kernel : ∀ t : Fin grid0.N, win0_0.index t = ![t.val / 26, t.val % 13, t.val / 13 % 2])

/-- The block of the result at a point: its batch, its band of rows and its head. -/
theorem idx3 : ∀ t : Fin cfg0.N, win0_3.index t = ![t.val / 26, t.val % 13, t.val / 13 % 2] :=
  (by decide +kernel : ∀ t : Fin grid0.N, win0_3.index t = ![t.val / 26, t.val % 13, t.val / 13 % 2])

/-- An entry of the queries' block in the array. -/
theorem qblk_apply (c : Dev nD) (t : Fin cfg0.N) (y : S1x640x512.Idx) (y' : S10x8320x1024.Idx)
    (h0 : (y' 0).val = t.val / 26) (h1 : (y' 1).val = 640 * (t.val % 13) + (y 1).val)
    (h2 : (y' 2).val = 512 * (t.val / 13 % 2) + (y 2).val) :
    qblk m c t y = m ((c : Thread nD τ).loc main_arg0) y' := by
  unfold qblk iblk V
  blk_simp [idx0 t]
  congr 1; funext a; apply Fin.ext
  blk_simp [idx0 t]
  have e0 : (y 0).val = 0 := by have := (y 0).isLt; change _ < 1 at this; omega
  fin_cases a
  · simpa using by omega
  · simpa using by omega
  · simpa using by omega

/-- Each entry of the block a point writes is the reference's result at the entry's place in the array. -/
theorem point (hq : ∀ (c : Dev nD) i, (m ((c : Thread nD τ).loc main_arg0) i : EReal) = ((m ((c : Thread nD τ).loc main_arg0) i : EReal).toReal : EReal))
    (hk : ∀ (c : Dev nD) i, (m ((c : Thread nD τ).loc main_arg1) i : EReal) = ((m ((c : Thread nD τ).loc main_arg1) i : EReal).toReal : EReal))
    (c : Dev nD) (t : Fin cfg0.N) (y : S1x640x512.Idx) (y' : S10x8320x1024.Idx)
    (h0 : (y' 0).val = t.val / 26) (h1 : (y' 1).val = 640 * (t.val % 13) + (y 1).val)
    (h2 : (y' 2).val = 512 * (t.val / 13 % 2) + (y 2).val) :
    (oblk m c t y : EReal) = attn (m ((c : Thread nD τ).loc main_arg0)) (m ((c : Thread nD τ).loc main_arg1)) (m ((c : Thread nD τ).loc main_arg2)) y' := by
  obtain ⟨i, d, rfl⟩ : ∃ (r : Fin 640) (d : Fin 512), y = ix3 0 r d :=
    ⟨y 1, y 2, by funext a; fin_cases a; exacts [Subsingleton.elim (α := Fin 1) _ _, rfl, rfl]⟩
  have ht : t.val < 260 := t.isLt
  unfold oblk
  refine (block_eq _ _ _ (hq c) (hk c) _ _ _ ⟨t.val / 26, by omega⟩ ⟨t.val / 13 % 2, by omega⟩ ⟨t.val % 13, by omega⟩
    (fun i c' => qblk_apply m c t _ _ rfl rfl rfl) (fun r d => kblk_apply m c t _ _ rfl rfl rfl)
    (fun r d => vblk_apply m c t _ _ rfl rfl rfl) i d).trans (congrArg (attn _ _ _) ?_)
  funext a
  fin_cases a <;> apply Fin.ext
  · exact h0.symm
  · exact h1.symm
  · exact h2.symm

/-- The result array after the run. -/
theorem final (hq : ∀ (c : Dev nD) i, (m ((c : Thread nD τ).loc main_arg0) i : EReal) = ((m ((c : Thread nD τ).loc main_arg0) i : EReal).toReal : EReal))
    (hk : ∀ (c : Dev nD) i, (m ((c : Thread nD τ).loc main_arg1) i : EReal) = ((m ((c : Thread nD τ).loc main_arg1) i : EReal).toReal : EReal))
    (c : Dev nD) : (dats m 0 c).arrAt 3 (cfgs 0).N =
      attn (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after_w3]
  have e0 : (y 0).val = 0 := by have := (y 0).isLt; change _ < 1 at this; omega
  refine point m hq hk c t y _ ?_ ?_ ?_
  all_goals blk_simp [idx3 t]
  all_goals simpa using by omega

/-- An extended real whose absolute value is below infinity is a real. -/
theorem real_of_abs (x : EReal) (h : Ideal.cmp .olt (max x (-x)) (Ideal.ofBits .bf16 0x7F80#16) = 1#1) : x = (x.toReal : EReal) := by
  have hb : Ideal.ofBits .bf16 0x7F80#16 = ⊤ := by simp [Ideal.ofBits, Ideal.ieee]
  rw [hb] at h
  have h' : max x (-x) < ⊤ := by
    by_contra hn
    simp [Ideal.cmp, hn] at h
  have h1 := lt_of_le_of_lt (le_max_left x (-x)) h'
  have h2 := lt_of_le_of_lt (le_max_right x (-x)) h'
  refine (EReal.coe_toReal h1.ne ?_).symm
  rintro rfl
  simp at h2

end Cert.Val

end
-- ==== Proof.L.Dense.lean ====
module

public import Idealize.ShloMosaic.PureOps.Ideal
public import Idealize.ShloMosaic.Lib.Pipeline.ValueKit

@[expose] public section

/-!
# A row through the normalisation and the feed-forward part

The mathematics of one row, on extended reals, and the cut of the sum over the hidden units into four.
-/

noncomputable section

namespace Cert.Last

open Idealize.ShloMosaic

/-- A row divided by its root mean square, times the gain. -/
def rmsRow (h g : Fin 1024 → EReal) (d : Fin 1024) : EReal :=
  h d * Ideal.rsqrt (Ideal.div (∑ x, h x * h x) (Ideal.ofBits FTy.f32 1149239296#32) + Ideal.ofBits FTy.f32 897988541#32) * g d

/-- A hidden unit: the positive part of a product of a row with a column. -/
def unit (n w : Fin 1024 → EReal) : EReal := max (∑ x, n x * w x) 0

/-- A row with the feed-forward part of its normalised self added. -/
def mlpRow (h g : Fin 1024 → EReal) (w1 : Fin 1024 → Fin 4096 → EReal) (w2 : Fin 4096 → Fin 1024 → EReal) (d : Fin 1024) : EReal :=
  h d + ∑ f : Fin 4096, unit (rmsRow h g) (fun x => w1 x f) * unit (rmsRow h g) (fun x => w1 x f) * w2 f d

/-- A sum over a doubled range is the sum over its halves. -/
theorem sum_halves (n : ℕ) (f : Fin (n + n) → EReal) :
    ∑ i, f i = ∑ i : Fin n, f ⟨i.val, by omega⟩ + ∑ i : Fin n, f ⟨n + i.val, by omega⟩ := Fin.sum_univ_add f

/-- A sum over the hidden units is the sum over four runs of them. -/
theorem sum_quarters (f : Fin 4096 → EReal) :
    ∑ i, f i = ∑ i : Fin 1024, f ⟨i.val, by omega⟩ + ∑ i : Fin 1024, f ⟨1024 + i.val, by omega⟩ +
      ∑ i : Fin 1024, f ⟨2048 + i.val, by omega⟩ + ∑ i : Fin 1024, f ⟨3072 + i.val, by omega⟩ := by
  rw [sum_halves 2048 f, sum_halves 1024 (fun i => f ⟨i.val, _⟩), sum_halves 1024 (fun i => f ⟨2048 + i.val, _⟩), ← add_assoc]
  refine congrArg₂ (· + ·) rfl (Finset.sum_congr rfl fun i _ => congrArg f (Fin.ext ?_))
  show 2048 + (1024 + i.val) = 3072 + i.val
  omega

end Cert.Last

end
-- ==== Proof.L.Ker.lean ====
module

public import proofs.«01_k».proof.Proof.Gen.Kernel2Ideal.Value
public import proofs.«01_k».proof.Proof.L.Dense

@[expose] public section

set_option maxRecDepth 16384

/-!
# A block of the last call's result

Each row of the block is the row of the stream, with the projected attention added, through the feed-forward part.
-/

noncomputable section

namespace Cert.Last

open Cert.Kernel2Ideal Cert.Kernel2Ideal.Gen
open Idealize.ShloMosaic Idealize.ShloMosaic.TcCoe

/-- The stream with the projected attention added, from five bands of rows of each. -/
theorem pay2_at (v0 v2 v4 v6 v8 : Vec Ideal S1x128x1024 .bf16) (v11 v13 v15 v17 v19 : Vec Ideal S1x128x1024 .f32)
    (v22 : Vec Ideal S1024x1024 .bf16) (A H : ℕ → Fin 1024 → EReal)
    (a0 : ∀ (r : Fin 128) d, (v0 (ix3 0 r d) : EReal) = A r.val d) (a1 : ∀ (r : Fin 128) d, (v2 (ix3 0 r d) : EReal) = A (128 + r.val) d)
    (a2 : ∀ (r : Fin 128) d, (v4 (ix3 0 r d) : EReal) = A (256 + r.val) d) (a3 : ∀ (r : Fin 128) d, (v6 (ix3 0 r d) : EReal) = A (384 + r.val) d)
    (a4 : ∀ (r : Fin 128) d, (v8 (ix3 0 r d) : EReal) = A (512 + r.val) d)
    (h0 : ∀ (r : Fin 128) d, (v11 (ix3 0 r d) : EReal) = H r.val d) (h1 : ∀ (r : Fin 128) d, (v13 (ix3 0 r d) : EReal) = H (128 + r.val) d)
    (h2 : ∀ (r : Fin 128) d, (v15 (ix3 0 r d) : EReal) = H (256 + r.val) d) (h3 : ∀ (r : Fin 128) d, (v17 (ix3 0 r d) : EReal) = H (384 + r.val) d)
    (h4 : ∀ (r : Fin 128) d, (v19 (ix3 0 r d) : EReal) = H (512 + r.val) d)
    (r : Fin 640) (d : Fin 1024) :
    (k0_pay2 v0 v2 v4 v6 v8 v11 v13 v15 v17 v19 v22 (ix2 r d) : EReal) = H r.val d + ∑ x : Fin 1024, A r.val x * v22 (ix2 x d) := by
  pointwise [k0_pay2]
  refine congrArg₂ (· + ·) ?_ (Finset.sum_congr rfl fun x _ => congrArg (· * (v22 (ix2 x d) : EReal)) ?_)
  · by_cases c0 : r.val < 128
    · rw [dif_pos c0]; exact h0 _ _
    rw [dif_neg c0]
    by_cases c1 : r.val - 128 < 128
    · rw [dif_pos c1]; exact (h1 _ _).trans (congrArg (H · d) (by show 128 + (r.val - 128) = r.val; omega))
    rw [dif_neg c1]
    by_cases c2 : r.val - 128 - 128 < 128
    · rw [dif_pos c2]; exact (h2 _ _).trans (congrArg (H · d) (by show 256 + (r.val - 128 - 128) = r.val; omega))
    rw [dif_neg c2]
    by_cases c3 : r.val - 128 - 128 - 128 < 128
    · rw [dif_pos c3]; exact (h3 _ _).trans (congrArg (H · d) (by show 384 + (r.val - 128 - 128 - 128) = r.val; omega))
    rw [dif_neg c3]
    exact (h4 _ _).trans (congrArg (H · d) (by show 512 + (r.val - 128 - 128 - 128 - 128) = r.val; omega))
  · by_cases c0 : r.val < 128
    · rw [dif_pos c0]; exact a0 _ _
    rw [dif_neg c0]
    by_cases c1 : r.val - 128 < 128
    · rw [dif_pos c1]; exact (a1 _ _).trans (congrArg (A · x) (by show 128 + (r.val - 128) = r.val; omega))
    rw [dif_neg c1]
    by_cases c2 : r.val - 128 - 128 < 128
    · rw [dif_pos c2]; exact (a2 _ _).trans (congrArg (A · x) (by show 256 + (r.val - 128 - 128) = r.val; omega))
    rw [dif_neg c2]
    by_cases c3 : r.val - 128 - 128 - 128 < 128
    · rw [dif_pos c3]; exact (a3 _ _).trans (congrArg (A · x) (by show 384 + (r.val - 128 - 128 - 128) = r.val; omega))
    rw [dif_neg c3]
    exact (a4 _ _).trans (congrArg (A · x) (by show 512 + (r.val - 128 - 128 - 128 - 128) = r.val; omega))

/-- The normalised rows. -/
theorem pay3_at (v : FVec Ideal S640x1024 .f32) (g : Vec Ideal S1x1024 .f32) (r : Fin 640) (d : Fin 1024) :
    (k0_pay3 v g (ix2 r d) : EReal) = rmsRow (fun x => v (ix2 r x)) (fun x => g (ix2 0 x)) d := by
  unfold rmsRow
  pointwise [k0_pay3]

/-- The whole row, from the weights in four runs. -/
theorem tail_at (v : FVec Ideal S640x1024 .f32) (g : Vec Ideal S1x1024 .f32) (v40 v46 v49 v55 v58 v64 v67 v73 : Vec Ideal S1024x1024 .bf16)
    (w1 : Fin 1024 → Fin 4096 → EReal) (w2 : Fin 4096 → Fin 1024 → EReal)
    (p0 : ∀ y x, (v40 (ix2 y x) : EReal) = w1 y ⟨x.val, by omega⟩) (p1 : ∀ y x, (v49 (ix2 y x) : EReal) = w1 y ⟨1024 + x.val, by omega⟩)
    (p2 : ∀ y x, (v58 (ix2 y x) : EReal) = w1 y ⟨2048 + x.val, by omega⟩) (p3 : ∀ y x, (v67 (ix2 y x) : EReal) = w1 y ⟨3072 + x.val, by omega⟩)
    (q0 : ∀ x y, (v46 (ix2 x y) : EReal) = w2 ⟨x.val, by omega⟩ y) (q1 : ∀ x y, (v55 (ix2 x y) : EReal) = w2 ⟨1024 + x.val, by omega⟩ y)
    (q2 : ∀ x y, (v64 (ix2 x y) : EReal) = w2 ⟨2048 + x.val, by omega⟩ y) (q3 : ∀ x y, (v73 (ix2 x y) : EReal) = w2 ⟨3072 + x.val, by omega⟩ y)
    (r : Fin 640) (d : Fin 1024) :
    (k0_pay1 v (k0_pay3 v g) (k0_pay4 v g v40 v46 v49 v55) (k0_pay5 v g v58) k0_pay6 v64 v67 v73 (ix3 0 r d) : EReal) =
      mlpRow (fun x => v (ix2 r x)) (fun x => g (ix2 0 x)) w1 w2 d := by
  unfold mlpRow
  rw [sum_quarters]
  simp only [← p0, ← p1, ← p2, ← p3, ← q0, ← q1, ← q2, ← q3, ← pay3_at]
  unfold unit
  pointwise [k0_pay1, k0_pay4, k0_pay5, k0_pay6]
  simp only [pay3_at]

theorem ld3 (x : Vec Ideal S1024x4096 .bf16) (r d : Fin 1024) : View.ld x r0_3 (ix2 r d) = x (ix2 r ⟨d.val, by omega⟩) := by
  pointwise
theorem ld5 (x : Vec Ideal S1024x4096 .bf16) (r d : Fin 1024) : View.ld x r0_5 (ix2 r d) = x (ix2 r ⟨1024 + d.val, by omega⟩) := by
  pointwise
theorem ld7 (x : Vec Ideal S1024x4096 .bf16) (r d : Fin 1024) : View.ld x r0_7 (ix2 r d) = x (ix2 r ⟨2048 + d.val, by omega⟩) := by
  pointwise
theorem ld9 (x : Vec Ideal S1024x4096 .bf16) (r d : Fin 1024) : View.ld x r0_9 (ix2 r d) = x (ix2 r ⟨3072 + d.val, by omega⟩) := by
  pointwise
theorem ld4 (x : Vec Ideal S4096x1024 .bf16) (r d : Fin 1024) : View.ld x r0_4 (ix2 r d) = x (ix2 ⟨r.val, by omega⟩ d) := by
  pointwise
theorem ld6 (x : Vec Ideal S4096x1024 .bf16) (r d : Fin 1024) : View.ld x r0_6 (ix2 r d) = x (ix2 ⟨1024 + r.val, by omega⟩ d) := by
  pointwise
theorem ld8 (x : Vec Ideal S4096x1024 .bf16) (r d : Fin 1024) : View.ld x r0_8 (ix2 r d) = x (ix2 ⟨2048 + r.val, by omega⟩ d) := by
  pointwise
theorem ld10 (x : Vec Ideal S4096x1024 .bf16) (r d : Fin 1024) : View.ld x r0_10 (ix2 r d) = x (ix2 ⟨3072 + r.val, by omega⟩ d) := by
  pointwise
theorem ld0 {e : EltTy} (x : Vec Ideal S1x128x1024 e) (r : Fin 128) (d : Fin 1024) : View.ld x r0_0 (ix3 0 r d) = x (ix3 0 r d) := by
  pointwise
theorem ld1 (x : Vec Ideal S1024x1024 .bf16) (r d : Fin 1024) : View.ld x r0_1 (ix2 r d) = x (ix2 r d) := by
  pointwise
theorem ld2 (x : Vec Ideal S1x1024 .f32) (d : Fin 1024) : View.ld x r0_2 (ix2 0 d) = x (ix2 0 d) := by
  pointwise

/-- An entry of the block. -/
theorem block_at (x0 x1 x2 x3 x4 : Vec Ideal S1x128x1024 .bf16) (x5 x6 x7 x8 x9 : Vec Ideal S1x128x1024 .f32)
    (x10 : Vec Ideal S1024x1024 .bf16) (x11 : Vec Ideal S1x1024 .f32) (x12 : Vec Ideal S1024x4096 .bf16) (x13 : Vec Ideal S4096x1024 .bf16)
    (A H : ℕ → Fin 1024 → EReal)
    (a0 : ∀ (r : Fin 128) d, (x0 (ix3 0 r d) : EReal) = A r.val d) (a1 : ∀ (r : Fin 128) d, (x1 (ix3 0 r d) : EReal) = A (128 + r.val) d)
    (a2 : ∀ (r : Fin 128) d, (x2 (ix3 0 r d) : EReal) = A (256 + r.val) d) (a3 : ∀ (r : Fin 128) d, (x3 (ix3 0 r d) : EReal) = A (384 + r.val) d)
    (a4 : ∀ (r : Fin 128) d, (x4 (ix3 0 r d) : EReal) = A (512 + r.val) d)
    (h0 : ∀ (r : Fin 128) d, (x5 (ix3 0 r d) : EReal) = H r.val d) (h1 : ∀ (r : Fin 128) d, (x6 (ix3 0 r d) : EReal) = H (128 + r.val) d)
    (h2 : ∀ (r : Fin 128) d, (x7 (ix3 0 r d) : EReal) = H (256 + r.val) d) (h3 : ∀ (r : Fin 128) d, (x8 (ix3 0 r d) : EReal) = H (384 + r.val) d)
    (h4 : ∀ (r : Fin 128) d, (x9 (ix3 0 r d) : EReal) = H (512 + r.val) d)
    (r : Fin 640) (d : Fin 1024) :
    (out0_14 x0 x1 x2 x3 x4 x5 x6 x7 x8 x9 x10 x11 x12 x13 (ix3 0 r d) : EReal) =
      mlpRow (fun y => H r.val y + ∑ x : Fin 1024, A r.val x * x10 (ix2 x y)) (fun y => x11 (ix2 0 y)) (fun x y => x12 (ix2 x y))
        (fun x y => x13 (ix2 x y)) d := by
  have e7 : ∀ y, (k0_pay7 x0 x1 x2 x3 x4 x5 x6 x7 x8 x9 x10 x11 x12 x13 (ix2 r y) : EReal) = H r.val y + ∑ x : Fin 1024, A r.val x * x10 (ix2 x y) := by
    intro y
    refine (pay2_at _ _ _ _ _ _ _ _ _ _ _ A H ?_ ?_ ?_ ?_ ?_ ?_ ?_ ?_ ?_ ?_ r y).trans ?_
    all_goals first
      | (intro r d; rw [ld0]; solve | exact a0 r d | exact a1 r d | exact a2 r d | exact a3 r d | exact a4 r d | exact h0 r d | exact h1 r d | exact h2 r d | exact h3 r d | exact h4 r d)
      | exact congrArg (H r.val y + ·) (Finset.sum_congr rfl fun x _ => congrArg (A r.val x * ·) (ld1 x10 x y))
  have ec : (out0_14 x0 x1 x2 x3 x4 x5 x6 x7 x8 x9 x10 x11 x12 x13 (ix3 0 r d) : EReal) =
      k0_pay1 (k0_pay7 x0 x1 x2 x3 x4 x5 x6 x7 x8 x9 x10 x11 x12 x13) (k0_pay3 (k0_pay7 x0 x1 x2 x3 x4 x5 x6 x7 x8 x9 x10 x11 x12 x13) (View.ld x11 r0_2)) (k0_pay4 (k0_pay7 x0 x1 x2 x3 x4 x5 x6 x7 x8 x9 x10 x11 x12 x13) (View.ld x11 r0_2) (View.ld x12 r0_3) (View.ld x13 r0_4) (View.ld x12 r0_5) (View.ld x13 r0_6)) (k0_pay5 (k0_pay7 x0 x1 x2 x3 x4 x5 x6 x7 x8 x9 x10 x11 x12 x13) (View.ld x11 r0_2) (View.ld x12 r0_7)) (k0_pay6 (F := Ideal)) (View.ld x13 r0_8) (View.ld x12 r0_9) (View.ld x13 r0_10) (ix3 0 r d) := by
    unfold out0_14
    frame_out
  rw [ec]
  refine (tail_at _ _ _ _ _ _ _ _ _ _ (fun x y => x12 (ix2 x y)) (fun x y => x13 (ix2 x y)) (ld3 x12) (ld5 x12) (ld7 x12) (ld9 x12)
    (ld4 x13) (ld6 x13) (ld8 x13) (ld10 x13) r d).trans ?_
  refine congrArg₂ (fun a b => mlpRow a b _ _ d) (funext e7) (funext fun y => ld2 x11 y)

end Cert.Last

end
-- ==== Proof.L.Ref.lean ====
module

public import proofs.«01_k».proof.Proof.Gen.Reference2Ideal.Run
public import proofs.«01_k».proof.Proof.L.Dense

@[expose] public section

set_option maxRecDepth 16384

/-!
# The reference of the last call at an index
-/

noncomputable section

namespace Cert.Last

open Cert.Reference2Ideal Cert.Reference2Ideal.Gen Cert.Reference2Ideal.Value
open Idealize.ShloMosaic Idealize.ShloMosaic.TcCoe

/-- The residual stream with the projected attention added. -/
def stream (a : Vec Ideal S10x8320x1024 .bf16) (wo : Vec Ideal S1024x1024 .bf16) (h : Vec Ideal S10x8320x1024 .f32) : FVec Ideal S8x8192x1024 .f32 :=
  addf (extractStridedSlice S8x8192x1024 ![2, 128, 0] h slices_S10x8320x1024_S8x8192x1024_2_128_0) (Host.dotGeneral dot_S8x8192x1024_S1024x1024_S8x8192x1024_2_0_01_1_n_n none (extf .f32 (extractStridedSlice S8x8192x1024 ![2, 128, 0] a slices_S10x8320x1024_S8x8192x1024_2_128_0) bitsLt_bf16_f32) (extf .f32 wo bitsLt_bf16_f32))

/-- The rows divided by their root mean square, times the gain. -/
def rms (x : FVec Ideal S8x8192x1024 .f32) (g : Vec Ideal S1x1024 .f32) : FVec Ideal S8x8192x1024 .f32 :=
  mulf (mulf x (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf x x) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 (shapeCast _ g shapeCasts_S1x1024_S1024)))

/-- The hidden units before the square. -/
def relu (n : FVec Ideal S8x8192x1024 .f32) (w1 : Vec Ideal S1024x4096 .bf16) : FVec Ideal S8x8192x4096 .f32 :=
  maximumf (Host.dotGeneral dot_S8x8192x1024_S1024x4096_S8x8192x4096_2_0_01_1_n_n none n (extf .f32 w1 bitsLt_bf16_f32)) (broadcastInDim S8x8192x4096 ![] bcast_S_S8x8192x4096 (constant S_ .f32 0x00000000#32))

/-- The stream with the feed-forward part added. -/
def feed (x : FVec Ideal S8x8192x1024 .f32) (u : FVec Ideal S8x8192x4096 .f32) (w2 : Vec Ideal S4096x1024 .bf16) : FVec Ideal S8x8192x1024 .f32 :=
  addf x (Host.dotGeneral dot_S8x8192x4096_S4096x1024_S8x8192x1024_2_0_01_1_n_n none (mulf u u) (extf .f32 w2 bitsLt_bf16_f32))

/-- The reference's result in these parts. -/
theorem res_parts (m : (ℓ : Loc nD τ sig) → Buf (Elt Ideal) ℓ) (c : Dev nD) :
    res_main_v26 (F := Ideal) m c =
      feed (stream (m ((c.tc : Thread nD τ).loc main_arg0)) (m ((c.tc : Thread nD τ).loc main_arg1)) (m ((c.tc : Thread nD τ).loc main_arg2)))
        (relu (rms (stream (m ((c.tc : Thread nD τ).loc main_arg0)) (m ((c.tc : Thread nD τ).loc main_arg1)) (m ((c.tc : Thread nD τ).loc main_arg2)))
          (m ((c.tc : Thread nD τ).loc main_arg3))) (m ((c.tc : Thread nD τ).loc main_arg4))) (m ((c.tc : Thread nD τ).loc main_arg5)) := rfl

/-- The stream at an index. -/
theorem stream_at (a : Vec Ideal S10x8320x1024 .bf16) (wo : Vec Ideal S1024x1024 .bf16) (h : Vec Ideal S10x8320x1024 .f32)
    (b : Fin 8) (r : Fin 8192) (d : Fin 1024) :
    (stream a wo h (ix3 b r d) : EReal) = (h (ix3 ⟨2 + b.val, by omega⟩ ⟨128 + r.val, by omega⟩ d) : EReal) +
      ∑ x : Fin 1024, (a (ix3 ⟨2 + b.val, by omega⟩ ⟨128 + r.val, by omega⟩ x) : EReal) * wo (ix2 x d) := by
  unfold stream
  pointwise

/-- The normalised rows at an index. -/
theorem rms_at (x : FVec Ideal S8x8192x1024 .f32) (g : Vec Ideal S1x1024 .f32) (b : Fin 8) (r : Fin 8192) (d : Fin 1024) :
    (rms x g (ix3 b r d) : EReal) = rmsRow (fun y => x (ix3 b r y)) (fun y => g (ix2 0 y)) d := by
  unfold rms rmsRow
  pointwise

/-- The hidden units at an index. -/
theorem relu_at (n : FVec Ideal S8x8192x1024 .f32) (w1 : Vec Ideal S1024x4096 .bf16) (b : Fin 8) (r : Fin 8192) (d : Fin 4096) :
    (relu n w1 (ix3 b r d) : EReal) = unit (fun y => n (ix3 b r y)) (fun y => w1 (ix2 y d)) := by
  unfold relu unit
  pointwise

/-- The result at an index, from the stream and the hidden units. -/
theorem feed_at (x : FVec Ideal S8x8192x1024 .f32) (u : FVec Ideal S8x8192x4096 .f32) (w2 : Vec Ideal S4096x1024 .bf16)
    (b : Fin 8) (r : Fin 8192) (d : Fin 1024) :
    (feed x u w2 (ix3 b r d) : EReal) = (x (ix3 b r d) : EReal) + ∑ f : Fin 4096, (u (ix3 b r f) : EReal) * u (ix3 b r f) * w2 (ix2 f d) := by
  unfold feed
  pointwise

/-- The reference's result as a function of its arguments. -/
def last (a : Vec Ideal S10x8320x1024 .bf16) (wo : Vec Ideal S1024x1024 .bf16) (h : Vec Ideal S10x8320x1024 .f32)
    (g : Vec Ideal S1x1024 .f32) (w1 : Vec Ideal S1024x4096 .bf16) (w2 : Vec Ideal S4096x1024 .bf16) : FVec Ideal S8x8192x1024 .f32 :=
  feed (stream a wo h) (relu (rms (stream a wo h) g) w1) w2

/-- The reference's result at an index: the row of the stream through the feed-forward part. -/
theorem last_at (a : Vec Ideal S10x8320x1024 .bf16) (wo : Vec Ideal S1024x1024 .bf16) (h : Vec Ideal S10x8320x1024 .f32)
    (g : Vec Ideal S1x1024 .f32) (w1 : Vec Ideal S1024x4096 .bf16) (w2 : Vec Ideal S4096x1024 .bf16) (b : Fin 8) (r : Fin 8192) (d : Fin 1024) :
    (last a wo h g w1 w2 (ix3 b r d) : EReal) =
      mlpRow (fun y => (h (ix3 ⟨2 + b.val, by omega⟩ ⟨128 + r.val, by omega⟩ y) : EReal) +
        ∑ x : Fin 1024, (a (ix3 ⟨2 + b.val, by omega⟩ ⟨128 + r.val, by omega⟩ x) : EReal) * wo (ix2 x y)) (fun y => g (ix2 0 y))
        (fun x y => w1 (ix2 x y)) (fun x y => w2 (ix2 x y)) d := by
  unfold last mlpRow
  rw [feed_at]
  simp only [relu_at, rms_at, stream_at]

end Cert.Last

end
-- ==== Proof.L.Final.lean ====
module

public import proofs.«01_k».proof.Proof.L.Ker
public import proofs.«01_k».proof.Proof.L.Ref

@[expose] public section

set_option maxRecDepth 16384

/-!
# The last call's result array is the reference's

Every point writes its own band of rows, the bands cover the array, and each band is the reference's there.
-/

noncomputable section

namespace Cert.Last

open Cert.Kernel2Ideal Cert.Kernel2Ideal.Gen
open Idealize.ShloMosaic Idealize.ShloMosaic.TcCoe

variable (m : (ℓ : Loc nD τ sig) → Buf (Elt Ideal) ℓ)

/-- The row of the array that a row of a point's bands is: the last band is read again where the rows end. -/
def src (t n : ℕ) : ℕ := 128 * min (1 + 5 * (t % 13) + n / 128) 64 + n % 128

theorem src_lt (t n : ℕ) : src t n < 8320 := by unfold src; omega

/-- The attention's rows that a point reads. -/
def arows (c : Dev nD) (t : Fin cfg0.N) (n : ℕ) (d : Fin 1024) : EReal :=
  m ((c : Thread nD τ).loc main_arg0) (ix3 ⟨2 + t.val / 13, by have : t.val < 104 := t.isLt; omega⟩ ⟨src t.val n, src_lt _ _⟩ d)

/-- The stream's rows that a point reads. -/
def hrows (c : Dev nD) (t : Fin cfg0.N) (n : ℕ) (d : Fin 1024) : EReal :=
  m ((c : Thread nD τ).loc main_arg2) (ix3 ⟨2 + t.val / 13, by have : t.val < 104 := t.isLt; omega⟩ ⟨src t.val n, src_lt _ _⟩ d)

theorem idx0 : ∀ t : Fin cfg0.N, win0_0.index t = ![2 + t.val / 13, min (1 + 5 * (t.val % 13) + 0) 64, 0] :=
  (by decide +kernel : ∀ t : Fin grid0.N, win0_0.index t = ![2 + t.val / 13, min (1 + 5 * (t.val % 13) + 0) 64, 0])
theorem idx1 : ∀ t : Fin cfg0.N, win0_1.index t = ![2 + t.val / 13, min (1 + 5 * (t.val % 13) + 1) 64, 0] :=
  (by decide +kernel : ∀ t : Fin grid0.N, win0_1.index t = ![2 + t.val / 13, min (1 + 5 * (t.val % 13) + 1) 64, 0])
theorem idx2 : ∀ t : Fin cfg0.N, win0_2.index t = ![2 + t.val / 13, min (1 + 5 * (t.val % 13) + 2) 64, 0] :=
  (by decide +kernel : ∀ t : Fin grid0.N, win0_2.index t = ![2 + t.val / 13, min (1 + 5 * (t.val % 13) + 2) 64, 0])
theorem idx3 : ∀ t : Fin cfg0.N, win0_3.index t = ![2 + t.val / 13, min (1 + 5 * (t.val % 13) + 3) 64, 0] :=
  (by decide +kernel : ∀ t : Fin grid0.N, win0_3.index t = ![2 + t.val / 13, min (1 + 5 * (t.val % 13) + 3) 64, 0])
theorem idx4 : ∀ t : Fin cfg0.N, win0_4.index t = ![2 + t.val / 13, min (1 + 5 * (t.val % 13) + 4) 64, 0] :=
  (by decide +kernel : ∀ t : Fin grid0.N, win0_4.index t = ![2 + t.val / 13, min (1 + 5 * (t.val % 13) + 4) 64, 0])
theorem idx5 : ∀ t : Fin cfg0.N, win0_5.index t = ![2 + t.val / 13, min (1 + 5 * (t.val % 13) + 0) 64, 0] :=
  (by decide +kernel : ∀ t : Fin grid0.N, win0_5.index t = ![2 + t.val / 13, min (1 + 5 * (t.val % 13) + 0) 64, 0])
theorem idx6 : ∀ t : Fin cfg0.N, win0_6.index t = ![2 + t.val / 13, min (1 + 5 * (t.val % 13) + 1) 64, 0] :=
  (by decide +kernel : ∀ t : Fin grid0.N, win0_6.index t = ![2 + t.val / 13, min (1 + 5 * (t.val % 13) + 1) 64, 0])
theorem idx7 : ∀ t : Fin cfg0.N, win0_7.index t = ![2 + t.val / 13, min (1 + 5 * (t.val % 13) + 2) 64, 0] :=
  (by decide +kernel : ∀ t : Fin grid0.N, win0_7.index t = ![2 + t.val / 13, min (1 + 5 * (t.val % 13) + 2) 64, 0])
theorem idx8 : ∀ t : Fin cfg0.N, win0_8.index t = ![2 + t.val / 13, min (1 + 5 * (t.val % 13) + 3) 64, 0] :=
  (by decide +kernel : ∀ t : Fin grid0.N, win0_8.index t = ![2 + t.val / 13, min (1 + 5 * (t.val % 13) + 3) 64, 0])
theorem idx9 : ∀ t : Fin cfg0.N, win0_9.index t = ![2 + t.val / 13, min (1 + 5 * (t.val % 13) + 4) 64, 0] :=
  (by decide +kernel : ∀ t : Fin grid0.N, win0_9.index t = ![2 + t.val / 13, min (1 + 5 * (t.val % 13) + 4) 64, 0])
theorem idx10 : ∀ t : Fin cfg0.N, win0_10.index t = ![0, 0] :=
  (by decide +kernel : ∀ t : Fin grid0.N, win0_10.index t = ![0, 0])
theorem idx11 : ∀ t : Fin cfg0.N, win0_11.index t = ![0, 0] :=
  (by decide +kernel : ∀ t : Fin grid0.N, win0_11.index t = ![0, 0])
theorem idx12 : ∀ t : Fin cfg0.N, win0_12.index t = ![0, 0] :=
  (by decide +kernel : ∀ t : Fin grid0.N, win0_12.index t = ![0, 0])
theorem idx13 : ∀ t : Fin cfg0.N, win0_13.index t = ![0, 0] :=
  (by decide +kernel : ∀ t : Fin grid0.N, win0_13.index t = ![0, 0])
theorem idx14 : ∀ t : Fin cfg0.N, win0_14.index t = ![t.val / 13, t.val % 13, 0] :=
  (by decide +kernel : ∀ t : Fin grid0.N, win0_14.index t = ![t.val / 13, t.val % 13, 0])

theorem iblk0_at (c : Dev nD) (t : Fin cfg0.N) (r : Fin 128) (d : Fin 1024) :
    (iblk m c 0 t (ix3 0 r d) : EReal) = arows m c t r.val d := by
  unfold iblk arows V
  blk_simp [idx0 t]
  congr 1; funext a; apply Fin.ext
  blk_simp [idx0 t]
  fin_cases a
  · simp [ix3]
  · simp [ix3, src]; omega
  · simp [ix3]

theorem iblk1_at (c : Dev nD) (t : Fin cfg0.N) (r : Fin 128) (d : Fin 1024) :
    (iblk m c 1 t (ix3 0 r d) : EReal) = arows m c t (128 + r.val) d := by
  unfold iblk arows V
  blk_simp [idx1 t]
  congr 1; funext a; apply Fin.ext
  blk_simp [idx1 t]
  fin_cases a
  · simp [ix3]
  · simp [ix3, src]; omega
  · simp [ix3]

theorem iblk2_at (c : Dev nD) (t : Fin cfg0.N) (r : Fin 128) (d : Fin 1024) :
    (iblk m c 2 t (ix3 0 r d) : EReal) = arows m c t (256 + r.val) d := by
  unfold iblk arows V
  blk_simp [idx2 t]
  congr 1; funext a; apply Fin.ext
  blk_simp [idx2 t]
  fin_cases a
  · simp [ix3]
  · simp [ix3, src]; omega
  · simp [ix3]

theorem iblk3_at (c : Dev nD) (t : Fin cfg0.N) (r : Fin 128) (d : Fin 1024) :
    (iblk m c 3 t (ix3 0 r d) : EReal) = arows m c t (384 + r.val) d := by
  unfold iblk arows V
  blk_simp [idx3 t]
  congr 1; funext a; apply Fin.ext
  blk_simp [idx3 t]
  fin_cases a
  · simp [ix3]
  · simp [ix3, src]; omega
  · simp [ix3]

theorem iblk4_at (c : Dev nD) (t : Fin cfg0.N) (r : Fin 128) (d : Fin 1024) :
    (iblk m c 4 t (ix3 0 r d) : EReal) = arows m c t (512 + r.val) d := by
  unfold iblk arows V
  blk_simp [idx4 t]
  congr 1; funext a; apply Fin.ext
  blk_simp [idx4 t]
  fin_cases a
  · simp [ix3]
  · simp [ix3, src]; omega
  · simp [ix3]

theorem iblk5_at (c : Dev nD) (t : Fin cfg0.N) (r : Fin 128) (d : Fin 1024) :
    (iblk m c 5 t (ix3 0 r d) : EReal) = hrows m c t r.val d := by
  unfold iblk hrows V
  blk_simp [idx5 t]
  congr 1; funext a; apply Fin.ext
  blk_simp [idx5 t]
  fin_cases a
  · simp [ix3]
  · simp [ix3, src]; omega
  · simp [ix3]

theorem iblk6_at (c : Dev nD) (t : Fin cfg0.N) (r : Fin 128) (d : Fin 1024) :
    (iblk m c 6 t (ix3 0 r d) : EReal) = hrows m c t (128 + r.val) d := by
  unfold iblk hrows V
  blk_simp [idx6 t]
  congr 1; funext a; apply Fin.ext
  blk_simp [idx6 t]
  fin_cases a
  · simp [ix3]
  · simp [ix3, src]; omega
  · simp [ix3]

theorem iblk7_at (c : Dev nD) (t : Fin cfg0.N) (r : Fin 128) (d : Fin 1024) :
    (iblk m c 7 t (ix3 0 r d) : EReal) = hrows m c t (256 + r.val) d := by
  unfold iblk hrows V
  blk_simp [idx7 t]
  congr 1; funext a; apply Fin.ext
  blk_simp [idx7 t]
  fin_cases a
  · simp [ix3]
  · simp [ix3, src]; omega
  · simp [ix3]

theorem iblk8_at (c : Dev nD) (t : Fin cfg0.N) (r : Fin 128) (d : Fin 1024) :
    (iblk m c 8 t (ix3 0 r d) : EReal) = hrows m c t (384 + r.val) d := by
  unfold iblk hrows V
  blk_simp [idx8 t]
  congr 1; funext a; apply Fin.ext
  blk_simp [idx8 t]
  fin_cases a
  · simp [ix3]
  · simp [ix3, src]; omega
  · simp [ix3]

theorem iblk9_at (c : Dev nD) (t : Fin cfg0.N) (r : Fin 128) (d : Fin 1024) :
    (iblk m c 9 t (ix3 0 r d) : EReal) = hrows m c t (512 + r.val) d := by
  unfold iblk hrows V
  blk_simp [idx9 t]
  congr 1; funext a; apply Fin.ext
  blk_simp [idx9 t]
  fin_cases a
  · simp [ix3]
  · simp [ix3, src]; omega
  · simp [ix3]

theorem iblk10_eq (c : Dev nD) (t : Fin cfg0.N) : iblk m c 10 t = m ((c : Thread nD τ).loc main_arg1) := by
  funext y
  unfold iblk V
  blk_simp [idx10 t]
  congr 1; funext a; apply Fin.ext
  blk_simp [idx10 t]
  fin_cases a <;> simp

theorem iblk11_eq (c : Dev nD) (t : Fin cfg0.N) : iblk m c 11 t = m ((c : Thread nD τ).loc main_arg3) := by
  funext y
  unfold iblk V
  blk_simp [idx11 t]
  congr 1; funext a; apply Fin.ext
  blk_simp [idx11 t]
  fin_cases a <;> simp

theorem iblk12_eq (c : Dev nD) (t : Fin cfg0.N) : iblk m c 12 t = m ((c : Thread nD τ).loc main_arg4) := by
  funext y
  unfold iblk V
  blk_simp [idx12 t]
  congr 1; funext a; apply Fin.ext
  blk_simp [idx12 t]
  fin_cases a <;> simp

theorem iblk13_eq (c : Dev nD) (t : Fin cfg0.N) : iblk m c 13 t = m ((c : Thread nD τ).loc main_arg5) := by
  funext y
  unfold iblk V
  blk_simp [idx13 t]
  congr 1; funext a; apply Fin.ext
  blk_simp [idx13 t]
  fin_cases a <;> simp

/-- Each entry of the band a point writes is the reference's result at the entry's place in the array. -/
theorem point (c : Dev nD) (t : Fin cfg0.N) (r : Fin 640) (d : Fin 1024) (y' : S8x8192x1024.Idx)
    (h0 : (y' 0).val = t.val / 13) (h1 : (y' 1).val = 640 * (t.val % 13) + r.val) (h2 : (y' 2).val = d.val) :
    (out0_14 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (ix3 0 r d) : EReal) =
      last (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) y' := by
  have ht : t.val < 104 := t.isLt
  have hy : (y' 1).val < 8192 := (y' 1).isLt
  obtain ⟨b, s, e, rfl⟩ : ∃ (b : Fin 8) (s : Fin 8192) (e : Fin 1024), y' = ix3 b s e :=
    ⟨y' 0, y' 1, y' 2, by funext a; fin_cases a <;> rfl⟩
  have h0' : b.val = t.val / 13 := h0
  have h1' : s.val = 640 * (t.val % 13) + r.val := h1
  obtain rfl : e = d := Fin.ext h2
  rw [last_at]
  refine (block_at _ _ _ _ _ _ _ _ _ _ _ _ _ _ (arows m c t) (hrows m c t) (iblk0_at m c t) (iblk1_at m c t) (iblk2_at m c t)
    (iblk3_at m c t) (iblk4_at m c t) (iblk5_at m c t) (iblk6_at m c t) (iblk7_at m c t) (iblk8_at m c t) (iblk9_at m c t) r e).trans ?_
  rw [iblk10_eq, iblk11_eq, iblk12_eq, iblk13_eq]
  have eb : (⟨2 + t.val / 13, by omega⟩ : Fin 10) = ⟨2 + b.val, by omega⟩ := Fin.ext (by show 2 + t.val / 13 = 2 + b.val; omega)
  have es : (⟨src t.val r.val, src_lt _ _⟩ : Fin 8320) = ⟨128 + s.val, by omega⟩ :=
    Fin.ext (by show src t.val r.val = 128 + s.val; unfold src; omega)
  refine congrArg (fun h => mlpRow h _ _ _ e) (funext fun y => ?_)
  unfold arows hrows
  rw [eb, es]

/-- The result array after the run. -/
theorem final (c : Dev nD) : (dats m 0 c).arrAt 14 cfg0.N =
    last (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 14 _ (by decide +kernel) fun t _ y => ?_
  blk_simp
  rw [after0_14]
  have e : (cfg0.win 14).xinj (cfg0.grid.coords t) y = ix3 0 (Fin.mk (y 1).val ((cfg0.win 14).xinj (cfg0.grid.coords t) y 1).isLt)
      (Fin.mk (y 2).val ((cfg0.win 14).xinj (cfg0.grid.coords t) y 2).isLt) := by
    funext a; apply Fin.ext
    have h0 : ((cfg0.win 14).xinj (cfg0.grid.coords t) y 0).val < 1 := ((cfg0.win 14).xinj (cfg0.grid.coords t) y 0).isLt
    fin_cases a
    · show ((cfg0.win 14).xinj (cfg0.grid.coords t) y 0).val = 0
      omega
    · rfl
    · rfl
  rw [e]
  refine point m c t _ _ _ ?_ ?_ ?_
  all_goals blk_simp [idx14 t]
  · have h0 : (y 0).val < 1 := ((cfg0.win 14).xinj (cfg0.grid.coords t) y 0).isLt
    simpa using by omega
  · simpa using by omega

end Cert.Last

end
-- ==== Proof.F.Ker.lean ====
module

public import proofs.«01_k».proof.Proof.Gen.Kernel4Ideal.Value
public import proofs.«01_k».proof.Proof.L.Dense

@[expose] public section

set_option maxRecDepth 16384

/-!
# A block of the prompt's last call's result

Each row of the block is the row of the stream, with the projected attention added, through the feed-forward part.
-/

noncomputable section

namespace Cert.First

open Cert.Last

open Cert.Kernel4Ideal Cert.Kernel4Ideal.Gen
open Idealize.ShloMosaic Idealize.ShloMosaic.TcCoe

/-- The stream with the projected attention added, from five bands of rows of each. -/
theorem pay2_at (v0 v2 v4 v6 v8 : Vec Ideal S1x128x1024 .bf16) (v11 v13 v15 v17 v19 : Vec Ideal S1x128x1024 .f32)
    (v22 : Vec Ideal S1024x1024 .bf16) (A H : ℕ → Fin 1024 → EReal)
    (a0 : ∀ (r : Fin 128) d, (v0 (ix3 0 r d) : EReal) = A r.val d) (a1 : ∀ (r : Fin 128) d, (v2 (ix3 0 r d) : EReal) = A (128 + r.val) d)
    (a2 : ∀ (r : Fin 128) d, (v4 (ix3 0 r d) : EReal) = A (256 + r.val) d) (a3 : ∀ (r : Fin 128) d, (v6 (ix3 0 r d) : EReal) = A (384 + r.val) d)
    (a4 : ∀ (r : Fin 128) d, (v8 (ix3 0 r d) : EReal) = A (512 + r.val) d)
    (h0 : ∀ (r : Fin 128) d, (v11 (ix3 0 r d) : EReal) = H r.val d) (h1 : ∀ (r : Fin 128) d, (v13 (ix3 0 r d) : EReal) = H (128 + r.val) d)
    (h2 : ∀ (r : Fin 128) d, (v15 (ix3 0 r d) : EReal) = H (256 + r.val) d) (h3 : ∀ (r : Fin 128) d, (v17 (ix3 0 r d) : EReal) = H (384 + r.val) d)
    (h4 : ∀ (r : Fin 128) d, (v19 (ix3 0 r d) : EReal) = H (512 + r.val) d)
    (r : Fin 640) (d : Fin 1024) :
    (k0_pay2 v0 v2 v4 v6 v8 v11 v13 v15 v17 v19 v22 (ix2 r d) : EReal) = H r.val d + ∑ x : Fin 1024, A r.val x * v22 (ix2 x d) := by
  pointwise [k0_pay2]
  refine congrArg₂ (· + ·) ?_ (Finset.sum_congr rfl fun x _ => congrArg (· * (v22 (ix2 x d) : EReal)) ?_)
  · by_cases c0 : r.val < 128
    · rw [dif_pos c0]; exact h0 _ _
    rw [dif_neg c0]
    by_cases c1 : r.val - 128 < 128
    · rw [dif_pos c1]; exact (h1 _ _).trans (congrArg (H · d) (by show 128 + (r.val - 128) = r.val; omega))
    rw [dif_neg c1]
    by_cases c2 : r.val - 128 - 128 < 128
    · rw [dif_pos c2]; exact (h2 _ _).trans (congrArg (H · d) (by show 256 + (r.val - 128 - 128) = r.val; omega))
    rw [dif_neg c2]
    by_cases c3 : r.val - 128 - 128 - 128 < 128
    · rw [dif_pos c3]; exact (h3 _ _).trans (congrArg (H · d) (by show 384 + (r.val - 128 - 128 - 128) = r.val; omega))
    rw [dif_neg c3]
    exact (h4 _ _).trans (congrArg (H · d) (by show 512 + (r.val - 128 - 128 - 128 - 128) = r.val; omega))
  · by_cases c0 : r.val < 128
    · rw [dif_pos c0]; exact a0 _ _
    rw [dif_neg c0]
    by_cases c1 : r.val - 128 < 128
    · rw [dif_pos c1]; exact (a1 _ _).trans (congrArg (A · x) (by show 128 + (r.val - 128) = r.val; omega))
    rw [dif_neg c1]
    by_cases c2 : r.val - 128 - 128 < 128
    · rw [dif_pos c2]; exact (a2 _ _).trans (congrArg (A · x) (by show 256 + (r.val - 128 - 128) = r.val; omega))
    rw [dif_neg c2]
    by_cases c3 : r.val - 128 - 128 - 128 < 128
    · rw [dif_pos c3]; exact (a3 _ _).trans (congrArg (A · x) (by show 384 + (r.val - 128 - 128 - 128) = r.val; omega))
    rw [dif_neg c3]
    exact (a4 _ _).trans (congrArg (A · x) (by show 512 + (r.val - 128 - 128 - 128 - 128) = r.val; omega))

/-- The normalised rows. -/
theorem pay3_at (v : FVec Ideal S640x1024 .f32) (g : Vec Ideal S1x1024 .f32) (r : Fin 640) (d : Fin 1024) :
    (k0_pay3 v g (ix2 r d) : EReal) = rmsRow (fun x => v (ix2 r x)) (fun x => g (ix2 0 x)) d := by
  unfold rmsRow
  pointwise [k0_pay3]

/-- The whole row, from the weights in four runs. -/
theorem tail_at (v : FVec Ideal S640x1024 .f32) (g : Vec Ideal S1x1024 .f32) (v40 v46 v49 v55 v58 v64 v67 v73 : Vec Ideal S1024x1024 .bf16)
    (w1 : Fin 1024 → Fin 4096 → EReal) (w2 : Fin 4096 → Fin 1024 → EReal)
    (p0 : ∀ y x, (v40 (ix2 y x) : EReal) = w1 y ⟨x.val, by omega⟩) (p1 : ∀ y x, (v49 (ix2 y x) : EReal) = w1 y ⟨1024 + x.val, by omega⟩)
    (p2 : ∀ y x, (v58 (ix2 y x) : EReal) = w1 y ⟨2048 + x.val, by omega⟩) (p3 : ∀ y x, (v67 (ix2 y x) : EReal) = w1 y ⟨3072 + x.val, by omega⟩)
    (q0 : ∀ x y, (v46 (ix2 x y) : EReal) = w2 ⟨x.val, by omega⟩ y) (q1 : ∀ x y, (v55 (ix2 x y) : EReal) = w2 ⟨1024 + x.val, by omega⟩ y)
    (q2 : ∀ x y, (v64 (ix2 x y) : EReal) = w2 ⟨2048 + x.val, by omega⟩ y) (q3 : ∀ x y, (v73 (ix2 x y) : EReal) = w2 ⟨3072 + x.val, by omega⟩ y)
    (r : Fin 640) (d : Fin 1024) :
    (k0_pay1 v (k0_pay3 v g) (k0_pay4 v g v40 v46 v49 v55) (k0_pay5 v g v58) k0_pay6 v64 v67 v73 (ix3 0 r d) : EReal) =
      mlpRow (fun x => v (ix2 r x)) (fun x => g (ix2 0 x)) w1 w2 d := by
  unfold mlpRow
  rw [sum_quarters]
  simp only [← p0, ← p1, ← p2, ← p3, ← q0, ← q1, ← q2, ← q3, ← pay3_at]
  unfold unit
  pointwise [k0_pay1, k0_pay4, k0_pay5, k0_pay6]
  simp only [pay3_at]

theorem ld3 (x : Vec Ideal S1024x4096 .bf16) (r d : Fin 1024) : View.ld x r0_3 (ix2 r d) = x (ix2 r ⟨d.val, by omega⟩) := by
  pointwise
theorem ld5 (x : Vec Ideal S1024x4096 .bf16) (r d : Fin 1024) : View.ld x r0_5 (ix2 r d) = x (ix2 r ⟨1024 + d.val, by omega⟩) := by
  pointwise
theorem ld7 (x : Vec Ideal S1024x4096 .bf16) (r d : Fin 1024) : View.ld x r0_7 (ix2 r d) = x (ix2 r ⟨2048 + d.val, by omega⟩) := by
  pointwise
theorem ld9 (x : Vec Ideal S1024x4096 .bf16) (r d : Fin 1024) : View.ld x r0_9 (ix2 r d) = x (ix2 r ⟨3072 + d.val, by omega⟩) := by
  pointwise
theorem ld4 (x : Vec Ideal S4096x1024 .bf16) (r d : Fin 1024) : View.ld x r0_4 (ix2 r d) = x (ix2 ⟨r.val, by omega⟩ d) := by
  pointwise
theorem ld6 (x : Vec Ideal S4096x1024 .bf16) (r d : Fin 1024) : View.ld x r0_6 (ix2 r d) = x (ix2 ⟨1024 + r.val, by omega⟩ d) := by
  pointwise
theorem ld8 (x : Vec Ideal S4096x1024 .bf16) (r d : Fin 1024) : View.ld x r0_8 (ix2 r d) = x (ix2 ⟨2048 + r.val, by omega⟩ d) := by
  pointwise
theorem ld10 (x : Vec Ideal S4096x1024 .bf16) (r d : Fin 1024) : View.ld x r0_10 (ix2 r d) = x (ix2 ⟨3072 + r.val, by omega⟩ d) := by
  pointwise
theorem ld0 {e : EltTy} (x : Vec Ideal S1x128x1024 e) (r : Fin 128) (d : Fin 1024) : View.ld x r0_0 (ix3 0 r d) = x (ix3 0 r d) := by
  pointwise
theorem ld1 (x : Vec Ideal S1024x1024 .bf16) (r d : Fin 1024) : View.ld x r0_1 (ix2 r d) = x (ix2 r d) := by
  pointwise
theorem ld2 (x : Vec Ideal S1x1024 .f32) (d : Fin 1024) : View.ld x r0_2 (ix2 0 d) = x (ix2 0 d) := by
  pointwise

/-- An entry of the block. -/
theorem block_at (x0 x1 x2 x3 x4 : Vec Ideal S1x128x1024 .bf16) (x5 x6 x7 x8 x9 : Vec Ideal S1x128x1024 .f32)
    (x10 : Vec Ideal S1024x1024 .bf16) (x11 : Vec Ideal S1x1024 .f32) (x12 : Vec Ideal S1024x4096 .bf16) (x13 : Vec Ideal S4096x1024 .bf16)
    (A H : ℕ → Fin 1024 → EReal)
    (a0 : ∀ (r : Fin 128) d, (x0 (ix3 0 r d) : EReal) = A r.val d) (a1 : ∀ (r : Fin 128) d, (x1 (ix3 0 r d) : EReal) = A (128 + r.val) d)
    (a2 : ∀ (r : Fin 128) d, (x2 (ix3 0 r d) : EReal) = A (256 + r.val) d) (a3 : ∀ (r : Fin 128) d, (x3 (ix3 0 r d) : EReal) = A (384 + r.val) d)
    (a4 : ∀ (r : Fin 128) d, (x4 (ix3 0 r d) : EReal) = A (512 + r.val) d)
    (h0 : ∀ (r : Fin 128) d, (x5 (ix3 0 r d) : EReal) = H r.val d) (h1 : ∀ (r : Fin 128) d, (x6 (ix3 0 r d) : EReal) = H (128 + r.val) d)
    (h2 : ∀ (r : Fin 128) d, (x7 (ix3 0 r d) : EReal) = H (256 + r.val) d) (h3 : ∀ (r : Fin 128) d, (x8 (ix3 0 r d) : EReal) = H (384 + r.val) d)
    (h4 : ∀ (r : Fin 128) d, (x9 (ix3 0 r d) : EReal) = H (512 + r.val) d)
    (r : Fin 640) (d : Fin 1024) :
    (out0_14 x0 x1 x2 x3 x4 x5 x6 x7 x8 x9 x10 x11 x12 x13 (ix3 0 r d) : EReal) =
      mlpRow (fun y => H r.val y + ∑ x : Fin 1024, A r.val x * x10 (ix2 x y)) (fun y => x11 (ix2 0 y)) (fun x y => x12 (ix2 x y))
        (fun x y => x13 (ix2 x y)) d := by
  have e7 : ∀ y, (k0_pay7 x0 x1 x2 x3 x4 x5 x6 x7 x8 x9 x10 x11 x12 x13 (ix2 r y) : EReal) = H r.val y + ∑ x : Fin 1024, A r.val x * x10 (ix2 x y) := by
    intro y
    refine (pay2_at _ _ _ _ _ _ _ _ _ _ _ A H ?_ ?_ ?_ ?_ ?_ ?_ ?_ ?_ ?_ ?_ r y).trans ?_
    all_goals first
      | (intro r d; rw [ld0]; solve | exact a0 r d | exact a1 r d | exact a2 r d | exact a3 r d | exact a4 r d | exact h0 r d | exact h1 r d | exact h2 r d | exact h3 r d | exact h4 r d)
      | exact congrArg (H r.val y + ·) (Finset.sum_congr rfl fun x _ => congrArg (A r.val x * ·) (ld1 x10 x y))
  have ec : (out0_14 x0 x1 x2 x3 x4 x5 x6 x7 x8 x9 x10 x11 x12 x13 (ix3 0 r d) : EReal) =
      k0_pay1 (k0_pay7 x0 x1 x2 x3 x4 x5 x6 x7 x8 x9 x10 x11 x12 x13) (k0_pay3 (k0_pay7 x0 x1 x2 x3 x4 x5 x6 x7 x8 x9 x10 x11 x12 x13) (View.ld x11 r0_2)) (k0_pay4 (k0_pay7 x0 x1 x2 x3 x4 x5 x6 x7 x8 x9 x10 x11 x12 x13) (View.ld x11 r0_2) (View.ld x12 r0_3) (View.ld x13 r0_4) (View.ld x12 r0_5) (View.ld x13 r0_6)) (k0_pay5 (k0_pay7 x0 x1 x2 x3 x4 x5 x6 x7 x8 x9 x10 x11 x12 x13) (View.ld x11 r0_2) (View.ld x12 r0_7)) (k0_pay6 (F := Ideal)) (View.ld x13 r0_8) (View.ld x12 r0_9) (View.ld x13 r0_10) (ix3 0 r d) := by
    unfold out0_14
    frame_out
  rw [ec]
  refine (tail_at _ _ _ _ _ _ _ _ _ _ (fun x y => x12 (ix2 x y)) (fun x y => x13 (ix2 x y)) (ld3 x12) (ld5 x12) (ld7 x12) (ld9 x12)
    (ld4 x13) (ld6 x13) (ld8 x13) (ld10 x13) r d).trans ?_
  refine congrArg₂ (fun a b => mlpRow a b _ _ d) (funext e7) (funext fun y => ld2 x11 y)

end Cert.First

end
-- ==== Proof.F.Ref.lean ====
module

public import proofs.«01_k».proof.Proof.Gen.Reference4Ideal.Run
public import proofs.«01_k».proof.Proof.L.Dense

@[expose] public section

set_option maxRecDepth 16384

/-!
# The reference of the last call, for the prompt, at an index
-/

noncomputable section

namespace Cert.First

open Cert.Last

open Cert.Reference4Ideal Cert.Reference4Ideal.Gen Cert.Reference4Ideal.Value
open Idealize.ShloMosaic Idealize.ShloMosaic.TcCoe

/-- The residual stream with the projected attention added. -/
def stream (a : Vec Ideal S10x8320x1024 .bf16) (wo : Vec Ideal S1024x1024 .bf16) (h : Vec Ideal S10x8320x1024 .f32) : FVec Ideal S2x8192x1024 .f32 :=
  addf (extractStridedSlice S2x8192x1024 ![0, 128, 0] h slices_S10x8320x1024_S2x8192x1024_0_128_0) (Host.dotGeneral dot_S2x8192x1024_S1024x1024_S2x8192x1024_2_0_01_1_n_n none (extf .f32 (extractStridedSlice S2x8192x1024 ![0, 128, 0] a slices_S10x8320x1024_S2x8192x1024_0_128_0) bitsLt_bf16_f32) (extf .f32 wo bitsLt_bf16_f32))

/-- The rows divided by their root mean square, times the gain. -/
def rms (x : FVec Ideal S2x8192x1024 .f32) (g : Vec Ideal S1x1024 .f32) : FVec Ideal S2x8192x1024 .f32 :=
  mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ g shapeCasts_S1x1024_S1024)))

/-- The hidden units before the square. -/
def relu (n : FVec Ideal S2x8192x1024 .f32) (w1 : Vec Ideal S1024x4096 .bf16) : FVec Ideal S2x8192x4096 .f32 :=
  maximumf (Host.dotGeneral dot_S2x8192x1024_S1024x4096_S2x8192x4096_2_0_01_1_n_n none n (extf .f32 w1 bitsLt_bf16_f32)) (broadcastInDim S2x8192x4096 ![] bcast_S_S2x8192x4096 (constant S_ .f32 0x00000000#32))

/-- The stream with the feed-forward part added. -/
def feed (x : FVec Ideal S2x8192x1024 .f32) (u : FVec Ideal S2x8192x4096 .f32) (w2 : Vec Ideal S4096x1024 .bf16) : FVec Ideal S2x8192x1024 .f32 :=
  addf x (Host.dotGeneral dot_S2x8192x4096_S4096x1024_S2x8192x1024_2_0_01_1_n_n none (mulf u u) (extf .f32 w2 bitsLt_bf16_f32))

/-- The reference's result in these parts. -/
theorem res_parts (m : (ℓ : Loc nD τ sig) → Buf (Elt Ideal) ℓ) (c : Dev nD) :
    res_main_v26 (F := Ideal) m c =
      feed (stream (m ((c.tc : Thread nD τ).loc main_arg0)) (m ((c.tc : Thread nD τ).loc main_arg1)) (m ((c.tc : Thread nD τ).loc main_arg2)))
        (relu (rms (stream (m ((c.tc : Thread nD τ).loc main_arg0)) (m ((c.tc : Thread nD τ).loc main_arg1)) (m ((c.tc : Thread nD τ).loc main_arg2)))
          (m ((c.tc : Thread nD τ).loc main_arg3))) (m ((c.tc : Thread nD τ).loc main_arg4))) (m ((c.tc : Thread nD τ).loc main_arg5)) := rfl

/-- The stream at an index. -/
theorem stream_at (a : Vec Ideal S10x8320x1024 .bf16) (wo : Vec Ideal S1024x1024 .bf16) (h : Vec Ideal S10x8320x1024 .f32)
    (b : Fin 2) (r : Fin 8192) (d : Fin 1024) :
    (stream a wo h (ix3 b r d) : EReal) = (h (ix3 ⟨b.val, by omega⟩ ⟨128 + r.val, by omega⟩ d) : EReal) +
      ∑ x : Fin 1024, (a (ix3 ⟨b.val, by omega⟩ ⟨128 + r.val, by omega⟩ x) : EReal) * wo (ix2 x d) := by
  unfold stream
  pointwise

/-- The normalised rows at an index. -/
theorem rms_at (x : FVec Ideal S2x8192x1024 .f32) (g : Vec Ideal S1x1024 .f32) (b : Fin 2) (r : Fin 8192) (d : Fin 1024) :
    (rms x g (ix3 b r d) : EReal) = rmsRow (fun y => x (ix3 b r y)) (fun y => g (ix2 0 y)) d := by
  unfold rms rmsRow
  pointwise

/-- The hidden units at an index. -/
theorem relu_at (n : FVec Ideal S2x8192x1024 .f32) (w1 : Vec Ideal S1024x4096 .bf16) (b : Fin 2) (r : Fin 8192) (d : Fin 4096) :
    (relu n w1 (ix3 b r d) : EReal) = unit (fun y => n (ix3 b r y)) (fun y => w1 (ix2 y d)) := by
  unfold relu unit
  pointwise

/-- The result at an index, from the stream and the hidden units. -/
theorem feed_at (x : FVec Ideal S2x8192x1024 .f32) (u : FVec Ideal S2x8192x4096 .f32) (w2 : Vec Ideal S4096x1024 .bf16)
    (b : Fin 2) (r : Fin 8192) (d : Fin 1024) :
    (feed x u w2 (ix3 b r d) : EReal) = (x (ix3 b r d) : EReal) + ∑ f : Fin 4096, (u (ix3 b r f) : EReal) * u (ix3 b r f) * w2 (ix2 f d) := by
  unfold feed
  pointwise

/-- The reference's result as a function of its arguments. -/
def last (a : Vec Ideal S10x8320x1024 .bf16) (wo : Vec Ideal S1024x1024 .bf16) (h : Vec Ideal S10x8320x1024 .f32)
    (g : Vec Ideal S1x1024 .f32) (w1 : Vec Ideal S1024x4096 .bf16) (w2 : Vec Ideal S4096x1024 .bf16) : FVec Ideal S2x8192x1024 .f32 :=
  feed (stream a wo h) (relu (rms (stream a wo h) g) w1) w2

/-- The reference's result at an index: the row of the stream through the feed-forward part. -/
theorem last_at (a : Vec Ideal S10x8320x1024 .bf16) (wo : Vec Ideal S1024x1024 .bf16) (h : Vec Ideal S10x8320x1024 .f32)
    (g : Vec Ideal S1x1024 .f32) (w1 : Vec Ideal S1024x4096 .bf16) (w2 : Vec Ideal S4096x1024 .bf16) (b : Fin 2) (r : Fin 8192) (d : Fin 1024) :
    (last a wo h g w1 w2 (ix3 b r d) : EReal) =
      mlpRow (fun y => (h (ix3 ⟨b.val, by omega⟩ ⟨128 + r.val, by omega⟩ y) : EReal) +
        ∑ x : Fin 1024, (a (ix3 ⟨b.val, by omega⟩ ⟨128 + r.val, by omega⟩ x) : EReal) * wo (ix2 x y)) (fun y => g (ix2 0 y))
        (fun x y => w1 (ix2 x y)) (fun x y => w2 (ix2 x y)) d := by
  unfold last mlpRow
  rw [feed_at]
  simp only [relu_at, rms_at, stream_at]

end Cert.First

end
-- ==== Proof.F.Final.lean ====
module

public import proofs.«01_k».proof.Proof.F.Ker
public import proofs.«01_k».proof.Proof.F.Ref

@[expose] public section

set_option maxRecDepth 16384

/-!
# The prompt's last call's result array is the reference's

Every point writes its own band of rows, the bands cover the array, and each band is the reference's there.
-/

noncomputable section

namespace Cert.First

open Cert.Last

open Cert.Kernel4Ideal Cert.Kernel4Ideal.Gen
open Idealize.ShloMosaic Idealize.ShloMosaic.TcCoe

variable (m : (ℓ : Loc nD τ sig) → Buf (Elt Ideal) ℓ)

/-- The row of the array that a row of a point's bands is: the last band is read again where the rows end. -/
def src (t n : ℕ) : ℕ := 128 * min (1 + 5 * (t % 13) + n / 128) 64 + n % 128

theorem src_lt (t n : ℕ) : src t n < 8320 := by unfold src; omega

/-- The attention's rows that a point reads. -/
def arows (c : Dev nD) (t : Fin cfg0.N) (n : ℕ) (d : Fin 1024) : EReal :=
  m ((c : Thread nD τ).loc main_arg0) (ix3 ⟨t.val / 13, by have : t.val < 26 := t.isLt; omega⟩ ⟨src t.val n, src_lt _ _⟩ d)

/-- The stream's rows that a point reads. -/
def hrows (c : Dev nD) (t : Fin cfg0.N) (n : ℕ) (d : Fin 1024) : EReal :=
  m ((c : Thread nD τ).loc main_arg2) (ix3 ⟨t.val / 13, by have : t.val < 26 := t.isLt; omega⟩ ⟨src t.val n, src_lt _ _⟩ d)

theorem idx0 : ∀ t : Fin cfg0.N, win0_0.index t = ![t.val / 13, min (1 + 5 * (t.val % 13) + 0) 64, 0] :=
  (by decide +kernel : ∀ t : Fin grid0.N, win0_0.index t = ![t.val / 13, min (1 + 5 * (t.val % 13) + 0) 64, 0])
theorem idx1 : ∀ t : Fin cfg0.N, win0_1.index t = ![t.val / 13, min (1 + 5 * (t.val % 13) + 1) 64, 0] :=
  (by decide +kernel : ∀ t : Fin grid0.N, win0_1.index t = ![t.val / 13, min (1 + 5 * (t.val % 13) + 1) 64, 0])
theorem idx2 : ∀ t : Fin cfg0.N, win0_2.index t = ![t.val / 13, min (1 + 5 * (t.val % 13) + 2) 64, 0] :=
  (by decide +kernel : ∀ t : Fin grid0.N, win0_2.index t = ![t.val / 13, min (1 + 5 * (t.val % 13) + 2) 64, 0])
theorem idx3 : ∀ t : Fin cfg0.N, win0_3.index t = ![t.val / 13, min (1 + 5 * (t.val % 13) + 3) 64, 0] :=
  (by decide +kernel : ∀ t : Fin grid0.N, win0_3.index t = ![t.val / 13, min (1 + 5 * (t.val % 13) + 3) 64, 0])
theorem idx4 : ∀ t : Fin cfg0.N, win0_4.index t = ![t.val / 13, min (1 + 5 * (t.val % 13) + 4) 64, 0] :=
  (by decide +kernel : ∀ t : Fin grid0.N, win0_4.index t = ![t.val / 13, min (1 + 5 * (t.val % 13) + 4) 64, 0])
theorem idx5 : ∀ t : Fin cfg0.N, win0_5.index t = ![t.val / 13, min (1 + 5 * (t.val % 13) + 0) 64, 0] :=
  (by decide +kernel : ∀ t : Fin grid0.N, win0_5.index t = ![t.val / 13, min (1 + 5 * (t.val % 13) + 0) 64, 0])
theorem idx6 : ∀ t : Fin cfg0.N, win0_6.index t = ![t.val / 13, min (1 + 5 * (t.val % 13) + 1) 64, 0] :=
  (by decide +kernel : ∀ t : Fin grid0.N, win0_6.index t = ![t.val / 13, min (1 + 5 * (t.val % 13) + 1) 64, 0])
theorem idx7 : ∀ t : Fin cfg0.N, win0_7.index t = ![t.val / 13, min (1 + 5 * (t.val % 13) + 2) 64, 0] :=
  (by decide +kernel : ∀ t : Fin grid0.N, win0_7.index t = ![t.val / 13, min (1 + 5 * (t.val % 13) + 2) 64, 0])
theorem idx8 : ∀ t : Fin cfg0.N, win0_8.index t = ![t.val / 13, min (1 + 5 * (t.val % 13) + 3) 64, 0] :=
  (by decide +kernel : ∀ t : Fin grid0.N, win0_8.index t = ![t.val / 13, min (1 + 5 * (t.val % 13) + 3) 64, 0])
theorem idx9 : ∀ t : Fin cfg0.N, win0_9.index t = ![t.val / 13, min (1 + 5 * (t.val % 13) + 4) 64, 0] :=
  (by decide +kernel : ∀ t : Fin grid0.N, win0_9.index t = ![t.val / 13, min (1 + 5 * (t.val % 13) + 4) 64, 0])
theorem idx10 : ∀ t : Fin cfg0.N, win0_10.index t = ![0, 0] :=
  (by decide +kernel : ∀ t : Fin grid0.N, win0_10.index t = ![0, 0])
theorem idx11 : ∀ t : Fin cfg0.N, win0_11.index t = ![0, 0] :=
  (by decide +kernel : ∀ t : Fin grid0.N, win0_11.index t = ![0, 0])
theorem idx12 : ∀ t : Fin cfg0.N, win0_12.index t = ![0, 0] :=
  (by decide +kernel : ∀ t : Fin grid0.N, win0_12.index t = ![0, 0])
theorem idx13 : ∀ t : Fin cfg0.N, win0_13.index t = ![0, 0] :=
  (by decide +kernel : ∀ t : Fin grid0.N, win0_13.index t = ![0, 0])
theorem idx14 : ∀ t : Fin cfg0.N, win0_14.index t = ![t.val / 13, t.val % 13, 0] :=
  (by decide +kernel : ∀ t : Fin grid0.N, win0_14.index t = ![t.val / 13, t.val % 13, 0])

theorem iblk0_at (c : Dev nD) (t : Fin cfg0.N) (r : Fin 128) (d : Fin 1024) :
    (iblk m c 0 t (ix3 0 r d) : EReal) = arows m c t r.val d := by
  unfold iblk arows V
  blk_simp [idx0 t]
  congr 1; funext a; apply Fin.ext
  blk_simp [idx0 t]
  fin_cases a
  · simp [ix3]
  · simp [ix3, src]; omega
  · simp [ix3]

theorem iblk1_at (c : Dev nD) (t : Fin cfg0.N) (r : Fin 128) (d : Fin 1024) :
    (iblk m c 1 t (ix3 0 r d) : EReal) = arows m c t (128 + r.val) d := by
  unfold iblk arows V
  blk_simp [idx1 t]
  congr 1; funext a; apply Fin.ext
  blk_simp [idx1 t]
  fin_cases a
  · simp [ix3]
  · simp [ix3, src]; omega
  · simp [ix3]

theorem iblk2_at (c : Dev nD) (t : Fin cfg0.N) (r : Fin 128) (d : Fin 1024) :
    (iblk m c 2 t (ix3 0 r d) : EReal) = arows m c t (256 + r.val) d := by
  unfold iblk arows V
  blk_simp [idx2 t]
  congr 1; funext a; apply Fin.ext
  blk_simp [idx2 t]
  fin_cases a
  · simp [ix3]
  · simp [ix3, src]; omega
  · simp [ix3]

theorem iblk3_at (c : Dev nD) (t : Fin cfg0.N) (r : Fin 128) (d : Fin 1024) :
    (iblk m c 3 t (ix3 0 r d) : EReal) = arows m c t (384 + r.val) d := by
  unfold iblk arows V
  blk_simp [idx3 t]
  congr 1; funext a; apply Fin.ext
  blk_simp [idx3 t]
  fin_cases a
  · simp [ix3]
  · simp [ix3, src]; omega
  · simp [ix3]

theorem iblk4_at (c : Dev nD) (t : Fin cfg0.N) (r : Fin 128) (d : Fin 1024) :
    (iblk m c 4 t (ix3 0 r d) : EReal) = arows m c t (512 + r.val) d := by
  unfold iblk arows V
  blk_simp [idx4 t]
  congr 1; funext a; apply Fin.ext
  blk_simp [idx4 t]
  fin_cases a
  · simp [ix3]
  · simp [ix3, src]; omega
  · simp [ix3]

theorem iblk5_at (c : Dev nD) (t : Fin cfg0.N) (r : Fin 128) (d : Fin 1024) :
    (iblk m c 5 t (ix3 0 r d) : EReal) = hrows m c t r.val d := by
  unfold iblk hrows V
  blk_simp [idx5 t]
  congr 1; funext a; apply Fin.ext
  blk_simp [idx5 t]
  fin_cases a
  · simp [ix3]
  · simp [ix3, src]; omega
  · simp [ix3]

theorem iblk6_at (c : Dev nD) (t : Fin cfg0.N) (r : Fin 128) (d : Fin 1024) :
    (iblk m c 6 t (ix3 0 r d) : EReal) = hrows m c t (128 + r.val) d := by
  unfold iblk hrows V
  blk_simp [idx6 t]
  congr 1; funext a; apply Fin.ext
  blk_simp [idx6 t]
  fin_cases a
  · simp [ix3]
  · simp [ix3, src]; omega
  · simp [ix3]

theorem iblk7_at (c : Dev nD) (t : Fin cfg0.N) (r : Fin 128) (d : Fin 1024) :
    (iblk m c 7 t (ix3 0 r d) : EReal) = hrows m c t (256 + r.val) d := by
  unfold iblk hrows V
  blk_simp [idx7 t]
  congr 1; funext a; apply Fin.ext
  blk_simp [idx7 t]
  fin_cases a
  · simp [ix3]
  · simp [ix3, src]; omega
  · simp [ix3]

theorem iblk8_at (c : Dev nD) (t : Fin cfg0.N) (r : Fin 128) (d : Fin 1024) :
    (iblk m c 8 t (ix3 0 r d) : EReal) = hrows m c t (384 + r.val) d := by
  unfold iblk hrows V
  blk_simp [idx8 t]
  congr 1; funext a; apply Fin.ext
  blk_simp [idx8 t]
  fin_cases a
  · simp [ix3]
  · simp [ix3, src]; omega
  · simp [ix3]

theorem iblk9_at (c : Dev nD) (t : Fin cfg0.N) (r : Fin 128) (d : Fin 1024) :
    (iblk m c 9 t (ix3 0 r d) : EReal) = hrows m c t (512 + r.val) d := by
  unfold iblk hrows V
  blk_simp [idx9 t]
  congr 1; funext a; apply Fin.ext
  blk_simp [idx9 t]
  fin_cases a
  · simp [ix3]
  · simp [ix3, src]; omega
  · simp [ix3]

theorem iblk10_eq (c : Dev nD) (t : Fin cfg0.N) : iblk m c 10 t = m ((c : Thread nD τ).loc main_arg1) := by
  funext y
  unfold iblk V
  blk_simp [idx10 t]
  congr 1; funext a; apply Fin.ext
  blk_simp [idx10 t]
  fin_cases a <;> simp

theorem iblk11_eq (c : Dev nD) (t : Fin cfg0.N) : iblk m c 11 t = m ((c : Thread nD τ).loc main_arg3) := by
  funext y
  unfold iblk V
  blk_simp [idx11 t]
  congr 1; funext a; apply Fin.ext
  blk_simp [idx11 t]
  fin_cases a <;> simp

theorem iblk12_eq (c : Dev nD) (t : Fin cfg0.N) : iblk m c 12 t = m ((c : Thread nD τ).loc main_arg4) := by
  funext y
  unfold iblk V
  blk_simp [idx12 t]
  congr 1; funext a; apply Fin.ext
  blk_simp [idx12 t]
  fin_cases a <;> simp

theorem iblk13_eq (c : Dev nD) (t : Fin cfg0.N) : iblk m c 13 t = m ((c : Thread nD τ).loc main_arg5) := by
  funext y
  unfold iblk V
  blk_simp [idx13 t]
  congr 1; funext a; apply Fin.ext
  blk_simp [idx13 t]
  fin_cases a <;> simp

/-- Each entry of the band a point writes is the reference's result at the entry's place in the array. -/
theorem point (c : Dev nD) (t : Fin cfg0.N) (r : Fin 640) (d : Fin 1024) (y' : S2x8192x1024.Idx)
    (h0 : (y' 0).val = t.val / 13) (h1 : (y' 1).val = 640 * (t.val % 13) + r.val) (h2 : (y' 2).val = d.val) :
    (out0_14 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (ix3 0 r d) : EReal) =
      last (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) y' := by
  have ht : t.val < 26 := t.isLt
  have hy : (y' 1).val < 8192 := (y' 1).isLt
  obtain ⟨b, s, e, rfl⟩ : ∃ (b : Fin 2) (s : Fin 8192) (e : Fin 1024), y' = ix3 b s e :=
    ⟨y' 0, y' 1, y' 2, by funext a; fin_cases a <;> rfl⟩
  have h0' : b.val = t.val / 13 := h0
  have h1' : s.val = 640 * (t.val % 13) + r.val := h1
  obtain rfl : e = d := Fin.ext h2
  rw [last_at]
  refine (block_at _ _ _ _ _ _ _ _ _ _ _ _ _ _ (arows m c t) (hrows m c t) (iblk0_at m c t) (iblk1_at m c t) (iblk2_at m c t)
    (iblk3_at m c t) (iblk4_at m c t) (iblk5_at m c t) (iblk6_at m c t) (iblk7_at m c t) (iblk8_at m c t) (iblk9_at m c t) r e).trans ?_
  rw [iblk10_eq, iblk11_eq, iblk12_eq, iblk13_eq]
  have eb : (⟨t.val / 13, by omega⟩ : Fin 10) = ⟨b.val, by omega⟩ := Fin.ext (by show t.val / 13 = b.val; omega)
  have es : (⟨src t.val r.val, src_lt _ _⟩ : Fin 8320) = ⟨128 + s.val, by omega⟩ :=
    Fin.ext (by show src t.val r.val = 128 + s.val; unfold src; omega)
  refine congrArg (fun h => mlpRow h _ _ _ e) (funext fun y => ?_)
  unfold arows hrows
  rw [eb, es]

/-- The result array after the run. -/
theorem final (c : Dev nD) : (dats m 0 c).arrAt 14 cfg0.N =
    last (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 14 _ (by decide +kernel) fun t _ y => ?_
  blk_simp
  rw [after0_14]
  have e : (cfg0.win 14).xinj (cfg0.grid.coords t) y = ix3 0 (Fin.mk (y 1).val ((cfg0.win 14).xinj (cfg0.grid.coords t) y 1).isLt)
      (Fin.mk (y 2).val ((cfg0.win 14).xinj (cfg0.grid.coords t) y 2).isLt) := by
    funext a; apply Fin.ext
    have h0 : ((cfg0.win 14).xinj (cfg0.grid.coords t) y 0).val < 1 := ((cfg0.win 14).xinj (cfg0.grid.coords t) y 0).isLt
    fin_cases a
    · show ((cfg0.win 14).xinj (cfg0.grid.coords t) y 0).val = 0
      omega
    · rfl
    · rfl
  rw [e]
  refine point m c t _ _ _ ?_ ?_ ?_
  all_goals blk_simp [idx14 t]
  · have h0 : (y 0).val < 1 := ((cfg0.win 14).xinj (cfg0.grid.coords t) y 0).isLt
    simpa using by omega
  · simpa using by omega

end Cert.First

end
-- ==== Proof.E.Dense.lean ====
module

public import proofs.«01_k».proof.Proof.L.Dense

@[expose] public section

/-!
# A gated head of a row

The mathematics of one head of the scan's output: the root mean square, the gain and the gate, on extended reals.
-/

noncomputable section

namespace Cert.Even

open Idealize.ShloMosaic

/-- A head's output over its root mean square, times the gain, times its gate. -/
def headRow (o n z : Fin 128 → EReal) (d : Fin 128) : EReal :=
  o d * Ideal.rsqrt (Ideal.div (∑ x, o x * o x) (Ideal.ofBits FTy.f32 1124073472#32) + Ideal.ofBits FTy.f32 897988541#32) * n d *
    (z d * Ideal.div 1 (1 + Ideal.exp (-z d)))

/-- The word of a hundred and twenty-eight. -/
theorem ofBits_width : Ideal.ofBits FTy.f32 1124073472#32 = ((128 : ℝ) : EReal) := by
  have h1 : (0x43000000#32).extractLsb' 31 1 = 0#1 := by decide
  have h2 : (0x43000000#32).extractLsb' 23 8 = 134#8 := by decide
  have h3 : (0x43000000#32).extractLsb' 0 23 = 0#23 := by decide
  norm_num [Ideal.ofBits, Ideal.ieee, h1, h2, h3, zpow_neg, zpow_ofNat]

/-- The word of its inverse. -/
theorem ofBits_inv_width : Ideal.ofBits FTy.f32 1006632960#32 = ((1 / 128 : ℝ) : EReal) := by
  have h1 : (0x3C000000#32).extractLsb' 31 1 = 0#1 := by decide
  have h2 : (0x3C000000#32).extractLsb' 23 8 = 120#8 := by decide
  have h3 : (0x3C000000#32).extractLsb' 0 23 = 0#23 := by decide
  norm_num [Ideal.ofBits, Ideal.ieee, h1, h2, h3, zpow_neg, zpow_ofNat]

/-- A mean by the inverse is a mean by the width. -/
theorem mean_eq (s : EReal) : s * Ideal.ofBits FTy.f32 1006632960#32 = Ideal.div s (Ideal.ofBits FTy.f32 1124073472#32) := by
  rw [ofBits_width, ofBits_inv_width, Ideal.div_coe (by norm_num)]

/-- A real minus itself is zero. -/
theorem low_eq (x : EReal) (h : ∃ r : ℝ, x = (r : EReal)) : x * x - x * x = 0 := by
  obtain ⟨r, rfl⟩ := h
  rw [← EReal.coe_mul, ← EReal.coe_sub, sub_self]
  rfl

/-- The head with its squares in a leading and a low part, where every entry is real. -/
theorem headRow_split (o n z : Fin 128 → EReal) (h : ∀ x, ∃ r : ℝ, o x = (r : EReal)) (d : Fin 128) :
    o d * Ideal.rsqrt ((∑ x, o x * o x + ∑ x, (o x * o x - o x * o x)) * Ideal.ofBits FTy.f32 1006632960#32 + Ideal.ofBits FTy.f32 897988541#32) * n d *
      (z d * Ideal.div 1 (1 + Ideal.exp (0 - z d))) = headRow o n z d := by
  unfold headRow
  rw [Finset.sum_eq_zero (fun x _ => low_eq (o x) (h x)), add_zero, mean_eq, sub_eq_add_neg, zero_add]

/-- A row of four heads, each over its own root mean square and through its own gate. -/
def gateRow (o : Fin 512 → EReal) (n : Fin 128 → EReal) (z : Fin 512 → EReal) (x : Fin 512) : EReal :=
  headRow (fun i => o ⟨x.val / 128 * 128 + i.val, by omega⟩) n (fun i => z ⟨x.val / 128 * 128 + i.val, by omega⟩) ⟨x.val % 128, by omega⟩

/-- An entry of the row of heads is an entry of the head it lies in. -/
theorem gateRow_of (O : Fin 512 → EReal) (n : Fin 128 → EReal) (Z : Fin 512 → EReal) (k : ℕ) (hk : k < 4) (o z : Fin 128 → EReal)
    (ho : ∀ i, o i = O ⟨k * 128 + i.val, by omega⟩) (hz : ∀ i, z i = Z ⟨k * 128 + i.val, by omega⟩) (x : Fin 512) (d : Fin 128)
    (hx : x.val = k * 128 + d.val) : headRow o n z d = gateRow O n Z x := by
  have e : x.val / 128 = k := by omega
  have ed : d = ⟨x.val % 128, by omega⟩ := Fin.ext (by show d.val = x.val % 128; omega)
  unfold gateRow
  rw [← ed]
  refine congrArg₂ (fun a b => headRow a n b d) (funext fun i => (ho i).trans (congrArg O (Fin.ext ?_))) (funext fun i => (hz i).trans (congrArg Z (Fin.ext ?_)))
  · show k * 128 + i.val = x.val / 128 * 128 + i.val
    rw [e]
  · show k * 128 + i.val = x.val / 128 * 128 + i.val
    rw [e]

/-- The stream with the pooled and the gated parts projected and added. -/
def joinRow (h : Fin 1024 → EReal) (p u : Fin 512 → EReal) (w : Fin 1024 → Fin 1024 → EReal) (d : Fin 1024) : EReal :=
  h d + ∑ x : Fin 1024, (if c : x.val < 512 then p ⟨x.val, c⟩ else u ⟨x.val - 512, by omega⟩) * w x d

/-- The projection of the two parts one after the other. -/
theorem joinRow_halves (h : Fin 1024 → EReal) (p u : Fin 512 → EReal) (w : Fin 1024 → Fin 1024 → EReal) (d : Fin 1024) :
    joinRow h p u w d = h d + ∑ x : Fin 512, p x * w ⟨x.val, by omega⟩ d + ∑ x : Fin 512, u x * w ⟨512 + x.val, by omega⟩ d := by
  unfold joinRow
  rw [Cert.Last.sum_halves 512, add_assoc]
  refine congrArg (h d + ·) (congrArg₂ (· + ·) (Finset.sum_congr rfl fun x _ => ?_) (Finset.sum_congr rfl fun x _ => ?_))
  · rw [dif_pos x.isLt]
  · rw [dif_neg (by simp)]
    exact congrArg (fun y => u y * w ⟨512 + x.val, by omega⟩ d) (Fin.ext (by simp))

end Cert.Even

end
-- ==== Proof.E.Ker.lean ====
module

public import proofs.«01_k».proof.Proof.Gen.Kernel3Ideal.Value
public import proofs.«01_k».proof.Proof.E.Dense

@[expose] public section

set_option maxRecDepth 16384

/-!
# A block of the even layer's end

Each row of the block is the row of the stream, with the pooled and the gated parts projected and added, through the feed-forward part.
-/

noncomputable section

namespace Cert.Even

open Cert.Kernel3Ideal Cert.Kernel3Ideal.Gen
open Idealize.ShloMosaic Idealize.ShloMosaic.TcCoe

/-- The first head. -/
theorem pay18_at (a b z : Vec Ideal S640x128 .bf16) (n : Vec Ideal S1x128 .f32) (r : Fin 640)
    (h : ∀ x : Fin 128, ∃ q : ℝ, (a (ix2 r x) : EReal) + b (ix2 r x) = (q : EReal)) (d : Fin 128) :
    (k0_pay18 (k0_pay15 z) (k0_pay16 (k0_pay2 (F := Ideal)) (k0_pay4 a b) (k0_pay10 a b) (k0_pay11 a b) (constant S640x128 .f32 0x00000000#32) n) (k0_pay17 (F := Ideal)) (ix2 r d) : EReal) =
      headRow (fun x => (a (ix2 r x) : EReal) + b (ix2 r x)) (fun x => n (ix2 0 x)) (fun x => z (ix2 r x)) d := by
  rw [← headRow_split _ _ _ h]
  pointwise [k0_pay18, k0_pay15, k0_pay16, k0_pay4, k0_pay10, k0_pay11, k0_pay17, k0_pay9, k0_pay8, k0_pay2]

/-- The second head. -/
theorem pay19_at (o : FVec Ideal S640x128 .f32) (z : Vec Ideal S640x128 .bf16) (n : Vec Ideal S1x128 .f32) (r : Fin 640)
    (h : ∀ x : Fin 128, ∃ q : ℝ, (o (ix2 r x) : EReal) = (q : EReal)) (d : Fin 128) :
    (k0_pay19 o (k0_pay12 (k0_pay2 (F := Ideal)) o) z n (ix2 r d) : EReal) =
      headRow (fun x => o (ix2 r x)) (fun x => n (ix2 0 x)) (fun x => z (ix2 r x)) d := by
  rw [← headRow_split _ _ _ h]
  pointwise [k0_pay19, k0_pay12, k0_pay2]

/-- The stream with the projected heads added, the last two heads computed here. -/
theorem pay23_at (v6 : FVec Ideal S640x1024 .f32) (o2 o3 : FVec Ideal S640x128 .f32) (y0 y1 : FVec Ideal S640x128 .bf16)
    (z2 z3 : Vec Ideal S640x128 .bf16) (n : Vec Ideal S1x128 .f32) (w : Vec Ideal S512x1024 .bf16) (r : Fin 640)
    (h2 : ∀ x : Fin 128, ∃ q : ℝ, (o2 (ix2 r x) : EReal) = (q : EReal)) (h3 : ∀ x : Fin 128, ∃ q : ℝ, (o3 (ix2 r x) : EReal) = (q : EReal)) (d : Fin 1024) :
    (k0_pay23 v6 o3 (k0_pay14 (k0_pay2 (F := Ideal)) o3) y0 y1 (k0_pay20 z2) (k0_pay21 o2 (k0_pay13 (k0_pay2 (F := Ideal)) o2) n) (k0_pay22 z2) (Scalar.ofBits .f32 0x3F800000#32) z3 n w (ix2 r d) : EReal) =
      (v6 (ix2 r d) : EReal) + ∑ x : Fin 512, (if c0 : x.val < 128 then (y0 (ix2 r ⟨x.val, c0⟩) : EReal) else
        if c1 : x.val - 128 < 128 then (y1 (ix2 r ⟨x.val - 128, c1⟩) : EReal) else
        if c2 : x.val - 128 - 128 < 128 then headRow (fun x => o2 (ix2 r x)) (fun x => n (ix2 0 x)) (fun x => z2 (ix2 r x)) ⟨x.val - 128 - 128, c2⟩ else
        headRow (fun x => o3 (ix2 r x)) (fun x => n (ix2 0 x)) (fun x => z3 (ix2 r x)) ⟨x.val - 128 - 128 - 128, by omega⟩) * w (ix2 x d) := by
  simp only [← headRow_split (fun x => o2 (ix2 r x)) (fun x => n (ix2 0 x)) (fun x => z2 (ix2 r x)) h2,
    ← headRow_split (fun x => o3 (ix2 r x)) (fun x => n (ix2 0 x)) (fun x => z3 (ix2 r x)) h3]
  pointwise [k0_pay23, k0_pay14, k0_pay2, k0_pay13, k0_pay20, k0_pay21, k0_pay22]

/-- The stream with the pooled part added. -/
theorem pay3_at (v1 : Vec Ideal S640x1024 .f32) (v2 : Vec Ideal S640x512 .bf16) (v3 : Vec Ideal S512x1024 .bf16) (r : Fin 640) (d : Fin 1024) :
    (k0_pay3 v1 v2 v3 (ix2 r d) : EReal) = (v1 (ix2 r d) : EReal) + ∑ x : Fin 512, (v2 (ix2 r x) : EReal) * v3 (ix2 x d) := by
  pointwise [k0_pay3]

/-- Two outputs added, for each of the three heads that are added apart. -/
theorem pay5_at (a b : Vec Ideal S640x128 .bf16) (r : Fin 640) (d : Fin 128) : (k0_pay5 a b (ix2 r d) : EReal) = (a (ix2 r d) : EReal) + b (ix2 r d) := by
  pointwise [k0_pay5]
theorem pay6_at (a b : Vec Ideal S640x128 .bf16) (r : Fin 640) (d : Fin 128) : (k0_pay6 a b (ix2 r d) : EReal) = (a (ix2 r d) : EReal) + b (ix2 r d) := by
  pointwise [k0_pay6]
theorem pay7_at (a b : Vec Ideal S640x128 .bf16) (r : Fin 640) (d : Fin 128) : (k0_pay7 a b (ix2 r d) : EReal) = (a (ix2 r d) : EReal) + b (ix2 r d) := by
  pointwise [k0_pay7]

/-- The normalised rows. -/
theorem pay24_at (v6 : FVec Ideal S640x1024 .f32) (v26 v66 : FVec Ideal S640x128 .f32) (v85 v104 : FVec Ideal S640x128 .bf16)
    (v106 v113 v118 : FVec Ideal S640x128 .f32) (k : Ideal .f32) (z : Vec Ideal S640x128 .bf16) (n : Vec Ideal S1x128 .f32)
    (w : Vec Ideal S512x1024 .bf16) (g : Vec Ideal S1x1024 .f32) (r : Fin 640) (d : Fin 1024) :
    (k0_pay24 v6 v26 v66 v85 v104 v106 v113 v118 k z n w g (ix2 r d) : EReal) =
      Cert.Last.rmsRow (fun x => k0_pay23 v6 v26 v66 v85 v104 v106 v113 v118 k z n w (ix2 r x)) (fun x => g (ix2 0 x)) d := by
  unfold Cert.Last.rmsRow
  pointwise [k0_pay24]

/-- The whole row, from the weights in four runs. -/
theorem tail_at (v : FVec Ideal S640x1024 .f32) (u : FVec Ideal S640x1024 .bf16) (g : Fin 1024 → EReal) (r : Fin 640)
    (hu : ∀ d, (u (ix2 r d) : EReal) = Cert.Last.rmsRow (fun x => v (ix2 r x)) g d)
    (a0 b0 a1 b1 a2 b2 a3 b3 : Vec Ideal S1024x1024 .bf16)
    (w1 : Fin 1024 → Fin 4096 → EReal) (w2 : Fin 4096 → Fin 1024 → EReal)
    (p0 : ∀ y x, (a0 (ix2 y x) : EReal) = w1 y ⟨x.val, by omega⟩) (p1 : ∀ y x, (a1 (ix2 y x) : EReal) = w1 y ⟨1024 + x.val, by omega⟩)
    (p2 : ∀ y x, (a2 (ix2 y x) : EReal) = w1 y ⟨2048 + x.val, by omega⟩) (p3 : ∀ y x, (a3 (ix2 y x) : EReal) = w1 y ⟨3072 + x.val, by omega⟩)
    (q0 : ∀ x y, (b0 (ix2 x y) : EReal) = w2 ⟨x.val, by omega⟩ y) (q1 : ∀ x y, (b1 (ix2 x y) : EReal) = w2 ⟨1024 + x.val, by omega⟩ y)
    (q2 : ∀ x y, (b2 (ix2 x y) : EReal) = w2 ⟨2048 + x.val, by omega⟩ y) (q3 : ∀ x y, (b3 (ix2 x y) : EReal) = w2 ⟨3072 + x.val, by omega⟩ y)
    (d : Fin 1024) :
    (k0_pay1 v (k0_pay25 u (Scalar.ofBits .f32 0x00000000#32) a0 b0 a1 b1 a2 b2) (k0_pay26 u a3) b3 (ix2 r d) : EReal) =
      Cert.Last.mlpRow (fun x => v (ix2 r x)) g w1 w2 d := by
  unfold Cert.Last.mlpRow
  rw [Cert.Last.sum_quarters]
  simp only [← p0, ← p1, ← p2, ← p3, ← q0, ← q1, ← q2, ← q3, ← hu]
  unfold Cert.Last.unit
  pointwise [k0_pay1, k0_pay25, k0_pay26]
  simp only [hu]

theorem ld3 (x : Vec Ideal S640x512 .bf16) (r : Fin 640) (d : Fin 128) : View.ld x r0_3 (ix2 r d) = x (ix2 r ⟨0 * 128 + d.val, by omega⟩) := by
  pointwise
theorem ld4 (x : Vec Ideal S640x512 .bf16) (r : Fin 640) (d : Fin 128) : View.ld x r0_4 (ix2 r d) = x (ix2 r ⟨1 * 128 + d.val, by omega⟩) := by
  pointwise
theorem ld5 (x : Vec Ideal S640x512 .bf16) (r : Fin 640) (d : Fin 128) : View.ld x r0_5 (ix2 r d) = x (ix2 r ⟨2 * 128 + d.val, by omega⟩) := by
  pointwise
theorem ld6 (x : Vec Ideal S640x512 .bf16) (r : Fin 640) (d : Fin 128) : View.ld x r0_6 (ix2 r d) = x (ix2 r ⟨3 * 128 + d.val, by omega⟩) := by
  pointwise
theorem ld9 (x : Vec Ideal S1024x4096 .bf16) (r d : Fin 1024) : View.ld x r0_9 (ix2 r d) = x (ix2 r ⟨d.val, by omega⟩) := by
  pointwise
theorem ld10 (x : Vec Ideal S4096x1024 .bf16) (r d : Fin 1024) : View.ld x r0_10 (ix2 r d) = x (ix2 ⟨r.val, by omega⟩ d) := by
  pointwise
theorem ld11 (x : Vec Ideal S1024x4096 .bf16) (r d : Fin 1024) : View.ld x r0_11 (ix2 r d) = x (ix2 r ⟨1024 + d.val, by omega⟩) := by
  pointwise
theorem ld12 (x : Vec Ideal S4096x1024 .bf16) (r d : Fin 1024) : View.ld x r0_12 (ix2 r d) = x (ix2 ⟨1024 + r.val, by omega⟩ d) := by
  pointwise
theorem ld13 (x : Vec Ideal S1024x4096 .bf16) (r d : Fin 1024) : View.ld x r0_13 (ix2 r d) = x (ix2 r ⟨2048 + d.val, by omega⟩) := by
  pointwise
theorem ld14 (x : Vec Ideal S4096x1024 .bf16) (r d : Fin 1024) : View.ld x r0_14 (ix2 r d) = x (ix2 ⟨2048 + r.val, by omega⟩ d) := by
  pointwise
theorem ld15 (x : Vec Ideal S1024x4096 .bf16) (r d : Fin 1024) : View.ld x r0_15 (ix2 r d) = x (ix2 r ⟨3072 + d.val, by omega⟩) := by
  pointwise
theorem ld16 (x : Vec Ideal S4096x1024 .bf16) (r d : Fin 1024) : View.ld x r0_16 (ix2 r d) = x (ix2 ⟨3072 + r.val, by omega⟩ d) := by
  pointwise
theorem ld0 (x : Vec Ideal S640x1024 .f32) (r : Fin 640) (d : Fin 1024) : View.ld x r0_0 (ix2 r d) = x (ix2 r d) := by
  pointwise
theorem ld1 (x : Vec Ideal S640x512 .bf16) (r : Fin 640) (d : Fin 512) : View.ld x r0_1 (ix2 r d) = x (ix2 r d) := by
  pointwise
theorem ld2 (x : Vec Ideal S512x1024 .bf16) (r : Fin 512) (d : Fin 1024) : View.ld x r0_2 (ix2 r d) = x (ix2 r d) := by
  pointwise
theorem ld7 (x : Vec Ideal S1x128 .f32) (d : Fin 128) : View.ld x r0_7 (ix2 0 d) = x (ix2 0 d) := by
  pointwise
theorem ld8 (x : Vec Ideal S1x1024 .f32) (d : Fin 1024) : View.ld x r0_8 (ix2 0 d) = x (ix2 0 d) := by
  pointwise

/-- The gain of the heads, the scan's output and the gate's argument of a row. -/
theorem join_at (x0 x1 x2 x3 : Vec Ideal S640x512 .bf16) (x4 : Vec Ideal S1x128 .f32) (x5 x6 : Vec Ideal S512x1024 .bf16) (x7 : Vec Ideal S640x1024 .f32)
    (x8 : Vec Ideal S1x1024 .f32) (x9 : Vec Ideal S1024x4096 .bf16) (x10 : Vec Ideal S4096x1024 .bf16) (r : Fin 640)
    (hr : ∀ x : Fin 512, ∃ q : ℝ, (x1 (ix2 r x) : EReal) + x2 (ix2 r x) = (q : EReal)) (W : Fin 1024 → Fin 1024 → EReal)
    (hp : ∀ (x : Fin 512) y, (x5 (ix2 x y) : EReal) = W ⟨x.val, by omega⟩ y) (hd : ∀ (x : Fin 512) y, (x6 (ix2 x y) : EReal) = W ⟨512 + x.val, by omega⟩ y) (d : Fin 1024) :
    (k0_pay23 (k0_pay28 x0 x1 x2 x3 x4 x5 x6 x7 x8 x9 x10) (k0_pay31 x0 x1 x2 x3 x4 x5 x6 x7 x8 x9 x10) (k0_pay32 x0 x1 x2 x3 x4 x5 x6 x7 x8 x9 x10) (k0_pay33 x0 x1 x2 x3 x4 x5 x6 x7 x8 x9 x10) (k0_pay34 x0 x1 x2 x3 x4 x5 x6 x7 x8 x9 x10) (k0_pay35 x0 x1 x2 x3 x4 x5 x6 x7 x8 x9 x10) (k0_pay36 x0 x1 x2 x3 x4 x5 x6 x7 x8 x9 x10) (k0_pay37 x0 x1 x2 x3 x4 x5 x6 x7 x8 x9 x10) (Scalar.ofBits .f32 0x3F800000#32) (View.ld x3 r0_6) (View.ld x4 r0_7) (View.ld x6 r0_2) (ix2 r d) : EReal) =
      joinRow (fun y => x7 (ix2 r y)) (fun x => x0 (ix2 r x)) (gateRow (fun x => (x1 (ix2 r x) : EReal) + x2 (ix2 r x)) (fun x => x4 (ix2 0 x)) (fun x => x3 (ix2 r x))) W d := by
  have hn : (fun x => (View.ld x4 r0_7 (ix2 0 x) : EReal)) = fun x => x4 (ix2 0 x) := funext fun x => ld7 x4 x
  have e0 : ∀ x : Fin 128, (View.ld x1 r0_3 (ix2 r x) : EReal) + View.ld x2 r0_3 (ix2 r x) = (x1 (ix2 r ⟨0 * 128 + x.val, by omega⟩) : EReal) + x2 (ix2 r ⟨0 * 128 + x.val, by omega⟩) :=
    fun x => congrArg₂ (fun a b : EReal => a + b) (ld3 x1 r x) (ld3 x2 r x)
  have e1 : ∀ x : Fin 128, (k0_pay5 (View.ld x1 r0_4) (View.ld x2 r0_4) (ix2 r x) : EReal) = (x1 (ix2 r ⟨1 * 128 + x.val, by omega⟩) : EReal) + x2 (ix2 r ⟨1 * 128 + x.val, by omega⟩) :=
    fun x => (pay5_at _ _ r x).trans (congrArg₂ (fun a b : EReal => a + b) (ld4 x1 r x) (ld4 x2 r x))
  have e2 : ∀ x : Fin 128, (k0_pay6 (View.ld x1 r0_5) (View.ld x2 r0_5) (ix2 r x) : EReal) = (x1 (ix2 r ⟨2 * 128 + x.val, by omega⟩) : EReal) + x2 (ix2 r ⟨2 * 128 + x.val, by omega⟩) :=
    fun x => (pay6_at _ _ r x).trans (congrArg₂ (fun a b : EReal => a + b) (ld5 x1 r x) (ld5 x2 r x))
  have e3 : ∀ x : Fin 128, (k0_pay7 (View.ld x1 r0_6) (View.ld x2 r0_6) (ix2 r x) : EReal) = (x1 (ix2 r ⟨3 * 128 + x.val, by omega⟩) : EReal) + x2 (ix2 r ⟨3 * 128 + x.val, by omega⟩) :=
    fun x => (pay7_at _ _ r x).trans (congrArg₂ (fun a b : EReal => a + b) (ld6 x1 r x) (ld6 x2 r x))
  rw [joinRow_halves]
  refine (pay23_at _ (k0_pay6 (View.ld x1 r0_5) (View.ld x2 r0_5)) (k0_pay7 (View.ld x1 r0_6) (View.ld x2 r0_6)) _ _ (View.ld x3 r0_5) (View.ld x3 r0_6) (View.ld x4 r0_7) (View.ld x6 r0_2) r
    (fun x => by rw [e2]; exact hr _) (fun x => by rw [e3]; exact hr _) d).trans ?_
  refine congrArg₂ (· + ·) ?_ (Finset.sum_congr rfl fun x _ => congrArg₂ (· * ·) ?_ ((ld2 x6 x d).trans (hd x d)))
  · refine (pay3_at _ _ _ r d).trans (congrArg₂ (· + ·) (ld0 x7 r d) (Finset.sum_congr rfl fun x _ => congrArg₂ (· * ·) (ld1 x0 r x) ((ld2 x5 x d).trans (hp x d))))
  · rw [hn]
    by_cases c0 : x.val < 128
    · rw [dif_pos c0]
      refine (pay18_at (View.ld x1 r0_3) (View.ld x2 r0_3) (View.ld x3 r0_3) (View.ld x4 r0_7) r (fun x => by rw [e0]; exact hr _) ⟨x.val, c0⟩).trans ?_
      rw [hn]
      exact gateRow_of _ _ _ 0 (by omega) _ _ e0 (ld3 x3 r) x _ (by show x.val = 0 * 128 + x.val; omega)
    rw [dif_neg c0]
    by_cases c1 : x.val - 128 < 128
    · rw [dif_pos c1]
      refine (pay19_at (k0_pay5 (View.ld x1 r0_4) (View.ld x2 r0_4)) (View.ld x3 r0_4) (View.ld x4 r0_7) r (fun x => by rw [e1]; exact hr _) ⟨x.val - 128, c1⟩).trans ?_
      rw [hn]
      exact gateRow_of _ _ _ 1 (by omega) _ _ e1 (ld4 x3 r) x _ (by show x.val = 1 * 128 + (x.val - 128); omega)
    rw [dif_neg c1]
    by_cases c2 : x.val - 128 - 128 < 128
    · rw [dif_pos c2]
      exact gateRow_of _ _ _ 2 (by omega) _ _ e2 (ld5 x3 r) x _ (by show x.val = 2 * 128 + (x.val - 128 - 128); omega)
    rw [dif_neg c2]
    exact gateRow_of _ _ _ 3 (by omega) _ _ e3 (ld6 x3 r) x _ (by show x.val = 3 * 128 + (x.val - 128 - 128 - 128); omega)

/-- An entry of the block. -/
theorem block_at (x0 x1 x2 x3 : Vec Ideal S640x512 .bf16) (x4 : Vec Ideal S1x128 .f32) (x5 x6 : Vec Ideal S512x1024 .bf16) (x7 : Vec Ideal S640x1024 .f32)
    (x8 : Vec Ideal S1x1024 .f32) (x9 : Vec Ideal S1024x4096 .bf16) (x10 : Vec Ideal S4096x1024 .bf16) (r : Fin 640)
    (hr : ∀ x : Fin 512, ∃ q : ℝ, (x1 (ix2 r x) : EReal) + x2 (ix2 r x) = (q : EReal)) (W : Fin 1024 → Fin 1024 → EReal)
    (hp : ∀ (x : Fin 512) y, (x5 (ix2 x y) : EReal) = W ⟨x.val, by omega⟩ y) (hd : ∀ (x : Fin 512) y, (x6 (ix2 x y) : EReal) = W ⟨512 + x.val, by omega⟩ y) (d : Fin 1024) :
    (out0_11 x0 x1 x2 x3 x4 x5 x6 x7 x8 x9 x10 (ix2 r d) : EReal) =
      Cert.Last.mlpRow (joinRow (fun y => x7 (ix2 r y)) (fun x => x0 (ix2 r x))
        (gateRow (fun x => (x1 (ix2 r x) : EReal) + x2 (ix2 r x)) (fun x => x4 (ix2 0 x)) (fun x => x3 (ix2 r x))) W)
        (fun y => x8 (ix2 0 y)) (fun x y => x9 (ix2 x y)) (fun x y => x10 (ix2 x y)) d := by
  have ec : (out0_11 x0 x1 x2 x3 x4 x5 x6 x7 x8 x9 x10 (ix2 r d) : EReal) =
      k0_pay1 (k0_pay23 (k0_pay28 x0 x1 x2 x3 x4 x5 x6 x7 x8 x9 x10) (k0_pay31 x0 x1 x2 x3 x4 x5 x6 x7 x8 x9 x10) (k0_pay32 x0 x1 x2 x3 x4 x5 x6 x7 x8 x9 x10) (k0_pay33 x0 x1 x2 x3 x4 x5 x6 x7 x8 x9 x10) (k0_pay34 x0 x1 x2 x3 x4 x5 x6 x7 x8 x9 x10) (k0_pay35 x0 x1 x2 x3 x4 x5 x6 x7 x8 x9 x10) (k0_pay36 x0 x1 x2 x3 x4 x5 x6 x7 x8 x9 x10) (k0_pay37 x0 x1 x2 x3 x4 x5 x6 x7 x8 x9 x10) (Scalar.ofBits .f32 0x3F800000#32) (View.ld x3 r0_6) (View.ld x4 r0_7) (View.ld x6 r0_2)) (k0_pay25 (k0_pay38 x0 x1 x2 x3 x4 x5 x6 x7 x8 x9 x10) (Scalar.ofBits .f32 0x00000000#32) (View.ld x9 r0_9) (View.ld x10 r0_10) (View.ld x9 r0_11) (View.ld x10 r0_12) (View.ld x9 r0_13) (View.ld x10 r0_14)) (k0_pay26 (k0_pay38 x0 x1 x2 x3 x4 x5 x6 x7 x8 x9 x10) (View.ld x9 r0_15)) (View.ld x10 r0_16) (ix2 r d) := by
    unfold out0_11
    frame_out
  rw [ec]
  refine (tail_at _ _ (fun y => x8 (ix2 0 y)) r (fun y => (pay24_at _ _ _ _ _ _ _ _ _ _ _ _ _ r y).trans
    (congrArg (fun g => Cert.Last.rmsRow _ g y) (funext fun y => ld8 x8 y))) _ _ _ _ _ _ _ _ (fun x y => x9 (ix2 x y)) (fun x y => x10 (ix2 x y))
    (ld9 x9) (ld11 x9) (ld13 x9) (ld15 x9) (ld10 x10) (ld12 x10) (ld14 x10) (ld16 x10) d).trans ?_
  exact congrArg (fun h => Cert.Last.mlpRow h _ _ _ d) (funext fun y => join_at x0 x1 x2 x3 x4 x5 x6 x7 x8 x9 x10 r hr W hp hd y)

end Cert.Even

end
-- ==== Proof.E.Ref.lean ====
module

public import proofs.«01_k».proof.Proof.Gen.Reference3Ideal.Run
public import proofs.«01_k».proof.Proof.E.Dense

@[expose] public section

set_option maxRecDepth 16384

/-!
# The reference of the even layer's end at an index
-/

noncomputable section

namespace Cert.Even

open Cert.Reference3Ideal Cert.Reference3Ideal.Gen Cert.Reference3Ideal.Value
open Idealize.ShloMosaic Idealize.ShloMosaic.TcCoe

/-- The two scans' outputs added, by heads. -/
def heads (a b : Vec Ideal S83200x512 .bf16) : FVec Ideal S83200x4x128 .f32 :=
  shapeCast _ (addf (extf .f32 a bitsLt_bf16_f32) (extf .f32 b bitsLt_bf16_f32)) shapeCasts_S83200x512_S83200x4x128

/-- The gate's argument by heads. -/
def gates (z : Vec Ideal S83200x512 .bf16) : FVec Ideal S83200x4x128 .f32 :=
  shapeCast _ (extf .f32 z bitsLt_bf16_f32) shapeCasts_S83200x512_S83200x4x128

/-- The heads over their root mean square, times the gain. -/
def normed (o : FVec Ideal S83200x4x128 .f32) (n : Vec Ideal S1x128 .f32) : FVec Ideal S83200x4x128 .f32 :=
  mulf (mulf o (broadcastInDim S83200x4x128 ![0, 1, 2] bcast_S83200x4x1_S83200x4x128_0_1_2 (Host.rsqrt (addf (Host.divf (broadcastInDim S83200x4x1 ![0, 1] bcast_S83200x4_S83200x4x1_0_1 (Host.reduceAdd (mulf o o) (constant S_ .f32 0x00000000#32) reducesTo_S83200x4x128_S83200x4_d2 h_S_)) (broadcastInDim S83200x4x1 ![] bcast_S_S83200x4x1 (constant S_ .f32 0x43000000#32))) (broadcastInDim S83200x4x1 ![] bcast_S_S83200x4x1 (constant S_ .f32 0x358637BD#32)))))) (broadcastInDim S83200x4x128 ![0, 1, 2] bcast_S1x1x128_S83200x4x128_0_1_2 (broadcastInDim S1x1x128 ![2] bcast_S128_S1x1x128_2 (shapeCast _ n shapeCasts_S1x128_S128)))

/-- The gate. -/
def silu (z : FVec Ideal S83200x4x128 .f32) : FVec Ideal S83200x4x128 .f32 :=
  mulf z (Host.divf (broadcastInDim S83200x4x128 ![] bcast_S_S83200x4x128 (constant S_ .f32 0x3F800000#32)) (addf (broadcastInDim S83200x4x128 ![] bcast_S_S83200x4x128 (constant S_ .f32 0x3F800000#32)) (Host.exp (Host.negf z))))

/-- The gated heads as rows. -/
def gated (o z : FVec Ideal S83200x4x128 .f32) (n : Vec Ideal S1x128 .f32) : FVec Ideal S83200x512 .f32 :=
  shapeCast _ (mulf (normed o n) (silu z)) shapeCasts_S83200x4x128_S83200x512

/-- The stream with the pooled and the gated parts projected and added. -/
def stream (p : Vec Ideal S83200x512 .bf16) (u : FVec Ideal S83200x512 .f32) (wo : Vec Ideal S1024x1024 .bf16) (h : Vec Ideal S83200x1024 .f32) : FVec Ideal S83200x1024 .f32 :=
  addf h (Host.dotGeneral dot_S83200x1024_S1024x1024_S83200x1024_1_0_0_1_n_n none (concatenate S83200x1024 1 [⟨S83200x512, (extf .f32 p bitsLt_bf16_f32)⟩, ⟨S83200x512, u⟩] concatenates_S83200x512_S83200x512_S83200x1024_d1) (extf .f32 wo bitsLt_bf16_f32))

/-- The rows divided by their root mean square, times the gain. -/
def rms (x : FVec Ideal S83200x1024 .f32) (g : Vec Ideal S1x1024 .f32) : FVec Ideal S83200x1024 .f32 :=
  mulf (mulf x (broadcastInDim S83200x1024 ![0, 1] bcast_S83200x1_S83200x1024_0_1 (Host.rsqrt (addf (Host.divf (broadcastInDim S83200x1 ![0] bcast_S83200_S83200x1_0 (Host.reduceAdd (mulf x x) (constant S_ .f32 0x00000000#32) reducesTo_S83200x1024_S83200_d1 h_S_)) (broadcastInDim S83200x1 ![] bcast_S_S83200x1 (constant S_ .f32 0x44800000#32))) (broadcastInDim S83200x1 ![] bcast_S_S83200x1 (constant S_ .f32 0x358637BD#32)))))) (broadcastInDim S83200x1024 ![0, 1] bcast_S1x1024_S83200x1024_0_1 (broadcastInDim S1x1024 ![1] bcast_S1024_S1x1024_1 (shapeCast _ g shapeCasts_S1x1024_S1024)))

/-- The hidden units before the square. -/
def relu (n : FVec Ideal S83200x1024 .f32) (w1 : Vec Ideal S1024x4096 .bf16) : FVec Ideal S83200x4096 .f32 :=
  maximumf (Host.dotGeneral dot_S83200x1024_S1024x4096_S83200x4096_1_0_0_1_n_n none n (extf .f32 w1 bitsLt_bf16_f32)) (broadcastInDim S83200x4096 ![] bcast_S_S83200x4096 (constant S_ .f32 0x00000000#32))

/-- The stream with the feed-forward part added. -/
def feed (x : FVec Ideal S83200x1024 .f32) (u : FVec Ideal S83200x4096 .f32) (w2 : Vec Ideal S4096x1024 .bf16) : FVec Ideal S83200x1024 .f32 :=
  addf x (Host.dotGeneral dot_S83200x4096_S4096x1024_S83200x1024_1_0_0_1_n_n none (mulf u u) (extf .f32 w2 bitsLt_bf16_f32))

/-- The stream from the arguments. -/
def joined (p a b z : Vec Ideal S83200x512 .bf16) (n : Vec Ideal S1x128 .f32) (wo : Vec Ideal S1024x1024 .bf16) (h : Vec Ideal S83200x1024 .f32) : FVec Ideal S83200x1024 .f32 :=
  stream p (gated (heads a b) (gates z) n) wo h

/-- The reference's result as a function of its arguments. -/
def last (p a b z : Vec Ideal S83200x512 .bf16) (n : Vec Ideal S1x128 .f32) (wo : Vec Ideal S1024x1024 .bf16) (h : Vec Ideal S83200x1024 .f32)
    (g : Vec Ideal S1x1024 .f32) (w1 : Vec Ideal S1024x4096 .bf16) (w2 : Vec Ideal S4096x1024 .bf16) : FVec Ideal S83200x1024 .f32 :=
  feed (joined p a b z n wo h) (relu (rms (joined p a b z n wo h) g) w1) w2

/-- The reference's result in these parts. -/
theorem res_parts (m : (ℓ : Loc nD τ sig) → Buf (Elt Ideal) ℓ) (c : Dev nD) :
    res_main_v48 (F := Ideal) m c =
      last (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) := rfl

/-- A head's entry is its row's entry at the head's offset. -/
theorem heads_at (a b : Vec Ideal S83200x512 .bf16) (r : Fin 83200) (k : Fin 4) (i : Fin 128) :
    (heads a b (ix3 r k i) : EReal) = (a (ix2 r ⟨k.val * 128 + i.val, by omega⟩) : EReal) + b (ix2 r ⟨k.val * 128 + i.val, by omega⟩) := by
  unfold heads
  pointwise

/-- The same of the gate's argument. -/
theorem gates_at (z : Vec Ideal S83200x512 .bf16) (r : Fin 83200) (k : Fin 4) (i : Fin 128) :
    (gates z (ix3 r k i) : EReal) = (z (ix2 r ⟨k.val * 128 + i.val, by omega⟩) : EReal) := by
  unfold gates
  pointwise

/-- A gated entry by heads. -/
theorem prod_at (o z : FVec Ideal S83200x4x128 .f32) (n : Vec Ideal S1x128 .f32) (r : Fin 83200) (k : Fin 4) (i : Fin 128) :
    (mulf (normed o n) (silu z) (ix3 r k i) : EReal) = headRow (fun y => o (ix3 r k y)) (fun y => n (ix2 0 y)) (fun y => z (ix3 r k y)) i := by
  unfold normed silu headRow
  pointwise

/-- A gated entry of a row. -/
theorem gated_at (o z : FVec Ideal S83200x4x128 .f32) (n : Vec Ideal S1x128 .f32) (r : Fin 83200) (x : Fin 512) :
    (gated o z n (ix2 r x) : EReal) = (mulf (normed o n) (silu z) (ix3 r ⟨x.val / 128, by omega⟩ ⟨x.val % 128, by omega⟩) : EReal) := by
  unfold gated
  generalize mulf (normed o n) (silu z) = y
  pointwise

/-- The stream at an index. -/
theorem stream_at (p : Vec Ideal S83200x512 .bf16) (u : FVec Ideal S83200x512 .f32) (wo : Vec Ideal S1024x1024 .bf16) (h : Vec Ideal S83200x1024 .f32)
    (r : Fin 83200) (d : Fin 1024) :
    (stream p u wo h (ix2 r d) : EReal) = joinRow (fun y => h (ix2 r y)) (fun x => p (ix2 r x)) (fun x => u (ix2 r x)) (fun x y => wo (ix2 x y)) d := by
  unfold stream joinRow
  pointwise

/-- The normalised rows at an index. -/
theorem rms_at (x : FVec Ideal S83200x1024 .f32) (g : Vec Ideal S1x1024 .f32) (r : Fin 83200) (d : Fin 1024) :
    (rms x g (ix2 r d) : EReal) = Cert.Last.rmsRow (fun y => x (ix2 r y)) (fun y => g (ix2 0 y)) d := by
  unfold rms Cert.Last.rmsRow
  pointwise

/-- The hidden units at an index. -/
theorem relu_at (n : FVec Ideal S83200x1024 .f32) (w1 : Vec Ideal S1024x4096 .bf16) (r : Fin 83200) (d : Fin 4096) :
    (relu n w1 (ix2 r d) : EReal) = Cert.Last.unit (fun y => n (ix2 r y)) (fun y => w1 (ix2 y d)) := by
  unfold relu Cert.Last.unit
  pointwise

/-- The result at an index, from the stream and the hidden units. -/
theorem feed_at (x : FVec Ideal S83200x1024 .f32) (u : FVec Ideal S83200x4096 .f32) (w2 : Vec Ideal S4096x1024 .bf16)
    (r : Fin 83200) (d : Fin 1024) :
    (feed x u w2 (ix2 r d) : EReal) = (x (ix2 r d) : EReal) + ∑ f : Fin 4096, (u (ix2 r f) : EReal) * u (ix2 r f) * w2 (ix2 f d) := by
  unfold feed
  pointwise

/-- The reference's result at an index: the row of the joined stream through the feed-forward part. -/
theorem last_at (p a b z : Vec Ideal S83200x512 .bf16) (n : Vec Ideal S1x128 .f32) (wo : Vec Ideal S1024x1024 .bf16) (h : Vec Ideal S83200x1024 .f32)
    (g : Vec Ideal S1x1024 .f32) (w1 : Vec Ideal S1024x4096 .bf16) (w2 : Vec Ideal S4096x1024 .bf16) (r : Fin 83200) (d : Fin 1024) :
    (last p a b z n wo h g w1 w2 (ix2 r d) : EReal) =
      Cert.Last.mlpRow (joinRow (fun y => h (ix2 r y)) (fun x => p (ix2 r x))
        (gateRow (fun x => (a (ix2 r x) : EReal) + b (ix2 r x)) (fun x => n (ix2 0 x)) (fun x => z (ix2 r x))) (fun x y => wo (ix2 x y)))
        (fun y => g (ix2 0 y)) (fun x y => w1 (ix2 x y)) (fun x y => w2 (ix2 x y)) d := by
  unfold last joined Cert.Last.mlpRow
  rw [feed_at]
  simp only [relu_at, rms_at, stream_at, gated_at, prod_at, heads_at, gates_at]
  rfl

end Cert.Even

end
-- ==== Proof.E.Final.lean ====
module

public import proofs.«01_k».proof.Proof.E.Ker
public import proofs.«01_k».proof.Proof.E.Ref

@[expose] public section

set_option maxRecDepth 16384

/-!
# The even layer's end has the reference's result

Every point writes its own band of rows, the bands cover the array, and each band is the reference's there.
-/

noncomputable section

namespace Cert.Even

open Cert.Kernel3Ideal Cert.Kernel3Ideal.Gen
open Idealize.ShloMosaic Idealize.ShloMosaic.TcCoe

variable (m : (ℓ : Loc nD τ sig) → Buf (Elt Ideal) ℓ)

/-- The row of the array that a row of a point's block is. -/
def row (t : Fin cfg0.N) (r : Fin 640) : Fin 83200 := ⟨640 * t.val + r.val, by have : t.val < 130 := t.isLt; omega⟩

/-- The weights of the pooled part are the upper rows of the projection. -/
theorem V_upper (c : Dev nD) : V m c main_v0 = extractStridedSlice S512x1024 ![0, 0] (m ((c : Thread nD τ).loc main_arg5)) slices_S1024x1024_S512x1024_0_0 := by
  unfold V
  after_results

/-- The weights of the gated part are the lower rows of the projection. -/
theorem V_lower (c : Dev nD) : V m c main_v1 = extractStridedSlice S512x1024 ![512, 0] (m ((c : Thread nD τ).loc main_arg5)) slices_S1024x1024_S512x1024_512_0 := by
  unfold V
  after_results

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![t.val, 0] := (by decide +kernel : ∀ t : Fin grid0.N, win0_7.index t = ![t.val, 0])
theorem idx8 : ∀ t : Fin cfg0.N, win0_8.index t = ![0, 0] := (by decide +kernel : ∀ t : Fin grid0.N, win0_8.index t = ![0, 0])
theorem idx9 : ∀ t : Fin cfg0.N, win0_9.index t = ![0, 0] := (by decide +kernel : ∀ t : Fin grid0.N, win0_9.index t = ![0, 0])
theorem idx10 : ∀ t : Fin cfg0.N, win0_10.index t = ![0, 0] := (by decide +kernel : ∀ t : Fin grid0.N, win0_10.index t = ![0, 0])
theorem idx11 : ∀ t : Fin cfg0.N, win0_11.index t = ![t.val, 0] := (by decide +kernel : ∀ t : Fin grid0.N, win0_11.index t = ![t.val, 0])

theorem iblk0_at (c : Dev nD) (t : Fin cfg0.N) (r : Fin 640) (d : Fin 512) :
    (iblk m c 0 t (ix2 r d) : EReal) = m ((c : Thread nD τ).loc main_arg0) (ix2 (row t r) d) := by
  rw [← V_main_arg0 m c]
  unfold iblk row
  blk_simp [idx0 t]
  congr 1; funext a; apply Fin.ext
  blk_simp [idx0 t]
  fin_cases a
  · simp [ix2]; omega
  · simp [ix2]

theorem iblk1_at (c : Dev nD) (t : Fin cfg0.N) (r : Fin 640) (d : Fin 512) :
    (iblk m c 1 t (ix2 r d) : EReal) = m ((c : Thread nD τ).loc main_arg1) (ix2 (row t r) d) := by
  rw [← V_main_arg1 m c]
  unfold iblk row
  blk_simp [idx1 t]
  congr 1; funext a; apply Fin.ext
  blk_simp [idx1 t]
  fin_cases a
  · simp [ix2]; omega
  · simp [ix2]

theorem iblk2_at (c : Dev nD) (t : Fin cfg0.N) (r : Fin 640) (d : Fin 512) :
    (iblk m c 2 t (ix2 r d) : EReal) = m ((c : Thread nD τ).loc main_arg2) (ix2 (row t r) d) := by
  rw [← V_main_arg2 m c]
  unfold iblk row
  blk_simp [idx2 t]
  congr 1; funext a; apply Fin.ext
  blk_simp [idx2 t]
  fin_cases a
  · simp [ix2]; omega
  · simp [ix2]

theorem iblk3_at (c : Dev nD) (t : Fin cfg0.N) (r : Fin 640) (d : Fin 512) :
    (iblk m c 3 t (ix2 r d) : EReal) = m ((c : Thread nD τ).loc main_arg3) (ix2 (row t r) d) := by
  rw [← V_main_arg3 m c]
  unfold iblk row
  blk_simp [idx3 t]
  congr 1; funext a; apply Fin.ext
  blk_simp [idx3 t]
  fin_cases a
  · simp [ix2]; omega
  · simp [ix2]

theorem iblk7_at (c : Dev nD) (t : Fin cfg0.N) (r : Fin 640) (d : Fin 1024) :
    (iblk m c 7 t (ix2 r d) : EReal) = m ((c : Thread nD τ).loc main_arg6) (ix2 (row t r) d) := by
  rw [← V_main_arg6 m c]
  unfold iblk row
  blk_simp [idx7 t]
  congr 1; funext a; apply Fin.ext
  blk_simp [idx7 t]
  fin_cases a
  · simp [ix2]; omega
  · simp [ix2]

theorem iblk4_eq (c : Dev nD) (t : Fin cfg0.N) : iblk m c 4 t = m ((c : Thread nD τ).loc main_arg4) := by
  rw [← V_main_arg4 m c]
  funext y
  unfold iblk
  blk_simp [idx4 t]
  congr 1; funext a; apply Fin.ext
  blk_simp [idx4 t]
  fin_cases a <;> simp

theorem iblk8_eq (c : Dev nD) (t : Fin cfg0.N) : iblk m c 8 t = m ((c : Thread nD τ).loc main_arg7) := by
  rw [← V_main_arg7 m c]
  funext y
  unfold iblk
  blk_simp [idx8 t]
  congr 1; funext a; apply Fin.ext
  blk_simp [idx8 t]
  fin_cases a <;> simp

theorem iblk9_eq (c : Dev nD) (t : Fin cfg0.N) : iblk m c 9 t = m ((c : Thread nD τ).loc main_arg8) := by
  rw [← V_main_arg8 m c]
  funext y
  unfold iblk
  blk_simp [idx9 t]
  congr 1; funext a; apply Fin.ext
  blk_simp [idx9 t]
  fin_cases a <;> simp

theorem iblk10_eq (c : Dev nD) (t : Fin cfg0.N) : iblk m c 10 t = m ((c : Thread nD τ).loc main_arg9) := by
  rw [← V_main_arg9 m c]
  funext y
  unfold iblk
  blk_simp [idx10 t]
  congr 1; funext a; apply Fin.ext
  blk_simp [idx10 t]
  fin_cases a <;> simp

theorem iblk5_eq (c : Dev nD) (t : Fin cfg0.N) : iblk m c 5 t = V m c main_v0 := by
  funext y
  unfold iblk
  blk_simp [idx5 t]
  congr 1; funext a; apply Fin.ext
  blk_simp [idx5 t]
  fin_cases a <;> simp

theorem iblk5_at (c : Dev nD) (t : Fin cfg0.N) (r : Fin 512) (d : Fin 1024) :
    (iblk m c 5 t (ix2 r d) : EReal) = m ((c : Thread nD τ).loc main_arg5) (ix2 ⟨r.val, by omega⟩ d) := by
  rw [iblk5_eq, V_upper]
  pointwise

theorem iblk6_eq (c : Dev nD) (t : Fin cfg0.N) : iblk m c 6 t = V m c main_v1 := by
  funext y
  unfold iblk
  blk_simp [idx6 t]
  congr 1; funext a; apply Fin.ext
  blk_simp [idx6 t]
  fin_cases a <;> simp

theorem iblk6_at (c : Dev nD) (t : Fin cfg0.N) (r : Fin 512) (d : Fin 1024) :
    (iblk m c 6 t (ix2 r d) : EReal) = m ((c : Thread nD τ).loc main_arg5) (ix2 ⟨512 + r.val, by omega⟩ d) := by
  rw [iblk6_eq, V_lower]
  pointwise

/-- The scan's outputs are real at every entry. -/
def Real2 (a b : Vec Ideal S83200x512 .bf16) : Prop := ∀ i, ∃ q : ℝ, (a i : EReal) + b i = (q : EReal)

/-- Each entry of the band a point writes is the reference's result at the entry's place in the array. -/
theorem point (c : Dev nD) (hc : Real2 (m ((c : Thread nD τ).loc main_arg1)) (m ((c : Thread nD τ).loc main_arg2))) (t : Fin cfg0.N) (r : Fin 640) (d : Fin 1024) (y' : S83200x1024.Idx)
    (h0 : (y' 0).val = 640 * t.val + r.val) (h1 : (y' 1).val = d.val) :
    (out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r d) : EReal) =
      last (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) y' := by
  obtain rfl : y' = ix2 (row t r) d := by
    funext a; apply Fin.ext; fin_cases a
    · exact h0
    · exact h1
  rw [last_at]
  refine (block_at _ _ _ _ _ _ _ _ _ _ _ r (fun x => by rw [iblk1_at, iblk2_at]; exact hc _)
    (fun x y => m ((c : Thread nD τ).loc main_arg5) (ix2 x y)) (iblk5_at m c t) (iblk6_at m c t) d).trans ?_
  rw [iblk4_eq, iblk8_eq, iblk9_eq, iblk10_eq]
  simp only [iblk0_at, iblk1_at, iblk2_at, iblk3_at, iblk7_at]

/-- The result array after the run. -/
theorem final (c : Dev nD) (hc : Real2 (m ((c : Thread nD τ).loc main_arg1)) (m ((c : Thread nD τ).loc main_arg2))) : (dats m 0 c).arrAt 11 cfg0.N =
    last (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) := by
  refine (dats m 0 c).arrAt_eq_of_covers 11 _ (by decide +kernel) fun t _ y => ?_
  blk_simp
  rw [after0_11]
  have e : y = ix2 (Fin.mk (y 0).val ((cfg0.win 11).xinj (cfg0.grid.coords t) y 0).isLt)
      (Fin.mk (y 1).val ((cfg0.win 11).xinj (cfg0.grid.coords t) y 1).isLt) := by
    funext a; apply Fin.ext
    fin_cases a <;> rfl
  refine (congrArg (out0_11 _ _ _ _ _ _ _ _ _ _ _) e).trans (point m c hc t _ _ _ ?_ ?_)
  all_goals blk_simp [idx11 t]
  simpa using by omega

end Cert.Even

end
-- ==== Proof.I.Ker.lean ====
module

public import proofs.«01_k».proof.Proof.Gen.Kernel5Ideal.Value
public import proofs.«01_k».proof.Proof.L.Dense

@[expose] public section

set_option maxRecDepth 16384

/-!
# A block of the even layer's start

The block's rows are read from two arrays or from the front rows, by the point's place in the grid. Each row is
normalised, and multiplied with four runs of weights.
-/

noncomputable section

namespace Cert.In

open Cert.Kernel5Ideal Cert.Kernel5Ideal.Gen
open Idealize.ShloMosaic Idealize.ShloMosaic.TcCoe
open Cert.Last (rmsRow)

/-- Whether a point's sequence is one of the first array's. -/
def early (i : grid0.Coords) : BitVec 1 :=
  Scalar.cmpi .slt (Scalar.select (Scalar.andi (Scalar.cmpi .ne (Scalar.subi (Scalar.extui (Scalar.cmpi .sgt (BitVec.ofNat 32 (i 0).val) 0#32)) (Scalar.extui (Scalar.cmpi .slt (BitVec.ofNat 32 (i 0).val) 0#32))) (Scalar.subi (Scalar.extui (Scalar.cmpi .sgt 13#32 0#32)) (Scalar.extui (Scalar.cmpi .slt 13#32 0#32)))) (Scalar.cmpi .ne (Scalar.remsi (BitVec.ofNat 32 (i 0).val) 13#32) 0#32)) (Scalar.subi (Scalar.divsi (BitVec.ofNat 32 (i 0).val) 13#32) 1#32) (Scalar.divsi (BitVec.ofNat 32 (i 0).val) 13#32)) 2#32

/-- Whether a point is the first of its sequence. -/
def first (arg0 : BitVec 32) : BitVec 1 :=
  let v43 : BitVec 1 := Scalar.cmpi .eq 13#32 0#32
  let v44 : BitVec 32 := Scalar.select v43 1#32 13#32
  let v45 : BitVec 32 := Scalar.remsi arg0 v44
  let v46 : BitVec 1 := Scalar.cmpi .ne v45 0#32
  let v47 : BitVec 1 := Scalar.cmpi .slt v45 0#32
  let v48 : BitVec 1 := Scalar.cmpi .slt v44 0#32
  let v49 : BitVec 1 := Scalar.xori v47 v48
  let v50 : BitVec 1 := Scalar.andi v49 v46
  let v51 : BitVec 32 := Scalar.addi v45 v44
  let v52 : BitVec 32 := Scalar.select v50 v51 v45
  Scalar.cmpi .eq v52 0#32

theorem early_at : ∀ t : Fin cfg0.N, early (grid0.coords t) = if t.val / 13 < 2 then 1#1 else 0#1 :=
  (by decide +kernel : ∀ t : Fin grid0.N, early (grid0.coords t) = if t.val / 13 < 2 then 1#1 else 0#1)

theorem first_at : ∀ t : Fin cfg0.N, first (BitVec.ofNat 32 (grid0.coords t 0).val) = if t.val % 13 = 0 then 1#1 else 0#1 :=
  (by decide +kernel : ∀ t : Fin grid0.N, first (BitVec.ofNat 32 (grid0.coords t 0).val) = if t.val % 13 = 0 then 1#1 else 0#1)

/-- A band of rows from one array or the other. -/
def pick (c : BitVec 1) (x y : Vec Ideal S1x128x1024 .f32) : FVec Ideal S128x1024 .f32 :=
  Scalar.select c (shapeCast S128x1024 x shapeCasts_S1x128x1024_S128x1024 : FVec Ideal S128x1024 .f32) (shapeCast S128x1024 y shapeCasts_S1x128x1024_S128x1024)

/-- The five bands, one after the other. -/
def bands (v56 v27 v32 v37 v42 : FVec Ideal S128x1024 .f32) : FVec Ideal S640x1024 .f32 :=
  concatenate S640x1024 0 [⟨S128x1024, v56⟩, ⟨S128x1024, v27⟩, ⟨S128x1024, v32⟩, ⟨S128x1024, v37⟩, ⟨S128x1024, v42⟩] concatenates_S128x1024_S128x1024_S128x1024_S128x1024_S128x1024_S640x1024_d0

theorem pay6_eq (i : grid0.Coords) (x y : Vec Ideal S1x128x1024 .f32) : k0_pay6 i x y = pick (early i) x y := rfl
theorem pay7_eq (i : grid0.Coords) (x y : Vec Ideal S1x128x1024 .f32) : k0_pay7 i x y = pick (early i) x y := rfl
theorem pay8_eq (i : grid0.Coords) (x y : Vec Ideal S1x128x1024 .f32) : k0_pay8 i x y = pick (early i) x y := rfl

theorem pay9_eq (a : BitVec 32) (c : BitVec 1) (v22 v27 v32 : FVec Ideal S128x1024 .f32) (v33 v35 v38 v40 : Vec Ideal S1x128x1024 .f32) (v54 : Vec Ideal S128x1024 .f32) :
    k0_pay9 a c v22 v27 v32 v33 v35 v38 v40 v54 =
      bands (Scalar.select (first a) (shapeCast S128x1024 v54 shapeCasts_S128x1024_S128x1024) v22) v27 v32 (pick c v33 v35) (pick c v38 v40) := rfl

theorem pick_at (c : BitVec 1) (x y : Vec Ideal S1x128x1024 .f32) (r : Fin 128) (d : Fin 1024) :
    (pick c x y (ix2 r d) : EReal) = if c = 1 then x (ix3 0 r d) else y (ix3 0 r d) := by
  unfold pick Scalar.select
  by_cases h : c = 1
  · rw [if_pos h, if_pos h]
    pointwise
  · rw [if_neg h, if_neg h]
    pointwise

theorem front_at (c : BitVec 1) (x : Vec Ideal S128x1024 .f32) (y : FVec Ideal S128x1024 .f32) (r : Fin 128) (d : Fin 1024) :
    (Scalar.select c (shapeCast S128x1024 x shapeCasts_S128x1024_S128x1024 : FVec Ideal S128x1024 .f32) y (ix2 r d) : EReal) = if c = 1 then x (ix2 r d) else y (ix2 r d) := by
  unfold Scalar.select
  by_cases h : c = 1
  · rw [if_pos h, if_pos h]
    pointwise
  · rw [if_neg h, if_neg h]

theorem bands_at (v0 v1 v2 v3 v4 : FVec Ideal S128x1024 .f32) (H : ℕ → Fin 1024 → EReal)
    (h0 : ∀ (r : Fin 128) d, (v0 (ix2 r d) : EReal) = H r.val d) (h1 : ∀ (r : Fin 128) d, (v1 (ix2 r d) : EReal) = H (128 + r.val) d)
    (h2 : ∀ (r : Fin 128) d, (v2 (ix2 r d) : EReal) = H (256 + r.val) d) (h3 : ∀ (r : Fin 128) d, (v3 (ix2 r d) : EReal) = H (384 + r.val) d)
    (h4 : ∀ (r : Fin 128) d, (v4 (ix2 r d) : EReal) = H (512 + r.val) d) (r : Fin 640) (d : Fin 1024) :
    (bands v0 v1 v2 v3 v4 (ix2 r d) : EReal) = H r.val d := by
  pointwise [bands]
  by_cases c0 : r.val < 128
  · rw [dif_pos c0]; exact h0 _ _
  rw [dif_neg c0]
  by_cases c1 : r.val - 128 < 128
  · rw [dif_pos c1]; exact (h1 _ _).trans (congrArg (H · d) (by show 128 + (r.val - 128) = r.val; omega))
  rw [dif_neg c1]
  by_cases c2 : r.val - 128 - 128 < 128
  · rw [dif_pos c2]; exact (h2 _ _).trans (congrArg (H · d) (by show 256 + (r.val - 128 - 128) = r.val; omega))
  rw [dif_neg c2]
  by_cases c3 : r.val - 128 - 128 - 128 < 128
  · rw [dif_pos c3]; exact (h3 _ _).trans (congrArg (H · d) (by show 384 + (r.val - 128 - 128 - 128) = r.val; omega))
  rw [dif_neg c3]
  exact (h4 _ _).trans (congrArg (H · d) (by show 512 + (r.val - 128 - 128 - 128 - 128) = r.val; omega))

/-- The mean of the squares of each row. -/
def meansq (v : FVec Ideal S640x1024 .f32) : FVec Ideal S640x1 .f32 :=
  divf (shapeCast S640x1 (multiReduction .add [1] S640 (mulf v v) 0x00000000#32 reduces_S640x1024_S640 (.inl rfl) rfl) shapeCasts_S640_S640x1)
    (broadcast S640x1 (Scalar.ofBits .f32 0x44800000#32))

theorem pay10_eq (a : BitVec 32) (c : BitVec 1) (v22 v27 v32 : FVec Ideal S128x1024 .f32) (v33 v35 v38 v40 : Vec Ideal S1x128x1024 .f32) (v54 : Vec Ideal S128x1024 .f32) :
    k0_pay10 a c v22 v27 v32 v33 v35 v38 v40 v54 = meansq (k0_pay9 a c v22 v27 v32 v33 v35 v38 v40 v54) := rfl

theorem pay1_at (v : FVec Ideal S640x1024 .f32) (g : Vec Ideal S1x1024 .f32) (r : Fin 640) (d : Fin 1024) :
    (k0_pay1 v g (meansq v) (ix2 r d) : EReal) = rmsRow (fun x => v (ix2 r x)) (fun x => g (ix2 0 x)) d := by
  unfold rmsRow
  pointwise [k0_pay1, meansq]

theorem pay2_at (v : FVec Ideal S640x1024 .f32) (g : Vec Ideal S1x1024 .f32) (w : Vec Ideal S1024x512 .bf16) (r : Fin 640) (d : Fin 512) :
    (k0_pay2 v g (meansq v) w (ix2 r d) : EReal) = ∑ y : Fin 1024, rmsRow (fun x => v (ix2 r x)) (fun x => g (ix2 0 x)) y * w (ix2 y d) := by
  simp only [← pay1_at]
  pointwise [k0_pay2]

theorem pay3_at (v : FVec Ideal S640x1024 .f32) (g : Vec Ideal S1x1024 .f32) (w : Vec Ideal S1024x1536 .bf16) (r : Fin 640) (d : Fin 1536) :
    (k0_pay3 v g (meansq v) w (ix2 r d) : EReal) = ∑ y : Fin 1024, rmsRow (fun x => v (ix2 r x)) (fun x => g (ix2 0 x)) y * w (ix2 y d) := by
  simp only [← pay1_at]
  pointwise [k0_pay3]

theorem pay4_at (v : FVec Ideal S640x1024 .f32) (g : Vec Ideal S1x1024 .f32) (w : Vec Ideal S1024x512 .bf16) (r : Fin 640) (d : Fin 512) :
    (k0_pay4 v g (meansq v) w (ix2 r d) : EReal) = ∑ y : Fin 1024, rmsRow (fun x => v (ix2 r x)) (fun x => g (ix2 0 x)) y * w (ix2 y d) := by
  simp only [← pay1_at]
  pointwise [k0_pay4]

theorem pay5_at (v : FVec Ideal S640x1024 .f32) (g : Vec Ideal S1x1024 .f32) (w : Vec Ideal S1024x128 .bf16) (r : Fin 640) (d : Fin 128) :
    (k0_pay5 v g (meansq v) w (ix2 r d) : EReal) = ∑ y : Fin 1024, rmsRow (fun x => v (ix2 r x)) (fun x => g (ix2 0 x)) y * w (ix2 y d) := by
  simp only [← pay1_at]
  pointwise [k0_pay5]

theorem ld0 (x : Vec Ideal S1x128x1024 .f32) : View.ld x r0_0 = x := by
  funext y
  obtain ⟨a, b, c, rfl⟩ : ∃ (a : Fin 1) (b : Fin 128) (c : Fin 1024), y = ix3 a b c := ⟨y 0, y 1, y 2, by funext a; fin_cases a <;> rfl⟩
  obtain rfl : a = 0 := Subsingleton.elim _ _
  pointwise

theorem ld1 (x : Vec Ideal S128x1024 .f32) : View.ld x r0_1 = x := by
  funext y
  obtain ⟨a, b, rfl⟩ : ∃ (a : Fin 128) (b : Fin 1024), y = ix2 a b := ⟨y 0, y 1, by funext a; fin_cases a <;> rfl⟩
  pointwise

/-- The block's rows at a point. -/
def blockRows (i : grid0.Coords) (x0 x1 x2 x3 x4 x5 x6 x7 x8 x9 : Vec Ideal S1x128x1024 .f32) (x10 : Vec Ideal S128x1024 .f32) : FVec Ideal S640x1024 .f32 :=
  bands (Scalar.select (first (BitVec.ofNat 32 (i 0).val)) (shapeCast S128x1024 x10 shapeCasts_S128x1024_S128x1024) (pick (early i) x0 x5))
    (pick (early i) x1 x6) (pick (early i) x2 x7)
    (pick (early i) x3 x8) (pick (early i) x4 x9)

theorem pay14_eq (i : grid0.Coords) (x0 x1 x2 x3 x4 x5 x6 x7 x8 x9 : Vec Ideal S1x128x1024 .f32) (x10 : Vec Ideal S128x1024 .f32) (x11 : Vec Ideal S1x1024 .f32)
    (x12 : Vec Ideal S1024x512 .bf16) (x13 : Vec Ideal S1024x1536 .bf16) (x14 : Vec Ideal S1024x512 .bf16) (x15 : Vec Ideal S1024x128 .bf16) :
    k0_pay14 i x0 x1 x2 x3 x4 x5 x6 x7 x8 x9 x10 x11 x12 x13 x14 x15 = blockRows i x0 x1 x2 x3 x4 x5 x6 x7 x8 x9 x10 := by
  unfold k0_pay14 k0_pay11 k0_pay12 k0_pay13
  rw [pay9_eq, pay6_eq, pay7_eq, pay8_eq]
  simp only [ld0, ld1]
  rfl

theorem pay15_eq (i : grid0.Coords) (x0 x1 x2 x3 x4 x5 x6 x7 x8 x9 : Vec Ideal S1x128x1024 .f32) (x10 : Vec Ideal S128x1024 .f32) (x11 : Vec Ideal S1x1024 .f32)
    (x12 : Vec Ideal S1024x512 .bf16) (x13 : Vec Ideal S1024x1536 .bf16) (x14 : Vec Ideal S1024x512 .bf16) (x15 : Vec Ideal S1024x128 .bf16) :
    k0_pay15 i x0 x1 x2 x3 x4 x5 x6 x7 x8 x9 x10 x11 x12 x13 x14 x15 = meansq (blockRows i x0 x1 x2 x3 x4 x5 x6 x7 x8 x9 x10) := by
  rw [← pay14_eq i x0 x1 x2 x3 x4 x5 x6 x7 x8 x9 x10 x11 x12 x13 x14 x15]
  rfl

section blocks

variable (i : grid0.Coords) (x0 x1 x2 x3 x4 x5 x6 x7 x8 x9 : Vec Ideal S1x128x1024 .f32) (x10 : Vec Ideal S128x1024 .f32) (x11 : Vec Ideal S1x1024 .f32)
    (x12 : Vec Ideal S1024x512 .bf16) (x13 : Vec Ideal S1024x1536 .bf16) (x14 : Vec Ideal S1024x512 .bf16) (x15 : Vec Ideal S1024x128 .bf16)

theorem out16_at (r : Fin 640) (d : Fin 1024) :
    (out0_16 i x0 x1 x2 x3 x4 x5 x6 x7 x8 x9 x10 x11 x12 x13 x14 x15 (ix2 r d) : EReal) = blockRows i x0 x1 x2 x3 x4 x5 x6 x7 x8 x9 x10 (ix2 r d) := by
  unfold out0_16
  frame_out
  rw [← pay14_eq i x0 x1 x2 x3 x4 x5 x6 x7 x8 x9 x10 x11 x12 x13 x14 x15]
  unfold k0_pay14
  simp only [ld0, ld1]

theorem out17_at (r : Fin 640) (d : Fin 512) :
    (out0_17 i x0 x1 x2 x3 x4 x5 x6 x7 x8 x9 x10 x11 x12 x13 x14 x15 (ix2 r d) : EReal) =
      ∑ y : Fin 1024, rmsRow (fun x => blockRows i x0 x1 x2 x3 x4 x5 x6 x7 x8 x9 x10 (ix2 r x)) (fun x => x11 (ix2 0 x)) y * x12 (ix2 y d) := by
  unfold out0_17
  frame_out
  rw [pay14_eq, pay15_eq, pay2_at]

theorem out18_at (r : Fin 640) (d : Fin 1536) :
    (out0_18 i x0 x1 x2 x3 x4 x5 x6 x7 x8 x9 x10 x11 x12 x13 x14 x15 (ix2 r d) : EReal) =
      ∑ y : Fin 1024, rmsRow (fun x => blockRows i x0 x1 x2 x3 x4 x5 x6 x7 x8 x9 x10 (ix2 r x)) (fun x => x11 (ix2 0 x)) y * x13 (ix2 y d) := by
  unfold out0_18
  frame_out
  rw [pay14_eq, pay15_eq, pay3_at]

theorem out19_at (r : Fin 640) (d : Fin 512) :
    (out0_19 i x0 x1 x2 x3 x4 x5 x6 x7 x8 x9 x10 x11 x12 x13 x14 x15 (ix2 r d) : EReal) =
      ∑ y : Fin 1024, rmsRow (fun x => blockRows i x0 x1 x2 x3 x4 x5 x6 x7 x8 x9 x10 (ix2 r x)) (fun x => x11 (ix2 0 x)) y * x14 (ix2 y d) := by
  unfold out0_19
  frame_out
  rw [pay14_eq, pay15_eq, pay4_at]

theorem out20_at (r : Fin 640) (d : Fin 128) :
    (out0_20 i x0 x1 x2 x3 x4 x5 x6 x7 x8 x9 x10 x11 x12 x13 x14 x15 (ix2 r d) : EReal) =
      ∑ y : Fin 1024, rmsRow (fun x => blockRows i x0 x1 x2 x3 x4 x5 x6 x7 x8 x9 x10 (ix2 r x)) (fun x => x11 (ix2 0 x)) y * x15 (ix2 y d) := by
  unfold out0_20
  frame_out
  rw [pay14_eq, pay15_eq, pay5_at]

end blocks

end Cert.In

end
-- ==== Proof.I.Ref.lean ====
module

public import proofs.«01_k».proof.Proof.Gen.Reference5Ideal.Run
public import proofs.«01_k».proof.Proof.L.Dense

@[expose] public section

set_option maxRecDepth 16384

/-!
# The reference of the even layer's start at an index

The sequences with the front rows before them, as rows, and the products of the normalised rows with the weights.
-/

noncomputable section

namespace Cert.In

open Cert.Reference5Ideal Cert.Reference5Ideal.Gen Cert.Reference5Ideal.Value
open Idealize.ShloMosaic Idealize.ShloMosaic.TcCoe
open Cert.Last (rmsRow)

/-- The sequences with the front rows before each, as rows. -/
def rows (a : Vec Ideal S2x8192x1024 .f32) (b : Vec Ideal S8x8192x1024 .f32) (p : Vec Ideal S16x1024 .f32) : FVec Ideal S83200x1024 .f32 :=
  shapeCast _ (concatenate S10x8320x1024 1 [⟨S10x128x1024, (broadcastInDim S10x128x1024 ![0, 1, 2] bcast_S1x128x1024_S10x128x1024_0_1_2 (broadcastInDim S1x128x1024 ![1, 2] bcast_S128x1024_S1x128x1024_1_2 (concatenate S128x1024 0 [⟨S112x1024, (broadcastInDim S112x1024 ![] bcast_S_S112x1024 (constant S_ .f32 0x00000000#32))⟩, ⟨S16x1024, p⟩] concatenates_S112x1024_S16x1024_S128x1024_d0)))⟩, ⟨S10x8192x1024, (concatenate S10x8192x1024 0 [⟨S2x8192x1024, a⟩, ⟨S8x8192x1024, b⟩] concatenates_S2x8192x1024_S8x8192x1024_S10x8192x1024_d0)⟩] concatenates_S10x128x1024_S10x8192x1024_S10x8320x1024_d1) shapeCasts_S10x8320x1024_S83200x1024

/-- The rows over their root mean square, times the gain, times the weights. -/
def prod (x : FVec Ideal S83200x1024 .f32) (g : Vec Ideal S1x1024 .f32) (w : FVec Ideal S1024x2576 .f32) : FVec Ideal S83200x2576 .f32 :=
  Host.dotGeneral dot_S83200x1024_S1024x2576_S83200x2576_1_0_0_1_n_n none (mulf (mulf x (broadcastInDim S83200x1024 ![0, 1] bcast_S83200x1_S83200x1024_0_1 (Host.rsqrt (addf (Host.divf (broadcastInDim S83200x1 ![0] bcast_S83200_S83200x1_0 (Host.reduceAdd (mulf x x) (constant S_ .f32 0x00000000#32) reducesTo_S83200x1024_S83200_d1 h_S_)) (broadcastInDim S83200x1 ![] bcast_S_S83200x1 (constant S_ .f32 0x44800000#32))) (broadcastInDim S83200x1 ![] bcast_S_S83200x1 (constant S_ .f32 0x358637BD#32)))))) (broadcastInDim S83200x1024 ![0, 1] bcast_S1x1024_S83200x1024_0_1 (broadcastInDim S1x1024 ![1] bcast_S1024_S1x1024_1 (shapeCast _ g shapeCasts_S1x1024_S1024)))) w

/-- The pooled part's columns. -/
def pool (u : FVec Ideal S83200x2576 .f32) : FVec Ideal S83200x512 .bf16 :=
  truncf .bf16 (extractStridedSlice S83200x512 ![0, 0] u slices_S83200x2576_S83200x512_0_0) bitsLt_bf16_f32

/-- The scans' columns. -/
def scan (u : FVec Ideal S83200x2576 .f32) : FVec Ideal S83200x1536 .bf16 :=
  truncf .bf16 (extractStridedSlice S83200x1536 ![0, 512] u slices_S83200x2576_S83200x1536_0_512) bitsLt_bf16_f32

/-- The gate's columns. -/
def gate (u : FVec Ideal S83200x2576 .f32) : FVec Ideal S83200x512 .bf16 :=
  truncf .bf16 (extractStridedSlice S83200x512 ![0, 2048] u slices_S83200x2576_S83200x512_0_2048) bitsLt_bf16_f32

/-- The last columns, with zeros after them. -/
def tails (u : FVec Ideal S83200x2576 .f32) : FVec Ideal S83200x128 .f32 :=
  pad S83200x128 ![0, 0] ![0, 112] ![0, 0] (extractStridedSlice S83200x16 ![0, 2560] u slices_S83200x2576_S83200x16_0_2560) (sitofp .f32 (constantI S_ 32 0#32)) pads_S83200x16_S83200x128_000_01120 h_S_

theorem prod_at (x : FVec Ideal S83200x1024 .f32) (g : Vec Ideal S1x1024 .f32) (w : FVec Ideal S1024x2576 .f32) (n : Fin 83200) (d : Fin 2576) :
    (prod x g w (ix2 n d) : EReal) = ∑ y : Fin 1024, rmsRow (fun x' => x (ix2 n x')) (fun x' => g (ix2 0 x')) y * w (ix2 y d) := by
  unfold rmsRow
  pointwise [prod]

theorem pool_at (u : FVec Ideal S83200x2576 .f32) (n : Fin 83200) (d : Fin 512) : (pool u (ix2 n d) : EReal) = u (ix2 n ⟨d.val, by omega⟩) := by
  pointwise [pool]

theorem scan_at (u : FVec Ideal S83200x2576 .f32) (n : Fin 83200) (d : Fin 1536) : (scan u (ix2 n d) : EReal) = u (ix2 n ⟨512 + d.val, by omega⟩) := by
  pointwise [scan]

theorem gate_at (u : FVec Ideal S83200x2576 .f32) (n : Fin 83200) (d : Fin 512) : (gate u (ix2 n d) : EReal) = u (ix2 n ⟨2048 + d.val, by omega⟩) := by
  pointwise [gate]

theorem tails_at (u : FVec Ideal S83200x2576 .f32) (n : Fin 83200) (d : Fin 128) :
    (tails u (ix2 n d) : EReal) = if h : d.val < 16 then u (ix2 n ⟨2560 + d.val, by omega⟩) else 0 := by
  pointwise [tails]
  have h : (FloatOps.sitofp (F := Ideal) FTy.f32 0#32 : EReal) = 0 := by
    show (((0#32 : BitVec 32).toInt : ℝ) : EReal) = 0
    simp
  rw [h]

/-- A row of a sequence with its front: zeros, the learnt rows, then the sequence's own. -/
def seqRow (a : Vec Ideal S2x8192x1024 .f32) (b : Vec Ideal S8x8192x1024 .f32) (p : Vec Ideal S16x1024 .f32) (s q : ℕ) (d : Fin 1024) : EReal :=
  if h0 : q < 112 then 0
  else if h1 : q < 128 then p (ix2 ⟨q - 112, by omega⟩ d)
  else if h2 : 8320 ≤ q then 0
  else if h3 : s < 2 then a (ix3 ⟨s, h3⟩ ⟨q - 128, by omega⟩ d)
  else if h4 : s < 10 then b (ix3 ⟨s - 2, by omega⟩ ⟨q - 128, by omega⟩ d)
  else 0

section rows

variable (a : Vec Ideal S2x8192x1024 .f32) (b : Vec Ideal S8x8192x1024 .f32) (p : Vec Ideal S16x1024 .f32)

theorem seqRow_zero (s q : ℕ) (d : Fin 1024) (h : q < 112) : seqRow a b p s q d = 0 := by
  unfold seqRow
  exact dif_pos h

theorem seqRow_front (s q : ℕ) (d : Fin 1024) (h0 : ¬ q < 112) (h : q < 128) : seqRow a b p s q d = p (ix2 ⟨q - 112, by omega⟩ d) := by
  unfold seqRow
  exact (dif_neg h0).trans (dif_pos h)

theorem seqRow_early (s q : ℕ) (d : Fin 1024) (h : ¬ q < 128) (h1 : q < 8320) (h2 : s < 2) :
    seqRow a b p s q d = a (ix3 ⟨s, h2⟩ ⟨q - 128, by omega⟩ d) := by
  unfold seqRow
  exact (dif_neg (by omega)).trans ((dif_neg h).trans ((dif_neg (by omega)).trans (dif_pos h2)))

theorem seqRow_late (s q : ℕ) (d : Fin 1024) (h : ¬ q < 128) (h1 : q < 8320) (h2 : ¬ s < 2) (h3 : s < 10) :
    seqRow a b p s q d = b (ix3 ⟨s - 2, by omega⟩ ⟨q - 128, by omega⟩ d) := by
  unfold seqRow
  exact (dif_neg (by omega)).trans ((dif_neg h).trans ((dif_neg (by omega)).trans ((dif_neg h2).trans (dif_pos h3))))

theorem rows_at (n : Fin 83200) (d : Fin 1024) :
    (rows a b p (ix2 n d) : EReal) = seqRow a b p (n.val / 8320) (n.val % 8320) d := by
  pointwise [rows]
  have hn : n.val / 8320 < 10 := by omega
  have hq : n.val % 8320 < 8320 := by omega
  by_cases c1 : n.val % 8320 < 128
  · refine (dif_pos c1).trans ?_
    by_cases c0 : n.val % 8320 < 112
    · exact (dif_pos c0).trans (seqRow_zero a b p _ _ d c0).symm
    · exact (dif_neg c0).trans (seqRow_front a b p _ _ d c0 c1).symm
  · refine (dif_neg c1).trans ?_
    by_cases c2 : n.val / 8320 < 2
    · exact (dif_pos c2).trans (seqRow_early a b p _ _ d c1 hq c2).symm
    · exact (dif_neg c2).trans (seqRow_late a b p _ _ d c1 hq c2 hn).symm

end rows

end Cert.In

end
-- ==== Proof.I.Blocks.lean ====
module

public import proofs.«01_k».proof.Proof.I.Ker
public import proofs.«01_k».proof.Proof.I.Ref
public import Idealize.ShloMosaic.Lib.Routing.OpsSet

@[expose] public section

set_option maxRecDepth 16384

/-!
# The operands of the even layer's start

What the host makes of the arguments, and the block of each that a point reads.
-/

noncomputable section

namespace Cert.In

open Cert.Kernel5Ideal Cert.Kernel5Ideal.Gen
open Idealize.ShloMosaic Idealize.ShloMosaic.TcCoe

variable (m : (ℓ : Loc nD τ sig) → Buf (Elt Ideal) ℓ)

/-- The front rows: zeros, then the learnt rows. -/
theorem V_front (c : Dev nD) : V m c main_v5 = concatenate S128x1024 0 [⟨S112x1024, (broadcastInDim S112x1024 ![] bcast_S_S112x1024 (constant (F := Ideal) S_ .f32 0x00000000#32) : Vec Ideal S112x1024 .f32)⟩, ⟨S16x1024, (m ((c : Thread nD τ).loc main_arg2))⟩] concatenates_S112x1024_S16x1024_S128x1024_d0 := by
  unfold V
  after_results

/-- The pooled part's weights. -/
theorem V_pool (c : Dev nD) : V m c main_v7 = truncf (F := Ideal) .bf16 (extractStridedSlice S1024x512 ![0, 0] (m ((c : Thread nD τ).loc main_arg4)) slices_S1024x2576_S1024x512_0_0) bitsLt_bf16_f32 := by
  unfold V
  after_results

/-- The scans' weights. -/
theorem V_scan (c : Dev nD) : V m c main_v9 = truncf (F := Ideal) .bf16 (extractStridedSlice S1024x1536 ![0, 512] (m ((c : Thread nD τ).loc main_arg4)) slices_S1024x2576_S1024x1536_0_512) bitsLt_bf16_f32 := by
  unfold V
  after_results

/-- The gate's weights. -/
theorem V_gate (c : Dev nD) : V m c main_v11 = truncf (F := Ideal) .bf16 (extractStridedSlice S1024x512 ![0, 2048] (m ((c : Thread nD τ).loc main_arg4)) slices_S1024x2576_S1024x512_0_2048) bitsLt_bf16_f32 := by
  unfold V
  after_results

/-- The last columns' weights written over the first columns of an array of zeros. -/
def tailW (w : FVec Ideal S1024x2576 .f32) : FVec Ideal S1024x128 .f32 :=
  Host.scatter scatter_S1024x128_S1_S1024x16_01_n_1_0 (fun _ b => b) (broadcastInDim S1024x128 ![] bcast_S_S1024x128 (constant S_ .f32 0x00000000#32) : FVec Ideal S1024x128 .f32)
    (broadcastInDim S1 ![] bcast_S_S1 (constantI S_ 32 0#32)) (extractStridedSlice S1024x16 ![0, 2560] w slices_S1024x2576_S1024x16_0_2560 : FVec Ideal S1024x16 .f32)

theorem V_tail (c : Dev nD) : V m c main_v12 = truncf (F := Ideal) .bf16 (tailW (m ((c : Thread nD τ).loc main_arg4))) bitsLt_bf16_f32 := by
  unfold V tailW
  after_results

/-- An update lands at its own row and column. -/
theorem lands (k : S1024x16.Idx) (r : Fin 1024) (e : Fin 128) :
    scatter_S1024x128_S1_S1024x16_01_n_1_0.resultIdx? k (broadcastInDim S1 ![] bcast_S_S1 (constantI S_ 32 0#32)) = some (ix2 r e) ↔ (k 0).val = r.val ∧ (k 1).val = e.val := by
  have w0 : scatter_S1024x128_S1_S1024x16_01_n_1_0.window k 0 = (k 0).val := rfl
  have w1 : scatter_S1024x128_S1_S1024x16_01_n_1_0.window k 1 = (k 1).val := rfl
  have s0 : scatter_S1024x128_S1_S1024x16_01_n_1_0.start k (broadcastInDim S1 ![] bcast_S_S1 (constantI S_ 32 0#32)) 0 = 0 := rfl
  have s1 : scatter_S1024x128_S1_S1024x16_01_n_1_0.start k (broadcastInDim S1 ![] bcast_S_S1 (constantI S_ 32 0#32)) 1 = 0 := rfl
  refine (Routing.resultIdx?_ix2 (R := 1024) (C := 128) scatter_S1024x128_S1_S1024x16_01_n_1_0 k _ r e).trans ?_
  rw [w0, w1, s0, s1]
  omega

theorem tailW_at (w : FVec Ideal S1024x2576 .f32) (r : Fin 1024) (e : Fin 128) :
    (tailW w (ix2 r e) : EReal) = if h : e.val < 16 then w (ix2 r ⟨2560 + e.val, by omega⟩) else 0 := by
  unfold tailW
  by_cases h : e.val < 16
  · rw [dif_pos h]
    refine Routing.scatter_set_hit _ _ _ _ _ _ (fun k hk => ?_) (ix2 r ⟨e.val, h⟩) ((lands _ r e).2 ⟨rfl, rfl⟩)
    obtain ⟨h0, h1⟩ := (lands k r e).1 hk
    obtain rfl : k = ix2 r ⟨e.val, h⟩ := by
      funext a; apply Fin.ext; fin_cases a
      · exact h0
      · exact h1
    pointwise
  · rw [dif_neg h]
    refine (Routing.scatter_set_miss _ _ _ _ _ fun k hk => ?_).trans ?_
    · have h1 := ((lands k r e).1 hk).2
      have h2 : (k 1).val < 16 := (k 1).isLt
      omega
    · pointwise

/-- The place of a band of a point in the first array: the band before the sequence's start is the first again. -/
def early5 (t k : ℕ) : ℕ := if t / 13 < 2 then 5 * (t % 13) + k - 1 else 0

/-- The place of a band of a point in the second array. -/
def late5 (t k : ℕ) : ℕ := if t / 13 < 2 then 0 else 5 * (t % 13) + k - 1

theorem idx0 : ∀ t : Fin cfg0.N, win0_0.index t = ![min (t.val / 13) 1, early5 t.val 0, 0] :=
  (by decide +kernel : ∀ t : Fin grid0.N, win0_0.index t = ![min (t.val / 13) 1, early5 t.val 0, 0])
theorem idx1 : ∀ t : Fin cfg0.N, win0_1.index t = ![min (t.val / 13) 1, early5 t.val 1, 0] :=
  (by decide +kernel : ∀ t : Fin grid0.N, win0_1.index t = ![min (t.val / 13) 1, early5 t.val 1, 0])
theorem idx2 : ∀ t : Fin cfg0.N, win0_2.index t = ![min (t.val / 13) 1, early5 t.val 2, 0] :=
  (by decide +kernel : ∀ t : Fin grid0.N, win0_2.index t = ![min (t.val / 13) 1, early5 t.val 2, 0])
theorem idx3 : ∀ t : Fin cfg0.N, win0_3.index t = ![min (t.val / 13) 1, early5 t.val 3, 0] :=
  (by decide +kernel : ∀ t : Fin grid0.N, win0_3.index t = ![min (t.val / 13) 1, early5 t.val 3, 0])
theorem idx4 : ∀ t : Fin cfg0.N, win0_4.index t = ![min (t.val / 13) 1, early5 t.val 4, 0] :=
  (by decide +kernel : ∀ t : Fin grid0.N, win0_4.index t = ![min (t.val / 13) 1, early5 t.val 4, 0])
theorem idx5 : ∀ t : Fin cfg0.N, win0_5.index t = ![t.val / 13 - 2, late5 t.val 0, 0] :=
  (by decide +kernel : ∀ t : Fin grid0.N, win0_5.index t = ![t.val / 13 - 2, late5 t.val 0, 0])
theorem idx6 : ∀ t : Fin cfg0.N, win0_6.index t = ![t.val / 13 - 2, late5 t.val 1, 0] :=
  (by decide +kernel : ∀ t : Fin grid0.N, win0_6.index t = ![t.val / 13 - 2, late5 t.val 1, 0])
theorem idx7 : ∀ t : Fin cfg0.N, win0_7.index t = ![t.val / 13 - 2, late5 t.val 2, 0] :=
  (by decide +kernel : ∀ t : Fin grid0.N, win0_7.index t = ![t.val / 13 - 2, late5 t.val 2, 0])
theorem idx8 : ∀ t : Fin cfg0.N, win0_8.index t = ![t.val / 13 - 2, late5 t.val 3, 0] :=
  (by decide +kernel : ∀ t : Fin grid0.N, win0_8.index t = ![t.val / 13 - 2, late5 t.val 3, 0])
theorem idx9 : ∀ t : Fin cfg0.N, win0_9.index t = ![t.val / 13 - 2, late5 t.val 4, 0] :=
  (by decide +kernel : ∀ t : Fin grid0.N, win0_9.index t = ![t.val / 13 - 2, late5 t.val 4, 0])
theorem idx10 : ∀ t : Fin cfg0.N, win0_10.index t = ![0, 0] :=
  (by decide +kernel : ∀ t : Fin grid0.N, win0_10.index t = ![0, 0])
theorem idx11 : ∀ t : Fin cfg0.N, win0_11.index t = ![0, 0] :=
  (by decide +kernel : ∀ t : Fin grid0.N, win0_11.index t = ![0, 0])
theorem idx12 : ∀ t : Fin cfg0.N, win0_12.index t = ![0, 0] :=
  (by decide +kernel : ∀ t : Fin grid0.N, win0_12.index t = ![0, 0])
theorem idx13 : ∀ t : Fin cfg0.N, win0_13.index t = ![0, 0] :=
  (by decide +kernel : ∀ t : Fin grid0.N, win0_13.index t = ![0, 0])
theorem idx14 : ∀ t : Fin cfg0.N, win0_14.index t = ![0, 0] :=
  (by decide +kernel : ∀ t : Fin grid0.N, win0_14.index t = ![0, 0])
theorem idx15 : ∀ t : Fin cfg0.N, win0_15.index t = ![0, 0] :=
  (by decide +kernel : ∀ t : Fin grid0.N, win0_15.index t = ![0, 0])
theorem idx16 : ∀ t : Fin cfg0.N, win0_16.index t = ![t.val, 0] :=
  (by decide +kernel : ∀ t : Fin grid0.N, win0_16.index t = ![t.val, 0])
theorem idx17 : ∀ t : Fin cfg0.N, win0_17.index t = ![t.val, 0] :=
  (by decide +kernel : ∀ t : Fin grid0.N, win0_17.index t = ![t.val, 0])
theorem idx18 : ∀ t : Fin cfg0.N, win0_18.index t = ![t.val, 0] :=
  (by decide +kernel : ∀ t : Fin grid0.N, win0_18.index t = ![t.val, 0])
theorem idx19 : ∀ t : Fin cfg0.N, win0_19.index t = ![t.val, 0] :=
  (by decide +kernel : ∀ t : Fin grid0.N, win0_19.index t = ![t.val, 0])
theorem idx20 : ∀ t : Fin cfg0.N, win0_20.index t = ![t.val, 0] :=
  (by decide +kernel : ∀ t : Fin grid0.N, win0_20.index t = ![t.val, 0])

theorem iblk0_at (c : Dev nD) (t : Fin cfg0.N) (hc : t.val / 13 < 2) (hk : 0 < 5 * (t.val % 13) + 0) (r : Fin 128) (d : Fin 1024) :
    (iblk m c 0 t (ix3 0 r d) : EReal) = m ((c : Thread nD τ).loc main_arg0) (ix3 ⟨t.val / 13, by have : t.val < 130 := t.isLt; omega⟩ ⟨640 * (t.val % 13) + r.val - 128, by have := Nat.mod_lt t.val (by omega : 0 < 13); omega⟩ d) := by
  rw [← V_main_arg0 m c]
  unfold iblk
  blk_simp [idx0 t]
  congr 1; funext a; apply Fin.ext
  blk_simp [idx0 t]
  fin_cases a
  · simp [ix3]; try omega
  · simp [ix3, early5, hc]; omega
  · simp [ix3]

theorem iblk5_at (c : Dev nD) (t : Fin cfg0.N) (hc : ¬ t.val / 13 < 2) (hk : 0 < 5 * (t.val % 13) + 0) (r : Fin 128) (d : Fin 1024) :
    (iblk m c 5 t (ix3 0 r d) : EReal) = m ((c : Thread nD τ).loc main_arg1) (ix3 ⟨t.val / 13 - 2, by have : t.val < 130 := t.isLt; omega⟩ ⟨640 * (t.val % 13) + r.val - 128, by have := Nat.mod_lt t.val (by omega : 0 < 13); omega⟩ d) := by
  rw [← V_main_arg1 m c]
  unfold iblk
  blk_simp [idx5 t]
  congr 1; funext a; apply Fin.ext
  blk_simp [idx5 t]
  fin_cases a
  · simp [ix3]; try omega
  · simp [ix3, late5, hc]; omega
  · simp [ix3]

theorem iblk1_at (c : Dev nD) (t : Fin cfg0.N) (hc : t.val / 13 < 2) (r : Fin 128) (d : Fin 1024) :
    (iblk m c 1 t (ix3 0 r d) : EReal) = m ((c : Thread nD τ).loc main_arg0) (ix3 ⟨t.val / 13, by have : t.val < 130 := t.isLt; omega⟩ ⟨640 * (t.val % 13) + (128 + r.val) - 128, by have := Nat.mod_lt t.val (by omega : 0 < 13); omega⟩ d) := by
  rw [← V_main_arg0 m c]
  unfold iblk
  blk_simp [idx1 t]
  congr 1; funext a; apply Fin.ext
  blk_simp [idx1 t]
  fin_cases a
  · simp [ix3]; try omega
  · simp [ix3, early5, hc]; omega
  · simp [ix3]

theorem iblk6_at (c : Dev nD) (t : Fin cfg0.N) (hc : ¬ t.val / 13 < 2) (r : Fin 128) (d : Fin 1024) :
    (iblk m c 6 t (ix3 0 r d) : EReal) = m ((c : Thread nD τ).loc main_arg1) (ix3 ⟨t.val / 13 - 2, by have : t.val < 130 := t.isLt; omega⟩ ⟨640 * (t.val % 13) + (128 + r.val) - 128, by have := Nat.mod_lt t.val (by omega : 0 < 13); omega⟩ d) := by
  rw [← V_main_arg1 m c]
  unfold iblk
  blk_simp [idx6 t]
  congr 1; funext a; apply Fin.ext
  blk_simp [idx6 t]
  fin_cases a
  · simp [ix3]; try omega
  · simp [ix3, late5, hc]; omega
  · simp [ix3]

theorem iblk2_at (c : Dev nD) (t : Fin cfg0.N) (hc : t.val / 13 < 2) (r : Fin 128) (d : Fin 1024) :
    (iblk m c 2 t (ix3 0 r d) : EReal) = m ((c : Thread nD τ).loc main_arg0) (ix3 ⟨t.val / 13, by have : t.val < 130 := t.isLt; omega⟩ ⟨640 * (t.val % 13) + (256 + r.val) - 128, by have := Nat.mod_lt t.val (by omega : 0 < 13); omega⟩ d) := by
  rw [← V_main_arg0 m c]
  unfold iblk
  blk_simp [idx2 t]
  congr 1; funext a; apply Fin.ext
  blk_simp [idx2 t]
  fin_cases a
  · simp [ix3]; try omega
  · simp [ix3, early5, hc]; omega
  · simp [ix3]

theorem iblk7_at (c : Dev nD) (t : Fin cfg0.N) (hc : ¬ t.val / 13 < 2) (r : Fin 128) (d : Fin 1024) :
    (iblk m c 7 t (ix3 0 r d) : EReal) = m ((c : Thread nD τ).loc main_arg1) (ix3 ⟨t.val / 13 - 2, by have : t.val < 130 := t.isLt; omega⟩ ⟨640 * (t.val % 13) + (256 + r.val) - 128, by have := Nat.mod_lt t.val (by omega : 0 < 13); omega⟩ d) := by
  rw [← V_main_arg1 m c]
  unfold iblk
  blk_simp [idx7 t]
  congr 1; funext a; apply Fin.ext
  blk_simp [idx7 t]
  fin_cases a
  · simp [ix3]; try omega
  · simp [ix3, late5, hc]; omega
  · simp [ix3]

theorem iblk3_at (c : Dev nD) (t : Fin cfg0.N) (hc : t.val / 13 < 2) (r : Fin 128) (d : Fin 1024) :
    (iblk m c 3 t (ix3 0 r d) : EReal) = m ((c : Thread nD τ).loc main_arg0) (ix3 ⟨t.val / 13, by have : t.val < 130 := t.isLt; omega⟩ ⟨640 * (t.val % 13) + (384 + r.val) - 128, by have := Nat.mod_lt t.val (by omega : 0 < 13); omega⟩ d) := by
  rw [← V_main_arg0 m c]
  unfold iblk
  blk_simp [idx3 t]
  congr 1; funext a; apply Fin.ext
  blk_simp [idx3 t]
  fin_cases a
  · simp [ix3]; try omega
  · simp [ix3, early5, hc]; omega
  · simp [ix3]

theorem iblk8_at (c : Dev nD) (t : Fin cfg0.N) (hc : ¬ t.val / 13 < 2) (r : Fin 128) (d : Fin 1024) :
    (iblk m c 8 t (ix3 0 r d) : EReal) = m ((c : Thread nD τ).loc main_arg1) (ix3 ⟨t.val / 13 - 2, by have : t.val < 130 := t.isLt; omega⟩ ⟨640 * (t.val % 13) + (384 + r.val) - 128, by have := Nat.mod_lt t.val (by omega : 0 < 13); omega⟩ d) := by
  rw [← V_main_arg1 m c]
  unfold iblk
  blk_simp [idx8 t]
  congr 1; funext a; apply Fin.ext
  blk_simp [idx8 t]
  fin_cases a
  · simp [ix3]; try omega
  · simp [ix3, late5, hc]; omega
  · simp [ix3]

theorem iblk4_at (c : Dev nD) (t : Fin cfg0.N) (hc : t.val / 13 < 2) (r : Fin 128) (d : Fin 1024) :
    (iblk m c 4 t (ix3 0 r d) : EReal) = m ((c : Thread nD τ).loc main_arg0) (ix3 ⟨t.val / 13, by have : t.val < 130 := t.isLt; omega⟩ ⟨640 * (t.val % 13) + (512 + r.val) - 128, by have := Nat.mod_lt t.val (by omega : 0 < 13); omega⟩ d) := by
  rw [← V_main_arg0 m c]
  unfold iblk
  blk_simp [idx4 t]
  congr 1; funext a; apply Fin.ext
  blk_simp [idx4 t]
  fin_cases a
  · simp [ix3]; try omega
  · simp [ix3, early5, hc]; omega
  · simp [ix3]

theorem iblk9_at (c : Dev nD) (t : Fin cfg0.N) (hc : ¬ t.val / 13 < 2) (r : Fin 128) (d : Fin 1024) :
    (iblk m c 9 t (ix3 0 r d) : EReal) = m ((c : Thread nD τ).loc main_arg1) (ix3 ⟨t.val / 13 - 2, by have : t.val < 130 := t.isLt; omega⟩ ⟨640 * (t.val % 13) + (512 + r.val) - 128, by have := Nat.mod_lt t.val (by omega : 0 < 13); omega⟩ d) := by
  rw [← V_main_arg1 m c]
  unfold iblk
  blk_simp [idx9 t]
  congr 1; funext a; apply Fin.ext
  blk_simp [idx9 t]
  fin_cases a
  · simp [ix3]; try omega
  · simp [ix3, late5, hc]; omega
  · simp [ix3]

theorem iblk10_eq (c : Dev nD) (t : Fin cfg0.N) : iblk m c 10 t = V m c main_v5 := by
  funext y
  unfold iblk
  blk_simp [idx10 t]
  congr 1; funext a; apply Fin.ext
  blk_simp [idx10 t]
  fin_cases a <;> simp

theorem iblk11_eq (c : Dev nD) (t : Fin cfg0.N) : iblk m c 11 t = m ((c : Thread nD τ).loc main_arg3) := by
  rw [← V_main_arg3 m c]
  funext y
  unfold iblk
  blk_simp [idx11 t]
  congr 1; funext a; apply Fin.ext
  blk_simp [idx11 t]
  fin_cases a <;> simp

theorem iblk12_eq (c : Dev nD) (t : Fin cfg0.N) : iblk m c 12 t = V m c main_v7 := by
  funext y
  unfold iblk
  blk_simp [idx12 t]
  congr 1; funext a; apply Fin.ext
  blk_simp [idx12 t]
  fin_cases a <;> simp

theorem iblk13_eq (c : Dev nD) (t : Fin cfg0.N) : iblk m c 13 t = V m c main_v9 := by
  funext y
  unfold iblk
  blk_simp [idx13 t]
  congr 1; funext a; apply Fin.ext
  blk_simp [idx13 t]
  fin_cases a <;> simp

theorem iblk14_eq (c : Dev nD) (t : Fin cfg0.N) : iblk m c 14 t = V m c main_v11 := by
  funext y
  unfold iblk
  blk_simp [idx14 t]
  congr 1; funext a; apply Fin.ext
  blk_simp [idx14 t]
  fin_cases a <;> simp

theorem iblk15_eq (c : Dev nD) (t : Fin cfg0.N) : iblk m c 15 t = V m c main_v12 := by
  funext y
  unfold iblk
  blk_simp [idx15 t]
  congr 1; funext a; apply Fin.ext
  blk_simp [idx15 t]
  fin_cases a <;> simp

theorem iblk10_at (c : Dev nD) (t : Fin cfg0.N) (r : Fin 128) (d : Fin 1024) :
    (iblk m c 10 t (ix2 r d) : EReal) = if h : r.val < 112 then (0 : EReal) else m ((c : Thread nD τ).loc main_arg2) (ix2 ⟨r.val - 112, by omega⟩ d) := by
  rw [iblk10_eq, V_front]
  pointwise

theorem iblk12_at (c : Dev nD) (t : Fin cfg0.N) (r : Fin 1024) (d : Fin 512) :
    (iblk m c 12 t (ix2 r d) : EReal) = m ((c : Thread nD τ).loc main_arg4) (ix2 r ⟨d.val, by omega⟩) := by
  rw [iblk12_eq, V_pool]
  pointwise

theorem iblk13_at (c : Dev nD) (t : Fin cfg0.N) (r : Fin 1024) (d : Fin 1536) :
    (iblk m c 13 t (ix2 r d) : EReal) = m ((c : Thread nD τ).loc main_arg4) (ix2 r ⟨512 + d.val, by omega⟩) := by
  rw [iblk13_eq, V_scan]
  pointwise

theorem iblk14_at (c : Dev nD) (t : Fin cfg0.N) (r : Fin 1024) (d : Fin 512) :
    (iblk m c 14 t (ix2 r d) : EReal) = m ((c : Thread nD τ).loc main_arg4) (ix2 r ⟨2048 + d.val, by omega⟩) := by
  rw [iblk14_eq, V_gate]
  pointwise

theorem iblk15_at (c : Dev nD) (t : Fin cfg0.N) (r : Fin 1024) (d : Fin 128) :
    (iblk m c 15 t (ix2 r d) : EReal) = if h : d.val < 16 then m ((c : Thread nD τ).loc main_arg4) (ix2 r ⟨2560 + d.val, by omega⟩) else (0 : EReal) := by
  rw [iblk15_eq, V_tail, ← tailW_at]
  pointwise

end Cert.In

end
-- ==== Proof.I.Final.lean ====
module

public import proofs.«01_k».proof.Proof.I.Blocks

@[expose] public section

set_option maxRecDepth 16384

/-!
# The even layer's start has the reference's results

Every point writes its own band of rows of each of the five arrays, the bands cover the arrays, and each band is the
reference's there.
-/

noncomputable section

namespace Cert.In

open Cert.Kernel5Ideal Cert.Kernel5Ideal.Gen
open Idealize.ShloMosaic Idealize.ShloMosaic.TcCoe
open Cert.Last (rmsRow)

variable (m : (ℓ : Loc nD τ sig) → Buf (Elt Ideal) ℓ)

/-- The row of the arrays that a row of a point's block is. -/
def row (t : Fin cfg0.N) (r : Fin 640) : Fin 83200 := ⟨640 * t.val + r.val, by have : t.val < 130 := t.isLt; omega⟩

/-- A row of the reference's sequences, from the kernel's arguments. -/
def seq (c : Dev nD) (s q : ℕ) (d : Fin 1024) : EReal :=
  seqRow (m ((c : Thread nD τ).loc main_arg0)) (m ((c : Thread nD τ).loc main_arg1)) (m ((c : Thread nD τ).loc main_arg2)) s q d

theorem band1_at (c : Dev nD) (t : Fin cfg0.N) (r : Fin 128) (d : Fin 1024) :
    (pick (early (grid0.coords t)) (iblk m c 1 t) (iblk m c 6 t) (ix2 r d) : EReal) = seq m c (t.val / 13) (640 * (t.val % 13) + (128 + r.val)) d := by
  have ht : t.val < 130 := t.isLt
  rw [pick_at, early_at]
  unfold seq
  by_cases hc : t.val / 13 < 2
  · rw [if_pos hc, if_pos (by decide : (1#1 : BitVec 1) = 1)]
    exact (iblk1_at m c t hc r d).trans (seqRow_early _ _ _ _ _ d (by omega) (by omega) hc).symm
  · rw [if_neg hc, if_neg (by decide)]
    exact (iblk6_at m c t hc r d).trans (seqRow_late _ _ _ _ _ d (by omega) (by omega) hc (by omega)).symm

theorem band2_at (c : Dev nD) (t : Fin cfg0.N) (r : Fin 128) (d : Fin 1024) :
    (pick (early (grid0.coords t)) (iblk m c 2 t) (iblk m c 7 t) (ix2 r d) : EReal) = seq m c (t.val / 13) (640 * (t.val % 13) + (256 + r.val)) d := by
  have ht : t.val < 130 := t.isLt
  rw [pick_at, early_at]
  unfold seq
  by_cases hc : t.val / 13 < 2
  · rw [if_pos hc, if_pos (by decide : (1#1 : BitVec 1) = 1)]
    exact (iblk2_at m c t hc r d).trans (seqRow_early _ _ _ _ _ d (by omega) (by omega) hc).symm
  · rw [if_neg hc, if_neg (by decide)]
    exact (iblk7_at m c t hc r d).trans (seqRow_late _ _ _ _ _ d (by omega) (by omega) hc (by omega)).symm

theorem band3_at (c : Dev nD) (t : Fin cfg0.N) (r : Fin 128) (d : Fin 1024) :
    (pick (early (grid0.coords t)) (iblk m c 3 t) (iblk m c 8 t) (ix2 r d) : EReal) = seq m c (t.val / 13) (640 * (t.val % 13) + (384 + r.val)) d := by
  have ht : t.val < 130 := t.isLt
  rw [pick_at, early_at]
  unfold seq
  by_cases hc : t.val / 13 < 2
  · rw [if_pos hc, if_pos (by decide : (1#1 : BitVec 1) = 1)]
    exact (iblk3_at m c t hc r d).trans (seqRow_early _ _ _ _ _ d (by omega) (by omega) hc).symm
  · rw [if_neg hc, if_neg (by decide)]
    exact (iblk8_at m c t hc r d).trans (seqRow_late _ _ _ _ _ d (by omega) (by omega) hc (by omega)).symm

theorem band4_at (c : Dev nD) (t : Fin cfg0.N) (r : Fin 128) (d : Fin 1024) :
    (pick (early (grid0.coords t)) (iblk m c 4 t) (iblk m c 9 t) (ix2 r d) : EReal) = seq m c (t.val / 13) (640 * (t.val % 13) + (512 + r.val)) d := by
  have ht : t.val < 130 := t.isLt
  rw [pick_at, early_at]
  unfold seq
  by_cases hc : t.val / 13 < 2
  · rw [if_pos hc, if_pos (by decide : (1#1 : BitVec 1) = 1)]
    exact (iblk4_at m c t hc r d).trans (seqRow_early _ _ _ _ _ d (by omega) (by omega) hc).symm
  · rw [if_neg hc, if_neg (by decide)]
    exact (iblk9_at m c t hc r d).trans (seqRow_late _ _ _ _ _ d (by omega) (by omega) hc (by omega)).symm

theorem band0_at (c : Dev nD) (t : Fin cfg0.N) (r : Fin 128) (d : Fin 1024) :
    (Scalar.select (first (BitVec.ofNat 32 (grid0.coords t 0).val)) (shapeCast S128x1024 (iblk m c 10 t) shapeCasts_S128x1024_S128x1024 : FVec Ideal S128x1024 .f32)
      (pick (early (grid0.coords t)) (iblk m c 0 t) (iblk m c 5 t)) (ix2 r d) : EReal) = seq m c (t.val / 13) (640 * (t.val % 13) + r.val) d := by
  have ht : t.val < 130 := t.isLt
  rw [front_at, first_at, pick_at, early_at]
  unfold seq
  by_cases hz : t.val % 13 = 0
  · rw [if_pos hz, if_pos (by decide : (1#1 : BitVec 1) = 1), iblk10_at]
    by_cases h0 : r.val < 112
    · exact (dif_pos h0).trans (seqRow_zero _ _ _ _ _ d (by omega)).symm
    · refine (dif_neg h0).trans ((seqRow_front _ _ _ _ _ d (by omega) (by omega)).trans ?_).symm
      refine congrArg (fun x => m ((c : Thread nD τ).loc main_arg2) (ix2 x d)) (Fin.ext ?_)
      show 640 * (t.val % 13) + r.val - 112 = r.val - 112
      omega
  rw [if_neg hz, if_neg (by decide)]
  by_cases hc : t.val / 13 < 2
  · rw [if_pos hc, if_pos (by decide : (1#1 : BitVec 1) = 1)]
    exact (iblk0_at m c t hc (by omega) r d).trans (seqRow_early _ _ _ _ _ d (by omega) (by omega) hc).symm
  · rw [if_neg hc, if_neg (by decide)]
    exact (iblk5_at m c t hc (by omega) r d).trans (seqRow_late _ _ _ _ _ d (by omega) (by omega) hc (by omega)).symm

/-- The block's rows are the reference's at their place. -/
theorem blockRows_at (c : Dev nD) (t : Fin cfg0.N) (r : Fin 640) (d : Fin 1024) :
    (blockRows (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r d) : EReal) =
      rows (m ((c : Thread nD τ).loc main_arg0)) (m ((c : Thread nD τ).loc main_arg1)) (m ((c : Thread nD τ).loc main_arg2)) (ix2 (row t r) d) := by
  rw [rows_at]
  unfold blockRows
  refine (bands_at _ _ _ _ _ (fun n => seq m c (t.val / 13) (640 * (t.val % 13) + n)) (band0_at m c t) (band1_at m c t) (band2_at m c t) (band3_at m c t) (band4_at m c t) r d).trans ?_
  unfold seq row
  have e1 : (640 * t.val + r.val) / 8320 = t.val / 13 := by omega
  have e2 : (640 * t.val + r.val) % 8320 = 640 * (t.val % 13) + r.val := by omega
  show _ = seqRow _ _ _ ((640 * t.val + r.val) / 8320) ((640 * t.val + r.val) % 8320) d
  rw [e1, e2]

/-- The reference's product, from the kernel's arguments. -/
def product (c : Dev nD) : FVec Ideal Cert.Reference5Ideal.S83200x2576 .f32 :=
  prod (rows (m ((c : Thread nD τ).loc main_arg0)) (m ((c : Thread nD τ).loc main_arg1)) (m ((c : Thread nD τ).loc main_arg2)))
    (m ((c : Thread nD τ).loc main_arg3)) (m ((c : Thread nD τ).loc main_arg4))

/-- Each entry of the band a point writes is the reference's at the entry's place in the array. -/
theorem point16 (c : Dev nD) (t : Fin cfg0.N) (r : Fin 640) (d : Fin 1024) (y' : S83200x1024.Idx) (h0 : (y' 0).val = 640 * t.val + r.val) (h1 : (y' 1).val = d.val) :
    (out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r d) : EReal) = rows (m ((c : Thread nD τ).loc main_arg0)) (m ((c : Thread nD τ).loc main_arg1)) (m ((c : Thread nD τ).loc main_arg2)) y' := by
  obtain rfl : y' = ix2 (row t r) d := by
    funext a; apply Fin.ext; fin_cases a
    · exact h0
    · exact h1
  exact (out16_at _ _ _ _ _ _ _ _ _ _ _ _ _ _ _ _ _ r d).trans (blockRows_at m c t r d)

/-- The array after the run. -/
theorem final16 (c : Dev nD) : (dats m 0 c).arrAt 16 cfg0.N = rows (m ((c : Thread nD τ).loc main_arg0)) (m ((c : Thread nD τ).loc main_arg1)) (m ((c : Thread nD τ).loc main_arg2)) := by
  refine (dats m 0 c).arrAt_eq_of_covers 16 _ (by decide +kernel) fun t _ y => ?_
  blk_simp
  rw [after0_16]
  have e : y = ix2 (Fin.mk (y 0).val ((cfg0.win 16).xinj (cfg0.grid.coords t) y 0).isLt)
      (Fin.mk (y 1).val ((cfg0.win 16).xinj (cfg0.grid.coords t) y 1).isLt) := by
    funext a; apply Fin.ext
    fin_cases a <;> rfl
  refine (congrArg (out0_16 _ _ _ _ _ _ _ _ _ _ _ _ _ _ _ _ _) e).trans (point16 m c t _ _ _ ?_ ?_)
  all_goals blk_simp [idx16 t]
  simpa using by omega

/-- Each entry of the band a point writes is the reference's at the entry's place in the array. -/
theorem point17 (c : Dev nD) (t : Fin cfg0.N) (r : Fin 640) (d : Fin 512) (y' : S83200x512.Idx) (h0 : (y' 0).val = 640 * t.val + r.val) (h1 : (y' 1).val = d.val) :
    (out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r d) : EReal) = pool (product m c) y' := by
  obtain rfl : y' = ix2 (row t r) d := by
    funext a; apply Fin.ext; fin_cases a
    · exact h0
    · exact h1
  rw [pool_at]
  unfold product
  rw [prod_at]
  refine (out17_at _ _ _ _ _ _ _ _ _ _ _ _ _ _ _ _ _ r d).trans ?_
  rw [iblk11_eq]
  simp only [blockRows_at, iblk12_at]

/-- The array after the run. -/
theorem final17 (c : Dev nD) : (dats m 0 c).arrAt 17 cfg0.N = pool (product m c) := by
  refine (dats m 0 c).arrAt_eq_of_covers 17 _ (by decide +kernel) fun t _ y => ?_
  blk_simp
  rw [after0_17]
  have e : y = ix2 (Fin.mk (y 0).val ((cfg0.win 17).xinj (cfg0.grid.coords t) y 0).isLt)
      (Fin.mk (y 1).val ((cfg0.win 17).xinj (cfg0.grid.coords t) y 1).isLt) := by
    funext a; apply Fin.ext
    fin_cases a <;> rfl
  refine (congrArg (out0_17 _ _ _ _ _ _ _ _ _ _ _ _ _ _ _ _ _) e).trans (point17 m c t _ _ _ ?_ ?_)
  all_goals blk_simp [idx17 t]
  simpa using by omega

/-- Each entry of the band a point writes is the reference's at the entry's place in the array. -/
theorem point18 (c : Dev nD) (t : Fin cfg0.N) (r : Fin 640) (d : Fin 1536) (y' : S83200x1536.Idx) (h0 : (y' 0).val = 640 * t.val + r.val) (h1 : (y' 1).val = d.val) :
    (out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r d) : EReal) = scan (product m c) y' := by
  obtain rfl : y' = ix2 (row t r) d := by
    funext a; apply Fin.ext; fin_cases a
    · exact h0
    · exact h1
  rw [scan_at]
  unfold product
  rw [prod_at]
  refine (out18_at _ _ _ _ _ _ _ _ _ _ _ _ _ _ _ _ _ r d).trans ?_
  rw [iblk11_eq]
  simp only [blockRows_at, iblk13_at]

/-- The array after the run. -/
theorem final18 (c : Dev nD) : (dats m 0 c).arrAt 18 cfg0.N = scan (product m c) := by
  refine (dats m 0 c).arrAt_eq_of_covers 18 _ (by decide +kernel) fun t _ y => ?_
  blk_simp
  rw [after0_18]
  have e : y = ix2 (Fin.mk (y 0).val ((cfg0.win 18).xinj (cfg0.grid.coords t) y 0).isLt)
      (Fin.mk (y 1).val ((cfg0.win 18).xinj (cfg0.grid.coords t) y 1).isLt) := by
    funext a; apply Fin.ext
    fin_cases a <;> rfl
  refine (congrArg (out0_18 _ _ _ _ _ _ _ _ _ _ _ _ _ _ _ _ _) e).trans (point18 m c t _ _ _ ?_ ?_)
  all_goals blk_simp [idx18 t]
  simpa using by omega

/-- Each entry of the band a point writes is the reference's at the entry's place in the array. -/
theorem point19 (c : Dev nD) (t : Fin cfg0.N) (r : Fin 640) (d : Fin 512) (y' : S83200x512.Idx) (h0 : (y' 0).val = 640 * t.val + r.val) (h1 : (y' 1).val = d.val) :
    (out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r d) : EReal) = gate (product m c) y' := by
  obtain rfl : y' = ix2 (row t r) d := by
    funext a; apply Fin.ext; fin_cases a
    · exact h0
    · exact h1
  rw [gate_at]
  unfold product
  rw [prod_at]
  refine (out19_at _ _ _ _ _ _ _ _ _ _ _ _ _ _ _ _ _ r d).trans ?_
  rw [iblk11_eq]
  simp only [blockRows_at, iblk14_at]

/-- The array after the run. -/
theorem final19 (c : Dev nD) : (dats m 0 c).arrAt 19 cfg0.N = gate (product m c) := by
  refine (dats m 0 c).arrAt_eq_of_covers 19 _ (by decide +kernel) fun t _ y => ?_
  blk_simp
  rw [after0_19]
  have e : y = ix2 (Fin.mk (y 0).val ((cfg0.win 19).xinj (cfg0.grid.coords t) y 0).isLt)
      (Fin.mk (y 1).val ((cfg0.win 19).xinj (cfg0.grid.coords t) y 1).isLt) := by
    funext a; apply Fin.ext
    fin_cases a <;> rfl
  refine (congrArg (out0_19 _ _ _ _ _ _ _ _ _ _ _ _ _ _ _ _ _) e).trans (point19 m c t _ _ _ ?_ ?_)
  all_goals blk_simp [idx19 t]
  simpa using by omega

/-- Each entry of the band a point writes is the reference's at the entry's place in the array. -/
theorem point20 (c : Dev nD) (t : Fin cfg0.N) (r : Fin 640) (d : Fin 128) (y' : S83200x128.Idx) (h0 : (y' 0).val = 640 * t.val + r.val) (h1 : (y' 1).val = d.val) :
    (out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r d) : EReal) = tails (product m c) y' := by
  obtain rfl : y' = ix2 (row t r) d := by
    funext a; apply Fin.ext; fin_cases a
    · exact h0
    · exact h1
  rw [tails_at]
  unfold product
  refine (out20_at _ _ _ _ _ _ _ _ _ _ _ _ _ _ _ _ _ r d).trans ?_
  rw [iblk11_eq]
  simp only [blockRows_at, iblk15_at]
  by_cases h : d.val < 16
  · rw [dif_pos h, prod_at]
    exact Finset.sum_congr rfl fun y _ => congrArg _ (dif_pos h)
  · rw [dif_neg h]
    exact Finset.sum_eq_zero fun y _ => (congrArg _ (dif_neg h)).trans (mul_zero _)

/-- The array after the run. -/
theorem final20 (c : Dev nD) : (dats m 0 c).arrAt 20 cfg0.N = tails (product m c) := by
  refine (dats m 0 c).arrAt_eq_of_covers 20 _ (by decide +kernel) fun t _ y => ?_
  blk_simp
  rw [after0_20]
  have e : y = ix2 (Fin.mk (y 0).val ((cfg0.win 20).xinj (cfg0.grid.coords t) y 0).isLt)
      (Fin.mk (y 1).val ((cfg0.win 20).xinj (cfg0.grid.coords t) y 1).isLt) := by
    funext a; apply Fin.ext
    fin_cases a <;> rfl
  refine (congrArg (out0_20 _ _ _ _ _ _ _ _ _ _ _ _ _ _ _ _ _) e).trans (point20 m c t _ _ _ ?_ ?_)
  all_goals blk_simp [idx20 t]
  simpa using by omega

end Cert.In

end
-- ==== Proof.Q.Dense.lean ====
module

public import proofs.«01_k».proof.Proof.E.Dense

@[expose] public section

/-!
# A turned head of a row

The mathematics of one head of the queries or the keys: the root mean square, the gain and the turn by the row's
angles, on extended reals.
-/

noncomputable section

namespace Cert.Turn

open Idealize.ShloMosaic
open Cert.Last (rmsRow)

/-- A head over its root mean square, times the gain. -/
def headNorm (o n : Fin 128 → EReal) (d : Fin 128) : EReal :=
  o d * Ideal.rsqrt (Ideal.div (∑ x, o x * o x) (Ideal.ofBits FTy.f32 1124073472#32) + Ideal.ofBits FTy.f32 897988541#32) * n d

/-- The same with the squares in a leading and a low part and the mean taken by the inverse width. -/
def headSplit (o n : Fin 128 → EReal) (d : Fin 128) : EReal :=
  o d * Ideal.rsqrt ((∑ x, o x * o x + ∑ x, (o x * o x - o x * o x)) * Ideal.ofBits FTy.f32 1006632960#32 + Ideal.ofBits FTy.f32 897988541#32) * n d

/-- The two agree where every entry is real. -/
theorem headSplit_eq (o n : Fin 128 → EReal) (h : ∀ x, ∃ r : ℝ, o x = (r : EReal)) : headSplit o n = headNorm o n := by
  funext d
  unfold headNorm headSplit
  rw [Finset.sum_eq_zero (fun x _ => Cert.Even.low_eq (o x) (h x)), add_zero, Cert.Even.mean_eq]

/-- The halves of a head turned into each other by the angles whose cosines and sines are given. -/
def turnRow (y : Fin 128 → EReal) (c s : Fin 64 → EReal) (d : Fin 128) : EReal :=
  if h : d.val < 64 then y ⟨d.val, by omega⟩ * c ⟨d.val, h⟩ - y ⟨64 + d.val, by omega⟩ * s ⟨d.val, h⟩
  else y ⟨64 + (d.val - 64), by omega⟩ * c ⟨d.val - 64, by omega⟩ + y ⟨d.val - 64, by omega⟩ * s ⟨d.val - 64, by omega⟩

/-- The turn as the head times one table plus the rolled head times the other. -/
def rollRow (y C S : Fin 128 → EReal) (d : Fin 128) : EReal :=
  y d * C d + y ⟨(d.val + 128 - 64) % 128, by omega⟩ * S d

/-- The second is the first where the tables are the cosines twice, and the sines with the first half negated. -/
theorem rollRow_eq (y C S : Fin 128 → EReal) (c s : Fin 64 → EReal)
    (hC : ∀ d : Fin 128, C d = if h : d.val < 64 then c ⟨d.val, h⟩ else c ⟨d.val - 64, by omega⟩)
    (hS : ∀ d : Fin 128, S d = if h : d.val < 64 then -s ⟨d.val, h⟩ else s ⟨d.val - 64, by omega⟩) : rollRow y C S = turnRow y c s := by
  funext d
  unfold rollRow turnRow
  rw [hC, hS]
  by_cases h : d.val < 64
  · rw [dif_pos h, dif_pos h, dif_pos h, mul_neg, ← sub_eq_add_neg]
    have e : (⟨(d.val + 128 - 64) % 128, by omega⟩ : Fin 128) = ⟨64 + d.val, by omega⟩ := Fin.ext (by show (d.val + 128 - 64) % 128 = 64 + d.val; omega)
    rw [e]
  · rw [dif_neg h, dif_neg h, dif_neg h]
    have e : (⟨(d.val + 128 - 64) % 128, by omega⟩ : Fin 128) = ⟨d.val - 64, by omega⟩ := Fin.ext (by show (d.val + 128 - 64) % 128 = d.val - 64; omega)
    have e2 : (⟨64 + (d.val - 64), by omega⟩ : Fin 128) = d := Fin.ext (by show 64 + (d.val - 64) = d.val; omega)
    rw [e, e2]

/-- A row of heads, each over its own root mean square and turned. -/
def headsRow {w : ℕ} (hw : w % 128 = 0) (o : Fin w → EReal) (n : Fin 128 → EReal) (c s : Fin 64 → EReal) (x : Fin w) : EReal :=
  turnRow (headNorm (fun i => o ⟨x.val / 128 * 128 + i.val, by omega⟩) n) c s ⟨x.val % 128, by omega⟩

/-- An entry of the row of heads is an entry of the head it lies in. -/
theorem headsRow_of {w : ℕ} (hw : w % 128 = 0) (O : Fin w → EReal) (n : Fin 128 → EReal) (c s : Fin 64 → EReal) (k : ℕ) (hk : k * 128 < w) (o : Fin 128 → EReal)
    (ho : ∀ i, o i = O ⟨k * 128 + i.val, by omega⟩) (x : Fin w) (d : Fin 128) (hx : x.val = k * 128 + d.val) :
    turnRow (headNorm o n) c s d = headsRow hw O n c s x := by
  have e : x.val / 128 = k := by omega
  have ed : d = ⟨x.val % 128, by omega⟩ := Fin.ext (by show d.val = x.val % 128; omega)
  unfold headsRow
  rw [← ed]
  refine congrArg (fun a => turnRow (headNorm a n) c s d) (funext fun i => (ho i).trans (congrArg O (Fin.ext ?_)))
  show k * 128 + i.val = x.val / 128 * 128 + i.val
  rw [e]

/-- The word of a thousand and twenty-four. -/
theorem ofBits_row : Ideal.ofBits FTy.f32 1149239296#32 = ((1024 : ℝ) : EReal) := by
  have h1 : (0x44800000#32).extractLsb' 31 1 = 0#1 := by decide
  have h2 : (0x44800000#32).extractLsb' 23 8 = 137#8 := by decide
  have h3 : (0x44800000#32).extractLsb' 0 23 = 0#23 := by decide
  norm_num [Ideal.ofBits, Ideal.ieee, h1, h2, h3, zpow_neg, zpow_ofNat]

/-- The word added to the means is a positive real. -/
theorem ofBits_eps : ∃ e : ℝ, 0 < e ∧ Ideal.ofBits FTy.f32 897988541#32 = (e : EReal) := by
  have h1 : (0x358637BD#32).extractLsb' 31 1 = 0#1 := by decide
  have h2 : (0x358637BD#32).extractLsb' 23 8 = 107#8 := by decide
  have h3 : (0x358637BD#32).extractLsb' 0 23 = 407485#23 := by decide
  refine ⟨8796093 / 8796093022208, by norm_num, ?_⟩
  norm_num [Ideal.ofBits, Ideal.ieee, h1, h2, h3, zpow_neg, zpow_ofNat]

/-- A square is not negative. -/
theorem sq_nonneg (x : EReal) : 0 ≤ x * x := by
  induction x using EReal.rec with
  | bot => simp
  | top => simp
  | coe r => exact_mod_cast mul_self_nonneg r

/-- An entry whose square is below the top is real. -/
theorem real_of_sq (x : EReal) (h : x * x ≠ ⊤) : ∃ r : ℝ, x = (r : EReal) := by
  induction x using EReal.rec with
  | bot => exact absurd (by simp) h
  | top => exact absurd (by simp) h
  | coe r => exact ⟨r, rfl⟩

/-- A row over its root mean square, times a real gain, is real whatever the row holds. -/
theorem rmsRow_real (h g : Fin 1024 → EReal) (hg : ∀ x, ∃ r : ℝ, g x = (r : EReal)) (d : Fin 1024) : ∃ r : ℝ, rmsRow h g d = (r : EReal) := by
  obtain ⟨e, he, hb⟩ := ofBits_eps
  obtain ⟨b, hgd⟩ := hg d
  unfold rmsRow
  rw [ofBits_row, hb, Ideal.div_coe (by norm_num), hgd]
  by_cases ht : (∑ x, h x * h x) = ⊤
  · refine ⟨0, ?_⟩
    rw [ht, EReal.top_mul_coe_of_pos (by norm_num), EReal.top_add_coe, Ideal.rsqrt_top, mul_zero, zero_mul]
    rfl
  · have h0 : 0 ≤ ∑ x, h x * h x := Finset.sum_nonneg fun x _ => sq_nonneg (h x)
    have hle : h d * h d ≤ ∑ x, h x * h x := Finset.single_le_sum (f := fun x => h x * h x) (fun x _ => sq_nonneg (h x)) (Finset.mem_univ d)
    obtain ⟨a, ha⟩ := real_of_sq (h d) (ne_of_lt (lt_of_le_of_lt hle (lt_top_iff_ne_top.2 ht)))
    have hs : (∑ x, h x * h x) = (((∑ x, h x * h x).toReal : ℝ) : EReal) :=
      (EReal.coe_toReal ht (ne_of_gt (lt_of_lt_of_le EReal.bot_lt_zero h0))).symm
    have hp : 0 ≤ (∑ x, h x * h x).toReal := EReal.toReal_nonneg h0
    have hq : 0 < (∑ x, h x * h x).toReal * (1 / 1024) + e := by positivity
    rw [ha, hs, ← EReal.coe_mul, ← EReal.coe_add, Ideal.rsqrt_coe, if_neg (not_lt.2 hq.le), if_neg hq.ne', ← EReal.coe_mul, ← EReal.coe_mul]
    exact ⟨_, rfl⟩

/-- A sum of products of reals is real. -/
theorem dot_real {ι : Type} [Fintype ι] (f w : ι → EReal) (hf : ∀ x, ∃ r : ℝ, f x = (r : EReal)) (hw : ∀ x, ∃ r : ℝ, w x = (r : EReal)) :
    ∃ r : ℝ, (∑ x, f x * w x) = (r : EReal) := by
  refine Finset.sum_induction _ (fun z : EReal => ∃ r : ℝ, z = (r : EReal)) ?_ ⟨0, rfl⟩ ?_
  · rintro _ _ ⟨a, rfl⟩ ⟨b, rfl⟩
    exact ⟨a + b, (EReal.coe_add _ _).symm⟩
  · intro x _
    obtain ⟨a, ha⟩ := hf x
    obtain ⟨b, hb⟩ := hw x
    exact ⟨a * b, by rw [ha, hb, EReal.coe_mul]⟩

/-- An entry whose absolute value is below the top is real. -/
theorem real_of_abs (x : EReal) (h : Ideal.cmp .olt (max x (-x)) (Ideal.ofBits .f32 0x7F800000#32) = 1#1) : x = (x.toReal : EReal) := by
  have hb : Ideal.ofBits .f32 0x7F800000#32 = ⊤ := by simp [Ideal.ofBits, Ideal.ieee]
  rw [hb] at h
  have h' : max x (-x) < ⊤ := by
    by_contra hn
    simp [Ideal.cmp, hn] at h
  have h1 := lt_of_le_of_lt (le_max_left x (-x)) h'
  have h2 := lt_of_le_of_lt (le_max_right x (-x)) h'
  refine (EReal.coe_toReal h1.ne ?_).symm
  rintro rfl
  simp at h2

end Cert.Turn

end
-- ==== Proof.Q.Ker.lean ====
module

public import proofs.«01_k».proof.Proof.Gen.Kernel6Ideal.Value
public import proofs.«01_k».proof.Proof.Q.Dense

@[expose] public section

set_option maxRecDepth 16384

/-!
# A block of the odd layer's start

The normalised rows times the weights, and each head of the queries and the keys over its own root mean square and turned.
-/

noncomputable section

namespace Cert.Turn

open Cert.Kernel6Ideal Cert.Kernel6Ideal.Gen
open Idealize.ShloMosaic Idealize.ShloMosaic.TcCoe
open Cert.Last (rmsRow)

/-- An entry of the normalised rows' product with the weights. -/
def mulRow {w : ℕ} (h g : Fin 1024 → EReal) (m : Fin 1024 → Fin w → EReal) (d : Fin w) : EReal :=
  ∑ y : Fin 1024, rmsRow h g y * m y d

theorem mulRow_congr {w : ℕ} (h g h' g' : Fin 1024 → EReal) (m m' : Fin 1024 → Fin w → EReal) (eh : ∀ x, h x = h' x) (eg : ∀ x, g x = g' x)
    (em : ∀ y x, m y x = m' y x) (d : Fin w) : mulRow h g m d = mulRow h' g' m' d := by
  obtain rfl : h = h' := funext eh
  obtain rfl : g = g' := funext eg
  obtain rfl : m = m' := funext fun y => funext (em y)
  rfl

/-- A head over its root mean square in the form computed, turned by the tables. -/
def headRoll (o n C S : Fin 128 → EReal) (d : Fin 128) : EReal := rollRow (headSplit o n) C S d

/-- The queries' rows. -/
theorem pay6_at (a : Vec Ideal S640x1024 .f32) (g : Vec Ideal S1x1024 .f32) (w : Vec Ideal S1024x1024 .bf16) (r : Fin 640) (d : Fin 1024) :
    (k0_pay6 a g w (ix2 r d) : EReal) = mulRow (fun x => a (ix2 r x)) (fun x => g (ix2 0 x)) (fun y x => w (ix2 y x)) d := by
  unfold mulRow rmsRow
  pointwise [k0_pay6, k0_pay2]

/-- The keys' rows. -/
theorem pay7_at (a : Vec Ideal S640x1024 .f32) (g : Vec Ideal S1x1024 .f32) (w : Vec Ideal S1024x256 .bf16) (r : Fin 640) (d : Fin 256) :
    (k0_pay7 a g w (ix2 r d) : EReal) = mulRow (fun x => a (ix2 r x)) (fun x => g (ix2 0 x)) (fun y x => w (ix2 y x)) d := by
  unfold mulRow rmsRow
  pointwise [k0_pay7, k0_pay2]

/-- The values' rows. -/
theorem pay8_at (a : Vec Ideal S640x1024 .f32) (g : Vec Ideal S1x1024 .f32) (w : Vec Ideal S1024x256 .bf16) (r : Fin 640) (d : Fin 256) :
    (k0_pay8 a g w (ix2 r d) : EReal) = mulRow (fun x => a (ix2 r x)) (fun x => g (ix2 0 x)) (fun y x => w (ix2 y x)) d := by
  unfold mulRow rmsRow
  pointwise [k0_pay8, k0_pay2]

/-! The heads' columns of the queries and of the keys. -/

theorem pay9_at (a : Vec Ideal S640x1024 .f32) (g : Vec Ideal S1x1024 .f32) (w : Vec Ideal S1024x1024 .bf16) (r : Fin 640) (d : Fin 128) :
    (k0_pay9 a g w (ix2 r d) : EReal) = k0_pay6 a g w (ix2 r ⟨0 * 128 + d.val, by omega⟩) := by
  pointwise [k0_pay9, k0_pay6]

theorem pay10_at (a : Vec Ideal S640x1024 .f32) (g : Vec Ideal S1x1024 .f32) (w : Vec Ideal S1024x1024 .bf16) (r : Fin 640) (d : Fin 128) :
    (k0_pay10 a g w (ix2 r d) : EReal) = k0_pay6 a g w (ix2 r ⟨1 * 128 + d.val, by omega⟩) := by
  pointwise [k0_pay10, k0_pay6]

theorem pay11_at (a : Vec Ideal S640x1024 .f32) (g : Vec Ideal S1x1024 .f32) (w : Vec Ideal S1024x1024 .bf16) (r : Fin 640) (d : Fin 128) :
    (k0_pay11 a g w (ix2 r d) : EReal) = k0_pay6 a g w (ix2 r ⟨2 * 128 + d.val, by omega⟩) := by
  pointwise [k0_pay11, k0_pay6]

theorem pay12_at (a : Vec Ideal S640x1024 .f32) (g : Vec Ideal S1x1024 .f32) (w : Vec Ideal S1024x1024 .bf16) (r : Fin 640) (d : Fin 128) :
    (k0_pay12 a g w (ix2 r d) : EReal) = k0_pay6 a g w (ix2 r ⟨3 * 128 + d.val, by omega⟩) := by
  pointwise [k0_pay12, k0_pay6]

theorem pay13_at (u : FVec Ideal S640x1024 .f32) (r : Fin 640) (d : Fin 128) :
    (k0_pay13 u (ix2 r d) : EReal) = u (ix2 r ⟨4 * 128 + d.val, by omega⟩) := by
  pointwise [k0_pay13]

theorem pay14_at (u : FVec Ideal S640x1024 .f32) (r : Fin 640) (d : Fin 128) :
    (k0_pay14 u (ix2 r d) : EReal) = u (ix2 r ⟨5 * 128 + d.val, by omega⟩) := by
  pointwise [k0_pay14]

theorem pay15_at (u : FVec Ideal S640x1024 .f32) (r : Fin 640) (d : Fin 128) :
    (k0_pay15 u (ix2 r d) : EReal) = u (ix2 r ⟨6 * 128 + d.val, by omega⟩) := by
  pointwise [k0_pay15]

theorem pay16_at (u : FVec Ideal S640x1024 .f32) (r : Fin 640) (d : Fin 128) :
    (k0_pay16 u (ix2 r d) : EReal) = u (ix2 r ⟨7 * 128 + d.val, by omega⟩) := by
  pointwise [k0_pay16]

theorem pay17_at (u : FVec Ideal S640x256 .f32) (r : Fin 640) (d : Fin 128) :
    (k0_pay17 u (ix2 r d) : EReal) = u (ix2 r ⟨0 * 128 + d.val, by omega⟩) := by
  pointwise [k0_pay17]

theorem pay18_at (u : FVec Ideal S640x256 .f32) (r : Fin 640) (d : Fin 128) :
    (k0_pay18 u (ix2 r d) : EReal) = u (ix2 r ⟨1 * 128 + d.val, by omega⟩) := by
  pointwise [k0_pay18]

/-! Each head of the queries, turned and scaled. -/

theorem q7_at (C S : Vec Ideal S640x128 .f32) (o : FVec Ideal S640x128 .f32) (n : Vec Ideal S1x128 .f32) (r : Fin 640) (d : Fin 128) :
    (k0_pay43 (k0_pay4 C) (k0_pay5 S) (k0_pay41 o (k0_pay29 (k0_pay3 (F := Ideal)) o)) (k0_pay42 n) (ix2 r d) : EReal) =
      headRoll (fun x => o (ix2 r x)) (fun x => n (ix2 0 x)) (fun x => C (ix2 r x)) (fun x => S (ix2 r x)) d * Ideal.ofBits FTy.f32 1040356334#32 := by
  unfold headRoll rollRow headSplit
  pointwise [k0_pay43, k0_pay41, k0_pay29, k0_pay42, k0_pay3, k0_pay4, k0_pay5]

theorem q6_at (C S : Vec Ideal S640x128 .f32) (o : FVec Ideal S640x128 .f32) (n : Vec Ideal S1x128 .f32) (r : Fin 640) (d : Fin 128) :
    (k0_pay40 (k0_pay4 C) (k0_pay5 S) o (k0_pay28 (k0_pay3 (F := Ideal)) o) n (ix2 r d) : EReal) =
      headRoll (fun x => o (ix2 r x)) (fun x => n (ix2 0 x)) (fun x => C (ix2 r x)) (fun x => S (ix2 r x)) d * Ideal.ofBits FTy.f32 1040356334#32 := by
  unfold headRoll rollRow headSplit
  pointwise [k0_pay40, k0_pay28, k0_pay3, k0_pay4, k0_pay5]

theorem q5_at (C S : Vec Ideal S640x128 .f32) (u : FVec Ideal S640x1024 .f32) (n : Vec Ideal S1x128 .f32) (r : Fin 640) (d : Fin 128) :
    (k0_pay39 (k0_pay4 C) (k0_pay5 S) (k0_pay14 u) (k0_pay27 (k0_pay3 (F := Ideal)) (k0_pay25 u) (k0_pay26 u)) n (Scalar.ofBits .f32 0x3C000000#32) (ix2 r d) : EReal) =
      headRoll (fun x => k0_pay14 u (ix2 r x)) (fun x => n (ix2 0 x)) (fun x => C (ix2 r x)) (fun x => S (ix2 r x)) d * Ideal.ofBits FTy.f32 1040356334#32 := by
  unfold headRoll rollRow headSplit
  pointwise [k0_pay39, k0_pay14, k0_pay27, k0_pay25, k0_pay26, k0_pay24, k0_pay3, k0_pay4, k0_pay5]

theorem q4_at (C S : Vec Ideal S640x128 .f32) (u : FVec Ideal S640x1024 .f32) (n : Vec Ideal S1x128 .f32) (r : Fin 640) (d : Fin 128) :
    (k0_pay38 (k0_pay4 C) (k0_pay5 S) (k0_pay13 u) (k0_pay23 (k0_pay3 (F := Ideal)) u) n (ix2 r d) : EReal) =
      headRoll (fun x => k0_pay13 u (ix2 r x)) (fun x => n (ix2 0 x)) (fun x => C (ix2 r x)) (fun x => S (ix2 r x)) d * Ideal.ofBits FTy.f32 1040356334#32 := by
  unfold headRoll rollRow headSplit
  pointwise [k0_pay38, k0_pay13, k0_pay23, k0_pay3, k0_pay4, k0_pay5]

theorem q3_at (C S : Vec Ideal S640x128 .f32) (o : FVec Ideal S640x128 .f32) (n : Vec Ideal S1x128 .f32) (r : Fin 640) (d : Fin 128) :
    (k0_pay37 (k0_pay4 C) (k0_pay5 S) o (k0_pay22 (k0_pay3 (F := Ideal)) o) n (ix2 r d) : EReal) =
      headRoll (fun x => o (ix2 r x)) (fun x => n (ix2 0 x)) (fun x => C (ix2 r x)) (fun x => S (ix2 r x)) d * Ideal.ofBits FTy.f32 1040356334#32 := by
  unfold headRoll rollRow headSplit
  pointwise [k0_pay37, k0_pay22, k0_pay3, k0_pay4, k0_pay5]

theorem q2_at (C S : Vec Ideal S640x128 .f32) (o : FVec Ideal S640x128 .f32) (n : Vec Ideal S1x128 .f32) (r : Fin 640) (d : Fin 128) :
    (k0_pay36 (k0_pay4 C) (k0_pay5 S) o (k0_pay21 (k0_pay3 (F := Ideal)) o) n (ix2 r d) : EReal) =
      headRoll (fun x => o (ix2 r x)) (fun x => n (ix2 0 x)) (fun x => C (ix2 r x)) (fun x => S (ix2 r x)) d * Ideal.ofBits FTy.f32 1040356334#32 := by
  unfold headRoll rollRow headSplit
  pointwise [k0_pay36, k0_pay21, k0_pay3, k0_pay4, k0_pay5]

theorem q1_at (C S : Vec Ideal S640x128 .f32) (o : FVec Ideal S640x128 .f32) (n : Vec Ideal S1x128 .f32) (r : Fin 640) (d : Fin 128) :
    (k0_pay35 (k0_pay4 C) (k0_pay5 S) o (k0_pay20 (k0_pay3 (F := Ideal)) o) n (ix2 r d) : EReal) =
      headRoll (fun x => o (ix2 r x)) (fun x => n (ix2 0 x)) (fun x => C (ix2 r x)) (fun x => S (ix2 r x)) d * Ideal.ofBits FTy.f32 1040356334#32 := by
  unfold headRoll rollRow headSplit
  pointwise [k0_pay35, k0_pay20, k0_pay3, k0_pay4, k0_pay5]

theorem q0_at (C S : Vec Ideal S640x128 .f32) (o : FVec Ideal S640x128 .f32) (n : Vec Ideal S1x128 .f32) (r : Fin 640) (d : Fin 128) :
    (k0_pay34 (k0_pay5 S) (k0_pay32 o (k0_pay19 (k0_pay3 (F := Ideal)) o) n) (k0_pay33 (k0_pay4 C) o (k0_pay19 (k0_pay3 (F := Ideal)) o) n) (ix2 r d) : EReal) =
      headRoll (fun x => o (ix2 r x)) (fun x => n (ix2 0 x)) (fun x => C (ix2 r x)) (fun x => S (ix2 r x)) d * Ideal.ofBits FTy.f32 1040356334#32 := by
  unfold headRoll rollRow headSplit
  pointwise [k0_pay34, k0_pay32, k0_pay33, k0_pay19, k0_pay3, k0_pay4, k0_pay5]

/-! Each head of the keys, turned. -/

theorem k1_at (C S : Vec Ideal S640x128 .f32) (o : FVec Ideal S640x128 .f32) (n : Vec Ideal S1x128 .f32) (r : Fin 640) (d : Fin 128) :
    (k0_pay1 (k0_pay45 (k0_pay4 C) (k0_pay5 S) o (k0_pay31 (k0_pay3 (F := Ideal)) o) n) (k0_pay46 (F := Ideal)) (ix2 r d) : EReal) =
      headRoll (fun x => o (ix2 r x)) (fun x => n (ix2 0 x)) (fun x => C (ix2 r x)) (fun x => S (ix2 r x)) d := by
  unfold headRoll rollRow headSplit
  pointwise [k0_pay1, k0_pay45, k0_pay31, k0_pay46, k0_pay3, k0_pay4, k0_pay5]

theorem k0_at (C S : Vec Ideal S640x128 .f32) (o : FVec Ideal S640x128 .f32) (n : Vec Ideal S1x128 .f32) (r : Fin 640) (d : Fin 128) :
    (k0_pay44 (k0_pay4 C) (k0_pay5 S) o (k0_pay30 (k0_pay3 (F := Ideal)) o) n (ix2 r d) : EReal) =
      headRoll (fun x => o (ix2 r x)) (fun x => n (ix2 0 x)) (fun x => C (ix2 r x)) (fun x => S (ix2 r x)) d := by
  unfold headRoll rollRow headSplit
  pointwise [k0_pay44, k0_pay30, k0_pay3, k0_pay4, k0_pay5]

theorem ld0 (x : Vec Ideal S640x1024 .f32) (r : Fin 640) (d : Fin 1024) : View.ld x r0_0 (ix2 r d) = x (ix2 r d) := by
  pointwise
theorem ld1 (x : Vec Ideal S1x1024 .f32) (d : Fin 1024) : View.ld x r0_1 (ix2 0 d) = x (ix2 0 d) := by
  pointwise
theorem ld2 (x : Vec Ideal S640x128 .f32) (r : Fin 640) (d : Fin 128) : View.ld x r0_2 (ix2 r d) = x (ix2 r d) := by
  pointwise
theorem ld3 (x : Vec Ideal S1024x1024 .bf16) (r d : Fin 1024) : View.ld x r0_3 (ix2 r d) = x (ix2 r d) := by
  pointwise
theorem ld4 (x : Vec Ideal S1024x256 .bf16) (r : Fin 1024) (d : Fin 256) : View.ld x r0_4 (ix2 r d) = x (ix2 r d) := by
  pointwise
theorem ld6 (x : Vec Ideal S1x128 .f32) (d : Fin 128) : View.ld x r0_6 (ix2 0 d) = x (ix2 0 d) := by
  pointwise

/-- The tables a block is turned by: the cosines twice, and the sines with the first half negated. -/
def Tables (C S : Fin 128 → EReal) (c s : Fin 64 → EReal) : Prop :=
  (∀ d : Fin 128, C d = if h : d.val < 64 then c ⟨d.val, h⟩ else c ⟨d.val - 64, by omega⟩) ∧
    ∀ d : Fin 128, S d = if h : d.val < 64 then -s ⟨d.val, h⟩ else s ⟨d.val - 64, by omega⟩

/-- A head turned by the tables is an entry of the row of heads. -/
theorem headRoll_of {w : ℕ} (hw : w % 128 = 0) (O : Fin w → EReal) (hO : ∀ x, ∃ q : ℝ, O x = (q : EReal)) (n n' : Fin 128 → EReal) (hn : ∀ i, n i = n' i)
    (C S C' S' : Fin 128 → EReal) (eC : ∀ i, C i = C' i) (eS : ∀ i, S i = S' i)
    (c s : Fin 64 → EReal) (ht : Tables C' S' c s) (k : ℕ) (hk : k * 128 < w) (o : Fin 128 → EReal)
    (ho : ∀ i, o i = O ⟨k * 128 + i.val, by omega⟩) (x : Fin w) (d : Fin 128) (hx : x.val = k * 128 + d.val) :
    headRoll o n C S d = headsRow hw O n' c s x := by
  obtain rfl : n = n' := funext hn
  obtain rfl : C = C' := funext eC
  obtain rfl : S = S' := funext eS
  unfold headRoll
  rw [headSplit_eq o n (fun i => by rw [ho]; exact hO _), rollRow_eq _ _ _ c s ht.1 ht.2]
  exact headsRow_of hw O n c s k hk o ho x d hx

/-- A row's products are real where the gain and the weights are. -/
theorem mulRow_real {w : ℕ} (h g : Fin 1024 → EReal) (m : Fin 1024 → Fin w → EReal) (hg : ∀ x, ∃ r : ℝ, g x = (r : EReal))
    (hm : ∀ y x, ∃ r : ℝ, m y x = (r : EReal)) (d : Fin w) : ∃ r : ℝ, mulRow h g m d = (r : EReal) :=
  dot_real _ _ (rmsRow_real h g hg) (fun y => hm y d)

section block

variable (x0 : Vec Ideal S640x1024 .f32) (x1 : Vec Ideal S1x1024 .f32) (x2 : Vec Ideal S1024x1024 .bf16) (x3 x4 : Vec Ideal S1024x256 .bf16)
  (x5 x6 : Vec Ideal S1x128 .f32) (x7 x8 : Vec Ideal S640x128 .f32)

/-- The queries' rows, read from the whole buffers. -/
theorem q_row (r : Fin 640) (d : Fin 1024) : (k0_pay6 (View.ld x0 r0_0) (View.ld x1 r0_1) (View.ld x2 r0_3) (ix2 r d) : EReal) =
    mulRow (fun x => x0 (ix2 r x)) (fun x => x1 (ix2 0 x)) (fun y x => x2 (ix2 y x)) d := by
  exact (pay6_at _ _ _ r d).trans (mulRow_congr _ _ _ _ _ _ (ld0 x0 r) (ld1 x1) (ld3 x2) d)

/-- The keys' rows, read from the whole buffers. -/
theorem k_row (r : Fin 640) (d : Fin 256) : (k0_pay7 (View.ld x0 r0_0) (View.ld x1 r0_1) (View.ld x3 r0_4) (ix2 r d) : EReal) =
    mulRow (fun x => x0 (ix2 r x)) (fun x => x1 (ix2 0 x)) (fun y x => x3 (ix2 y x)) d := by
  exact (pay7_at _ _ _ r d).trans (mulRow_congr _ _ _ _ _ _ (ld0 x0 r) (ld1 x1) (ld4 x3) d)

/-- An entry of the queries' block. -/
theorem block_q (r : Fin 640) (d : Fin 1024) (c s : Fin 64 → EReal) (ht : Tables (fun i => x7 (ix2 r i)) (fun i => x8 (ix2 r i)) c s)
    (hg : ∀ x, ∃ q : ℝ, (x1 (ix2 0 x) : EReal) = (q : EReal)) (hw : ∀ y x, ∃ q : ℝ, (x2 (ix2 y x) : EReal) = (q : EReal)) :
    (out0_9 x0 x1 x2 x3 x4 x5 x6 x7 x8 (ix2 r d) : EReal) =
      headsRow (w := 1024) (by decide) (mulRow (fun x => x0 (ix2 r x)) (fun x => x1 (ix2 0 x)) (fun y x => x2 (ix2 y x))) (fun i => x5 (ix2 0 i)) c s d * Ideal.ofBits FTy.f32 1040356334#32 := by
  have hO := mulRow_real (fun x => x0 (ix2 r x)) (fun x => x1 (ix2 0 x)) (fun y x => x2 (ix2 y x)) hg hw
  unfold_out out0_9
  canon_tiles x h
  all_goals obtain ⟨r', d', rfl⟩ : ∃ (r' : Fin 640) (d' : Fin 128), x = ix2 r' d' := ⟨x 0, x 1, by funext a; fin_cases a <;> rfl⟩
  all_goals obtain rfl : r = r' := Fin.ext (by simpa [ix2] using h0)

  · refine (q7_at (View.ld x7 r0_2) (View.ld x8 r0_2) _ (View.ld x5 r0_6) r d').trans (congrArg (fun z : EReal => z * Ideal.ofBits FTy.f32 1040356334#32) ?_)
    exact headRoll_of _ _ hO _ _ (ld6 x5) _ _ _ _ (ld2 x7 r) (ld2 x8 r) c s ht 7 (by decide) _ (fun i => (pay16_at _ r i).trans (q_row x0 x1 x2 r _)) d d' (by simpa [ix2] using h1)
  · refine (q6_at (View.ld x7 r0_2) (View.ld x8 r0_2) _ (View.ld x5 r0_6) r d').trans (congrArg (fun z : EReal => z * Ideal.ofBits FTy.f32 1040356334#32) ?_)
    exact headRoll_of _ _ hO _ _ (ld6 x5) _ _ _ _ (ld2 x7 r) (ld2 x8 r) c s ht 6 (by decide) _ (fun i => (pay15_at _ r i).trans (q_row x0 x1 x2 r _)) d d' (by simpa [ix2] using h1)
  · refine (q5_at (View.ld x7 r0_2) (View.ld x8 r0_2) (k0_pay6 (View.ld x0 r0_0) (View.ld x1 r0_1) (View.ld x2 r0_3)) (View.ld x5 r0_6) r d').trans (congrArg (fun z : EReal => z * Ideal.ofBits FTy.f32 1040356334#32) ?_)
    exact headRoll_of _ _ hO _ _ (ld6 x5) _ _ _ _ (ld2 x7 r) (ld2 x8 r) c s ht 5 (by decide) _ (fun i => (pay14_at _ r i).trans (q_row x0 x1 x2 r _)) d d' (by simpa [ix2] using h1)
  · refine (q4_at (View.ld x7 r0_2) (View.ld x8 r0_2) (k0_pay6 (View.ld x0 r0_0) (View.ld x1 r0_1) (View.ld x2 r0_3)) (View.ld x5 r0_6) r d').trans (congrArg (fun z : EReal => z * Ideal.ofBits FTy.f32 1040356334#32) ?_)
    exact headRoll_of _ _ hO _ _ (ld6 x5) _ _ _ _ (ld2 x7 r) (ld2 x8 r) c s ht 4 (by decide) _ (fun i => (pay13_at _ r i).trans (q_row x0 x1 x2 r _)) d d' (by simpa [ix2] using h1)
  · refine (q3_at (View.ld x7 r0_2) (View.ld x8 r0_2) _ (View.ld x5 r0_6) r d').trans (congrArg (fun z : EReal => z * Ideal.ofBits FTy.f32 1040356334#32) ?_)
    exact headRoll_of _ _ hO _ _ (ld6 x5) _ _ _ _ (ld2 x7 r) (ld2 x8 r) c s ht 3 (by decide) _ (fun i => (pay12_at _ _ _ r i).trans (q_row x0 x1 x2 r _)) d d' (by simpa [ix2] using h1)
  · refine (q2_at (View.ld x7 r0_2) (View.ld x8 r0_2) _ (View.ld x5 r0_6) r d').trans (congrArg (fun z : EReal => z * Ideal.ofBits FTy.f32 1040356334#32) ?_)
    exact headRoll_of _ _ hO _ _ (ld6 x5) _ _ _ _ (ld2 x7 r) (ld2 x8 r) c s ht 2 (by decide) _ (fun i => (pay11_at _ _ _ r i).trans (q_row x0 x1 x2 r _)) d d' (by simpa [ix2] using h1)
  · refine (q1_at (View.ld x7 r0_2) (View.ld x8 r0_2) _ (View.ld x5 r0_6) r d').trans (congrArg (fun z : EReal => z * Ideal.ofBits FTy.f32 1040356334#32) ?_)
    exact headRoll_of _ _ hO _ _ (ld6 x5) _ _ _ _ (ld2 x7 r) (ld2 x8 r) c s ht 1 (by decide) _ (fun i => (pay10_at _ _ _ r i).trans (q_row x0 x1 x2 r _)) d d' (by simpa [ix2] using h1)
  · refine (q0_at (View.ld x7 r0_2) (View.ld x8 r0_2) _ (View.ld x5 r0_6) r d').trans (congrArg (fun z : EReal => z * Ideal.ofBits FTy.f32 1040356334#32) ?_)
    exact headRoll_of _ _ hO _ _ (ld6 x5) _ _ _ _ (ld2 x7 r) (ld2 x8 r) c s ht 0 (by decide) _ (fun i => (pay9_at _ _ _ r i).trans (q_row x0 x1 x2 r _)) d d' (by simpa [ix2] using h1)

/-- An entry of the keys' block. -/
theorem block_k (r : Fin 640) (d : Fin 256) (c s : Fin 64 → EReal) (ht : Tables (fun i => x7 (ix2 r i)) (fun i => x8 (ix2 r i)) c s)
    (hg : ∀ x, ∃ q : ℝ, (x1 (ix2 0 x) : EReal) = (q : EReal)) (hw : ∀ y x, ∃ q : ℝ, (x3 (ix2 y x) : EReal) = (q : EReal)) :
    (out0_10 x0 x1 x2 x3 x4 x5 x6 x7 x8 (ix2 r d) : EReal) =
      headsRow (w := 256) (by decide) (mulRow (fun x => x0 (ix2 r x)) (fun x => x1 (ix2 0 x)) (fun y x => x3 (ix2 y x))) (fun i => x6 (ix2 0 i)) c s d := by
  have hO := mulRow_real (fun x => x0 (ix2 r x)) (fun x => x1 (ix2 0 x)) (fun y x => x3 (ix2 y x)) hg hw
  unfold_out out0_10
  canon_tiles x h
  all_goals obtain ⟨r', d', rfl⟩ : ∃ (r' : Fin 640) (d' : Fin 128), x = ix2 r' d' := ⟨x 0, x 1, by funext a; fin_cases a <;> rfl⟩
  all_goals obtain rfl : r = r' := Fin.ext (by simpa [ix2] using h0)
  · refine (k1_at (View.ld x7 r0_2) (View.ld x8 r0_2) _ (View.ld x6 r0_6) r d').trans ?_
    exact headRoll_of _ _ hO _ _ (ld6 x6) _ _ _ _ (ld2 x7 r) (ld2 x8 r) c s ht 1 (by decide) _ (fun i => (pay18_at _ r i).trans (k_row x0 x1 x3 r _)) d d' (by simpa [ix2] using h1)
  · refine (k0_at (View.ld x7 r0_2) (View.ld x8 r0_2) _ (View.ld x6 r0_6) r d').trans ?_
    exact headRoll_of _ _ hO _ _ (ld6 x6) _ _ _ _ (ld2 x7 r) (ld2 x8 r) c s ht 0 (by decide) _ (fun i => (pay17_at _ r i).trans (k_row x0 x1 x3 r _)) d d' (by simpa [ix2] using h1)

/-- An entry of the values' block. -/
theorem block_v (r : Fin 640) (d : Fin 256) : (out0_11 x0 x1 x2 x3 x4 x5 x6 x7 x8 (ix2 r d) : EReal) =
    mulRow (fun x => x0 (ix2 r x)) (fun x => x1 (ix2 0 x)) (fun y x => x4 (ix2 y x)) d := by
  have ec : (out0_11 x0 x1 x2 x3 x4 x5 x6 x7 x8 (ix2 r d) : EReal) = k0_pay8 (View.ld x0 r0_0) (View.ld x1 r0_1) (View.ld x4 r0_4) (ix2 r d) := by
    unfold out0_11
    frame_out
  rw [ec]
  exact (pay8_at _ _ _ r d).trans (mulRow_congr _ _ _ _ _ _ (ld0 x0 r) (ld1 x1) (ld4 x4) d)

end block

end Cert.Turn

end
-- ==== Proof.Q.Ref.lean ====
module

public import proofs.«01_k».proof.Proof.Gen.Reference6Ideal.Run
public import proofs.«01_k».proof.Proof.Q.Dense

@[expose] public section

set_option maxRecDepth 16384

/-!
# The reference of the odd layer's start at an index

The products of the normalised rows with the weights, and the heads of the queries and the keys, normalised and turned.
-/

noncomputable section

namespace Cert.Turn

open Cert.Reference6Ideal Cert.Reference6Ideal.Gen Cert.Reference6Ideal.Value
open Idealize.ShloMosaic Idealize.ShloMosaic.TcCoe
open Cert.Last (rmsRow)

/-- The rows over their root mean square, times the gain, times the weights. -/
def prod (x : FVec Ideal S83200x1024 .f32) (g : Vec Ideal S1x1024 .f32) (w : FVec Ideal S1024x1536 .f32) : FVec Ideal S83200x1536 .f32 :=
  Host.dotGeneral dot_S83200x1024_S1024x1536_S83200x1536_1_0_0_1_n_n none (mulf (mulf x (broadcastInDim S83200x1024 ![0, 1] bcast_S83200x1_S83200x1024_0_1 (Host.rsqrt (addf (Host.divf (broadcastInDim S83200x1 ![0] bcast_S83200_S83200x1_0 (Host.reduceAdd (mulf x x) (constant S_ .f32 0x00000000#32) reducesTo_S83200x1024_S83200_d1 h_S_)) (broadcastInDim S83200x1 ![] bcast_S_S83200x1 (constant S_ .f32 0x44800000#32))) (broadcastInDim S83200x1 ![] bcast_S_S83200x1 (constant S_ .f32 0x358637BD#32)))))) (broadcastInDim S83200x1024 ![0, 1] bcast_S1x1024_S83200x1024_0_1 (broadcastInDim S1x1024 ![1] bcast_S1024_S1x1024_1 (shapeCast _ g shapeCasts_S1x1024_S1024)))) w

theorem prod_at (x : FVec Ideal S83200x1024 .f32) (g : Vec Ideal S1x1024 .f32) (w : FVec Ideal S1024x1536 .f32) (n : Fin 83200) (d : Fin 1536) :
    (prod x g w (ix2 n d) : EReal) = ∑ y : Fin 1024, rmsRow (fun x' => x (ix2 n x')) (fun x' => g (ix2 0 x')) y * w (ix2 y d) := by
  unfold rmsRow
  pointwise [prod]

/-- The queries' heads. -/
def heads8 (u : FVec Ideal S83200x1536 .f32) : FVec Ideal S10x8320x8x128 .f32 :=
  shapeCast _ (extractStridedSlice S83200x1024 ![0, 0] u slices_S83200x1536_S83200x1024_0_0) shapeCasts_S83200x1024_S10x8320x8x128

/-- The keys' heads. -/
def heads2 (u : FVec Ideal S83200x1536 .f32) : FVec Ideal S10x8320x2x128 .f32 :=
  shapeCast _ (extractStridedSlice S83200x256 ![0, 1024] u slices_S83200x1536_S83200x256_0_1024) shapeCasts_S83200x256_S10x8320x2x128

/-- Every head over its root mean square, times the gain. -/
def norm8 (x : FVec Ideal S10x8320x8x128 .f32) (n : Vec Ideal S1x128 .f32) : FVec Ideal S10x8320x8x128 .f32 :=
  mulf (mulf x (broadcastInDim S10x8320x8x128 ![0, 1, 2, 3] bcast_S10x8320x8x1_S10x8320x8x128_0_1_2_3 (Host.rsqrt (addf (Host.divf (broadcastInDim S10x8320x8x1 ![0, 1, 2] bcast_S10x8320x8_S10x8320x8x1_0_1_2 (Host.reduceAdd (mulf x x) (constant S_ .f32 0x00000000#32) reducesTo_S10x8320x8x128_S10x8320x8_d3 h_S_)) (broadcastInDim S10x8320x8x1 ![] bcast_S_S10x8320x8x1 (constant S_ .f32 0x43000000#32))) (broadcastInDim S10x8320x8x1 ![] bcast_S_S10x8320x8x1 (constant S_ .f32 0x358637BD#32)))))) (broadcastInDim S10x8320x8x128 ![0, 1, 2, 3] bcast_S1x1x1x128_S10x8320x8x128_0_1_2_3 (broadcastInDim S1x1x1x128 ![3] bcast_S128_S1x1x1x128_3 (shapeCast _ n shapeCasts_S1x128_S128)))

/-- A table of half a head's width, for every sequence and head. -/
def table8 (c : Vec Ideal S8320x64 .f32) : FVec Ideal S10x8320x8x64 .f32 :=
  broadcastInDim S10x8320x8x64 ![0, 1, 2, 3] bcast_S1x8320x1x64_S10x8320x8x64_0_1_2_3 (broadcastInDim S1x8320x1x64 ![1, 2, 3] bcast_S8320x1x64_S1x8320x1x64_1_2_3 (broadcastInDim S8320x1x64 ![0, 2] bcast_S8320x64_S8320x1x64_0_2 c))

/-- The halves of every head turned into each other. -/
def turn8 (y : FVec Ideal S10x8320x8x128 .f32) (c s : Vec Ideal S8320x64 .f32) : FVec Ideal S10x8320x8x128 .f32 :=
  concatenate S10x8320x8x128 3 [⟨S10x8320x8x64, (subf (mulf (extractStridedSlice S10x8320x8x64 ![0, 0, 0, 0] y slices_S10x8320x8x128_S10x8320x8x64_0_0_0_0) (table8 c)) (mulf (extractStridedSlice S10x8320x8x64 ![0, 0, 0, 64] y slices_S10x8320x8x128_S10x8320x8x64_0_0_0_64) (table8 s)))⟩, ⟨S10x8320x8x64, (addf (mulf (extractStridedSlice S10x8320x8x64 ![0, 0, 0, 64] y slices_S10x8320x8x128_S10x8320x8x64_0_0_0_64) (table8 c)) (mulf (extractStridedSlice S10x8320x8x64 ![0, 0, 0, 0] y slices_S10x8320x8x128_S10x8320x8x64_0_0_0_0) (table8 s)))⟩] concatenates_S10x8320x8x64_S10x8320x8x64_S10x8320x8x128_d3

/-- Every head over its root mean square, times the gain. -/
def norm2 (x : FVec Ideal S10x8320x2x128 .f32) (n : Vec Ideal S1x128 .f32) : FVec Ideal S10x8320x2x128 .f32 :=
  mulf (mulf x (broadcastInDim S10x8320x2x128 ![0, 1, 2, 3] bcast_S10x8320x2x1_S10x8320x2x128_0_1_2_3 (Host.rsqrt (addf (Host.divf (broadcastInDim S10x8320x2x1 ![0, 1, 2] bcast_S10x8320x2_S10x8320x2x1_0_1_2 (Host.reduceAdd (mulf x x) (constant S_ .f32 0x00000000#32) reducesTo_S10x8320x2x128_S10x8320x2_d3 h_S_)) (broadcastInDim S10x8320x2x1 ![] bcast_S_S10x8320x2x1 (constant S_ .f32 0x43000000#32))) (broadcastInDim S10x8320x2x1 ![] bcast_S_S10x8320x2x1 (constant S_ .f32 0x358637BD#32)))))) (broadcastInDim S10x8320x2x128 ![0, 1, 2, 3] bcast_S1x1x1x128_S10x8320x2x128_0_1_2_3 (broadcastInDim S1x1x1x128 ![3] bcast_S128_S1x1x1x128_3 (shapeCast _ n shapeCasts_S1x128_S128)))

/-- A table of half a head's width, for every sequence and head. -/
def table2 (c : Vec Ideal S8320x64 .f32) : FVec Ideal S10x8320x2x64 .f32 :=
  broadcastInDim S10x8320x2x64 ![0, 1, 2, 3] bcast_S1x8320x1x64_S10x8320x2x64_0_1_2_3 (broadcastInDim S1x8320x1x64 ![1, 2, 3] bcast_S8320x1x64_S1x8320x1x64_1_2_3 (broadcastInDim S8320x1x64 ![0, 2] bcast_S8320x64_S8320x1x64_0_2 c))

/-- The halves of every head turned into each other. -/
def turn2 (y : FVec Ideal S10x8320x2x128 .f32) (c s : Vec Ideal S8320x64 .f32) : FVec Ideal S10x8320x2x128 .f32 :=
  concatenate S10x8320x2x128 3 [⟨S10x8320x2x64, (subf (mulf (extractStridedSlice S10x8320x2x64 ![0, 0, 0, 0] y slices_S10x8320x2x128_S10x8320x2x64_0_0_0_0) (table2 c)) (mulf (extractStridedSlice S10x8320x2x64 ![0, 0, 0, 64] y slices_S10x8320x2x128_S10x8320x2x64_0_0_0_64) (table2 s)))⟩, ⟨S10x8320x2x64, (addf (mulf (extractStridedSlice S10x8320x2x64 ![0, 0, 0, 64] y slices_S10x8320x2x128_S10x8320x2x64_0_0_0_64) (table2 c)) (mulf (extractStridedSlice S10x8320x2x64 ![0, 0, 0, 0] y slices_S10x8320x2x128_S10x8320x2x64_0_0_0_0) (table2 s)))⟩] concatenates_S10x8320x2x64_S10x8320x2x64_S10x8320x2x128_d3

/-- The queries: heads normalised, turned and scaled. -/
def queries (u : FVec Ideal S83200x1536 .f32) (n : Vec Ideal S1x128 .f32) (c s : Vec Ideal S8320x64 .f32) : FVec Ideal S83200x1024 .bf16 :=
  truncf .bf16 (shapeCast _ (mulf (turn8 (norm8 (heads8 u) n) c s) (broadcastInDim S10x8320x8x128 ![] bcast_S_S10x8320x8x128 (constant S_ .f32 0x3E0293EE#32))) shapeCasts_S10x8320x8x128_S83200x1024) bitsLt_bf16_f32

/-- The keys: heads normalised and turned. -/
def keys (u : FVec Ideal S83200x1536 .f32) (n : Vec Ideal S1x128 .f32) (c s : Vec Ideal S8320x64 .f32) : FVec Ideal S83200x256 .bf16 :=
  truncf .bf16 (shapeCast _ (turn2 (norm2 (heads2 u) n) c s) shapeCasts_S10x8320x2x128_S83200x256) bitsLt_bf16_f32

/-- The values' columns. -/
def values (u : FVec Ideal S83200x1536 .f32) : FVec Ideal S83200x256 .bf16 :=
  truncf .bf16 (extractStridedSlice S83200x256 ![0, 1280] u slices_S83200x1536_S83200x256_0_1280) bitsLt_bf16_f32

theorem heads8_at (u : FVec Ideal S83200x1536 .f32) (a : Fin 10) (b : Fin 8320) (h : Fin 8) (l : Fin 128) :
    (heads8 u (ix4 a b h l) : EReal) = u (ix2 ⟨a.val * 8320 + b.val, by omega⟩ ⟨h.val * 128 + l.val, by omega⟩) := by
  pointwise [heads8]

theorem heads2_at (u : FVec Ideal S83200x1536 .f32) (a : Fin 10) (b : Fin 8320) (h : Fin 2) (l : Fin 128) :
    (heads2 u (ix4 a b h l) : EReal) = u (ix2 ⟨a.val * 8320 + b.val, by omega⟩ ⟨1024 + (h.val * 128 + l.val), by omega⟩) := by
  pointwise [heads2]

theorem norm8_at (x : FVec Ideal S10x8320x8x128 .f32) (n : Vec Ideal S1x128 .f32) (a : Fin 10) (b : Fin 8320) (h : Fin 8) (l : Fin 128) :
    (norm8 x n (ix4 a b h l) : EReal) = headNorm (fun i => x (ix4 a b h i)) (fun i => n (ix2 0 i)) l := by
  unfold headNorm
  pointwise [norm8]

theorem turn8_at (y : FVec Ideal S10x8320x8x128 .f32) (c s : Vec Ideal S8320x64 .f32) (a : Fin 10) (b : Fin 8320) (h : Fin 8) (l : Fin 128) :
    (turn8 y c s (ix4 a b h l) : EReal) = turnRow (fun i => y (ix4 a b h i)) (fun i => c (ix2 b i)) (fun i => s (ix2 b i)) l := by
  unfold turnRow
  pointwise [turn8, table8]

theorem norm2_at (x : FVec Ideal S10x8320x2x128 .f32) (n : Vec Ideal S1x128 .f32) (a : Fin 10) (b : Fin 8320) (h : Fin 2) (l : Fin 128) :
    (norm2 x n (ix4 a b h l) : EReal) = headNorm (fun i => x (ix4 a b h i)) (fun i => n (ix2 0 i)) l := by
  unfold headNorm
  pointwise [norm2]

theorem turn2_at (y : FVec Ideal S10x8320x2x128 .f32) (c s : Vec Ideal S8320x64 .f32) (a : Fin 10) (b : Fin 8320) (h : Fin 2) (l : Fin 128) :
    (turn2 y c s (ix4 a b h l) : EReal) = turnRow (fun i => y (ix4 a b h i)) (fun i => c (ix2 b i)) (fun i => s (ix2 b i)) l := by
  unfold turnRow
  pointwise [turn2, table2]

theorem queries_at (u : FVec Ideal S83200x1536 .f32) (n : Vec Ideal S1x128 .f32) (c s : Vec Ideal S8320x64 .f32) (p : Fin 83200) (d : Fin 1024) :
    (queries u n c s (ix2 p d) : EReal) = headsRow (w := 1024) (by decide) (fun x => u (ix2 p ⟨x.val, by omega⟩)) (fun i => n (ix2 0 i))
      (fun i => c (ix2 ⟨p.val % 8320, by omega⟩ i)) (fun i => s (ix2 ⟨p.val % 8320, by omega⟩ i)) d * Ideal.ofBits FTy.f32 1040356334#32 := by
  have e : (queries u n c s (ix2 p d) : EReal) = turn8 (norm8 (heads8 u) n) c s (ix4 ⟨p.val / 8320, by omega⟩ ⟨p.val % 8320, by omega⟩ ⟨d.val / 128, by omega⟩ ⟨d.val % 128, by omega⟩) * Ideal.ofBits FTy.f32 1040356334#32 := by
    pointwise [queries]
  rw [e, turn8_at]
  refine congrArg (fun z : EReal => z * Ideal.ofBits FTy.f32 1040356334#32) ?_
  simp only [norm8_at, heads8_at]
  refine headsRow_of (w := 1024) (by decide) _ _ _ _ (d.val / 128) (by omega) _ (fun i => ?_) d _ (by show d.val = d.val / 128 * 128 + d.val % 128; omega)
  congr 1
  funext a; apply Fin.ext; fin_cases a
  · show p.val / 8320 * 8320 + p.val % 8320 = p.val
    omega
  · rfl

theorem keys_at (u : FVec Ideal S83200x1536 .f32) (n : Vec Ideal S1x128 .f32) (c s : Vec Ideal S8320x64 .f32) (p : Fin 83200) (d : Fin 256) :
    (keys u n c s (ix2 p d) : EReal) = headsRow (w := 256) (by decide) (fun x => u (ix2 p ⟨1024 + x.val, by omega⟩)) (fun i => n (ix2 0 i))
      (fun i => c (ix2 ⟨p.val % 8320, by omega⟩ i)) (fun i => s (ix2 ⟨p.val % 8320, by omega⟩ i)) d := by
  have e : (keys u n c s (ix2 p d) : EReal) = turn2 (norm2 (heads2 u) n) c s (ix4 ⟨p.val / 8320, by omega⟩ ⟨p.val % 8320, by omega⟩ ⟨d.val / 128, by omega⟩ ⟨d.val % 128, by omega⟩) := by
    pointwise [keys]
  rw [e, turn2_at]
  simp only [norm2_at, heads2_at]
  refine headsRow_of (w := 256) (by decide) _ _ _ _ (d.val / 128) (by omega) _ (fun i => ?_) d _ (by show d.val = d.val / 128 * 128 + d.val % 128; omega)
  congr 1
  funext a; apply Fin.ext; fin_cases a
  · show p.val / 8320 * 8320 + p.val % 8320 = p.val
    omega
  · rfl

theorem values_at (u : FVec Ideal S83200x1536 .f32) (p : Fin 83200) (d : Fin 256) :
    (values u (ix2 p d) : EReal) = u (ix2 p ⟨1280 + d.val, by omega⟩) := by
  pointwise [values]

end Cert.Turn

end
-- ==== Proof.Q.Final.lean ====
module

public import proofs.«01_k».proof.Proof.Q.Ker
public import proofs.«01_k».proof.Proof.Q.Ref

@[expose] public section

set_option maxRecDepth 16384

/-!
# The odd layer's start has the reference's results

Every point writes its own band of rows of each of the three results, the bands cover the arrays, and each band is the reference's there.
-/

noncomputable section

namespace Cert.Turn

open Cert.Kernel6Ideal Cert.Kernel6Ideal.Gen
open Idealize.ShloMosaic Idealize.ShloMosaic.TcCoe

variable (m : (ℓ : Loc nD τ sig) → Buf (Elt Ideal) ℓ)

/-- The row of the array that a row of a point's block is. -/
def row (t : Fin cfg0.N) (r : Fin 640) : Fin 83200 := ⟨640 * t.val + r.val, by have : t.val < 130 := t.isLt; omega⟩

/-- The queries' weights. -/
theorem V_query (c : Dev nD) : V m c main_v4 = extractStridedSlice S1024x1024 ![0, 0] (truncf (F := Ideal) .bf16 (m ((c : Thread nD τ).loc main_arg2)) bitsLt_bf16_f32 : FVec Ideal S1024x1536 .bf16) slices_S1024x1536_S1024x1024_0_0 := by
  unfold V
  after_results

/-- The keys' weights. -/
theorem V_key (c : Dev nD) : V m c main_v5 = extractStridedSlice S1024x256 ![0, 1024] (truncf (F := Ideal) .bf16 (m ((c : Thread nD τ).loc main_arg2)) bitsLt_bf16_f32 : FVec Ideal S1024x1536 .bf16) slices_S1024x1536_S1024x256_0_1024 := by
  unfold V
  after_results

/-- The values' weights. -/
theorem V_value (c : Dev nD) : V m c main_v6 = extractStridedSlice S1024x256 ![0, 1280] (truncf (F := Ideal) .bf16 (m ((c : Thread nD τ).loc main_arg2)) bitsLt_bf16_f32 : FVec Ideal S1024x1536 .bf16) slices_S1024x1536_S1024x256_0_1280 := by
  unfold V
  after_results

/-- The cosines, twice. -/
theorem V_cos (c : Dev nD) : V m c main_v1 = concatenate S8320x128 1 [⟨S8320x64, (m ((c : Thread nD τ).loc main_arg5))⟩, ⟨S8320x64, (m ((c : Thread nD τ).loc main_arg5))⟩] concatenates_S8320x64_S8320x64_S8320x128_d1 := by
  unfold V
  after_results

/-- The sines, the first half negated. -/
theorem V_sin (c : Dev nD) : V m c main_v3 = concatenate S8320x128 1 [⟨S8320x64, (Host.negf (F := Ideal) (φ := .f32) (m ((c : Thread nD τ).loc main_arg6)) : FVec Ideal S8320x64 .f32)⟩, ⟨S8320x64, (m ((c : Thread nD τ).loc main_arg6))⟩] concatenates_S8320x64_S8320x64_S8320x128_d1 := by
  unfold V
  after_results

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![t.val % 13, 0] := (by decide +kernel : ∀ t : Fin grid0.N, win0_7.index t = ![t.val % 13, 0])
theorem idx8 : ∀ t : Fin cfg0.N, win0_8.index t = ![t.val % 13, 0] := (by decide +kernel : ∀ t : Fin grid0.N, win0_8.index t = ![t.val % 13, 0])
theorem idx9 : ∀ t : Fin cfg0.N, win0_9.index t = ![t.val, 0] := (by decide +kernel : ∀ t : Fin grid0.N, win0_9.index t = ![t.val, 0])
theorem idx10 : ∀ t : Fin cfg0.N, win0_10.index t = ![t.val, 0] := (by decide +kernel : ∀ t : Fin grid0.N, win0_10.index t = ![t.val, 0])
theorem idx11 : ∀ t : Fin cfg0.N, win0_11.index t = ![t.val, 0] := (by decide +kernel : ∀ t : Fin grid0.N, win0_11.index t = ![t.val, 0])

theorem iblk0_at (c : Dev nD) (t : Fin cfg0.N) (r : Fin 640) (d : Fin 1024) :
    (iblk m c 0 t (ix2 r d) : EReal) = m ((c : Thread nD τ).loc main_arg0) (ix2 (row t r) d) := by
  rw [← V_main_arg0 m c]
  unfold iblk row
  blk_simp [idx0 t]
  congr 1; funext a; apply Fin.ext
  blk_simp [idx0 t]
  fin_cases a
  · simp [ix2]; omega
  · simp [ix2]

theorem iblk1_eq (c : Dev nD) (t : Fin cfg0.N) : iblk m c 1 t = m ((c : Thread nD τ).loc main_arg1) := by
  rw [← V_main_arg1 m c]
  funext y
  unfold iblk
  blk_simp [idx1 t]
  congr 1; funext a; apply Fin.ext
  blk_simp [idx1 t]
  fin_cases a <;> simp

theorem iblk5_eq (c : Dev nD) (t : Fin cfg0.N) : iblk m c 5 t = m ((c : Thread nD τ).loc main_arg3) := by
  rw [← V_main_arg3 m c]
  funext y
  unfold iblk
  blk_simp [idx5 t]
  congr 1; funext a; apply Fin.ext
  blk_simp [idx5 t]
  fin_cases a <;> simp

theorem iblk6_eq (c : Dev nD) (t : Fin cfg0.N) : iblk m c 6 t = m ((c : Thread nD τ).loc main_arg4) := by
  rw [← V_main_arg4 m c]
  funext y
  unfold iblk
  blk_simp [idx6 t]
  congr 1; funext a; apply Fin.ext
  blk_simp [idx6 t]
  fin_cases a <;> simp

theorem iblk2_eq (c : Dev nD) (t : Fin cfg0.N) : iblk m c 2 t = V m c main_v4 := by
  funext y
  unfold iblk
  blk_simp [idx2 t]
  congr 1; funext a; apply Fin.ext
  blk_simp [idx2 t]
  fin_cases a <;> simp

theorem iblk2_at (c : Dev nD) (t : Fin cfg0.N) (r : Fin 1024) (d : Fin 1024) :
    (iblk m c 2 t (ix2 r d) : EReal) = m ((c : Thread nD τ).loc main_arg2) (ix2 r ⟨d.val, by omega⟩) := by
  rw [iblk2_eq, V_query]
  pointwise

theorem iblk3_eq (c : Dev nD) (t : Fin cfg0.N) : iblk m c 3 t = V m c main_v5 := by
  funext y
  unfold iblk
  blk_simp [idx3 t]
  congr 1; funext a; apply Fin.ext
  blk_simp [idx3 t]
  fin_cases a <;> simp

theorem iblk3_at (c : Dev nD) (t : Fin cfg0.N) (r : Fin 1024) (d : Fin 256) :
    (iblk m c 3 t (ix2 r d) : EReal) = m ((c : Thread nD τ).loc main_arg2) (ix2 r ⟨1024 + d.val, by omega⟩) := by
  rw [iblk3_eq, V_key]
  pointwise

theorem iblk4_eq (c : Dev nD) (t : Fin cfg0.N) : iblk m c 4 t = V m c main_v6 := by
  funext y
  unfold iblk
  blk_simp [idx4 t]
  congr 1; funext a; apply Fin.ext
  blk_simp [idx4 t]
  fin_cases a <;> simp

theorem iblk4_at (c : Dev nD) (t : Fin cfg0.N) (r : Fin 1024) (d : Fin 256) :
    (iblk m c 4 t (ix2 r d) : EReal) = m ((c : Thread nD τ).loc main_arg2) (ix2 r ⟨1280 + d.val, by omega⟩) := by
  rw [iblk4_eq, V_value]
  pointwise

theorem iblk7_row (c : Dev nD) (t : Fin cfg0.N) (r : Fin 640) (d : Fin 128) :
    (iblk m c 7 t (ix2 r d) : EReal) = V m c main_v1 (ix2 ⟨(row t r).val % 8320, by omega⟩ d) := by
  unfold iblk row
  blk_simp [idx7 t]
  congr 1; funext a; apply Fin.ext
  blk_simp [idx7 t]
  fin_cases a
  · simp [ix2]; omega
  · simp [ix2]

theorem iblk7_at (c : Dev nD) (t : Fin cfg0.N) (r : Fin 640) (d : Fin 128) :
    (iblk m c 7 t (ix2 r d) : EReal) = if h : d.val < 64 then (m ((c : Thread nD τ).loc main_arg5) (ix2 ⟨(row t r).val % 8320, by omega⟩ ⟨d.val, h⟩) : EReal)
      else m ((c : Thread nD τ).loc main_arg5) (ix2 ⟨(row t r).val % 8320, by omega⟩ ⟨d.val - 64, by omega⟩) := by
  rw [iblk7_row, V_cos]
  pointwise

theorem iblk8_row (c : Dev nD) (t : Fin cfg0.N) (r : Fin 640) (d : Fin 128) :
    (iblk m c 8 t (ix2 r d) : EReal) = V m c main_v3 (ix2 ⟨(row t r).val % 8320, by omega⟩ d) := by
  unfold iblk row
  blk_simp [idx8 t]
  congr 1; funext a; apply Fin.ext
  blk_simp [idx8 t]
  fin_cases a
  · simp [ix2]; omega
  · simp [ix2]

theorem iblk8_at (c : Dev nD) (t : Fin cfg0.N) (r : Fin 640) (d : Fin 128) :
    (iblk m c 8 t (ix2 r d) : EReal) = if h : d.val < 64 then -(show EReal from m ((c : Thread nD τ).loc main_arg6) (ix2 ⟨(row t r).val % 8320, by omega⟩ ⟨d.val, h⟩))
      else m ((c : Thread nD τ).loc main_arg6) (ix2 ⟨(row t r).val % 8320, by omega⟩ ⟨d.val - 64, by omega⟩) := by
  rw [iblk8_row, V_sin]
  pointwise

/-- The tables of a row of a point's block. -/
theorem tables_at (c : Dev nD) (t : Fin cfg0.N) (r : Fin 640) : Tables (fun i => iblk m c 7 t (ix2 r i)) (fun i => iblk m c 8 t (ix2 r i))
    (fun i => m ((c : Thread nD τ).loc main_arg5) (ix2 ⟨(row t r).val % 8320, by omega⟩ i)) (fun i => m ((c : Thread nD τ).loc main_arg6) (ix2 ⟨(row t r).val % 8320, by omega⟩ i)) :=
  ⟨iblk7_at m c t r, iblk8_at m c t r⟩

/-- The gain is real. -/
def RealGain (g : Vec Ideal S1x1024 .f32) : Prop := ∀ x : Fin 1024, ∃ q : ℝ, (g (ix2 0 x) : EReal) = (q : EReal)

/-- The weights of the queries and the keys are real. -/
def RealCols (w : Vec Ideal S1024x1536 .f32) : Prop := ∀ (y : Fin 1024) (x : Fin 1280), ∃ q : ℝ, (w (ix2 y ⟨x.val, by omega⟩) : EReal) = (q : EReal)

/-- The reference's products. -/
def product (c : Dev nD) : FVec Ideal Cert.Reference6Ideal.S83200x1536 .f32 :=
  prod (m ((c : Thread nD τ).loc main_arg0)) (m ((c : Thread nD τ).loc main_arg1)) (m ((c : Thread nD τ).loc main_arg2))

/-- Each entry of the band a point writes is the reference's at the entry's place in the array. -/
theorem point9 (c : Dev nD) (hg : RealGain (m ((c : Thread nD τ).loc main_arg1))) (hw : RealCols (m ((c : Thread nD τ).loc main_arg2))) (t : Fin cfg0.N) (r : Fin 640) (d : Fin 1024) (y' : S83200x1024.Idx) (h0 : (y' 0).val = 640 * t.val + r.val) (h1 : (y' 1).val = d.val) :
    (out0_9 (iblk m c 0 t) (iblk m c 1 t) (iblk m c 2 t) (iblk m c 3 t) (iblk m c 4 t) (iblk m c 5 t) (iblk m c 6 t) (iblk m c 7 t) (iblk m c 8 t) (ix2 r d) : EReal) = queries (product m c) (m ((c : Thread nD τ).loc main_arg3)) (m ((c : Thread nD τ).loc main_arg5)) (m ((c : Thread nD τ).loc main_arg6)) y' := by
  obtain rfl : y' = ix2 (row t r) d := by
    funext a; apply Fin.ext; fin_cases a
    · exact h0
    · exact h1
  rw [queries_at]
  refine (block_q _ _ _ _ _ _ _ _ _ r d _ _ (tables_at m c t r) (fun x => by rw [iblk1_eq]; exact hg x) (fun y x => by rw [iblk2_at]; exact hw y ⟨x.val, by omega⟩)).trans ?_
  unfold product mulRow
  rw [iblk1_eq, iblk5_eq]
  simp only [prod_at, iblk0_at, iblk2_at]

/-- The array after the run. -/
theorem final9 (c : Dev nD) (hg : RealGain (m ((c : Thread nD τ).loc main_arg1))) (hw : RealCols (m ((c : Thread nD τ).loc main_arg2))) : (dats m 0 c).arrAt 9 cfg0.N = queries (product m c) (m ((c : Thread nD τ).loc main_arg3)) (m ((c : Thread nD τ).loc main_arg5)) (m ((c : Thread nD τ).loc main_arg6)) := by
  refine (dats m 0 c).arrAt_eq_of_covers 9 _ (by decide +kernel) fun t _ y => ?_
  blk_simp
  rw [after0_9]
  have e : y = ix2 (Fin.mk (y 0).val ((cfg0.win 9).xinj (cfg0.grid.coords t) y 0).isLt)
      (Fin.mk (y 1).val ((cfg0.win 9).xinj (cfg0.grid.coords t) y 1).isLt) := by
    funext a; apply Fin.ext
    fin_cases a <;> rfl
  refine (congrArg (out0_9 _ _ _ _ _ _ _ _ _) e).trans (point9 m c hg hw t _ _ _ ?_ ?_)
  all_goals blk_simp [idx9 t]
  simpa using by omega

/-- Each entry of the band a point writes is the reference's at the entry's place in the array. -/
theorem point10 (c : Dev nD) (hg : RealGain (m ((c : Thread nD τ).loc main_arg1))) (hw : RealCols (m ((c : Thread nD τ).loc main_arg2))) (t : Fin cfg0.N) (r : Fin 640) (d : Fin 256) (y' : S83200x256.Idx) (h0 : (y' 0).val = 640 * t.val + r.val) (h1 : (y' 1).val = d.val) :
    (out0_10 (iblk m c 0 t) (iblk m c 1 t) (iblk m c 2 t) (iblk m c 3 t) (iblk m c 4 t) (iblk m c 5 t) (iblk m c 6 t) (iblk m c 7 t) (iblk m c 8 t) (ix2 r d) : EReal) = keys (product m c) (m ((c : Thread nD τ).loc main_arg4)) (m ((c : Thread nD τ).loc main_arg5)) (m ((c : Thread nD τ).loc main_arg6)) y' := by
  obtain rfl : y' = ix2 (row t r) d := by
    funext a; apply Fin.ext; fin_cases a
    · exact h0
    · exact h1
  rw [keys_at]
  refine (block_k _ _ _ _ _ _ _ _ _ r d _ _ (tables_at m c t r) (fun x => by rw [iblk1_eq]; exact hg x) (fun y x => by rw [iblk3_at]; exact hw y ⟨1024 + x.val, by omega⟩)).trans ?_
  unfold product mulRow
  rw [iblk1_eq, iblk6_eq]
  simp only [prod_at, iblk0_at, iblk3_at]

/-- The array after the run. -/
theorem final10 (c : Dev nD) (hg : RealGain (m ((c : Thread nD τ).loc main_arg1))) (hw : RealCols (m ((c : Thread nD τ).loc main_arg2))) : (dats m 0 c).arrAt 10 cfg0.N = keys (product m c) (m ((c : Thread nD τ).loc main_arg4)) (m ((c : Thread nD τ).loc main_arg5)) (m ((c : Thread nD τ).loc main_arg6)) := by
  refine (dats m 0 c).arrAt_eq_of_covers 10 _ (by decide +kernel) fun t _ y => ?_
  blk_simp
  rw [after0_10]
  have e : y = ix2 (Fin.mk (y 0).val ((cfg0.win 10).xinj (cfg0.grid.coords t) y 0).isLt)
      (Fin.mk (y 1).val ((cfg0.win 10).xinj (cfg0.grid.coords t) y 1).isLt) := by
    funext a; apply Fin.ext
    fin_cases a <;> rfl
  refine (congrArg (out0_10 _ _ _ _ _ _ _ _ _) e).trans (point10 m c hg hw t _ _ _ ?_ ?_)
  all_goals blk_simp [idx10 t]
  simpa using by omega

/-- Each entry of the band a point writes is the reference's at the entry's place in the array. -/
theorem point11 (c : Dev nD) (t : Fin cfg0.N) (r : Fin 640) (d : Fin 256) (y' : S83200x256.Idx) (h0 : (y' 0).val = 640 * t.val + r.val) (h1 : (y' 1).val = d.val) :
    (out0_11 (iblk m c 0 t) (iblk m c 1 t) (iblk m c 2 t) (iblk m c 3 t) (iblk m c 4 t) (iblk m c 5 t) (iblk m c 6 t) (iblk m c 7 t) (iblk m c 8 t) (ix2 r d) : EReal) = values (product m c) y' := by
  obtain rfl : y' = ix2 (row t r) d := by
    funext a; apply Fin.ext; fin_cases a
    · exact h0
    · exact h1
  rw [values_at]
  refine (block_v _ _ _ _ _ _ _ _ _ r d).trans ?_
  unfold product mulRow
  rw [prod_at, iblk1_eq]
  simp only [iblk0_at, iblk4_at]

/-- The array after the run. -/
theorem final11 (c : Dev nD) : (dats m 0 c).arrAt 11 cfg0.N = values (product m c) := by
  refine (dats m 0 c).arrAt_eq_of_covers 11 _ (by decide +kernel) fun t _ y => ?_
  blk_simp
  rw [after0_11]
  have e : y = ix2 (Fin.mk (y 0).val ((cfg0.win 11).xinj (cfg0.grid.coords t) y 0).isLt)
      (Fin.mk (y 1).val ((cfg0.win 11).xinj (cfg0.grid.coords t) y 1).isLt) := by
    funext a; apply Fin.ext
    fin_cases a <;> rfl
  refine (congrArg (out0_11 _ _ _ _ _ _ _ _ _) e).trans (point11 m c t _ _ _ ?_ ?_)
  all_goals blk_simp [idx11 t]
  simpa using by omega

/-- The reference's queries in parts. -/
theorem res_queries (m : (ℓ : Loc Cert.Reference6Ideal.nD Cert.Reference6Ideal.τ Cert.Reference6Ideal.sig) → Buf (Elt Ideal) ℓ) (c : Dev Cert.Reference6Ideal.nD) :
    Cert.Reference6Ideal.Value.res_main_v88 m c = queries (prod (m ((c : Thread Cert.Reference6Ideal.nD Cert.Reference6Ideal.τ).loc Cert.Reference6Ideal.main_arg0)) (m ((c : Thread Cert.Reference6Ideal.nD Cert.Reference6Ideal.τ).loc Cert.Reference6Ideal.main_arg1)) (m ((c : Thread Cert.Reference6Ideal.nD Cert.Reference6Ideal.τ).loc Cert.Reference6Ideal.main_arg2)))
      (m ((c : Thread Cert.Reference6Ideal.nD Cert.Reference6Ideal.τ).loc Cert.Reference6Ideal.main_arg3)) (m ((c : Thread Cert.Reference6Ideal.nD Cert.Reference6Ideal.τ).loc Cert.Reference6Ideal.main_arg5)) (m ((c : Thread Cert.Reference6Ideal.nD Cert.Reference6Ideal.τ).loc Cert.Reference6Ideal.main_arg6)) := by
  unfold Cert.Reference6Ideal.Value.res_main_v88
  rfl

/-- The reference's keys in parts. -/
theorem res_keys (m : (ℓ : Loc Cert.Reference6Ideal.nD Cert.Reference6Ideal.τ Cert.Reference6Ideal.sig) → Buf (Elt Ideal) ℓ) (c : Dev Cert.Reference6Ideal.nD) :
    Cert.Reference6Ideal.Value.res_main_v90 m c = keys (prod (m ((c : Thread Cert.Reference6Ideal.nD Cert.Reference6Ideal.τ).loc Cert.Reference6Ideal.main_arg0)) (m ((c : Thread Cert.Reference6Ideal.nD Cert.Reference6Ideal.τ).loc Cert.Reference6Ideal.main_arg1)) (m ((c : Thread Cert.Reference6Ideal.nD Cert.Reference6Ideal.τ).loc Cert.Reference6Ideal.main_arg2)))
      (m ((c : Thread Cert.Reference6Ideal.nD Cert.Reference6Ideal.τ).loc Cert.Reference6Ideal.main_arg4)) (m ((c : Thread Cert.Reference6Ideal.nD Cert.Reference6Ideal.τ).loc Cert.Reference6Ideal.main_arg5)) (m ((c : Thread Cert.Reference6Ideal.nD Cert.Reference6Ideal.τ).loc Cert.Reference6Ideal.main_arg6)) := by
  unfold Cert.Reference6Ideal.Value.res_main_v90
  rfl

end Cert.Turn

end
-- ==== Proof.lean ====
module

public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel2.Frame
public import proofs.«01_k».proof.Proof.Gen.Kernel2Ideal.Value
public import proofs.«01_k».proof.Proof.Gen.Reference2Ideal.Run
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.P.Run
public import proofs.«01_k».proof.Proof.PI.Run
public import proofs.«01_k».proof.Proof.Final
public import proofs.«01_k».proof.Proof.L.Final
public import proofs.«01_k».proof.Proof.F.Final
public import proofs.«01_k».proof.Proof.E.Final
public import proofs.«01_k».proof.Proof.I.Final
public import proofs.«01_k».proof.Proof.Q.Final
public import Idealize.ShloMosaic.Adequacy
public import Idealize.ShloMosaic.Init

@[expose] public section

/-!
# The certificate
-/

noncomputable section

namespace Cert.Proof

open Idealize.ShloMosaic Idealize.ShloMosaic.TcCoe

/-- The precondition's shape facts. -/
theorem preFacts : Cert.Pre_finite.Facts := ⟨by decide, by decide⟩

/-- The kernel runs, leaves its arguments and ends quiescent, on words. -/
theorem frame_p : Cert.quiescent_Kernel (hKernel := Cert.Kernel.Gen.facts) := fun m ρ _ => Cert.Proof.P.run_frame m ρ

/-- The kernel runs, leaves its arguments and ends quiescent, on extended reals. -/
theorem frame_pi : Cert.quiescent_KernelIdeal (hKernelIdeal := Cert.KernelIdeal.Gen.facts) := fun m ρ _ => Cert.Proof.PI.run_frame m ρ

/-- The same where the queries and keys are finite. -/
theorem frame_pi_pre : Cert.quiescent_KernelIdeal_pre_finite (hKernelIdeal := Cert.KernelIdeal.Gen.facts) (hPre_finite := preFacts) :=
  fun m ρ _ => Cert.Proof.PI.run_frame m ρ

/-- The reference's run with its counters, of which it has none. -/
theorem run_r (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono
    (fun r h => ⟨fun c => (h c).2, sem_eq_zero_of_no_sems (by decide) r.2⟩) (Cert.ReferenceIdeal.Value.run (F := Ideal) m ρ)

/-- The reference runs, leaves its arguments and ends quiescent. -/
theorem frame_ri : Cert.quiescent_ReferenceIdeal (hReferenceIdeal := Cert.ReferenceIdeal.Gen.facts) := fun m ρ _ => run_r m ρ

/-- The same where the queries and keys are finite. -/
theorem frame_ri_pre : Cert.quiescent_ReferenceIdeal_pre_finite (hReferenceIdeal := Cert.ReferenceIdeal.Gen.facts) (hPre_finite := preFacts) :=
  fun m ρ _ => run_r m ρ

/-- The kernel's result is the reference's, on extended reals, where the queries and keys are finite. -/
theorem algebraic : Cert.algebraic_KernelIdeal_ReferenceIdeal_pre_finite (hKernelIdeal := Cert.KernelIdeal.Gen.facts)
    (hReferenceIdeal := Cert.ReferenceIdeal.Gen.facts) (hPre_finite := preFacts) := by
  intro m ρ m' ρ' hpre hag
  have hq : ∀ (c : Dev Cert.KernelIdeal.nD) i, (m ((c : Thread Cert.KernelIdeal.nD Cert.KernelIdeal.τ).loc Cert.KernelIdeal.main_arg0) i : EReal) =
      ((m ((c : Thread Cert.KernelIdeal.nD Cert.KernelIdeal.τ).loc Cert.KernelIdeal.main_arg0) i : EReal).toReal : EReal) :=
    fun c i => Cert.Val.real_of_abs _ (congrFun (hpre c).1 i)
  have hk : ∀ (c : Dev Cert.KernelIdeal.nD) i, (m ((c : Thread Cert.KernelIdeal.nD Cert.KernelIdeal.τ).loc Cert.KernelIdeal.main_arg1) i : EReal) =
      ((m ((c : Thread Cert.KernelIdeal.nD Cert.KernelIdeal.τ).loc Cert.KernelIdeal.main_arg1) i : EReal).toReal : EReal) :=
    fun c i => Cert.Val.real_of_abs _ (congrFun (hpre c).2 i)
  refine ⟨fun c => Cert.Val.attn (m ((c : Thread Cert.KernelIdeal.nD Cert.KernelIdeal.τ).loc Cert.KernelIdeal.main_arg0))
    (m ((c : Thread Cert.KernelIdeal.nD Cert.KernelIdeal.τ).loc Cert.KernelIdeal.main_arg1))
    (m ((c : Thread Cert.KernelIdeal.nD Cert.KernelIdeal.τ).loc Cert.KernelIdeal.main_arg2)), ?_, ?_⟩
  · refine (θ_run Cert.KernelIdeal.defs _ _).mono (fun r h c => ?_) (Cert.Proof.PI.run_main (F := Ideal) m ρ)
    exact ⟨((h.1 c).1 3).trans (Cert.Val.final m hq hk c),
      ((h.1 c).1 0).trans (((Cert.Proof.PI.dats m 0 c).arrAt_in 0 rfl _).trans (Cert.KernelIdeal.Gen.V_main_arg0 m c)),
      ((h.1 c).1 1).trans (((Cert.Proof.PI.dats m 0 c).arrAt_in 1 rfl _).trans (Cert.KernelIdeal.Gen.V_main_arg1 m c)),
      ((h.1 c).1 2).trans (((Cert.Proof.PI.dats m 0 c).arrAt_in 2 rfl _).trans (Cert.KernelIdeal.Gen.V_main_arg2 m c))⟩
  · refine (θ_run Cert.ReferenceIdeal.defs _ _).mono (fun r h c => ?_) (Cert.ReferenceIdeal.Value.run (F := Ideal) m' ρ')
    refine ⟨(h c).1.trans ((Cert.Val.res_parts m' c).trans ?_), (h c).2⟩
    rw [(hag c).1, (hag c).2.1, (hag c).2.2]
    rfl

/-- The last call runs, leaves its arguments and ends quiescent. -/
theorem frame_p2 : Cert.quiescent_Kernel2 (hKernel2 := Cert.Kernel2.Gen.facts) := fun m ρ _ => Cert.Kernel2.Gen.frame m ρ

/-- The same over the extended reals. -/
theorem frame_pi2 : Cert.quiescent_Kernel2Ideal (hKernel2Ideal := Cert.Kernel2Ideal.Gen.facts) :=
  fun m ρ _ => Cert.Kernel2Ideal.Gen.frame m ρ

/-- The last call's reference runs, leaves its arguments and ends quiescent. -/
theorem frame_ri2 : Cert.quiescent_Reference2Ideal (hReference2Ideal := Cert.Reference2Ideal.Gen.facts) := fun m ρ _ =>
  (θ_run Cert.Reference2Ideal.defs _ _).mono
    (fun r h => ⟨fun c => (h c).2, sem_eq_zero_of_no_sems (by decide) r.2⟩) (Cert.Reference2Ideal.Value.run (F := Ideal) m ρ)

/-- The last call's result is its reference's, on extended reals, whatever its arguments. -/
theorem algebraic2 : Cert.algebraic_Kernel2Ideal_Reference2Ideal (hKernel2Ideal := Cert.Kernel2Ideal.Gen.facts)
    (hReference2Ideal := Cert.Reference2Ideal.Gen.facts) := by
  intro m ρ m' ρ' _ hag
  refine ⟨fun c => Cert.Last.last (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1)) (m ((c : Thread Cert.Kernel2Ideal.nD Cert.Kernel2Ideal.τ).loc Cert.Kernel2Ideal.main_arg2)) (m ((c : Thread Cert.Kernel2Ideal.nD Cert.Kernel2Ideal.τ).loc Cert.Kernel2Ideal.main_arg3)) (m ((c : Thread Cert.Kernel2Ideal.nD Cert.Kernel2Ideal.τ).loc Cert.Kernel2Ideal.main_arg4)) (m ((c : Thread Cert.Kernel2Ideal.nD Cert.Kernel2Ideal.τ).loc Cert.Kernel2Ideal.main_arg5)), ?_, ?_⟩
  · refine (θ_run Cert.Kernel2Ideal.defs _ _).mono (fun r h c => ?_) (Cert.Kernel2Ideal.Value.run_blocks (F := Ideal) m ρ)
    exact ⟨(h c).1.trans (Cert.Last.final m c), (h c).2⟩
  · refine (θ_run Cert.Reference2Ideal.defs _ _).mono (fun r h c => ?_) (Cert.Reference2Ideal.Value.run (F := Ideal) m' ρ')
    refine ⟨(h c).1.trans ((Cert.Last.res_parts m' c).trans ?_), (h c).2⟩
    rw [(hag c).1, (hag c).2.1, (hag c).2.2.1, (hag c).2.2.2.1, (hag c).2.2.2.2.1, (hag c).2.2.2.2.2]
    rfl

/-- The side condition of the second precondition. -/
theorem preFacts3 : Cert.Pre_finite3.Facts := ⟨by decide⟩

/-- The even layer's end runs, leaves its arguments and ends quiescent. -/
theorem frame_p3 : Cert.quiescent_Kernel3 (hKernel3 := Cert.Kernel3.Gen.facts) := fun m ρ _ => Cert.Kernel3.Gen.frame m ρ

/-- The same over the extended reals. -/
theorem frame_pi3 : Cert.quiescent_Kernel3Ideal (hKernel3Ideal := Cert.Kernel3Ideal.Gen.facts) :=
  fun m ρ _ => Cert.Kernel3Ideal.Gen.frame m ρ

/-- The same where the scans' outputs are finite. -/
theorem frame_pi3_pre : Cert.quiescent_Kernel3Ideal_pre_finite3 (hKernel3Ideal := Cert.Kernel3Ideal.Gen.facts) (hPre_finite3 := preFacts3) :=
  fun m ρ _ => Cert.Kernel3Ideal.Gen.frame m ρ

/-- Its reference runs, leaves its arguments and ends quiescent. -/
theorem frame_ri3 : Cert.quiescent_Reference3Ideal (hReference3Ideal := Cert.Reference3Ideal.Gen.facts) := fun m ρ _ =>
  (θ_run Cert.Reference3Ideal.defs _ _).mono
    (fun r h => ⟨fun c => (h c).2, sem_eq_zero_of_no_sems (by decide) r.2⟩) (Cert.Reference3Ideal.Value.run (F := Ideal) m ρ)

/-- The same where the scans' outputs are finite. -/
theorem frame_ri3_pre : Cert.quiescent_Reference3Ideal_pre_finite3 (hReference3Ideal := Cert.Reference3Ideal.Gen.facts) (hPre_finite3 := preFacts3) := fun m ρ _ =>
  (θ_run Cert.Reference3Ideal.defs _ _).mono
    (fun r h => ⟨fun c => (h c).2, sem_eq_zero_of_no_sems (by decide) r.2⟩) (Cert.Reference3Ideal.Value.run (F := Ideal) m ρ)

/-- The even layer's end has its reference's result, on extended reals, where the scans' outputs are finite. -/
theorem algebraic3 : Cert.algebraic_Kernel3Ideal_Reference3Ideal_pre_finite3 (hKernel3Ideal := Cert.Kernel3Ideal.Gen.facts)
    (hReference3Ideal := Cert.Reference3Ideal.Gen.facts) (hPre_finite3 := preFacts3) := by
  intro m ρ m' ρ' hpre hag
  have hr : ∀ c : Dev Cert.Kernel3Ideal.nD, Cert.Even.Real2 (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) := fun c i =>
    ⟨_, (congrArg₂ (fun a b : EReal => a + b) (Cert.Val.real_of_abs _ (congrFun (hpre c).1 i)) (Cert.Val.real_of_abs _ (congrFun (hpre c).2 i))).trans
      (EReal.coe_add _ _).symm⟩
  refine ⟨fun c => Cert.Even.last (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3)) (m ((c : Thread Cert.Kernel3Ideal.nD Cert.Kernel3Ideal.τ).loc Cert.Kernel3Ideal.main_arg4)) (m ((c : Thread Cert.Kernel3Ideal.nD Cert.Kernel3Ideal.τ).loc Cert.Kernel3Ideal.main_arg5)) (m ((c : Thread Cert.Kernel3Ideal.nD Cert.Kernel3Ideal.τ).loc Cert.Kernel3Ideal.main_arg6)) (m ((c : Thread Cert.Kernel3Ideal.nD Cert.Kernel3Ideal.τ).loc Cert.Kernel3Ideal.main_arg7)) (m ((c : Thread Cert.Kernel3Ideal.nD Cert.Kernel3Ideal.τ).loc Cert.Kernel3Ideal.main_arg8)) (m ((c : Thread Cert.Kernel3Ideal.nD Cert.Kernel3Ideal.τ).loc Cert.Kernel3Ideal.main_arg9)), ?_, ?_⟩
  · refine (θ_run Cert.Kernel3Ideal.defs _ _).mono (fun r h c => ?_) (Cert.Kernel3Ideal.Value.run_blocks (F := Ideal) m ρ)
    exact ⟨(h c).1.trans (Cert.Even.final m c (hr c)), (h c).2⟩
  · refine (θ_run Cert.Reference3Ideal.defs _ _).mono (fun r h c => ?_) (Cert.Reference3Ideal.Value.run (F := Ideal) m' ρ')
    refine ⟨(h c).1.trans ((Cert.Even.res_parts m' c).trans ?_), (h c).2⟩
    rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2]

/-- The last call on the prompt batch runs, leaves its arguments and ends quiescent. -/
theorem frame_p4 : Cert.quiescent_Kernel4 (hKernel4 := Cert.Kernel4.Gen.facts) := fun m ρ _ => Cert.Kernel4.Gen.frame m ρ

/-- The same over the extended reals. -/
theorem frame_pi4 : Cert.quiescent_Kernel4Ideal (hKernel4Ideal := Cert.Kernel4Ideal.Gen.facts) :=
  fun m ρ _ => Cert.Kernel4Ideal.Gen.frame m ρ

/-- The last call on the prompt batch's reference runs, leaves its arguments and ends quiescent. -/
theorem frame_ri4 : Cert.quiescent_Reference4Ideal (hReference4Ideal := Cert.Reference4Ideal.Gen.facts) := fun m ρ _ =>
  (θ_run Cert.Reference4Ideal.defs _ _).mono
    (fun r h => ⟨fun c => (h c).2, sem_eq_zero_of_no_sems (by decide) r.2⟩) (Cert.Reference4Ideal.Value.run (F := Ideal) m ρ)

/-- The last call on the prompt batch's result is its reference's, on extended reals, whatever its arguments. -/
theorem algebraic4 : Cert.algebraic_Kernel4Ideal_Reference4Ideal (hKernel4Ideal := Cert.Kernel4Ideal.Gen.facts)
    (hReference4Ideal := Cert.Reference4Ideal.Gen.facts) := by
  intro m ρ m' ρ' _ hag
  refine ⟨fun c => Cert.First.last (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3)) (m ((c : Thread Cert.Kernel4Ideal.nD Cert.Kernel4Ideal.τ).loc Cert.Kernel4Ideal.main_arg4)) (m ((c : Thread Cert.Kernel4Ideal.nD Cert.Kernel4Ideal.τ).loc Cert.Kernel4Ideal.main_arg5)), ?_, ?_⟩
  · refine (θ_run Cert.Kernel4Ideal.defs _ _).mono (fun r h c => ?_) (Cert.Kernel4Ideal.Value.run_blocks (F := Ideal) m ρ)
    exact ⟨(h c).1.trans (Cert.First.final m c), (h c).2⟩
  · refine (θ_run Cert.Reference4Ideal.defs _ _).mono (fun r h c => ?_) (Cert.Reference4Ideal.Value.run (F := Ideal) m' ρ')
    refine ⟨(h c).1.trans ((Cert.First.res_parts m' c).trans ?_), (h c).2⟩
    rw [(hag c).1, (hag c).2.1, (hag c).2.2.1, (hag c).2.2.2.1, (hag c).2.2.2.2.1, (hag c).2.2.2.2.2]
    rfl

/-- The even layer's start runs, leaves its arguments and ends quiescent. -/
theorem frame_p5 : Cert.quiescent_Kernel5 (hKernel5 := Cert.Kernel5.Gen.facts) := fun m ρ _ => Cert.Kernel5.Gen.frame m ρ

/-- The same over the extended reals. -/
theorem frame_pi5 : Cert.quiescent_Kernel5Ideal (hKernel5Ideal := Cert.Kernel5Ideal.Gen.facts) :=
  fun m ρ _ => Cert.Kernel5Ideal.Gen.frame m ρ

/-- Its reference runs, leaves its arguments and ends quiescent. -/
theorem frame_ri5 : Cert.quiescent_Reference5Ideal (hReference5Ideal := Cert.Reference5Ideal.Gen.facts) := fun m ρ _ =>
  (θ_run Cert.Reference5Ideal.defs _ _).mono
    (fun r h => ⟨fun c => (h c).2.2.2.2.2, sem_eq_zero_of_no_sems (by decide) r.2⟩) (Cert.Reference5Ideal.Value.run (F := Ideal) m ρ)

/-- The even layer's start has its reference's five results, on extended reals, whatever its arguments. -/
theorem algebraic5 : Cert.algebraic_Kernel5Ideal_Reference5Ideal (hKernel5Ideal := Cert.Kernel5Ideal.Gen.facts)
    (hReference5Ideal := Cert.Reference5Ideal.Gen.facts) := by
  intro m ρ m' ρ' _ hag
  refine ⟨fun c => Cert.In.rows (m ((c : Thread Cert.Kernel5Ideal.nD Cert.Kernel5Ideal.τ).loc Cert.Kernel5Ideal.main_arg0)) (m ((c : Thread Cert.Kernel5Ideal.nD Cert.Kernel5Ideal.τ).loc Cert.Kernel5Ideal.main_arg1)) (m ((c : Thread Cert.Kernel5Ideal.nD Cert.Kernel5Ideal.τ).loc Cert.Kernel5Ideal.main_arg2)), fun c => Cert.In.pool (Cert.In.product m c), fun c => Cert.In.scan (Cert.In.product m c),
    fun c => Cert.In.gate (Cert.In.product m c), fun c => Cert.In.tails (Cert.In.product m c), ?_, ?_⟩
  · refine (θ_run Cert.Kernel5Ideal.defs _ _).mono (fun r h c => ?_) (Cert.Kernel5Ideal.Value.run_blocks (F := Ideal) m ρ)
    exact ⟨(h c).1.trans (Cert.In.final16 m c), (h c).2.1.trans (Cert.In.final17 m c), (h c).2.2.1.trans (Cert.In.final18 m c),
      (h c).2.2.2.1.trans (Cert.In.final19 m c), (h c).2.2.2.2.1.trans (Cert.In.final20 m c), (h c).2.2.2.2.2⟩
  · refine (θ_run Cert.Reference5Ideal.defs _ _).mono (fun r h c => ?_) (Cert.Reference5Ideal.Value.run (F := Ideal) m' ρ')
    refine ⟨(h c).1.trans ?_, (h c).2.1.trans ?_, (h c).2.2.1.trans ?_, (h c).2.2.2.1.trans ?_, (h c).2.2.2.2.1.trans ?_, (h c).2.2.2.2.2⟩
    · rw [(hag c).1, (hag c).2.1, (hag c).2.2.1]
      rfl
    · rw [(hag c).1, (hag c).2.1, (hag c).2.2.1, (hag c).2.2.2.1, (hag c).2.2.2.2]
      rfl
    · rw [(hag c).1, (hag c).2.1, (hag c).2.2.1, (hag c).2.2.2.1, (hag c).2.2.2.2]
      rfl
    · rw [(hag c).1, (hag c).2.1, (hag c).2.2.1, (hag c).2.2.2.1, (hag c).2.2.2.2]
      rfl
    · rw [(hag c).1, (hag c).2.1, (hag c).2.2.1, (hag c).2.2.2.1, (hag c).2.2.2.2]
      rfl

/-- The side conditions of the third precondition. -/
theorem preFacts6 : Cert.Pre_finite6.Facts := ⟨by decide, by decide, by decide⟩

/-- The odd layer's start runs, leaves its arguments and ends quiescent. -/
theorem frame_p6 : Cert.quiescent_Kernel6 (hKernel6 := Cert.Kernel6.Gen.facts) := fun m ρ _ => Cert.Kernel6.Gen.frame m ρ

/-- The same over the extended reals. -/
theorem frame_pi6 : Cert.quiescent_Kernel6Ideal (hKernel6Ideal := Cert.Kernel6Ideal.Gen.facts) :=
  fun m ρ _ => Cert.Kernel6Ideal.Gen.frame m ρ

/-- The same where the gain and the weights of the queries and the keys are finite. -/
theorem frame_pi6_pre : Cert.quiescent_Kernel6Ideal_pre_finite6 (hKernel6Ideal := Cert.Kernel6Ideal.Gen.facts) (hPre_finite6 := preFacts6) :=
  fun m ρ _ => Cert.Kernel6Ideal.Gen.frame m ρ

/-- Its reference runs, leaves its arguments and ends quiescent. -/
theorem frame_ri6 : Cert.quiescent_Reference6Ideal (hReference6Ideal := Cert.Reference6Ideal.Gen.facts) := fun m ρ _ =>
  (θ_run Cert.Reference6Ideal.defs _ _).mono
    (fun r h => ⟨fun c => (h c).2.2.2, sem_eq_zero_of_no_sems (by decide) r.2⟩) (Cert.Reference6Ideal.Value.run (F := Ideal) m ρ)

/-- The same where the gain and the weights of the queries and the keys are finite. -/
theorem frame_ri6_pre : Cert.quiescent_Reference6Ideal_pre_finite6 (hReference6Ideal := Cert.Reference6Ideal.Gen.facts) (hPre_finite6 := preFacts6) := fun m ρ _ =>
  (θ_run Cert.Reference6Ideal.defs _ _).mono
    (fun r h => ⟨fun c => (h c).2.2.2, sem_eq_zero_of_no_sems (by decide) r.2⟩) (Cert.Reference6Ideal.Value.run (F := Ideal) m ρ)

/-- The odd layer's start has its reference's three results, on extended reals, where the gain and the weights of the
queries and the keys are finite. -/
theorem algebraic6 : Cert.algebraic_Kernel6Ideal_Reference6Ideal_pre_finite6 (hKernel6Ideal := Cert.Kernel6Ideal.Gen.facts)
    (hReference6Ideal := Cert.Reference6Ideal.Gen.facts) (hPre_finite6 := preFacts6) := by
  intro m ρ m' ρ' hpre hag
  have hg : ∀ c : Dev Cert.Kernel6Ideal.nD, Cert.Turn.RealGain (m ((c : Thread Cert.Kernel6Ideal.nD Cert.Kernel6Ideal.τ).loc Cert.Kernel6Ideal.main_arg1)) := fun c x => by
    have e := congrFun (hpre c).1 (Idealize.ShloMosaic.ix2 0 x)
    pointwise [Cert.Pre_finite6.fn] at e
    exact ⟨_, Cert.Turn.real_of_abs _ e⟩
  have hw : ∀ c : Dev Cert.Kernel6Ideal.nD, Cert.Turn.RealCols (m ((c : Thread Cert.Kernel6Ideal.nD Cert.Kernel6Ideal.τ).loc Cert.Kernel6Ideal.main_arg2)) := fun c y x => by
    have e := congrFun (hpre c).2 (Idealize.ShloMosaic.ix2 y x)
    pointwise [Cert.Pre_finite6.fn] at e
    exact ⟨_, Cert.Turn.real_of_abs _ e⟩
  refine ⟨fun c => Cert.Turn.queries (Cert.Turn.product m c) (m ((c : Thread Cert.Kernel6Ideal.nD Cert.Kernel6Ideal.τ).loc Cert.Kernel6Ideal.main_arg3)) (m ((c : Thread Cert.Kernel6Ideal.nD Cert.Kernel6Ideal.τ).loc Cert.Kernel6Ideal.main_arg5)) (m ((c : Thread Cert.Kernel6Ideal.nD Cert.Kernel6Ideal.τ).loc Cert.Kernel6Ideal.main_arg6)),
    fun c => Cert.Turn.keys (Cert.Turn.product m c) (m ((c : Thread Cert.Kernel6Ideal.nD Cert.Kernel6Ideal.τ).loc Cert.Kernel6Ideal.main_arg4)) (m ((c : Thread Cert.Kernel6Ideal.nD Cert.Kernel6Ideal.τ).loc Cert.Kernel6Ideal.main_arg5)) (m ((c : Thread Cert.Kernel6Ideal.nD Cert.Kernel6Ideal.τ).loc Cert.Kernel6Ideal.main_arg6)), fun c => Cert.Turn.values (Cert.Turn.product m c), ?_, ?_⟩
  · refine (θ_run Cert.Kernel6Ideal.defs _ _).mono (fun r h c => ?_) (Cert.Kernel6Ideal.Value.run_blocks (F := Ideal) m ρ)
    exact ⟨(h c).1.trans (Cert.Turn.final9 m c (hg c) (hw c)), (h c).2.1.trans (Cert.Turn.final10 m c (hg c) (hw c)), (h c).2.2.1.trans (Cert.Turn.final11 m c), (h c).2.2.2⟩
  · refine (θ_run Cert.Reference6Ideal.defs _ _).mono (fun r h c => ?_) (Cert.Reference6Ideal.Value.run (F := Ideal) m' ρ')
    refine ⟨(h c).1.trans ((Cert.Turn.res_queries m' c).trans ?_), (h c).2.1.trans ((Cert.Turn.res_keys m' c).trans ?_), (h c).2.2.1.trans ?_, (h c).2.2.2⟩
    · rw [(hag c).1, (hag c).2.1, (hag c).2.2.1, (hag c).2.2.2.1, (hag c).2.2.2.2.2.1, (hag c).2.2.2.2.2.2]
      rfl
    · rw [(hag c).1, (hag c).2.1, (hag c).2.2.1, (hag c).2.2.2.2.1, (hag c).2.2.2.2.2.1, (hag c).2.2.2.2.2.2]
      rfl
    · rw [(hag c).1, (hag c).2.1, (hag c).2.2.1]
      rfl

/-- All the claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, preFacts, preFacts3, preFacts6,
  frame_p, frame_pi, frame_pi_pre, frame_ri, frame_ri_pre, frame_p2, frame_pi2, frame_ri2,
  frame_p3, frame_pi3, frame_pi3_pre, frame_ri3, frame_ri3_pre, frame_p4, frame_pi4, frame_ri4,
  frame_p5, frame_pi5, frame_ri5, frame_p6, frame_pi6, frame_pi6_pre, frame_ri6, frame_ri6_pre,
  trivial, algebraic, trivial, algebraic2, trivial, algebraic3, trivial, algebraic4, trivial, algebraic5,
  trivial, algebraic6⟩

end Cert.Proof

end
